-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v134)) (v1 : (c : Dev Cert.KernelIdeal.nD) → Buf (Elt Ideal) ((c.tc : Thread Cert.KernelIdeal.nD Cert.KernelIdeal.τ).loc Cert.KernelIdeal.main_v149)) (v2 : (c : Dev Cert.KernelIdeal.nD) → Buf (Elt Ideal) ((c.tc : Thread Cert.KernelIdeal.nD Cert.KernelIdeal.τ).loc Cert.KernelIdeal.main_v158)) (v3 : (c : Dev Cert.KernelIdeal.nD) → Buf (Elt Ideal) ((c.tc : Thread Cert.KernelIdeal.nD Cert.KernelIdeal.τ).loc Cert.KernelIdeal.main_v169)) (v4 : (c : Dev Cert.KernelIdeal.nD) → Buf (Elt Ideal) ((c.tc : Thread Cert.KernelIdeal.nD Cert.KernelIdeal.τ).loc Cert.KernelIdeal.main_v182)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_v149) = v1 c
          ∧ r.2.mem ((c.tc : Thread Cert.KernelIdeal.nD Cert.KernelIdeal.τ).loc Cert.KernelIdeal.main_v158) = v2 c
          ∧ r.2.mem ((c.tc : Thread Cert.KernelIdeal.nD Cert.KernelIdeal.τ).loc Cert.KernelIdeal.main_v169) = v3 c
          ∧ r.2.mem ((c.tc : Thread Cert.KernelIdeal.nD Cert.KernelIdeal.τ).loc Cert.KernelIdeal.main_v182) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_v71) = v3 c
          ∧ r.2.mem ((c.tc : Thread Cert.ReferenceIdeal.nD Cert.ReferenceIdeal.τ).loc Cert.ReferenceIdeal.main_v76) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x256x1024 : Shape := ⟨3, ![6, 256, 1024]⟩
abbrev S6x256x1620 : Shape := ⟨3, ![6, 256, 1620]⟩
abbrev S6x256 : Shape := ⟨2, ![6, 256]⟩
abbrev S2x3x10 : Shape := ⟨3, ![2, 3, 10]⟩
abbrev S10x4x5x14 : Shape := ⟨4, ![10, 4, 5, 14]⟩
abbrev S14x8x9x11 : Shape := ⟨4, ![14, 8, 9, 11]⟩
abbrev S11x16x12 : Shape := ⟨3, ![11, 16, 12]⟩
abbrev S3x10 : Shape := ⟨2, ![3, 10]⟩
abbrev S5x14 : Shape := ⟨2, ![5, 14]⟩
abbrev S9x11 : Shape := ⟨2, ![9, 11]⟩
abbrev S12 : Shape := ⟨1, ![12]⟩
abbrev S1536x8x8x16 : Shape := ⟨4, ![1536, 8, 8, 16]⟩
abbrev S16x8x8x1536 : Shape := ⟨4, ![16, 8, 8, 1536]⟩
abbrev S1024x1536 : Shape := ⟨2, ![1024, 1536]⟩
abbrev S1536x15x108 : Shape := ⟨3, ![1536, 15, 108]⟩
abbrev S15x108x1536 : Shape := ⟨3, ![15, 108, 1536]⟩
abbrev S1x1536 : Shape := ⟨2, ![1, 1536]⟩
abbrev S1x3x10 : Shape := ⟨3, ![1, 3, 10]⟩
abbrev S1x1x5x14 : Shape := ⟨4, ![1, 1, 5, 14]⟩
abbrev S1x1x9x11 : Shape := ⟨4, ![1, 1, 9, 11]⟩
abbrev S1x1x12 : Shape := ⟨3, ![1, 1, 12]⟩
abbrev S2x2 : Shape := ⟨2, ![2, 2]⟩
abbrev S_ : Shape := ⟨0, ![]⟩
abbrev S4x4 : Shape := ⟨2, ![4, 4]⟩
abbrev S9x9 : Shape := ⟨2, ![9, 9]⟩
abbrev S5x14x10x4 : Shape := ⟨4, ![5, 14, 10, 4]⟩
abbrev S5x1x14x1x10x4 : Shape := ⟨6, ![5, 1, 14, 1, 10, 4]⟩
abbrev S1x4x1x4x1x1 : Shape := ⟨6, ![1, 4, 1, 4, 1, 1]⟩
abbrev S5x4x14x4x10x4 : Shape := ⟨6, ![5, 4, 14, 4, 10, 4]⟩
abbrev S280x160 : Shape := ⟨2, ![280, 160]⟩
abbrev S9x11x8x14 : Shape := ⟨4, ![9, 11, 8, 14]⟩
abbrev S99x112 : Shape := ⟨2, ![99, 112]⟩
abbrev S104x112 : Shape := ⟨2, ![104, 112]⟩
abbrev S1x104x1x112 : Shape := ⟨4, ![1, 104, 1, 112]⟩
abbrev S2x1x2x1 : Shape := ⟨4, ![2, 1, 2, 1]⟩
abbrev S2x104x2x112 : Shape := ⟨4, ![2, 104, 2, 112]⟩
abbrev S208x224 : Shape := ⟨2, ![208, 224]⟩
abbrev S16x11x12 : Shape := ⟨3, ![16, 11, 12]⟩
abbrev S16x1x11x1x12 : Shape := ⟨5, ![16, 1, 11, 1, 12]⟩
abbrev S1x9x1x9x1 : Shape := ⟨5, ![1, 9, 1, 9, 1]⟩
abbrev S16x9x11x9x12 : Shape := ⟨5, ![16, 9, 11, 9, 12]⟩
abbrev S16x99x108 : Shape := ⟨3, ![16, 99, 108]⟩
abbrev S16x104x112 : Shape := ⟨3, ![16, 104, 112]⟩
abbrev S8x208x112 : Shape := ⟨3, ![8, 208, 112]⟩
abbrev S8x14x9x11 : Shape := ⟨4, ![8, 14, 9, 11]⟩
abbrev S8x14x99 : Shape := ⟨3, ![8, 14, 99]⟩
abbrev S8x16x104 : Shape := ⟨3, ![8, 16, 104]⟩
abbrev S128x104 : Shape := ⟨2, ![128, 104]⟩
abbrev S1x128x1x104 : Shape := ⟨4, ![1, 128, 1, 104]⟩
abbrev S2x128x2x104 : Shape := ⟨4, ![2, 128, 2, 104]⟩
abbrev S256x208 : Shape := ⟨2, ![256, 208]⟩
abbrev S40x5x14 : Shape := ⟨3, ![40, 5, 14]⟩
abbrev S40x5x16 : Shape := ⟨3, ![40, 5, 16]⟩
abbrev S1x40x5x1x16 : Shape := ⟨5, ![1, 40, 5, 1, 16]⟩
abbrev S2x1x1x2x1 : Shape := ⟨5, ![2, 1, 1, 2, 1]⟩
abbrev S2x40x5x2x16 : Shape := ⟨5, ![2, 40, 5, 2, 16]⟩
abbrev S80x160 : Shape := ⟨2, ![80, 160]⟩
abbrev S2x1x3x10x1 : Shape := ⟨5, ![2, 1, 3, 10, 1]⟩
abbrev S1x4x1x1x4 : Shape := ⟨5, ![1, 4, 1, 1, 4]⟩
abbrev S2x4x3x10x4 : Shape := ⟨5, ![2, 4, 3, 10, 4]⟩
abbrev S8x3x40 : Shape := ⟨3, ![8, 3, 40]⟩
abbrev S1x8x3x1x40 : Shape := ⟨5, ![1, 8, 3, 1, 40]⟩
abbrev S2x8x3x2x40 : Shape := ⟨5, ![2, 8, 3, 2, 40]⟩
abbrev S16x240 : Shape := ⟨2, ![16, 240]⟩
abbrev S3x3x10 : Shape := ⟨3, ![3, 3, 10]⟩
abbrev S3x3x10x4 : Shape := ⟨4, ![3, 3, 10, 4]⟩
abbrev S3x3x40 : Shape := ⟨3, ![3, 3, 40]⟩
abbrev S3x3x40x1 : Shape := ⟨4, ![3, 3, 40, 1]⟩
abbrev S3x3x40x128 : Shape := ⟨4, ![3, 3, 40, 128]⟩
abbrev S1x5x1x14 : Shape := ⟨4, ![1, 5, 1, 14]⟩
abbrev S1x5x8x14 : Shape := ⟨4, ![1, 5, 8, 14]⟩
abbrev S5x112 : Shape := ⟨2, ![5, 112]⟩
abbrev S5x112x1 : Shape := ⟨3, ![5, 112, 1]⟩
abbrev S5x112x128 : Shape := ⟨3, ![5, 112, 128]⟩
abbrev S99 : Shape := ⟨1, ![99]⟩
abbrev S104 : Shape := ⟨1, ![104]⟩
abbrev S208 : Shape := ⟨1, ![208]⟩
abbrev S208x1 : Shape := ⟨2, ![208, 1]⟩
abbrev S208x128 : Shape := ⟨2, ![208, 128]⟩
abbrev S8x112x208 : Shape := ⟨3, ![8, 112, 208]⟩
abbrev S128x256 : Shape := ⟨2, ![128, 256]⟩
abbrev S15x108x256 : Shape := ⟨3, ![15, 108, 256]⟩
abbrev S1x256 : Shape := ⟨2, ![1, 256]⟩
abbrev S1x208x112 : Shape := ⟨3, ![1, 208, 112]⟩
abbrev S15x112x256 : Shape := ⟨3, ![15, 112, 256]⟩
abbrev S3x640x256 : Shape := ⟨3, ![3, 640, 256]⟩
abbrev S15x224x256 : Shape := ⟨3, ![15, 224, 256]⟩
abbrev S15x208x256 : Shape := ⟨3, ![15, 208, 256]⟩
abbrev S3x2x5x128x256 : Shape := ⟨5, ![3, 2, 5, 128, 256]⟩
abbrev S8x240x256 : Shape := ⟨3, ![8, 240, 256]⟩
abbrev S1x108x256 : Shape := ⟨3, ![1, 108, 256]⟩
abbrev S108x256 : Shape := ⟨2, ![108, 256]⟩
abbrev S4x256 : Shape := ⟨2, ![4, 256]⟩
abbrev S112x256 : Shape := ⟨2, ![112, 256]⟩
abbrev S1x112x256 : Shape := ⟨3, ![1, 112, 256]⟩
abbrev S8x256 : Shape := ⟨2, ![8, 256]⟩
abbrev S40x256 : Shape := ⟨2, ![40, 256]⟩
abbrev S1x1x40x128 : Shape := ⟨4, ![1, 1, 40, 128]⟩
abbrev S40x128 : Shape := ⟨2, ![40, 128]⟩
abbrev S1x40x256 : Shape := ⟨3, ![1, 40, 256]⟩
abbrev S208x112 : Shape := ⟨2, ![208, 112]⟩
abbrev S208x256 : Shape := ⟨2, ![208, 256]⟩
abbrev S1x208x256 : Shape := ⟨3, ![1, 208, 256]⟩
abbrev S1x160x256 : Shape := ⟨3, ![1, 160, 256]⟩
abbrev S160x256 : Shape := ⟨2, ![160, 256]⟩
abbrev S280x256 : Shape := ⟨2, ![280, 256]⟩
abbrev S56x256 : Shape := ⟨2, ![56, 256]⟩
abbrev S1x112x128 : Shape := ⟨3, ![1, 112, 128]⟩
abbrev S112x128 : Shape := ⟨2, ![112, 128]⟩
abbrev S256x256 : Shape := ⟨2, ![256, 256]⟩
abbrev S1x1x1x128x256 : Shape := ⟨5, ![1, 1, 1, 128, 256]⟩
abbrev S1x224x256 : Shape := ⟨3, ![1, 224, 256]⟩
abbrev S224x256 : Shape := ⟨2, ![224, 256]⟩
abbrev S1x1x5x32x256 : Shape := ⟨5, ![1, 1, 5, 32, 256]⟩
abbrev S5x32x256 : Shape := ⟨3, ![5, 32, 256]⟩
abbrev S80x256 : Shape := ⟨2, ![80, 256]⟩
abbrev S1x80x256 : Shape := ⟨3, ![1, 80, 256]⟩
abbrev S112x208 : Shape := ⟨2, ![112, 208]⟩
abbrev S1x112x208 : Shape := ⟨3, ![1, 112, 208]⟩
abbrev S1x240x256 : Shape := ⟨3, ![1, 240, 256]⟩
abbrev S240x256 : Shape := ⟨2, ![240, 256]⟩
abbrev S16x256 : Shape := ⟨2, ![16, 256]⟩
abbrev S2x2x4x3x2x10x4 : Shape := ⟨7, ![2, 2, 4, 3, 2, 10, 4]⟩
abbrev S2x10x4x5x2x16 : Shape := ⟨6, ![2, 10, 4, 5, 2, 16]⟩
abbrev S10x4x5x16 : Shape := ⟨4, ![10, 4, 5, 16]⟩
abbrev S2x104x2x8x14 : Shape := ⟨5, ![2, 104, 2, 8, 14]⟩
abbrev S104x8x14 : Shape := ⟨3, ![104, 8, 14]⟩
abbrev S99x8x14 : Shape := ⟨3, ![99, 8, 14]⟩
abbrev S8x108x208 : Shape := ⟨3, ![8, 108, 208]⟩
abbrev S8x9x12x2x104 : Shape := ⟨5, ![8, 9, 12, 2, 104]⟩
abbrev S8x9x12x2x99 : Shape := ⟨5, ![8, 9, 12, 2, 99]⟩
abbrev S8x9x12x2x9x11 : Shape := ⟨6, ![8, 9, 12, 2, 9, 11]⟩
abbrev S8x12x2x11 : Shape := ⟨4, ![8, 12, 2, 11]⟩
abbrev S11x8x2x12 : Shape := ⟨4, ![11, 8, 2, 12]⟩

abbrev nBuf : Space → Nat
  | .hbm => 221
  | .vmem => 29
  | .smem => 0
  | _ => 0

abbrev hbmTy0_0 (i : Nat) : BufTy := match i % 128 with
  | 0 => ⟨S6x256x1024, .bf16⟩
  | 1 => ⟨S6x256x1620, .fp8e5m2⟩
  | 2 => ⟨S6x256, .f32⟩
  | 3 => ⟨S2x3x10, .i8⟩
  | 4 => ⟨S10x4x5x14, .i8⟩
  | 5 => ⟨S14x8x9x11, .i8⟩
  | 6 => ⟨S11x16x12, .i8⟩
  | 7 => ⟨S3x10, .f32⟩
  | 8 => ⟨S5x14, .f32⟩
  | 9 => ⟨S9x11, .f32⟩
  | 10 => ⟨S12, .f32⟩
  | 11 => ⟨S1536x8x8x16, .bf16⟩
  | 12 => ⟨S16x8x8x1536, .bf16⟩
  | 13 => ⟨S1024x1536, .bf16⟩
  | 14 => ⟨S1536x15x108, .fp8e5m2⟩
  | 15 => ⟨S15x108x1536, .fp8e5m2⟩
  | 16 => ⟨S1x1536, .f32⟩
  | 17 => ⟨S2x3x10, .i32⟩
  | 18 => ⟨S2x3x10, .f32⟩
  | 19 => ⟨S2x3x10, .bf16⟩
  | 20 => ⟨S10x4x5x14, .i32⟩
  | 21 => ⟨S10x4x5x14, .f32⟩
  | 22 => ⟨S10x4x5x14, .bf16⟩
  | 23 => ⟨S14x8x9x11, .i32⟩
  | 24 => ⟨S14x8x9x11, .f32⟩
  | 25 => ⟨S14x8x9x11, .bf16⟩
  | 26 => ⟨S11x16x12, .i32⟩
  | 27 => ⟨S11x16x12, .f32⟩
  | 28 => ⟨S11x16x12, .bf16⟩
  | 29 => ⟨S3x10, .bf16⟩
  | 30 => ⟨S1x3x10, .bf16⟩
  | 31 => ⟨S2x3x10, .bf16⟩
  | 32 => ⟨S2x3x10, .bf16⟩
  | 33 => ⟨S5x14, .bf16⟩
  | 34 => ⟨S1x1x5x14, .bf16⟩
  | 35 => ⟨S10x4x5x14, .bf16⟩
  | 36 => ⟨S10x4x5x14, .bf16⟩
  | 37 => ⟨S9x11, .bf16⟩
  | 38 => ⟨S1x1x9x11, .bf16⟩
  | 39 => ⟨S14x8x9x11, .bf16⟩
  | 40 => ⟨S14x8x9x11, .bf16⟩
  | 41 => ⟨S12, .bf16⟩
  | 42 => ⟨S1x1x12, .bf16⟩
  | 43 => ⟨S11x16x12, .bf16⟩
  | 44 => ⟨S11x16x12, .bf16⟩
  | 45 => ⟨S2x2, .i32⟩
  | 46 => ⟨S2x2, .i32⟩
  | 47 => ⟨S_, .i32⟩
  | 48 => ⟨S2x2, .i32⟩
  | 49 => ⟨S2x2, .i32⟩
  | 50 => ⟨S2x2, .i1⟩
  | 51 => ⟨S2x2, .bf16⟩
  | 52 => ⟨S4x4, .i32⟩
  | 53 => ⟨S4x4, .i32⟩
  | 54 => ⟨S_, .i32⟩
  | 55 => ⟨S4x4, .i32⟩
  | 56 => ⟨S4x4, .i32⟩
  | 57 => ⟨S4x4, .i1⟩
  | 58 => ⟨S4x4, .bf16⟩
  | 59 => ⟨S9x9, .i32⟩
  | 60 => ⟨S9x9, .i32⟩
  | 61 => ⟨S_, .i32⟩
  | 62 => ⟨S9x9, .i32⟩
  | 63 => ⟨S9x9, .i32⟩
  | 64 => ⟨S9x9, .i1⟩
  | 65 => ⟨S9x9, .bf16⟩
  | 66 => ⟨S5x14x10x4, .bf16⟩
  | 67 => ⟨S5x1x14x1x10x4, .bf16⟩
  | 68 => ⟨S1x4x1x4x1x1, .bf16⟩
  | 69 => ⟨S5x4x14x4x10x4, .bf16⟩
  | 70 => ⟨S5x4x14x4x10x4, .bf16⟩
  | 71 => ⟨S5x4x14x4x10x4, .bf16⟩
  | 72 => ⟨S280x160, .bf16⟩
  | 73 => ⟨S9x11x8x14, .bf16⟩
  | 74 => ⟨S99x112, .bf16⟩
  | 75 => ⟨S_, .i32⟩
  | 76 => ⟨S_, .bf16⟩
  | 77 => ⟨S104x112, .bf16⟩
  | 78 => ⟨S1x104x1x112, .bf16⟩
  | 79 => ⟨S2x1x2x1, .bf16⟩
  | 80 => ⟨S2x104x2x112, .bf16⟩
  | 81 => ⟨S2x104x2x112, .bf16⟩
  | 82 => ⟨S2x104x2x112, .bf16⟩
  | 83 => ⟨S208x224, .bf16⟩
  | 84 => ⟨S16x11x12, .bf16⟩
  | 85 => ⟨S16x1x11x1x12, .bf16⟩
  | 86 => ⟨S1x9x1x9x1, .bf16⟩
  | 87 => ⟨S16x9x11x9x12, .bf16⟩
  | 88 => ⟨S16x9x11x9x12, .bf16⟩
  | 89 => ⟨S16x9x11x9x12, .bf16⟩
  | 90 => ⟨S16x99x108, .bf16⟩
  | 91 => ⟨S_, .i32⟩
  | 92 => ⟨S_, .bf16⟩
  | 93 => ⟨S16x104x112, .bf16⟩
  | 94 => ⟨S8x208x112, .bf16⟩
  | 95 => ⟨S8x14x9x11, .bf16⟩
  | 96 => ⟨S8x14x99, .bf16⟩
  | 97 => ⟨S_, .i32⟩
  | 98 => ⟨S_, .bf16⟩
  | 99 => ⟨S8x16x104, .bf16⟩
  | 100 => ⟨S128x104, .bf16⟩
  | 101 => ⟨S1x128x1x104, .bf16⟩
  | 102 => ⟨S2x1x2x1, .bf16⟩
  | 103 => ⟨S2x128x2x104, .bf16⟩
  | 104 => ⟨S2x128x2x104, .bf16⟩
  | 105 => ⟨S2x128x2x104, .bf16⟩
  | 106 => ⟨S256x208, .bf16⟩
  | 107 => ⟨S40x5x14, .bf16⟩
  | 108 => ⟨S_, .i32⟩
  | 109 => ⟨S_, .bf16⟩
  | 110 => ⟨S40x5x16, .bf16⟩
  | 111 => ⟨S1x40x5x1x16, .bf16⟩
  | 112 => ⟨S2x1x1x2x1, .bf16⟩
  | 113 => ⟨S2x40x5x2x16, .bf16⟩
  | 114 => ⟨S2x40x5x2x16, .bf16⟩
  | 115 => ⟨S2x40x5x2x16, .bf16⟩
  | 116 => ⟨S80x160, .bf16⟩
  | 117 => ⟨S2x1x3x10x1, .bf16⟩
  | 118 => ⟨S1x4x1x1x4, .bf16⟩
  | 119 => ⟨S2x4x3x10x4, .bf16⟩
  | 120 => ⟨S2x4x3x10x4, .bf16⟩
  | 121 => ⟨S2x4x3x10x4, .bf16⟩
  | 122 => ⟨S8x3x40, .bf16⟩
  | 123 => ⟨S1x8x3x1x40, .bf16⟩
  | 124 => ⟨S2x1x1x2x1, .bf16⟩
  | 125 => ⟨S2x8x3x2x40, .bf16⟩
  | 126 => ⟨S2x8x3x2x40, .bf16⟩
  | 127 => ⟨S2x8x3x2x40, .bf16⟩
  | _ => ⟨S6x256x1024, .bf16⟩

abbrev hbmTy0_1 (i : Nat) : BufTy := match i % 128 with
  | 0 => ⟨S16x240, .bf16⟩
  | 1 => ⟨S2x3x10, .i32⟩
  | 2 => ⟨S2x3x10, .f32⟩
  | 3 => ⟨S1x3x10, .f32⟩
  | 4 => ⟨S3x10, .f32⟩
  | 5 => ⟨S1x3x10, .f32⟩
  | 6 => ⟨S3x10, .f32⟩
  | 7 => ⟨S1x3x10, .f32⟩
  | 8 => ⟨S1x3x10, .f32⟩
  | 9 => ⟨S1x3x10, .f32⟩
  | 10 => ⟨S3x3x10, .f32⟩
  | 11 => ⟨S3x3x10x4, .f32⟩
  | 12 => ⟨S3x3x40, .f32⟩
  | 13 => ⟨S3x3x40x1, .f32⟩
  | 14 => ⟨S3x3x40x128, .f32⟩
  | 15 => ⟨S1x5x1x14, .f32⟩
  | 16 => ⟨S1x5x8x14, .f32⟩
  | 17 => ⟨S5x112, .f32⟩
  | 18 => ⟨S5x112x1, .f32⟩
  | 19 => ⟨S5x112x128, .f32⟩
  | 20 => ⟨S99, .f32⟩
  | 21 => ⟨S_, .i32⟩
  | 22 => ⟨S_, .f32⟩
  | 23 => ⟨S104, .f32⟩
  | 24 => ⟨S208, .f32⟩
  | 25 => ⟨S208x1, .f32⟩
  | 26 => ⟨S208x128, .f32⟩
  | 27 => ⟨S1024x1536, .bf16⟩
  | 28 => ⟨S16x240, .f32⟩
  | 29 => ⟨S80x160, .f32⟩
  | 30 => ⟨S208x224, .f32⟩
  | 31 => ⟨S8x112x208, .f32⟩
  | 32 => ⟨S16x8x8x1536, .bf16⟩
  | 33 => ⟨S1536x8x8x16, .bf16⟩
  | 34 => ⟨S6x256x1024, .bf16⟩
  | 35 => ⟨S2x2x4x3x2x10x4, .f32⟩
  | 36 => ⟨S2x2, .i32⟩
  | 37 => ⟨S2x2, .i32⟩
  | 38 => ⟨S2x2, .i1⟩
  | 39 => ⟨S2x2x4x3x2x10x4, .i1⟩
  | 40 => ⟨S_, .f32⟩
  | 41 => ⟨S2x2x4x3x2x10x4, .f32⟩
  | 42 => ⟨S2x2x4x3x2x10x4, .f32⟩
  | 43 => ⟨S_, .f32⟩
  | 44 => ⟨S2x4x3x10x4, .f32⟩
  | 45 => ⟨S4x4, .i32⟩
  | 46 => ⟨S4x4, .i32⟩
  | 47 => ⟨S4x4, .i1⟩
  | 48 => ⟨S2x4x3x10x4, .i1⟩
  | 49 => ⟨S_, .f32⟩
  | 50 => ⟨S2x4x3x10x4, .f32⟩
  | 51 => ⟨S2x4x3x10x4, .f32⟩
  | 52 => ⟨S_, .f32⟩
  | 53 => ⟨S2x3x10, .f32⟩
  | 54 => ⟨S2x10x4x5x2x16, .f32⟩
  | 55 => ⟨S2x2, .i32⟩
  | 56 => ⟨S2x2, .i32⟩
  | 57 => ⟨S2x2, .i1⟩
  | 58 => ⟨S2x10x4x5x2x16, .i1⟩
  | 59 => ⟨S_, .f32⟩
  | 60 => ⟨S2x10x4x5x2x16, .f32⟩
  | 61 => ⟨S2x10x4x5x2x16, .f32⟩
  | 62 => ⟨S_, .f32⟩
  | 63 => ⟨S10x4x5x16, .f32⟩
  | 64 => ⟨S10x4x5x14, .f32⟩
  | 65 => ⟨S2x104x2x8x14, .f32⟩
  | 66 => ⟨S2x2, .i32⟩
  | 67 => ⟨S2x2, .i32⟩
  | 68 => ⟨S2x2, .i1⟩
  | 69 => ⟨S2x104x2x8x14, .i1⟩
  | 70 => ⟨S_, .f32⟩
  | 71 => ⟨S2x104x2x8x14, .f32⟩
  | 72 => ⟨S2x104x2x8x14, .f32⟩
  | 73 => ⟨S_, .f32⟩
  | 74 => ⟨S104x8x14, .f32⟩
  | 75 => ⟨S99x8x14, .f32⟩
  | 76 => ⟨S9x11x8x14, .f32⟩
  | 77 => ⟨S14x8x9x11, .f32⟩
  | 78 => ⟨S8x108x208, .f32⟩
  | 79 => ⟨S8x9x12x2x104, .f32⟩
  | 80 => ⟨S8x9x12x2x99, .f32⟩
  | 81 => ⟨S8x9x12x2x9x11, .f32⟩
  | 82 => ⟨S9x9, .i32⟩
  | 83 => ⟨S9x9, .i32⟩
  | 84 => ⟨S9x9, .i1⟩
  | 85 => ⟨S8x9x12x2x9x11, .i1⟩
  | 86 => ⟨S_, .f32⟩
  | 87 => ⟨S8x9x12x2x9x11, .f32⟩
  | 88 => ⟨S8x9x12x2x9x11, .f32⟩
  | 89 => ⟨S_, .f32⟩
  | 90 => ⟨S8x12x2x11, .f32⟩
  | 91 => ⟨S11x8x2x12, .f32⟩
  | 92 => ⟨S11x16x12, .f32⟩
  | _ => ⟨S6x256x1024, .bf16⟩

abbrev hbmTy (i : Nat) : BufTy := match i / 128 with
  | 0 => hbmTy0_0 i
  | 1 => hbmTy0_1 i
  | _ => ⟨S6x256x1024, .bf16⟩

abbrev bufTy : (tb : Table) → Fin (tcTables nBuf tb) → BufTy
  | .hbm, ⟨i, _⟩ => hbmTy i
  | .local _ .vmem, ⟨0, _⟩ => ⟨S128x256, .bf16⟩
  | .local _ .vmem, ⟨1, _⟩ => ⟨S128x256, .bf16⟩
  | .local _ .vmem, ⟨2, _⟩ => ⟨S15x108x256, .fp8e5m2⟩
  | .local _ .vmem, ⟨3, _⟩ => ⟨S15x108x256, .fp8e5m2⟩
  | .local _ .vmem, ⟨4, _⟩ => ⟨S1x256, .f32⟩
  | .local _ .vmem, ⟨5, _⟩ => ⟨S1x256, .f32⟩
  | .local _ .vmem, ⟨6, _⟩ => ⟨S280x160, .bf16⟩
  | .local _ .vmem, ⟨7, _⟩ => ⟨S208x224, .bf16⟩
  | .local _ .vmem, ⟨8, _⟩ => ⟨S1x208x112, .bf16⟩
  | .local _ .vmem, ⟨9, _⟩ => ⟨S1x208x112, .bf16⟩
  | .local _ .vmem, ⟨10, _⟩ => ⟨S256x208, .bf16⟩
  | .local _ .vmem, ⟨11, _⟩ => ⟨S80x160, .bf16⟩
  | .local _ .vmem, ⟨12, _⟩ => ⟨S16x240, .bf16⟩
  | .local _ .vmem, ⟨13, _⟩ => ⟨S3x3x40x128, .f32⟩
  | .local _ .vmem, ⟨14, _⟩ => ⟨S5x112x128, .f32⟩
  | .local _ .vmem, ⟨15, _⟩ => ⟨S208x128, .f32⟩
  | .local _ .vmem, ⟨16, _⟩ => ⟨S128x256, .bf16⟩
  | .local _ .vmem, ⟨17, _⟩ => ⟨S128x256, .bf16⟩
  | .local _ .vmem, ⟨18, _⟩ => ⟨S16x240, .f32⟩
  | .local _ .vmem, ⟨19, _⟩ => ⟨S80x160, .f32⟩
  | .local _ .vmem, ⟨20, _⟩ => ⟨S208x224, .f32⟩
  | .local _ .vmem, ⟨21, _⟩ => ⟨S8x112x208, .f32⟩
  | .local _ .vmem, ⟨22, _⟩ => ⟨S15x112x256, .bf16⟩
  | .local _ .vmem, ⟨23, _⟩ => ⟨S3x640x256, .bf16⟩
  | .local _ .vmem, ⟨24, _⟩ => ⟨S15x224x256, .bf16⟩
  | .local _ .vmem, ⟨25, _⟩ => ⟨S15x208x256, .bf16⟩
  | .local _ .vmem, ⟨26, _⟩ => ⟨S15x208x256, .bf16⟩
  | .local _ .vmem, ⟨27, _⟩ => ⟨S3x2x5x128x256, .bf16⟩
  | .local _ .vmem, ⟨28, _⟩ => ⟨S8x240x256, .bf16⟩
  | _, _ => ⟨S6x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_0 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_1 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_c_2 : Ref sig .tc := ⟨.hbm, 75, rfl⟩
abbrev main_call0_v0 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_c_3 : Ref sig .tc := ⟨.hbm, 91, rfl⟩
abbrev main_call1_v0 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_c_4 : Ref sig .tc := ⟨.hbm, 97, rfl⟩
abbrev main_call2_v0 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_c_5 : Ref sig .tc := ⟨.hbm, 108, rfl⟩
abbrev main_call3_v0 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_c_6 : Ref sig .tc := ⟨.hbm, 149, rfl⟩
abbrev main_call4_v0 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131_0 : Ref sig .tc := ⟨.hbm, 155, rfl⟩
abbrev main_v131_1 : Ref sig .tc := ⟨.hbm, 156, rfl⟩
abbrev main_v131_2 : Ref sig .tc := ⟨.hbm, 157, rfl⟩
abbrev main_v131_3 : Ref sig .tc := ⟨.hbm, 158, rfl⟩
abbrev main_v131_4 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_cst : Ref sig .tc := ⟨.hbm, 168, rfl⟩
abbrev main_v140 : Ref sig .tc := ⟨.hbm, 169, rfl⟩
abbrev main_v141 : Ref sig .tc := ⟨.hbm, 170, rfl⟩
abbrev main_cst_7 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_cst_8 : Ref sig .tc := ⟨.hbm, 177, rfl⟩
abbrev main_v147 : Ref sig .tc := ⟨.hbm, 178, rfl⟩
abbrev main_v148 : Ref sig .tc := ⟨.hbm, 179, rfl⟩
abbrev main_cst_9 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_cst_10 : Ref sig .tc := ⟨.hbm, 187, rfl⟩
abbrev main_v155 : Ref sig .tc := ⟨.hbm, 188, rfl⟩
abbrev main_v156 : Ref sig .tc := ⟨.hbm, 189, rfl⟩
abbrev main_cst_11 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_cst_12 : Ref sig .tc := ⟨.hbm, 198, rfl⟩
abbrev main_v164 : Ref sig .tc := ⟨.hbm, 199, rfl⟩
abbrev main_v165 : Ref sig .tc := ⟨.hbm, 200, rfl⟩
abbrev main_cst_13 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_cst_14 : Ref sig .tc := ⟨.hbm, 214, rfl⟩
abbrev main_v178 : Ref sig .tc := ⟨.hbm, 215, rfl⟩
abbrev main_v179 : Ref sig .tc := ⟨.hbm, 216, rfl⟩
abbrev main_cst_15 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem14_0 : DmaSem sig := 19
abbrev cc0_sem15_0 : DmaSem sig := 20
abbrev cc0_sem16_0 : DmaSem sig := 21

abbrev nD : Nat := 1
abbrev τ : Topo := Topo.v7x

variable {F : FTy → Type} [FloatOps F]

abbrev grid0 : Pipeline.Grid := ⟨2, ![6, 8], ![false, false]⟩

def k0_off1 (i : grid0.Coords) : Fin 3 → Nat :=
  let arg1 : BitVec 32 := BitVec.ofNat 32 (i 1).val
  let v911 : Index := Scalar.indexCast arg1
  let c0_656 : Index := 0#32
  let c0_657 : Index := 0#32
  ![v911.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S15x108x256 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S280x160 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S208x224 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x208x112 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S256x208 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S80x160 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x240 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x3x40x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S5x112x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S208x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S16x240 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S80x160 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S208x224 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S8x112x208 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]
-- ==== ReferenceIdeal.lean ====
abbrev S6x256x1024 : Shape := ⟨3, ![6, 256, 1024]⟩
abbrev S6x256x1620 : Shape := ⟨3, ![6, 256, 1620]⟩
abbrev S6x256 : Shape := ⟨2, ![6, 256]⟩
abbrev S2x3x10 : Shape := ⟨3, ![2, 3, 10]⟩
abbrev S10x4x5x14 : Shape := ⟨4, ![10, 4, 5, 14]⟩
abbrev S14x8x9x11 : Shape := ⟨4, ![14, 8, 9, 11]⟩
abbrev S11x16x12 : Shape := ⟨3, ![11, 16, 12]⟩
abbrev S3x10 : Shape := ⟨2, ![3, 10]⟩
abbrev S5x14 : Shape := ⟨2, ![5, 14]⟩
abbrev S9x11 : Shape := ⟨2, ![9, 11]⟩
abbrev S12 : Shape := ⟨1, ![12]⟩
abbrev S1536x2x4x8x16 : Shape := ⟨5, ![1536, 2, 4, 8, 16]⟩
abbrev S1536x3x5x9x12 : Shape := ⟨5, ![1536, 3, 5, 9, 12]⟩
abbrev S1536 : Shape := ⟨1, ![1536]⟩
abbrev S3x10x1536x4x8x16 : Shape := ⟨6, ![3, 10, 1536, 4, 8, 16]⟩
abbrev S1536x3x10x4x8x16 : Shape := ⟨6, ![1536, 3, 10, 4, 8, 16]⟩
abbrev S3x10x1x1x1 : Shape := ⟨5, ![3, 10, 1, 1, 1]⟩
abbrev S1x3x10x1x1x1 : Shape := ⟨6, ![1, 3, 10, 1, 1, 1]⟩
abbrev S5x14x1536x3x8x16 : Shape := ⟨6, ![5, 14, 1536, 3, 8, 16]⟩
abbrev S1536x3x5x14x8x16 : Shape := ⟨6, ![1536, 3, 5, 14, 8, 16]⟩
abbrev S5x14x1x1 : Shape := ⟨4, ![5, 14, 1, 1]⟩
abbrev S1x1x5x14x1x1 : Shape := ⟨6, ![1, 1, 5, 14, 1, 1]⟩
abbrev S9x11x1536x3x5x16 : Shape := ⟨6, ![9, 11, 1536, 3, 5, 16]⟩
abbrev S1536x3x5x9x11x16 : Shape := ⟨6, ![1536, 3, 5, 9, 11, 16]⟩
abbrev S9x11x1 : Shape := ⟨3, ![9, 11, 1]⟩
abbrev S1x1x1x9x11x1 : Shape := ⟨6, ![1, 1, 1, 9, 11, 1]⟩
abbrev S1x3x10 : Shape := ⟨3, ![1, 3, 10]⟩
abbrev S1x1x5x14 : Shape := ⟨4, ![1, 1, 5, 14]⟩
abbrev S1x1x9x11 : Shape := ⟨4, ![1, 1, 9, 11]⟩
abbrev S1x1x12 : Shape := ⟨3, ![1, 1, 12]⟩
abbrev S11x16x1536x3x5x9 : Shape := ⟨6, ![11, 16, 1536, 3, 5, 9]⟩
abbrev S1536x3x5x9x16x11 : Shape := ⟨6, ![1536, 3, 5, 9, 16, 11]⟩
abbrev S1536x1x1x1x1x1 : Shape := ⟨6, ![1536, 1, 1, 1, 1, 1]⟩
abbrev S14x8x1536x3x5x16 : Shape := ⟨6, ![14, 8, 1536, 3, 5, 16]⟩
abbrev S1536x3x5x8x16x14 : Shape := ⟨6, ![1536, 3, 5, 8, 16, 14]⟩
abbrev S10x4x1536x3x8x16 : Shape := ⟨6, ![10, 4, 1536, 3, 8, 16]⟩
abbrev S1536x3x4x8x16x10 : Shape := ⟨6, ![1536, 3, 4, 8, 16, 10]⟩
abbrev S2x1536x4x8x16 : Shape := ⟨5, ![2, 1536, 4, 8, 16]⟩
abbrev S1536x1x1x1x1 : Shape := ⟨5, ![1536, 1, 1, 1, 1]⟩

abbrev nBuf : Space → Nat
  | .hbm => 88
  | .vmem => 2
  | .smem => 0
  | _ => 0

abbrev bufTy : (tb : Table) → Fin (tcTables nBuf tb) → BufTy
  | .hbm, ⟨0, _⟩ => ⟨S6x256x1024, .bf16⟩
  | .hbm, ⟨1, _⟩ => ⟨S6x256x1620, .fp8e5m2⟩
  | .hbm, ⟨2, _⟩ => ⟨S6x256, .f32⟩
  | .hbm, ⟨3, _⟩ => ⟨S2x3x10, .i8⟩
  | .hbm, ⟨4, _⟩ => ⟨S10x4x5x14, .i8⟩
  | .hbm, ⟨5, _⟩ => ⟨S14x8x9x11, .i8⟩
  | .hbm, ⟨6, _⟩ => ⟨S11x16x12, .i8⟩
  | .hbm, ⟨7, _⟩ => ⟨S3x10, .f32⟩
  | .hbm, ⟨8, _⟩ => ⟨S5x14, .f32⟩
  | .hbm, ⟨9, _⟩ => ⟨S9x11, .f32⟩
  | .hbm, ⟨10, _⟩ => ⟨S12, .f32⟩
  | .hbm, ⟨11, _⟩ => ⟨S1536x2x4x8x16, .bf16⟩
  | .hbm, ⟨12, _⟩ => ⟨S6x256x1620, .bf16⟩
  | .hbm, ⟨13, _⟩ => ⟨S1536x3x5x9x12, .bf16⟩
  | .hbm, ⟨14, _⟩ => ⟨S1536, .f32⟩
  | .hbm, ⟨15, _⟩ => ⟨S2x3x10, .i32⟩
  | .hbm, ⟨16, _⟩ => ⟨S2x3x10, .f32⟩
  | .hbm, ⟨17, _⟩ => ⟨S2x3x10, .bf16⟩
  | .hbm, ⟨18, _⟩ => ⟨S10x4x5x14, .i32⟩
  | .hbm, ⟨19, _⟩ => ⟨S10x4x5x14, .f32⟩
  | .hbm, ⟨20, _⟩ => ⟨S10x4x5x14, .bf16⟩
  | .hbm, ⟨21, _⟩ => ⟨S14x8x9x11, .i32⟩
  | .hbm, ⟨22, _⟩ => ⟨S14x8x9x11, .f32⟩
  | .hbm, ⟨23, _⟩ => ⟨S14x8x9x11, .bf16⟩
  | .hbm, ⟨24, _⟩ => ⟨S11x16x12, .i32⟩
  | .hbm, ⟨25, _⟩ => ⟨S11x16x12, .f32⟩
  | .hbm, ⟨26, _⟩ => ⟨S11x16x12, .bf16⟩
  | .hbm, ⟨27, _⟩ => ⟨S3x10x1536x4x8x16, .f32⟩
  | .hbm, ⟨28, _⟩ => ⟨S1536x3x10x4x8x16, .f32⟩
  | .hbm, ⟨29, _⟩ => ⟨S3x10x1x1x1, .f32⟩
  | .hbm, ⟨30, _⟩ => ⟨S1x3x10x1x1x1, .f32⟩
  | .hbm, ⟨31, _⟩ => ⟨S1536x3x10x4x8x16, .f32⟩
  | .hbm, ⟨32, _⟩ => ⟨S1536x3x10x4x8x16, .f32⟩
  | .hbm, ⟨33, _⟩ => ⟨S1536x3x10x4x8x16, .bf16⟩
  | .hbm, ⟨34, _⟩ => ⟨S5x14x1536x3x8x16, .f32⟩
  | .hbm, ⟨35, _⟩ => ⟨S1536x3x5x14x8x16, .f32⟩
  | .hbm, ⟨36, _⟩ => ⟨S5x14x1x1, .f32⟩
  | .hbm, ⟨37, _⟩ => ⟨S1x1x5x14x1x1, .f32⟩
  | .hbm, ⟨38, _⟩ => ⟨S1536x3x5x14x8x16, .f32⟩
  | .hbm, ⟨39, _⟩ => ⟨S1536x3x5x14x8x16, .f32⟩
  | .hbm, ⟨40, _⟩ => ⟨S1536x3x5x14x8x16, .bf16⟩
  | .hbm, ⟨41, _⟩ => ⟨S9x11x1536x3x5x16, .f32⟩
  | .hbm, ⟨42, _⟩ => ⟨S1536x3x5x9x11x16, .f32⟩
  | .hbm, ⟨43, _⟩ => ⟨S9x11x1, .f32⟩
  | .hbm, ⟨44, _⟩ => ⟨S1x1x1x9x11x1, .f32⟩
  | .hbm, ⟨45, _⟩ => ⟨S1536x3x5x9x11x16, .f32⟩
  | .hbm, ⟨46, _⟩ => ⟨S1536x3x5x9x11x16, .f32⟩
  | .hbm, ⟨47, _⟩ => ⟨S1536x3x5x9x11x16, .bf16⟩
  | .hbm, ⟨48, _⟩ => ⟨S3x10, .bf16⟩
  | .hbm, ⟨49, _⟩ => ⟨S1x3x10, .bf16⟩
  | .hbm, ⟨50, _⟩ => ⟨S2x3x10, .bf16⟩
  | .hbm, ⟨51, _⟩ => ⟨S2x3x10, .bf16⟩
  | .hbm, ⟨52, _⟩ => ⟨S5x14, .bf16⟩
  | .hbm, ⟨53, _⟩ => ⟨S1x1x5x14, .bf16⟩
  | .hbm, ⟨54, _⟩ => ⟨S10x4x5x14, .bf16⟩
  | .hbm, ⟨55, _⟩ => ⟨S10x4x5x14, .bf16⟩
  | .hbm, ⟨56, _⟩ => ⟨S9x11, .bf16⟩
  | .hbm, ⟨57, _⟩ => ⟨S1x1x9x11, .bf16⟩
  | .hbm, ⟨58, _⟩ => ⟨S14x8x9x11, .bf16⟩
  | .hbm, ⟨59, _⟩ => ⟨S14x8x9x11, .bf16⟩
  | .hbm, ⟨60, _⟩ => ⟨S12, .bf16⟩
  | .hbm, ⟨61, _⟩ => ⟨S1x1x12, .bf16⟩
  | .hbm, ⟨62, _⟩ => ⟨S11x16x12, .bf16⟩
  | .hbm, ⟨63, _⟩ => ⟨S11x16x12, .bf16⟩
  | .hbm, ⟨64, _⟩ => ⟨S11x16x1536x3x5x9, .f32⟩
  | .hbm, ⟨65, _⟩ => ⟨S1536x3x5x9x16x11, .f32⟩
  | .hbm, ⟨66, _⟩ => ⟨S1536x1x1x1x1x1, .f32⟩
  | .hbm, ⟨67, _⟩ => ⟨S1536x3x5x9x16x11, .f32⟩
  | .hbm, ⟨68, _⟩ => ⟨S1536x3x5x9x16x11, .f32⟩
  | .hbm, ⟨69, _⟩ => ⟨S1536x3x5x9x16x11, .bf16⟩
  | .hbm, ⟨70, _⟩ => ⟨S14x8x1536x3x5x16, .f32⟩
  | .hbm, ⟨71, _⟩ => ⟨S1536x3x5x8x16x14, .f32⟩
  | .hbm, ⟨72, _⟩ => ⟨S1536x3x5x8x16x14, .bf16⟩
  | .hbm, ⟨73, _⟩ => ⟨S10x4x1536x3x8x16, .f32⟩
  | .hbm, ⟨74, _⟩ => ⟨S1536x3x4x8x16x10, .f32⟩
  | .hbm, ⟨75, _⟩ => ⟨S1536x3x4x8x16x10, .bf16⟩
  | .hbm, ⟨76, _⟩ => ⟨S2x1536x4x8x16, .f32⟩
  | .hbm, ⟨77, _⟩ => ⟨S1536x2x4x8x16, .f32⟩
  | .hbm, ⟨78, _⟩ => ⟨S1536x2x4x8x16, .bf16⟩
  | .hbm, ⟨79, _⟩ => ⟨S6x256x1024, .bf16⟩
  | .hbm, ⟨80, _⟩ => ⟨S2x3x10, .f32⟩
  | .hbm, ⟨81, _⟩ => ⟨S10x4x5x14, .f32⟩
  | .hbm, ⟨82, _⟩ => ⟨S14x8x9x11, .f32⟩
  | .hbm, ⟨83, _⟩ => ⟨S1536, .bf16⟩
  | .hbm, ⟨84, _⟩ => ⟨S1536x1x1x1x1, .bf16⟩
  | .hbm, ⟨85, _⟩ => ⟨S1536x3x5x9x12, .bf16⟩
  | .hbm, ⟨86, _⟩ => ⟨S1536x3x5x9x12, .bf16⟩
  | .hbm, ⟨87, _⟩ => ⟨S11x16x12, .f32⟩
  | .local _ .vmem, ⟨0, _⟩ => ⟨S6x256x1620, .fp8e5m2⟩
  | .local _ .vmem, ⟨1, _⟩ => ⟨S6x256x1620, .bf16⟩
  | _, _ => ⟨S6x256x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S6x256x1620 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256x1620 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Fill.lean ====
module
public import proofs.«01_k».proof.Proof.Gen.KernelIdeal.Skeleton
public import Idealize.ShloMosaic.Lib.Pipeline.ValueKit
public import Idealize.ShloMosaic.Lib.Pointwise
public import Idealize.ShloMosaic.Lib.WholeRead
@[expose] public section
set_option maxRecDepth 16384
noncomputable section
open Idealize.ShloMosaic Idealize.ShloMosaic.TcCoe Idealize.SL.Sem
namespace Cert.KernelIdeal.Val

/-- An array read at natural-number coordinates: zero outside the array. -/
def rd {s : Shape} (x : s.Idx → EReal) (c : Fin s.rank → ℕ) : EReal :=
  if h : ∀ a, c a < s.size a then x (fun a => ⟨c a, h a⟩) else 0

/-- Reading at the coordinates of an index reads the array there. -/
theorem rd_val {s : Shape} (x : s.Idx → EReal) (y : s.Idx) : rd x (fun a => (y a).val) = x y := by
  simp [rd]

/-- A reading inside the array. -/
theorem rd_of {s : Shape} (x : s.Idx → EReal) (c : Fin s.rank → ℕ) (y : s.Idx) (h : ∀ a, c a = (y a).val) :
    rd x c = x y := by
  rw [← rd_val x y]; exact congrArg (rd x) (funext h)

/-- What a load through a unit-stride rectangle reads. -/
theorem rd_load {s : Shape} (x : s.Idx → EReal) (off size : Fin s.rank → ℕ)
    (inb : ∀ a, off a + size a ≤ s.size a) (c : Fin s.rank → ℕ) (h : ∀ a, c a < size a) :
    rd (s := (Rect.unit off size inb).toLoadRect.shape)
      (fun y => x ((Rect.unit off size inb).toLoadRect.idx y)) c = rd x (fun a => off a + c a) := by
  have hc : ∀ a, off a + c a < s.size a := fun a => lt_of_lt_of_le (Nat.add_lt_add_left (h a) _) (inb a)
  let y : (Rect.unit off size inb).toLoadRect.shape.Idx := fun a => ⟨c a, h a⟩
  rw [rd_of (s := (Rect.unit off size inb).toLoadRect.shape) _ c y (fun _ => rfl)]
  symm
  refine rd_of _ _ _ fun a => ?_
  show off a + c a = off a + 1 * c a
  rw [Nat.one_mul]

/-- Two readings at the same coordinates. -/
theorem rd_congr {s : Shape} {x : s.Idx → EReal} {c c' : Fin s.rank → ℕ} (h : ∀ a, c a = c' a) : rd x c = rd x c' :=
  congrArg (rd x) (funext h)

/-- What a load through a unit-stride rectangle reads at an index. -/
theorem rd_idx {s : Shape} (x : s.Idx → EReal) (off size : Fin s.rank → ℕ)
    (inb : ∀ a, off a + size a ≤ s.size a) (y : (Rect.unit off size inb).toLoadRect.shape.Idx) :
    x ((Rect.unit off size inb).toLoadRect.idx y) = rd x (fun a => off a + (y a).val) := by
  symm
  refine rd_of _ _ _ fun a => ?_
  show off a + (y a).val = off a + 1 * (y a).val
  rw [Nat.one_mul]

variable {s : Shape} {e : EltTy}

/-- The store list holds `G` at every index whose key is below `k`. -/
def Fills (key : s.Idx → ℕ) (G : s.Idx → Elt Ideal e) (L : List (View.Piece (Elt Ideal) s e)) (k : ℕ) : Prop :=
  ∀ y, key y < k → View.canon L y = G y

theorem Fills.nil (key : s.Idx → ℕ) (G : s.Idx → Elt Ideal e) : Fills key G [] 0 :=
  fun _ h => absurd h (Nat.not_lt_zero _)

/-- One more store: the rectangle of key `k` is written with `G`. -/
theorem Fills.step {key : s.Idx → ℕ} {G : s.Idx → Elt Ideal e} {L : List (View.Piece (Elt Ideal) s e)} {k : ℕ}
    {off size : Fin s.rank → ℕ} {inb : ∀ a, off a + size a ≤ s.size a}
    {w : (Rect.unit off size inb).shape.Idx → Elt Ideal e}
    (hcov : ∀ y : s.Idx, key y = k → ∀ a, off a ≤ y a ∧ (y a : ℕ) < off a + size a)
    (hw : ∀ x, w x = G ((Rect.unit off size inb).emb x)) (hL : Fills key G L k) :
    Fills key G (⟨Rect.unit off size inb, w⟩ :: L) (k + 1) := by
  intro y hy
  by_cases hm : y ∈ (Rect.unit off size inb).set
  · obtain ⟨x, rfl⟩ := (Rect.unit off size inb).exists_idx_of_mem hm
    exact (View.canon_cons_emb _ w L x).trans (hw x)
  · rw [View.canon_cons_of_not_mem _ L hm]
    refine hL y (lt_of_le_of_ne (Nat.le_of_lt_succ hy) fun hk => hm ?_)
    exact Rect.mem_set_unit.mpr (hcov y hk)

/-- A load of a filled part of the scratch reads `G`. -/
theorem Fills.read {key : s.Idx → ℕ} {G : s.Idx → Elt Ideal e} {L : List (View.Piece (Elt Ideal) s e)} {k : ℕ}
    {sig : RefSig} {κ : Kind} {sp : Space} {v : View sig κ sp s e} {B : LoadRect s} (hL : Fills key G L k)
    (hB : ∀ x, key (B.idx x) < k) : v.readCov L B = fun x => G (B.idx x) := by
  rw [View.readCov_eq_canon']
  exact funext fun x => hL _ (hB x)

/-- The same at one index, for a load through a unit-stride rectangle. -/
theorem Fills.load {key : s.Idx → ℕ} {G : s.Idx → Elt Ideal e} {L : List (View.Piece (Elt Ideal) s e)} {k : ℕ}
    {sig : RefSig} {κ : Kind} {sp : Space} {v : View sig κ sp s e} {off size : Fin s.rank → ℕ}
    {inb : ∀ a, off a + size a ≤ s.size a} (hL : Fills key G L k)
    (hB : ∀ x, key ((Rect.unit off size inb).toLoadRect.idx x) < k)
    (y : (Rect.unit off size inb).toLoadRect.shape.Idx) :
    v.readCov L (Rect.unit off size inb).toLoadRect y = G ((Rect.unit off size inb).toLoadRect.idx y) :=
  congrFun (hL.read hB) y

end Cert.KernelIdeal.Val
-- ==== Proof.StagePay.lean ====
module
public import proofs.«01_k».proof.Proof.Fill
@[expose] public section
set_option maxRecDepth 16384
noncomputable section
open Idealize.ShloMosaic Idealize.ShloMosaic.TcCoe Idealize.SL.Sem
namespace Cert.KernelIdeal.Val
open Cert.KernelIdeal Cert.KernelIdeal.Gen

/-- One group of four second-stage rows at an offset of the token block: forty rows of the scaled first contraction. -/
def l2Pay {o : ℕ} (h : S128x256.Slices ![o, 0] S8x256) (X : Vec Ideal S128x256 .bf16)
    (a b d : Vec Ideal S1x1x40x128 .f32) : FVec Ideal S1x40x256 .bf16 :=
  let a4 : FVec Ideal S8x256 .f32 := extractStridedSlice S8x256 ![o, 0]
    (extf .f32 (shapeCast S128x256 X shapeCasts_S128x256_S128x256 : FVec Ideal S128x256 .bf16) bitsLt_bf16_f32) h
  let a5 : FVec Ideal S4x256 .f32 := extractStridedSlice S4x256 ![0, 0] a4 slices_S8x256_o0_0_S4x256
  let a7 : FVec Ideal S8x256 .f32 := concatenate S8x256 0 [⟨S4x256, a5⟩, ⟨S4x256, a5⟩] concatenates_S4x256_S4x256_S8x256_d0
  let a8 : FVec Ideal S4x256 .f32 := extractStridedSlice S4x256 ![4, 0] a4 slices_S8x256_o4_0_S4x256
  let a10 : FVec Ideal S8x256 .f32 := concatenate S8x256 0 [⟨S4x256, a8⟩, ⟨S4x256, a8⟩] concatenates_S4x256_S4x256_S8x256_d0
  let a11 : FVec Ideal S40x256 .f32 := concatenate S40x256 0 [⟨S8x256, a7⟩, ⟨S8x256, a7⟩, ⟨S8x256, a7⟩, ⟨S8x256, a7⟩, ⟨S8x256, a7⟩] concatenates_S8x256_S8x256_S8x256_S8x256_S8x256_S40x256_d0
  let a12 : FVec Ideal S40x256 .f32 := concatenate S40x256 0 [⟨S8x256, a10⟩, ⟨S8x256, a10⟩, ⟨S8x256, a10⟩, ⟨S8x256, a10⟩, ⟨S8x256, a10⟩] concatenates_S8x256_S8x256_S8x256_S8x256_S8x256_S40x256_d0
  let a13 : FVec Ideal S40x128 .f32 := shapeCast S40x128 a shapeCasts_S1x1x40x128_S40x128
  let a14 : FVec Ideal S40x256 .f32 := concatenate S40x256 1 [⟨S40x128, a13⟩, ⟨S40x128, a13⟩] concatenates_S40x128_S40x128_S40x256_d1
  let a15 : FVec Ideal S40x256 .f32 := mulf a11 a14
  let a16 : FVec Ideal S40x128 .f32 := shapeCast S40x128 b shapeCasts_S1x1x40x128_S40x128
  let a17 : FVec Ideal S40x256 .f32 := concatenate S40x256 1 [⟨S40x128, a16⟩, ⟨S40x128, a16⟩] concatenates_S40x128_S40x128_S40x256_d1
  let a18 : FVec Ideal S40x256 .f32 := mulf a12 a17
  let a19 : FVec Ideal S40x256 .f32 := addf a15 a18
  let a20 : FVec Ideal S40x128 .f32 := shapeCast S40x128 d shapeCasts_S1x1x40x128_S40x128
  let a21 : FVec Ideal S40x256 .f32 := concatenate S40x256 1 [⟨S40x128, a20⟩, ⟨S40x128, a20⟩] concatenates_S40x128_S40x128_S40x256_d1
  let a22 : FVec Ideal S40x256 .f32 := mulf a19 a21
  shapeCast S1x40x256 (truncf .bf16 a22 bitsLt_bf16_f32 : FVec Ideal S40x256 .bf16) shapeCasts_S40x256_S1x40x256

set_option maxHeartbeats 1600000 in
theorem l2Pay_at {o : ℕ} (ho : o + 8 ≤ 128) (h : S128x256.Slices ![o, 0] S8x256) (X : Vec Ideal S128x256 .bf16)
    (a b d : Vec Ideal S1x1x40x128 .f32) (r : Fin 40) (c : Fin 256) :
    l2Pay h X a b d (ix3 0 r c)
      = (X (ix2 ⟨o + r.val % 4, by omega⟩ c) * a (ix4 0 0 r ⟨c.val % 128, by omega⟩)
          + X (ix2 ⟨o + (4 + r.val % 4), by omega⟩ c) * b (ix4 0 0 r ⟨c.val % 128, by omega⟩))
        * d (ix4 0 0 r ⟨c.val % 128, by omega⟩) := by
  pointwise [l2Pay]
  refine congrArg₂ (· * ·) (congrArg₂ (· + ·) (congrArg₂ (· * ·) ?_ ?_) (congrArg₂ (· * ·) ?_ ?_)) ?_ <;>
    split_ifs <;> congr 2 <;> first | (apply Fin.ext; dsimp only; omega) | (congr 1; apply Fin.ext; dsimp only; omega)

/-- Rows of the scaled output gradient, padded with zeros from 108 to 112. -/
def dydPay (S : Vec Ideal S1x256 .f32) (Y : Vec Ideal S1x108x256 .fp8e5m2) : FVec Ideal S1x112x256 .bf16 :=
  let a2 : FVec Ideal S108x256 .fp8e5m2 := shapeCast S108x256 Y shapeCasts_S1x108x256_S108x256
  let a5 : FVec Ideal S4x256 .bf16 := broadcast S4x256 (Scalar.ofBits .bf16 0x0000#16)
  let a6 : FVec Ideal S112x256 .bf16 := concatenate S112x256 0 [⟨S108x256, (extf .bf16 a2 bitsLt_fp8e5m2_bf16 : FVec Ideal S108x256 .bf16)⟩, ⟨S4x256, a5⟩] concatenates_S108x256_S4x256_S112x256_d0
  let a7 : FVec Ideal S112x256 .bf16 := broadcastTo S112x256 (truncf .bf16 (shapeCast S1x256 S shapeCasts_S1x256_S1x256 : FVec Ideal S1x256 .f32) bitsLt_bf16_f32 : FVec Ideal S1x256 .bf16) broadcasts_S1x256_S112x256
  shapeCast S1x112x256 (mulf a6 a7 : FVec Ideal S112x256 .bf16) shapeCasts_S112x256_S1x112x256

theorem dydPay_at (S : Vec Ideal S1x256 .f32) (Y : Vec Ideal S1x108x256 .fp8e5m2) (w : Fin 112) (c : Fin 256) :
    dydPay S Y (ix3 0 w c) = (if h : w.val < 108 then Y (ix3 0 ⟨w.val, h⟩ c) else 0) * S (ix2 0 c) := by
  pointwise [dydPay]

/-- The fourth core's transposed product of one gradient block, times the gradient's scale. -/
def r3Pay (S : Vec Ideal S1x256 .f32) (A : Vec Ideal S1x208x112 .bf16) (Y : Vec Ideal S1x108x256 .fp8e5m2) :
    FVec Ideal S1x208x256 .bf16 :=
  let a3 : FVec Ideal S208x112 .bf16 := shapeCast S208x112 A shapeCasts_S1x208x112_S208x112
  let a4 : FVec Ideal S108x256 .fp8e5m2 := shapeCast S108x256 Y shapeCasts_S1x108x256_S108x256
  let a7 : FVec Ideal S4x256 .bf16 := broadcast S4x256 (Scalar.ofBits .bf16 0x0000#16)
  let a8 : FVec Ideal S112x256 .bf16 := concatenate S112x256 0 [⟨S108x256, (extf .bf16 a4 bitsLt_fp8e5m2_bf16 : FVec Ideal S108x256 .bf16)⟩, ⟨S4x256, a7⟩] concatenates_S108x256_S4x256_S112x256_d0
  let a10 : FVec Ideal S208x256 .f32 := matmul dot_S208x112_S112x256_S208x256_1_0_0_1_n_n none a3 a8 (constant S208x256 .f32 0x00000000#32)
  let a11 : FVec Ideal S208x256 .f32 := broadcastTo S208x256 (shapeCast S1x256 S shapeCasts_S1x256_S1x256 : FVec Ideal S1x256 .f32) broadcasts_S1x256_S208x256
  shapeCast S1x208x256 (truncf .bf16 (mulf a10 a11 : FVec Ideal S208x256 .f32) bitsLt_bf16_f32 : FVec Ideal S208x256 .bf16) shapeCasts_S208x256_S1x208x256

theorem r3Pay_at (S : Vec Ideal S1x256 .f32) (A : Vec Ideal S1x208x112 .bf16) (Y : Vec Ideal S1x108x256 .fp8e5m2)
    (p : Fin 208) (c : Fin 256) :
    r3Pay S A Y (ix3 0 p c)
      = (∑ w : Fin 112, A (ix3 0 p w) * (if h : w.val < 108 then Y (ix3 0 ⟨w.val, h⟩ c) else 0)) * S (ix2 0 c) := by
  pointwise [r3Pay]

/-- Half of the third core's transposed product of one block. -/
def r2Pay {o : ℕ} (h : S256x256.Slices ![o, 0] S128x256) (A : Vec Ideal S256x208 .bf16) (B : Vec Ideal S1x208x256 .bf16) :
    FVec Ideal S1x1x1x128x256 .bf16 :=
  let a2 : FVec Ideal S256x208 .bf16 := shapeCast S256x208 A shapeCasts_S256x208_S256x208
  let a3 : FVec Ideal S208x256 .bf16 := shapeCast S208x256 B shapeCasts_S1x208x256_S208x256
  let a5 : FVec Ideal S256x256 .f32 := matmul dot_S256x208_S208x256_S256x256_1_0_0_1_n_n none a2 a3 (constant S256x256 .f32 0x00000000#32)
  let a6 : FVec Ideal S128x256 .f32 := extractStridedSlice S128x256 ![o, 0] a5 h
  shapeCast S1x1x1x128x256 (truncf .bf16 a6 bitsLt_bf16_f32 : FVec Ideal S128x256 .bf16) shapeCasts_S128x256_S1x1x1x128x256

theorem r2Pay_at {o : ℕ} (ho : o + 128 ≤ 256) (h : S256x256.Slices ![o, 0] S128x256) (A : Vec Ideal S256x208 .bf16)
    (B : Vec Ideal S1x208x256 .bf16) (q : Fin 128) (c : Fin 256) :
    r2Pay h A B (ix5 0 0 0 q c) = ∑ w : Fin 208, A (ix2 ⟨o + q.val, by omega⟩ w) * B (ix3 0 w c) := by
  pointwise [r2Pay]

/-- The second core's transposed product of one block. -/
def r1Pay (B : Vec Ideal S1x1x5x32x256 .bf16) (A : Vec Ideal S80x160 .bf16) : FVec Ideal S1x80x256 .bf16 :=
  let a2 : FVec Ideal S5x32x256 .bf16 := shapeCast S5x32x256 B shapeCasts_S1x1x5x32x256_S5x32x256
  let a3 : FVec Ideal S160x256 .bf16 := shapeCast S160x256 a2 shapeCasts_S5x32x256_S160x256
  let a4 : FVec Ideal S80x160 .bf16 := shapeCast S80x160 A shapeCasts_S80x160_S80x160
  let a6 : FVec Ideal S80x256 .f32 := matmul dot_S80x160_S160x256_S80x256_1_0_0_1_n_n none a4 a3 (constant S80x256 .f32 0x00000000#32)
  shapeCast S1x80x256 (truncf .bf16 a6 bitsLt_bf16_f32 : FVec Ideal S80x256 .bf16) shapeCasts_S80x256_S1x80x256

theorem r1Pay_at (B : Vec Ideal S1x1x5x32x256 .bf16) (A : Vec Ideal S80x160 .bf16) (q : Fin 80) (c : Fin 256) :
    r1Pay B A (ix3 0 q c)
      = ∑ w : Fin 160, A (ix2 q w) * B (ix5 0 0 ⟨w.val / 32, by omega⟩ ⟨w.val % 32, by omega⟩ c) := by
  pointwise [r1Pay]

/-- The first core's transposed product of one block: sixteen rows of the input gradient. -/
def dxPay (A : Vec Ideal S16x240 .bf16) (B : Vec Ideal S1x240x256 .bf16) : FVec Ideal S16x256 .bf16 :=
  let a2 : FVec Ideal S16x240 .bf16 := shapeCast S16x240 A shapeCasts_S16x240_S16x240
  let a3 : FVec Ideal S240x256 .bf16 := shapeCast S240x256 B shapeCasts_S1x240x256_S240x256
  let a5 : FVec Ideal S16x256 .f32 := matmul dot_S16x240_S240x256_S16x256_1_0_0_1_n_n none a2 a3 (constant S16x256 .f32 0x00000000#32)
  truncf .bf16 a5 bitsLt_bf16_f32

theorem dxPay_at (A : Vec Ideal S16x240 .bf16) (B : Vec Ideal S1x240x256 .bf16) (q : Fin 16) (c : Fin 256) :
    dxPay A B (ix2 q c) = ∑ w : Fin 240, A (ix2 q w) * B (ix3 0 w c) := by
  pointwise [dxPay]

/-- The second core's product of a pair of blocks, scaled. -/
def l3Pay {o : ℕ} (h : S280x256.Slices ![o, 0] S56x256) (A A' : Vec Ideal S280x160 .bf16)
    (B B' : Vec Ideal S1x160x256 .bf16) (d : Vec Ideal S1x112x128 .f32) : FVec Ideal S1x112x256 .bf16 :=
  let m : FVec Ideal S280x256 .f32 := matmul dot_S280x160_S160x256_S280x256_1_0_0_1_n_n none
    (shapeCast S280x160 A shapeCasts_S280x160_S280x160 : FVec Ideal S280x160 .bf16)
    (shapeCast S160x256 B shapeCasts_S1x160x256_S160x256 : FVec Ideal S160x256 .bf16) (constant S280x256 .f32 0x00000000#32)
  let m' : FVec Ideal S280x256 .f32 := matmul dot_S280x160_S160x256_S280x256_1_0_0_1_n_n none
    (shapeCast S280x160 A' shapeCasts_S280x160_S280x160 : FVec Ideal S280x160 .bf16)
    (shapeCast S160x256 B' shapeCasts_S1x160x256_S160x256 : FVec Ideal S160x256 .bf16) (constant S280x256 .f32 0x00000000#32)
  let a4 : FVec Ideal S56x256 .f32 := extractStridedSlice S56x256 ![o, 0] m h
  let a5 : FVec Ideal S56x256 .f32 := extractStridedSlice S56x256 ![o, 0] m' h
  let a6 : FVec Ideal S112x256 .f32 := concatenate S112x256 0 [⟨S56x256, a4⟩, ⟨S56x256, a5⟩] concatenates_S56x256_S56x256_S112x256_d0
  let a7 : FVec Ideal S112x128 .f32 := shapeCast S112x128 d shapeCasts_S1x112x128_S112x128
  let a8 : FVec Ideal S112x256 .f32 := concatenate S112x256 1 [⟨S112x128, a7⟩, ⟨S112x128, a7⟩] concatenates_S112x128_S112x128_S112x256_d1
  shapeCast S1x112x256 (truncf .bf16 (mulf a6 a8 : FVec Ideal S112x256 .f32) bitsLt_bf16_f32 : FVec Ideal S112x256 .bf16) shapeCasts_S112x256_S1x112x256

theorem l3Pay_at {o : ℕ} (ho : o + 56 ≤ 280) (h : S280x256.Slices ![o, 0] S56x256) (A A' : Vec Ideal S280x160 .bf16)
    (B B' : Vec Ideal S1x160x256 .bf16) (d : Vec Ideal S1x112x128 .f32) (r : Fin 112) (c : Fin 256) :
    l3Pay h A A' B B' d (ix3 0 r c)
      = (if r.val < 56 then ∑ w : Fin 160, A (ix2 ⟨o + r.val % 56, by omega⟩ w) * B (ix3 0 w c)
          else ∑ w : Fin 160, A' (ix2 ⟨o + r.val % 56, by omega⟩ w) * B' (ix3 0 w c))
        * d (ix3 0 r ⟨c.val % 128, by omega⟩) := by
  pointwise [l3Pay]
  refine congrArg₂ (· * ·) ?_ ?_
  · have e : ∀ m : ℕ, (hm : m = r.val % 56) → ∀ h, (⟨o + r.val % 56, by omega⟩ : Fin 280) = ⟨o + m, h⟩ := by
      rintro _ rfl _; rfl
    split_ifs with h1 <;>
      first | exact absurd rfl ‹¬((0 : Fin 1) : ℕ) = ((0 : Fin 1) : ℕ)› | rw [e r.val (by omega) (by omega)] | rw [e (r.val - 56) (by omega) (by omega)]
  · split_ifs <;> (congr 2; apply Fin.ext; dsimp only; omega)

/-- The third core's product of one block, scaled. -/
def l4Pay (A : Vec Ideal S208x224 .bf16) (B : Vec Ideal S1x224x256 .bf16) (d : Vec Ideal S208x128 .f32) :
    FVec Ideal S1x208x256 .bf16 :=
  let a3 : FVec Ideal S208x224 .bf16 := shapeCast S208x224 A shapeCasts_S208x224_S208x224
  let a4 : FVec Ideal S224x256 .bf16 := shapeCast S224x256 B shapeCasts_S1x224x256_S224x256
  let a6 : FVec Ideal S208x256 .f32 := matmul dot_S208x224_S224x256_S208x256_1_0_0_1_n_n none a3 a4 (constant S208x256 .f32 0x00000000#32)
  let a7 : FVec Ideal S208x128 .f32 := shapeCast S208x128 d shapeCasts_S208x128_S208x128
  let a8 : FVec Ideal S208x256 .f32 := concatenate S208x256 1 [⟨S208x128, a7⟩, ⟨S208x128, a7⟩] concatenates_S208x128_S208x128_S208x256_d1
  shapeCast S1x208x256 (truncf .bf16 (mulf a6 a8 : FVec Ideal S208x256 .f32) bitsLt_bf16_f32 : FVec Ideal S208x256 .bf16) shapeCasts_S208x256_S1x208x256

theorem l4Pay_at (A : Vec Ideal S208x224 .bf16) (B : Vec Ideal S1x224x256 .bf16) (d : Vec Ideal S208x128 .f32)
    (p : Fin 208) (c : Fin 256) :
    l4Pay A B d (ix3 0 p c)
      = (∑ w : Fin 224, A (ix2 p w) * B (ix3 0 w c)) * d (ix2 p ⟨c.val % 128, by omega⟩) := by
  pointwise [l4Pay]
  refine congrArg₂ (· * ·) rfl ?_
  split_ifs <;> (congr 2; apply Fin.ext; dsimp only; omega)

end Cert.KernelIdeal.Val
-- ==== Proof.Stages.lean ====
module
public import proofs.«01_k».proof.Proof.StagePay
@[expose] public section
set_option maxRecDepth 16384
noncomputable section
open Idealize.ShloMosaic Idealize.ShloMosaic.TcCoe Idealize.SL.Sem
namespace Cert.KernelIdeal.Val
open Cert.KernelIdeal Cert.KernelIdeal.Gen

/-! What each scratch array of one grid point holds, over the blocks the point is given
(`x0` the tokens, `x1` the gradient codes, `x2` its scales, `x3`–`x8` the packed cores, `x9`–`x11` the packed scales). -/

/-- The scaled first contraction. -/
def s2 (x0 : S128x256.Idx → EReal) (x9 : S3x3x40x128.Idx → EReal) (n r s : ℕ) : EReal :=
  (rd x0 ![r / 40 * 8 + r % 4, s] * rd x9 ![0, n, r % 40, s % 128]
    + rd x0 ![r / 40 * 8 + (4 + r % 4), s] * rd x9 ![1, n, r % 40, s % 128]) * rd x9 ![2, n, r % 40, s % 128]

/-- The scaled second contraction. -/
def s3 (x0 : S128x256.Idx → EReal) (x3 : S280x160.Idx → EReal) (x9 : S3x3x40x128.Idx → EReal)
    (x10 : S5x112x128.Idx → EReal) (g r s : ℕ) : EReal :=
  (∑ w : Fin 160, rd x3 ![g % 5 * 56 + r % 56, w.val] * s2 x0 x9 (g / 5) ((r / 112 * 8 + r % 112 / 56 * 4) * 40 + w.val) s)
    * rd x10 ![g % 5, r % 112, s % 128]

/-- The scaled third contraction. -/
def s4 (x0 : S128x256.Idx → EReal) (x3 : S280x160.Idx → EReal) (x4 : S208x224.Idx → EReal)
    (x9 : S3x3x40x128.Idx → EReal) (x10 : S5x112x128.Idx → EReal) (x11 : S208x128.Idx → EReal) (g p s : ℕ) : EReal :=
  (∑ w : Fin 224, rd x4 ![p, w.val] * s3 x0 x3 x9 x10 g w.val s) * rd x11 ![p, s % 128]

/-- The gradient codes, padded with zeros from row 108 on. -/
def dyq (x1 : S15x108x256.Idx → EReal) (g w s : ℕ) : EReal := if w < 108 then rd x1 ![g, w, s] else 0

/-- The scaled gradient. -/
def dyd (x1 : S15x108x256.Idx → EReal) (x2 : S1x256.Idx → EReal) (g w s : ℕ) : EReal :=
  dyq x1 g w s * rd x2 ![0, s]

/-- The fourth core's transposed product, scaled. -/
def q3 (x1 : S15x108x256.Idx → EReal) (x2 : S1x256.Idx → EReal) (x5 : S1x208x112.Idx → EReal) (g p s : ℕ) : EReal :=
  (∑ w : Fin 112, rd x5 ![0, p, w.val] * dyq x1 g w.val s) * rd x2 ![0, s]

/-- The third core's transposed product. -/
def q2 (x1 : S15x108x256.Idx → EReal) (x2 : S1x256.Idx → EReal) (x5 : S1x208x112.Idx → EReal)
    (x6 : S256x208.Idx → EReal) (n l o q s : ℕ) : EReal :=
  ∑ w : Fin 208, rd x6 ![l * 128 + q, w.val] * q3 x1 x2 x5 (n * 5 + o) w.val s

/-- The second core's transposed product. -/
def q1 (x1 : S15x108x256.Idx → EReal) (x2 : S1x256.Idx → EReal) (x5 : S1x208x112.Idx → EReal)
    (x6 : S256x208.Idx → EReal) (x7 : S80x160.Idx → EReal) (c b s : ℕ) : EReal :=
  ∑ w : Fin 160, rd x7 ![b % 80, w.val] * q2 x1 x2 x5 x6 (b / 80) (c / 4) (w.val / 32) (c % 4 * 32 + w.val % 32) s

/-- The input gradient. -/
def dxv (x1 : S15x108x256.Idx → EReal) (x2 : S1x256.Idx → EReal) (x5 : S1x208x112.Idx → EReal)
    (x6 : S256x208.Idx → EReal) (x7 : S80x160.Idx → EReal) (x8 : S16x240.Idx → EReal) (r s : ℕ) : EReal :=
  ∑ w : Fin 240, rd x8 ![r % 16, w.val] * q1 x1 x2 x5 x6 x7 (r / 16) w.val s

/-! The order in which each scratch array is written. -/

def key2 (y : S3x640x256.Idx) : ℕ := (y 0).val * 16 + (y 1).val / 40
def key3 (y : S15x224x256.Idx) : ℕ := (y 0).val / 5 * 10 + (y 1).val / 112 * 5 + (y 0).val % 5
def key4 (y : S15x208x256.Idx) : ℕ := (y 0).val
def keyd (y : S15x112x256.Idx) : ℕ := (y 0).val
def keyr2 (y : S3x2x5x128x256.Idx) : ℕ := (y 0).val * 10 + (y 2).val * 2 + (y 1).val
def keyr1 (y : S8x240x256.Idx) : ℕ := (y 1).val / 80 * 8 + (y 0).val
def keydx (y : S128x256.Idx) : ℕ := (y 0).val / 16

def g2 (x0 : S128x256.Idx → EReal) (x9 : S3x3x40x128.Idx → EReal) (y : S3x640x256.Idx) : EReal :=
  s2 x0 x9 (y 0).val (y 1).val (y 2).val
def g3 (x0 : S128x256.Idx → EReal) (x3 : S280x160.Idx → EReal) (x9 : S3x3x40x128.Idx → EReal)
    (x10 : S5x112x128.Idx → EReal) (y : S15x224x256.Idx) : EReal := s3 x0 x3 x9 x10 (y 0).val (y 1).val (y 2).val
def g4 (x0 : S128x256.Idx → EReal) (x3 : S280x160.Idx → EReal) (x4 : S208x224.Idx → EReal)
    (x9 : S3x3x40x128.Idx → EReal) (x10 : S5x112x128.Idx → EReal) (x11 : S208x128.Idx → EReal)
    (y : S15x208x256.Idx) : EReal := s4 x0 x3 x4 x9 x10 x11 (y 0).val (y 1).val (y 2).val
def gd (x1 : S15x108x256.Idx → EReal) (x2 : S1x256.Idx → EReal) (y : S15x112x256.Idx) : EReal :=
  dyd x1 x2 (y 0).val (y 1).val (y 2).val
def gq3 (x1 : S15x108x256.Idx → EReal) (x2 : S1x256.Idx → EReal) (x5 : S1x208x112.Idx → EReal)
    (y : S15x208x256.Idx) : EReal := q3 x1 x2 x5 (y 0).val (y 1).val (y 2).val
def gq2 (x1 : S15x108x256.Idx → EReal) (x2 : S1x256.Idx → EReal) (x5 : S1x208x112.Idx → EReal)
    (x6 : S256x208.Idx → EReal) (y : S3x2x5x128x256.Idx) : EReal :=
  q2 x1 x2 x5 x6 (y 0).val (y 1).val (y 2).val (y 3).val (y 4).val
def gq1 (x1 : S15x108x256.Idx → EReal) (x2 : S1x256.Idx → EReal) (x5 : S1x208x112.Idx → EReal)
    (x6 : S256x208.Idx → EReal) (x7 : S80x160.Idx → EReal) (y : S8x240x256.Idx) : EReal :=
  q1 x1 x2 x5 x6 x7 (y 0).val (y 1).val (y 2).val
def gdx (x1 : S15x108x256.Idx → EReal) (x2 : S1x256.Idx → EReal) (x5 : S1x208x112.Idx → EReal)
    (x6 : S256x208.Idx → EReal) (x7 : S80x160.Idx → EReal) (x8 : S16x240.Idx → EReal) (y : S128x256.Idx) : EReal :=
  dxv x1 x2 x5 x6 x7 x8 (y 0).val (y 1).val

/-- A load of an input buffer of this element type held at the contents that read `X`. -/
theorem ld_bf16 {sig : RefSig} {sp : Space} {s : Shape} {m : Memref sig .tc sp s .bf16} (h : m.IsWhole)
    (X : Vec Ideal s .bf16) (off size : Fin s.rank → ℕ) (inb : ∀ a, off a + size a ≤ s.size a)
    (y : (Rect.unit off size inb).toLoadRect.shape.Idx) :
    View.readAt (Elt Ideal) m.view (Rect.unit off size inb).toLoadRect (h.unread X) y
      = rd (s := s) X (fun a => off a + (y a).val) :=
  (h.readAt_unread X _ y).trans (rd_idx X off size inb y)

/-- A load of an input buffer of this element type held at the contents that read `X`. -/
theorem ld_f32 {sig : RefSig} {sp : Space} {s : Shape} {m : Memref sig .tc sp s .f32} (h : m.IsWhole)
    (X : Vec Ideal s .f32) (off size : Fin s.rank → ℕ) (inb : ∀ a, off a + size a ≤ s.size a)
    (y : (Rect.unit off size inb).toLoadRect.shape.Idx) :
    View.readAt (Elt Ideal) m.view (Rect.unit off size inb).toLoadRect (h.unread X) y
      = rd (s := s) X (fun a => off a + (y a).val) :=
  (h.readAt_unread X _ y).trans (rd_idx X off size inb y)

/-- A load of an input buffer of this element type held at the contents that read `X`. -/
theorem ld_fp8e5m2 {sig : RefSig} {sp : Space} {s : Shape} {m : Memref sig .tc sp s .fp8e5m2} (h : m.IsWhole)
    (X : Vec Ideal s .fp8e5m2) (off size : Fin s.rank → ℕ) (inb : ∀ a, off a + size a ≤ s.size a)
    (y : (Rect.unit off size inb).toLoadRect.shape.Idx) :
    View.readAt (Elt Ideal) m.view (Rect.unit off size inb).toLoadRect (h.unread X) y
      = rd (s := s) X (fun a => off a + (y a).val) :=
  (h.readAt_unread X _ y).trans (rd_idx X off size inb y)

end Cert.KernelIdeal.Val
-- ==== Proof.Steps.lean ====
module
public import proofs.«01_k».proof.Proof.Stages
@[expose] public section
set_option maxRecDepth 16384
noncomputable section
open Idealize.ShloMosaic Idealize.ShloMosaic.TcCoe Idealize.SL.Sem
namespace Cert.KernelIdeal.Val
open Cert.KernelIdeal Cert.KernelIdeal.Gen

/-- One store of the first contraction. -/
theorem l2_step {k n r0 o : ℕ} {x0 : Vec Ideal S128x256 .bf16} {x9 : Vec Ideal S3x3x40x128 .f32}
    {L : List (View.Piece (Elt Ideal) S3x640x256 .bf16)} {inb}
    (h : S128x256.Slices ![o, 0] S8x256) {X : Vec Ideal S128x256 .bf16}
    {a b d : Vec Ideal S1x1x40x128 .f32}
    (hr : r0 = 5 * o) (ho : o % 8 = 0) (hk : n * 16 + o / 8 = k)
    (hX : ∀ y, X y = rd (s := S128x256) x0 (fun q => (![0, 0] : Fin 2 → ℕ) q + (y q).val))
    (ha : ∀ y, a y = rd (s := S3x3x40x128) x9 (fun q => (![0, n, 0, 0] : Fin 4 → ℕ) q + (y q).val))
    (hb : ∀ y, b y = rd (s := S3x3x40x128) x9 (fun q => (![1, n, 0, 0] : Fin 4 → ℕ) q + (y q).val))
    (hd : ∀ y, d y = rd (s := S3x3x40x128) x9 (fun q => (![2, n, 0, 0] : Fin 4 → ℕ) q + (y q).val))
    (hL : Fills key2 (g2 x0 x9) L k) :
    Fills key2 (g2 x0 x9) (⟨Rect.unit ![n, r0, 0] S1x40x256.size inb, l2Pay h X a b d⟩ :: L) (k + 1) := by
  have h3 : o + 8 ≤ 128 := h.2 0
  refine Fills.step (fun y hy q => ?_) (fun x => ?_) hL
  · have h0 : (y 0).val < 3 := (y 0).isLt
    have h1 : (y 1).val < 640 := (y 1).isLt
    have h2 : (y 2).val < 256 := (y 2).isLt
    unfold key2 at hy
    fin_cases q <;> simp <;> omega
  · have e : ∀ x : S1x40x256.Idx, l2Pay h X a b d x
        = s2 x0 x9 (n + 1 * (x 0).val) (r0 + 1 * (x 1).val) (0 + 1 * (x 2).val) := by
      intro z
      idx_vars z
      obtain rfl : z0 = 0 := Subsingleton.elim _ _
      rw [l2Pay_at h3]
      simp only [hX, ha, hb, hd]
      unfold s2
      refine congrArg₂ (· * ·) (congrArg₂ (· + ·) (congrArg₂ (· * ·) ?_ ?_) (congrArg₂ (· * ·) ?_ ?_)) ?_ <;>
        (refine rd_congr fun q => ?_; fin_cases q <;> simp <;> omega)
    exact e x

theorem s2_congr {x0 : Vec Ideal S128x256 .bf16} {x9 : Vec Ideal S3x3x40x128 .f32}
    {a a' b b' c c' : ℕ} (ha : a = a') (hb : b = b') (hc : c = c') :
    s2 x0 x9 a b c = s2 x0 x9 a' b' c' := by
  subst ha hb hc; rfl

theorem s3_congr {x0 : Vec Ideal S128x256 .bf16} {x3 : Vec Ideal S280x160 .bf16} {x9 : Vec Ideal S3x3x40x128 .f32} {x10 : Vec Ideal S5x112x128 .f32}
    {a a' b b' c c' : ℕ} (ha : a = a') (hb : b = b') (hc : c = c') :
    s3 x0 x3 x9 x10 a b c = s3 x0 x3 x9 x10 a' b' c' := by
  subst ha hb hc; rfl

theorem s4_congr {x0 : Vec Ideal S128x256 .bf16} {x3 : Vec Ideal S280x160 .bf16} {x4 : Vec Ideal S208x224 .bf16} {x9 : Vec Ideal S3x3x40x128 .f32} {x10 : Vec Ideal S5x112x128 .f32} {x11 : Vec Ideal S208x128 .f32}
    {a a' b b' c c' : ℕ} (ha : a = a') (hb : b = b') (hc : c = c') :
    s4 x0 x3 x4 x9 x10 x11 a b c = s4 x0 x3 x4 x9 x10 x11 a' b' c' := by
  subst ha hb hc; rfl

theorem dyd_congr {x1 : Vec Ideal S15x108x256 .fp8e5m2} {x2 : Vec Ideal S1x256 .f32}
    {a a' b b' c c' : ℕ} (ha : a = a') (hb : b = b') (hc : c = c') :
    dyd x1 x2 a b c = dyd x1 x2 a' b' c' := by
  subst ha hb hc; rfl

theorem q3_congr {x1 : Vec Ideal S15x108x256 .fp8e5m2} {x2 : Vec Ideal S1x256 .f32} {x5 : Vec Ideal S1x208x112 .bf16}
    {a a' b b' c c' : ℕ} (ha : a = a') (hb : b = b') (hc : c = c') :
    q3 x1 x2 x5 a b c = q3 x1 x2 x5 a' b' c' := by
  subst ha hb hc; rfl

theorem q2_congr {x1 : Vec Ideal S15x108x256 .fp8e5m2} {x2 : Vec Ideal S1x256 .f32} {x5 : Vec Ideal S1x208x112 .bf16} {x6 : Vec Ideal S256x208 .bf16}
    {a a' b b' c c' d d' e e' : ℕ} (ha : a = a') (hb : b = b') (hc : c = c') (hd : d = d') (he : e = e') :
    q2 x1 x2 x5 x6 a b c d e = q2 x1 x2 x5 x6 a' b' c' d' e' := by
  subst ha hb hc hd he; rfl

theorem q1_congr {x1 : Vec Ideal S15x108x256 .fp8e5m2} {x2 : Vec Ideal S1x256 .f32} {x5 : Vec Ideal S1x208x112 .bf16} {x6 : Vec Ideal S256x208 .bf16} {x7 : Vec Ideal S80x160 .bf16}
    {a a' b b' c c' : ℕ} (ha : a = a') (hb : b = b') (hc : c = c') :
    q1 x1 x2 x5 x6 x7 a b c = q1 x1 x2 x5 x6 x7 a' b' c' := by
  subst ha hb hc; rfl

/-- A load of the first contraction. -/
theorem load2 {x0 : Vec Ideal S128x256 .bf16} {x9 : Vec Ideal S3x3x40x128 .f32} {k b n : ℕ}
    {L : List (View.Piece (Elt Ideal) S3x640x256 .bf16)} {sig : RefSig} {κ : Kind} {sp : Space}
    {v : View sig κ sp S3x640x256 .bf16} {inb}
    (hL : Fills key2 (g2 x0 x9) L k) (hk : n * 16 + (b + 159) / 40 < k) (x : S1x160x256.Idx) :
    v.readCov L (Rect.unit (s := S3x640x256) ![n, b, 0] S1x160x256.size inb).toLoadRect x = s2 x0 x9 (n + 1 * (x 0).val) (b + 1 * (x 1).val) (0 + 1 * (x 2).val) := by
  refine Fills.load hL (fun z => ?_) x
  have h0 : (z 0).val < 1 := (z 0).isLt
  have h1 : (z 1).val < 160 := (z 1).isLt
  have h2 : (z 2).val < 256 := (z 2).isLt
  refine lt_of_le_of_lt ?_ hk
  unfold key2
  show (n + 1 * (z 0).val) * 16 + (b + 1 * (z 1).val) / 40 ≤ _
  omega

/-- A shorter load of the first contraction. -/
theorem load2w {x0 : Vec Ideal S128x256 .bf16} {x9 : Vec Ideal S3x3x40x128 .f32} {k b n : ℕ}
    {L : List (View.Piece (Elt Ideal) S3x640x256 .bf16)} {sig : RefSig} {κ : Kind} {sp : Space}
    {v : View sig κ sp S3x640x256 .bf16} {inb}
    (hL : Fills key2 (g2 x0 x9) L k) (hk : n * 16 + (b + 79) / 40 < k) (x : S1x80x256.Idx) :
    v.readCov L (Rect.unit (s := S3x640x256) ![n, b, 0] S1x80x256.size inb).toLoadRect x = s2 x0 x9 (n + 1 * (x 0).val) (b + 1 * (x 1).val) (0 + 1 * (x 2).val) := by
  refine Fills.load hL (fun z => ?_) x
  have h0 : (z 0).val < 1 := (z 0).isLt
  have h1 : (z 1).val < 80 := (z 1).isLt
  have h2 : (z 2).val < 256 := (z 2).isLt
  refine lt_of_le_of_lt ?_ hk
  unfold key2
  show (n + 1 * (z 0).val) * 16 + (b + 1 * (z 1).val) / 40 ≤ _
  omega

/-- A load of the second contraction. -/
theorem load3 {x0 : Vec Ideal S128x256 .bf16} {x3 : Vec Ideal S280x160 .bf16} {x9 : Vec Ideal S3x3x40x128 .f32} {x10 : Vec Ideal S5x112x128 .f32} {k g : ℕ}
    {L : List (View.Piece (Elt Ideal) S15x224x256 .bf16)} {sig : RefSig} {κ : Kind} {sp : Space}
    {v : View sig κ sp S15x224x256 .bf16} {inb}
    (hL : Fills key3 (g3 x0 x3 x9 x10) L k) (hk : g / 5 * 10 + 5 + g % 5 < k) (x : S1x224x256.Idx) :
    v.readCov L (Rect.unit (s := S15x224x256) ![g, 0, 0] S1x224x256.size inb).toLoadRect x = s3 x0 x3 x9 x10 (g + 1 * (x 0).val) (0 + 1 * (x 1).val) (0 + 1 * (x 2).val) := by
  refine Fills.load hL (fun z => ?_) x
  have h0 : (z 0).val < 1 := (z 0).isLt
  have h1 : (z 1).val < 224 := (z 1).isLt
  have h2 : (z 2).val < 256 := (z 2).isLt
  refine lt_of_le_of_lt ?_ hk
  unfold key3
  show (g + 1 * (z 0).val) / 5 * 10 + (0 + 1 * (z 1).val) / 112 * 5 + (g + 1 * (z 0).val) % 5 ≤ _
  omega

/-- A load of the third contraction. -/
theorem load4 {x0 : Vec Ideal S128x256 .bf16} {x3 : Vec Ideal S280x160 .bf16} {x4 : Vec Ideal S208x224 .bf16} {x9 : Vec Ideal S3x3x40x128 .f32} {x10 : Vec Ideal S5x112x128 .f32} {x11 : Vec Ideal S208x128 .f32} {k g : ℕ}
    {L : List (View.Piece (Elt Ideal) S15x208x256 .bf16)} {sig : RefSig} {κ : Kind} {sp : Space}
    {v : View sig κ sp S15x208x256 .bf16} {inb}
    (hL : Fills key4 (g4 x0 x3 x4 x9 x10 x11) L k) (hk : g < k) (x : S1x208x256.Idx) :
    v.readCov L (Rect.unit (s := S15x208x256) ![g, 0, 0] S1x208x256.size inb).toLoadRect x = s4 x0 x3 x4 x9 x10 x11 (g + 1 * (x 0).val) (0 + 1 * (x 1).val) (0 + 1 * (x 2).val) := by
  refine Fills.load hL (fun z => ?_) x
  have h0 : (z 0).val < 1 := (z 0).isLt
  have h1 : (z 1).val < 208 := (z 1).isLt
  have h2 : (z 2).val < 256 := (z 2).isLt
  refine lt_of_le_of_lt ?_ hk
  unfold key4
  show (g + 1 * (z 0).val) ≤ _
  omega

/-- A load of the scaled gradient. -/
theorem loadd {x1 : Vec Ideal S15x108x256 .fp8e5m2} {x2 : Vec Ideal S1x256 .f32} {k g : ℕ}
    {L : List (View.Piece (Elt Ideal) S15x112x256 .bf16)} {sig : RefSig} {κ : Kind} {sp : Space}
    {v : View sig κ sp S15x112x256 .bf16} {inb}
    (hL : Fills keyd (gd x1 x2) L k) (hk : g < k) (x : S1x112x256.Idx) :
    v.readCov L (Rect.unit (s := S15x112x256) ![g, 0, 0] S1x112x256.size inb).toLoadRect x = dyd x1 x2 (g + 1 * (x 0).val) (0 + 1 * (x 1).val) (0 + 1 * (x 2).val) := by
  refine Fills.load hL (fun z => ?_) x
  have h0 : (z 0).val < 1 := (z 0).isLt
  have h1 : (z 1).val < 112 := (z 1).isLt
  have h2 : (z 2).val < 256 := (z 2).isLt
  refine lt_of_le_of_lt ?_ hk
  unfold keyd
  show (g + 1 * (z 0).val) ≤ _
  omega

/-- A load of the fourth transposed product. -/
theorem loadq3 {x1 : Vec Ideal S15x108x256 .fp8e5m2} {x2 : Vec Ideal S1x256 .f32} {x5 : Vec Ideal S1x208x112 .bf16} {k g : ℕ}
    {L : List (View.Piece (Elt Ideal) S15x208x256 .bf16)} {sig : RefSig} {κ : Kind} {sp : Space}
    {v : View sig κ sp S15x208x256 .bf16} {inb}
    (hL : Fills key4 (gq3 x1 x2 x5) L k) (hk : g < k) (x : S1x208x256.Idx) :
    v.readCov L (Rect.unit (s := S15x208x256) ![g, 0, 0] S1x208x256.size inb).toLoadRect x = q3 x1 x2 x5 (g + 1 * (x 0).val) (0 + 1 * (x 1).val) (0 + 1 * (x 2).val) := by
  refine Fills.load hL (fun z => ?_) x
  have h0 : (z 0).val < 1 := (z 0).isLt
  have h1 : (z 1).val < 208 := (z 1).isLt
  have h2 : (z 2).val < 256 := (z 2).isLt
  refine lt_of_le_of_lt ?_ hk
  unfold key4
  show (g + 1 * (z 0).val) ≤ _
  omega

/-- A load of the third transposed product. -/
theorem loadq2 {x1 : Vec Ideal S15x108x256 .fp8e5m2} {x2 : Vec Ideal S1x256 .f32} {x5 : Vec Ideal S1x208x112 .bf16} {x6 : Vec Ideal S256x208 .bf16} {k l n p : ℕ}
    {L : List (View.Piece (Elt Ideal) S3x2x5x128x256 .bf16)} {sig : RefSig} {κ : Kind} {sp : Space}
    {v : View sig κ sp S3x2x5x128x256 .bf16} {inb}
    (hL : Fills keyr2 (gq2 x1 x2 x5 x6) L k) (hk : n * 10 + 8 + l < k) (x : S1x1x5x32x256.Idx) :
    v.readCov L (Rect.unit (s := S3x2x5x128x256) ![n, l, 0, p, 0] S1x1x5x32x256.size inb).toLoadRect x = q2 x1 x2 x5 x6 (n + 1 * (x 0).val) (l + 1 * (x 1).val) (0 + 1 * (x 2).val) (p + 1 * (x 3).val) (0 + 1 * (x 4).val) := by
  refine Fills.load hL (fun z => ?_) x
  have h0 : (z 0).val < 1 := (z 0).isLt
  have h1 : (z 1).val < 1 := (z 1).isLt
  have h2 : (z 2).val < 5 := (z 2).isLt
  have h3 : (z 3).val < 32 := (z 3).isLt
  have h4 : (z 4).val < 256 := (z 4).isLt
  refine lt_of_le_of_lt ?_ hk
  unfold keyr2
  show (n + 1 * (z 0).val) * 10 + (0 + 1 * (z 2).val) * 2 + (l + 1 * (z 1).val) ≤ _
  omega

/-- A load of the second transposed product. -/
theorem loadq1 {x1 : Vec Ideal S15x108x256 .fp8e5m2} {x2 : Vec Ideal S1x256 .f32} {x5 : Vec Ideal S1x208x112 .bf16} {x6 : Vec Ideal S256x208 .bf16} {x7 : Vec Ideal S80x160 .bf16} {k g : ℕ}
    {L : List (View.Piece (Elt Ideal) S8x240x256 .bf16)} {sig : RefSig} {κ : Kind} {sp : Space}
    {v : View sig κ sp S8x240x256 .bf16} {inb}
    (hL : Fills keyr1 (gq1 x1 x2 x5 x6 x7) L k) (hk : 16 + g < k) (x : S1x240x256.Idx) :
    v.readCov L (Rect.unit (s := S8x240x256) ![g, 0, 0] S1x240x256.size inb).toLoadRect x = q1 x1 x2 x5 x6 x7 (g + 1 * (x 0).val) (0 + 1 * (x 1).val) (0 + 1 * (x 2).val) := by
  refine Fills.load hL (fun z => ?_) x
  have h0 : (z 0).val < 1 := (z 0).isLt
  have h1 : (z 1).val < 240 := (z 1).isLt
  have h2 : (z 2).val < 256 := (z 2).isLt
  refine lt_of_le_of_lt ?_ hk
  unfold keyr1
  show (0 + 1 * (z 1).val) / 80 * 8 + (g + 1 * (z 0).val) ≤ _
  omega

/-- One store of the second contraction. -/
theorem l3_step {x0 : Vec Ideal S128x256 .bf16} {x3 : Vec Ideal S280x160 .bf16} {x9 : Vec Ideal S3x3x40x128 .f32} {x10 : Vec Ideal S5x112x128 .f32}
    {k g r0 o n b b' : ℕ} {A A' : Vec Ideal S280x160 .bf16} {B B' : Vec Ideal S1x160x256 .bf16}
    {d : Vec Ideal S1x112x128 .f32}
    {L : List (View.Piece (Elt Ideal) S15x224x256 .bf16)} {inb}
    (h : S280x256.Slices ![o, 0] S56x256) (ho : o = g % 5 * 56) (hn : n = g / 5) (hr : r0 % 112 = 0)
    (hb : b = r0 / 112 * 320) (hb' : b' = r0 / 112 * 320 + 160) (hk : g / 5 * 10 + r0 / 112 * 5 + g % 5 = k)
    (hA : ∀ y, A y = rd (s := S280x160) x3 (fun q => (![0, 0] : Fin 2 → ℕ) q + (y q).val))
    (hA' : ∀ y, A' y = rd (s := S280x160) x3 (fun q => (![0, 0] : Fin 2 → ℕ) q + (y q).val))
    (hB : ∀ y, B y = s2 x0 x9 (n + 1 * (y 0).val) (b + 1 * (y 1).val) (0 + 1 * (y 2).val))
    (hB' : ∀ y, B' y = s2 x0 x9 (n + 1 * (y 0).val) (b' + 1 * (y 1).val) (0 + 1 * (y 2).val))
    (hd : ∀ y, d y = rd (s := S5x112x128) x10 (fun q => (![o / 56, 0, 0] : Fin 3 → ℕ) q + (y q).val))
    (hL : Fills key3 (g3 x0 x3 x9 x10) L k) :
    Fills key3 (g3 x0 x3 x9 x10) (⟨Rect.unit ![g, r0, 0] S1x112x256.size inb, l3Pay h A A' B B' d⟩ :: L) (k + 1) := by
  have h3 : o + 56 ≤ 280 := h.2 0
  have b0 : g + 1 ≤ 15 := inb 0
  have b1 : r0 + 112 ≤ 224 := inb 1
  refine Fills.step (fun y hy q => ?_) (fun x => ?_) hL
  · have h0 : (y 0).val < 15 := (y 0).isLt
    have h1 : (y 1).val < 224 := (y 1).isLt
    have h2 : (y 2).val < 256 := (y 2).isLt
    unfold key3 at hy
    fin_cases q <;> simp <;> omega
  · have e : ∀ z : S1x112x256.Idx, l3Pay h A A' B B' d z
        = s3 x0 x3 x9 x10 (g + 1 * (z 0).val) (r0 + 1 * (z 1).val) (0 + 1 * (z 2).val) := by
      intro z
      idx_vars z
      obtain rfl : z0 = 0 := Subsingleton.elim _ _
      rw [l3Pay_at h3]
      simp only [hA, hA', hB, hB', hd]
      unfold s3
      refine congrArg₂ (· * ·) ?_ (by refine rd_congr fun q => ?_; fin_cases q <;> simp <;> omega)
      split_ifs with hz <;> refine Finset.sum_congr rfl fun w _ => congrArg₂ (· * ·) ?_ ?_
      · refine rd_congr fun q => ?_; fin_cases q <;> simp <;> omega
      · exact s2_congr (by simp; omega) (by simp; omega) (by simp)
      · refine rd_congr fun q => ?_; fin_cases q <;> simp <;> omega
      · exact s2_congr (by simp; omega) (by simp; omega) (by simp)
    exact e x

/-- One store of the third contraction. -/
theorem l4_step {x0 : Vec Ideal S128x256 .bf16} {x3 : Vec Ideal S280x160 .bf16} {x4 : Vec Ideal S208x224 .bf16} {x9 : Vec Ideal S3x3x40x128 .f32} {x10 : Vec Ideal S5x112x128 .f32} {x11 : Vec Ideal S208x128 .f32}
    {k g : ℕ} {A : Vec Ideal S208x224 .bf16} {B : Vec Ideal S1x224x256 .bf16} {d : Vec Ideal S208x128 .f32}
    {L : List (View.Piece (Elt Ideal) S15x208x256 .bf16)} {inb}
    (hk : g = k)
    (hA : ∀ y, A y = rd (s := S208x224) x4 (fun q => (![0, 0] : Fin 2 → ℕ) q + (y q).val))
    (hB : ∀ y, B y = s3 x0 x3 x9 x10 (g + 1 * (y 0).val) (0 + 1 * (y 1).val) (0 + 1 * (y 2).val))
    (hd : ∀ y, d y = rd (s := S208x128) x11 (fun q => (![0, 0] : Fin 2 → ℕ) q + (y q).val))
    (hL : Fills key4 (g4 x0 x3 x4 x9 x10 x11) L k) :
    Fills key4 (g4 x0 x3 x4 x9 x10 x11) (⟨Rect.unit ![g, 0, 0] S1x208x256.size inb, l4Pay A B d⟩ :: L) (k + 1) := by
  have b0 : g + 1 ≤ 15 := inb 0
  refine Fills.step (fun y hy q => ?_) (fun x => ?_) hL
  · have h0 : (y 0).val < 15 := (y 0).isLt
    have h1 : (y 1).val < 208 := (y 1).isLt
    have h2 : (y 2).val < 256 := (y 2).isLt
    unfold key4 at hy
    fin_cases q <;> simp <;> omega
  · have e : ∀ z : S1x208x256.Idx, l4Pay A B d z
        = s4 x0 x3 x4 x9 x10 x11 (g + 1 * (z 0).val) (0 + 1 * (z 1).val) (0 + 1 * (z 2).val) := by
      intro z
      idx_vars z
      obtain rfl : z0 = 0 := Subsingleton.elim _ _
      rw [l4Pay_at]
      simp only [hA, hB, hd]
      unfold s4
      refine congrArg₂ (· * ·) (Finset.sum_congr rfl fun w _ => congrArg₂ (· * ·) ?_ ?_) ?_
      · refine rd_congr fun q => ?_; fin_cases q <;> simp
      · exact s3_congr (by simp) (by simp) (by simp)
      · refine rd_congr fun q => ?_; fin_cases q <;> simp
    exact e x

/-- One store of the scaled gradient. -/
theorem dyd_step {x1 : Vec Ideal S15x108x256 .fp8e5m2} {x2 : Vec Ideal S1x256 .f32}
    {k g : ℕ} {S : Vec Ideal S1x256 .f32} {Y : Vec Ideal S1x108x256 .fp8e5m2}
    {L : List (View.Piece (Elt Ideal) S15x112x256 .bf16)} {inb}
    (hk : g = k)
    (hS : ∀ y, S y = rd (s := S1x256) x2 (fun q => (![0, 0] : Fin 2 → ℕ) q + (y q).val))
    (hY : ∀ y, Y y = rd (s := S15x108x256) x1 (fun q => (![g, 0, 0] : Fin 3 → ℕ) q + (y q).val))
    (hL : Fills keyd (gd x1 x2) L k) :
    Fills keyd (gd x1 x2) (⟨Rect.unit ![g, 0, 0] S1x112x256.size inb, dydPay S Y⟩ :: L) (k + 1) := by
  have b0 : g + 1 ≤ 15 := inb 0
  refine Fills.step (fun y hy q => ?_) (fun x => ?_) hL
  · have h0 : (y 0).val < 15 := (y 0).isLt
    have h1 : (y 1).val < 112 := (y 1).isLt
    have h2 : (y 2).val < 256 := (y 2).isLt
    unfold keyd at hy
    fin_cases q <;> simp <;> omega
  · have e : ∀ z : S1x112x256.Idx, dydPay S Y z
        = dyd x1 x2 (g + 1 * (z 0).val) (0 + 1 * (z 1).val) (0 + 1 * (z 2).val) := by
      intro z
      idx_vars z
      obtain rfl : z0 = 0 := Subsingleton.elim _ _
      rw [dydPay_at]
      simp only [hS, hY]
      unfold dyd dyq
      refine congrArg₂ (· * ·) ?_ ?_
      · by_cases hw : z1.val < 108
        · rw [dif_pos hw, if_pos (by simpa using hw)]
          refine rd_congr fun q => ?_; fin_cases q <;> simp
        · rw [dif_neg hw, if_neg (by simpa using hw)]
      · refine rd_congr fun q => ?_; fin_cases q <;> simp
    exact e x

/-- One store of the fourth transposed product. -/
theorem q3_step {x1 : Vec Ideal S15x108x256 .fp8e5m2} {x2 : Vec Ideal S1x256 .f32} {x5 : Vec Ideal S1x208x112 .bf16}
    {k g : ℕ} {S : Vec Ideal S1x256 .f32} {A : Vec Ideal S1x208x112 .bf16} {Y : Vec Ideal S1x108x256 .fp8e5m2}
    {L : List (View.Piece (Elt Ideal) S15x208x256 .bf16)} {inb}
    (hk : g = k)
    (hS : ∀ y, S y = rd (s := S1x256) x2 (fun q => (![0, 0] : Fin 2 → ℕ) q + (y q).val))
    (hA : ∀ y, A y = rd (s := S1x208x112) x5 (fun q => (![0, 0, 0] : Fin 3 → ℕ) q + (y q).val))
    (hY : ∀ y, Y y = rd (s := S15x108x256) x1 (fun q => (![g, 0, 0] : Fin 3 → ℕ) q + (y q).val))
    (hL : Fills key4 (gq3 x1 x2 x5) L k) :
    Fills key4 (gq3 x1 x2 x5) (⟨Rect.unit ![g, 0, 0] S1x208x256.size inb, r3Pay S A Y⟩ :: L) (k + 1) := by
  have b0 : g + 1 ≤ 15 := inb 0
  refine Fills.step (fun y hy q => ?_) (fun x => ?_) hL
  · have h0 : (y 0).val < 15 := (y 0).isLt
    have h1 : (y 1).val < 208 := (y 1).isLt
    have h2 : (y 2).val < 256 := (y 2).isLt
    unfold key4 at hy
    fin_cases q <;> simp <;> omega
  · have e : ∀ z : S1x208x256.Idx, r3Pay S A Y z
        = q3 x1 x2 x5 (g + 1 * (z 0).val) (0 + 1 * (z 1).val) (0 + 1 * (z 2).val) := by
      intro z
      idx_vars z
      obtain rfl : z0 = 0 := Subsingleton.elim _ _
      rw [r3Pay_at]
      simp only [hS, hA, hY]
      unfold q3 dyq
      refine congrArg₂ (· * ·) (Finset.sum_congr rfl fun w _ => congrArg₂ (· * ·) ?_ ?_) ?_
      · refine rd_congr fun q => ?_; fin_cases q <;> simp
      · by_cases hw : w.val < 108
        · rw [dif_pos hw, if_pos hw]
          refine rd_congr fun q => ?_; fin_cases q <;> simp
        · rw [dif_neg hw, if_neg hw]
      · refine rd_congr fun q => ?_; fin_cases q <;> simp
    exact e x

/-- One store of the third transposed product. -/
theorem q2_step {x1 : Vec Ideal S15x108x256 .fp8e5m2} {x2 : Vec Ideal S1x256 .f32} {x5 : Vec Ideal S1x208x112 .bf16} {x6 : Vec Ideal S256x208 .bf16}
    {k n l m o g : ℕ} {A : Vec Ideal S256x208 .bf16} {B : Vec Ideal S1x208x256 .bf16}
    {L : List (View.Piece (Elt Ideal) S3x2x5x128x256 .bf16)} {inb}
    (h : S256x256.Slices ![o, 0] S128x256) (ho : o = l * 128) (hg : g = n * 5 + m) (hk : n * 10 + m * 2 + l = k)
    (hA : ∀ y, A y = rd (s := S256x208) x6 (fun q => (![0, 0] : Fin 2 → ℕ) q + (y q).val))
    (hB : ∀ y, B y = q3 x1 x2 x5 (g + 1 * (y 0).val) (0 + 1 * (y 1).val) (0 + 1 * (y 2).val))
    (hL : Fills keyr2 (gq2 x1 x2 x5 x6) L k) :
    Fills keyr2 (gq2 x1 x2 x5 x6) (⟨Rect.unit ![n, l, m, 0, 0] S1x1x1x128x256.size inb, r2Pay h A B⟩ :: L) (k + 1) := by
  have h3 : o + 128 ≤ 256 := h.2 0
  have b0 : n + 1 ≤ 3 := inb 0
  have b1 : l + 1 ≤ 2 := inb 1
  have b2 : m + 1 ≤ 5 := inb 2
  refine Fills.step (fun y hy q => ?_) (fun x => ?_) hL
  · have h0 : (y 0).val < 3 := (y 0).isLt
    have h1 : (y 1).val < 2 := (y 1).isLt
    have h2 : (y 2).val < 5 := (y 2).isLt
    have h3 : (y 3).val < 128 := (y 3).isLt
    have h4 : (y 4).val < 256 := (y 4).isLt
    unfold keyr2 at hy
    fin_cases q <;> simp <;> omega
  · have e : ∀ z : S1x1x1x128x256.Idx, r2Pay h A B z
        = q2 x1 x2 x5 x6 (n + 1 * (z 0).val) (l + 1 * (z 1).val) (m + 1 * (z 2).val) (0 + 1 * (z 3).val) (0 + 1 * (z 4).val) := by
      intro z
      idx_vars z
      obtain rfl : z0 = 0 := Subsingleton.elim _ _
      obtain rfl : z1 = 0 := Subsingleton.elim _ _
      obtain rfl : z2 = 0 := Subsingleton.elim _ _
      rw [r2Pay_at h3]
      simp only [hA, hB]
      unfold q2
      refine Finset.sum_congr rfl fun w _ => congrArg₂ (· * ·) ?_ ?_
      · refine rd_congr fun q => ?_; fin_cases q <;> simp <;> omega
      · exact q3_congr (by simp; omega) (by simp) (by simp)
    exact e x

/-- One store of the second transposed product. -/
theorem q1_step {x1 : Vec Ideal S15x108x256 .fp8e5m2} {x2 : Vec Ideal S1x256 .f32} {x5 : Vec Ideal S1x208x112 .bf16} {x6 : Vec Ideal S256x208 .bf16} {x7 : Vec Ideal S80x160 .bf16}
    {k c b n l p : ℕ} {A : Vec Ideal S80x160 .bf16} {B : Vec Ideal S1x1x5x32x256 .bf16}
    {L : List (View.Piece (Elt Ideal) S8x240x256 .bf16)} {inb}
    (hb : b = n * 80) (hl : l = c / 4) (hp : p = c % 4 * 32) (hk : n * 8 + c = k)
    (hA : ∀ y, A y = rd (s := S80x160) x7 (fun q => (![0, 0] : Fin 2 → ℕ) q + (y q).val))
    (hB : ∀ y, B y = q2 x1 x2 x5 x6 (n + 1 * (y 0).val) (l + 1 * (y 1).val) (0 + 1 * (y 2).val) (p + 1 * (y 3).val) (0 + 1 * (y 4).val))
    (hL : Fills keyr1 (gq1 x1 x2 x5 x6 x7) L k) :
    Fills keyr1 (gq1 x1 x2 x5 x6 x7) (⟨Rect.unit ![c, b, 0] S1x80x256.size inb, r1Pay B A⟩ :: L) (k + 1) := by
  have b0 : c + 1 ≤ 8 := inb 0
  have b1 : b + 80 ≤ 240 := inb 1
  refine Fills.step (fun y hy q => ?_) (fun x => ?_) hL
  · have h0 : (y 0).val < 8 := (y 0).isLt
    have h1 : (y 1).val < 240 := (y 1).isLt
    have h2 : (y 2).val < 256 := (y 2).isLt
    unfold keyr1 at hy
    fin_cases q <;> simp <;> omega
  · have e : ∀ z : S1x80x256.Idx, r1Pay B A z
        = q1 x1 x2 x5 x6 x7 (c + 1 * (z 0).val) (b + 1 * (z 1).val) (0 + 1 * (z 2).val) := by
      intro z
      idx_vars z
      obtain rfl : z0 = 0 := Subsingleton.elim _ _
      rw [r1Pay_at]
      simp only [hA, hB]
      unfold q1
      refine Finset.sum_congr rfl fun w _ => congrArg₂ (· * ·) ?_ ?_
      · refine rd_congr fun q => ?_; fin_cases q <;> simp <;> omega
      · exact q2_congr (by simp; omega) (by simp; omega) (by simp) (by simp; omega) (by simp)
    exact e x

/-- One store of the input gradient. -/
theorem dx_step {x1 : Vec Ideal S15x108x256 .fp8e5m2} {x2 : Vec Ideal S1x256 .f32} {x5 : Vec Ideal S1x208x112 .bf16} {x6 : Vec Ideal S256x208 .bf16} {x7 : Vec Ideal S80x160 .bf16} {x8 : Vec Ideal S16x240 .bf16}
    {k r0 g : ℕ} {A : Vec Ideal S16x240 .bf16} {B : Vec Ideal S1x240x256 .bf16}
    {L : List (View.Piece (Elt Ideal) S128x256 .bf16)} {inb}
    (hr : r0 = 16 * g) (hk : g = k)
    (hA : ∀ y, A y = rd (s := S16x240) x8 (fun q => (![0, 0] : Fin 2 → ℕ) q + (y q).val))
    (hB : ∀ y, B y = q1 x1 x2 x5 x6 x7 (g + 1 * (y 0).val) (0 + 1 * (y 1).val) (0 + 1 * (y 2).val))
    (hL : Fills keydx (gdx x1 x2 x5 x6 x7 x8) L k) :
    Fills keydx (gdx x1 x2 x5 x6 x7 x8) (⟨Rect.unit ![r0, 0] S16x256.size inb, dxPay A B⟩ :: L) (k + 1) := by
  have b0 : r0 + 16 ≤ 128 := inb 0
  refine Fills.step (fun y hy q => ?_) (fun x => ?_) hL
  · have h0 : (y 0).val < 128 := (y 0).isLt
    have h1 : (y 1).val < 256 := (y 1).isLt
    unfold keydx at hy
    fin_cases q <;> simp <;> omega
  · have e : ∀ z : S16x256.Idx, dxPay A B z
        = dxv x1 x2 x5 x6 x7 x8 (r0 + 1 * (z 0).val) (0 + 1 * (z 1).val) := by
      intro z
      idx_vars z
      rw [dxPay_at]
      simp only [hA, hB]
      unfold dxv
      refine Finset.sum_congr rfl fun w _ => congrArg₂ (· * ·) ?_ ?_
      · refine rd_congr fun q => ?_; fin_cases q <;> simp <;> omega
      · exact q1_congr (by simp; omega) (by simp) (by simp)
    exact e x

end Cert.KernelIdeal.Val
-- ==== Proof.ListsA.lean ====
module
public import proofs.«01_k».proof.Proof.Steps
public import proofs.«01_k».proof.Proof.Gen.KernelIdeal.Frame.RunA
@[expose] public section
set_option maxRecDepth 16384
set_option pp.maxSteps 300
noncomputable section
open Idealize.ShloMosaic Idealize.ShloMosaic.TcCoe Idealize.SL.Sem
namespace Cert.KernelIdeal.Val.CaseA
open Cert.KernelIdeal Cert.KernelIdeal.Gen Cert.KernelIdeal.Val

variable (c : Dev nD)
  (arg2 : Memref sig .tc .vmem S128x256 .bf16) (harg2 : arg2.IsWhole)
  (arg3 : Memref sig .tc .vmem S15x108x256 .fp8e5m2) (harg3 : arg3.IsWhole)
  (arg4 : Memref sig .tc .vmem S1x256 .f32) (harg4 : arg4.IsWhole)
  (arg5 : Memref sig .tc .vmem S280x160 .bf16) (harg5 : arg5.IsWhole)
  (arg6 : Memref sig .tc .vmem S208x224 .bf16) (harg6 : arg6.IsWhole)
  (arg7 : Memref sig .tc .vmem S1x208x112 .bf16) (harg7 : arg7.IsWhole)
  (arg8 : Memref sig .tc .vmem S256x208 .bf16) (harg8 : arg8.IsWhole)
  (arg9 : Memref sig .tc .vmem S80x160 .bf16) (harg9 : arg9.IsWhole)
  (arg10 : Memref sig .tc .vmem S16x240 .bf16) (harg10 : arg10.IsWhole)
  (arg11 : Memref sig .tc .vmem S3x3x40x128 .f32) (harg11 : arg11.IsWhole)
  (arg12 : Memref sig .tc .vmem S5x112x128 .f32) (harg12 : arg12.IsWhole)
  (arg13 : Memref sig .tc .vmem S208x128 .f32) (harg13 : arg13.IsWhole)
  (arg19 : Memref sig .tc .vmem S15x112x256 .bf16)
  (arg20 : Memref sig .tc .vmem S3x640x256 .bf16)
  (arg21 : Memref sig .tc .vmem S15x224x256 .bf16)
  (arg22 : Memref sig .tc .vmem S15x208x256 .bf16)
  (arg23 : Memref sig .tc .vmem S15x208x256 .bf16)
  (arg24 : Memref sig .tc .vmem S3x2x5x128x256 .bf16)
  (arg25 : Memref sig .tc .vmem S8x240x256 .bf16)
  (x0 : Vec Ideal S128x256 .bf16)
  (x1 : Vec Ideal S15x108x256 .fp8e5m2)
  (x2 : Vec Ideal S1x256 .f32)
  (x3 : Vec Ideal S280x160 .bf16)
  (x4 : Vec Ideal S208x224 .bf16)
  (x5 : Vec Ideal S1x208x112 .bf16)
  (x6 : Vec Ideal S256x208 .bf16)
  (x7 : Vec Ideal S80x160 .bf16)
  (x8 : Vec Ideal S16x240 .bf16)
  (x9 : Vec Ideal S3x3x40x128 .f32)
  (x10 : Vec Ideal S5x112x128 .f32)
  (x11 : Vec Ideal S208x128 .f32)

set_option maxHeartbeats 400000 in
/-- What the scratch array of the first contraction holds after group 1 of its stores. -/
theorem l2_16 :
    Fills key2 (g2 x0 x9) (kernelRun0_A.sl.HS1_16 c arg2 harg2 arg11 harg11 x0 x9) 16 := by
  unfold kernelRun0_A.sl.HS1_16
  delta kernelRun0_A.sl.r_22 kernelRun0_A.sl.r_4 kernelRun0_A.sl.r_23 kernelRun0_A.sl.r_21 kernelRun0_A.sl.r_19 kernelRun0_A.sl.r_20 kernelRun0_A.sl.r_18 kernelRun0_A.sl.r_15 kernelRun0_A.sl.r_16 kernelRun0_A.sl.r_17 kernelRun0_A.sl.r_14 kernelRun0_A.sl.r_11 kernelRun0_A.sl.r_12 kernelRun0_A.sl.r_13 kernelRun0_A.sl.r_9 kernelRun0_A.sl.r_10 kernelRun0_A.sl.r_8 kernelRun0_A.sl.r_6 kernelRun0_A.sl.r_7 kernelRun0_A.sl.r_5
  dsimp only
  iterate 16
    refine l2_step ⟨rfl, by decide⟩ (by rfl) (by rfl) (by rfl) (fun _ => ld_bf16 _ _ _ _ _ _) (fun _ => ld_f32 _ _ _ _ _ _) (fun _ => ld_f32 _ _ _ _ _ _) (fun _ => ld_f32 _ _ _ _ _ _) ?_
  exact Fills.nil _ _

set_option maxHeartbeats 400000 in
/-- What the scratch array of the first contraction holds after group 2 of its stores. -/
theorem l2_32 :
    Fills key2 (g2 x0 x9) (kernelRun0_A.sl.HS1_32 c arg2 harg2 arg11 harg11 x0 x9) 32 := by
  unfold kernelRun0_A.sl.HS1_32
  delta kernelRun0_A.sl.r_70 kernelRun0_A.sl.r_49 kernelRun0_A.sl.r_71 kernelRun0_A.sl.r_67 kernelRun0_A.sl.r_68 kernelRun0_A.sl.r_69 kernelRun0_A.sl.r_66 kernelRun0_A.sl.r_64 kernelRun0_A.sl.r_65 kernelRun0_A.sl.r_62 kernelRun0_A.sl.r_63 kernelRun0_A.sl.r_59 kernelRun0_A.sl.r_60 kernelRun0_A.sl.r_61 kernelRun0_A.sl.r_58 kernelRun0_A.sl.r_56 kernelRun0_A.sl.r_57 kernelRun0_A.sl.r_53 kernelRun0_A.sl.r_54 kernelRun0_A.sl.r_55 kernelRun0_A.sl.r_52 kernelRun0_A.sl.r_50 kernelRun0_A.sl.r_51
  dsimp only
  iterate 16
    refine l2_step ⟨rfl, by decide⟩ (by rfl) (by rfl) (by rfl) (fun _ => ld_bf16 _ _ _ _ _ _) (fun _ => ld_f32 _ _ _ _ _ _) (fun _ => ld_f32 _ _ _ _ _ _) (fun _ => ld_f32 _ _ _ _ _ _) ?_
  exact l2_16 c arg2 harg2 arg11 harg11 x0 x9

set_option maxHeartbeats 400000 in
/-- What the scratch array of the first contraction holds after group 3 of its stores. -/
theorem l2_48 :
    Fills key2 (g2 x0 x9) (kernelRun0_A.sl.HS1_48 c arg2 harg2 arg11 harg11 x0 x9) 48 := by
  unfold kernelRun0_A.sl.HS1_48
  delta kernelRun0_A.sl.r_122 kernelRun0_A.sl.r_101 kernelRun0_A.sl.r_120 kernelRun0_A.sl.r_121 kernelRun0_A.sl.r_118 kernelRun0_A.sl.r_119 kernelRun0_A.sl.r_117 kernelRun0_A.sl.r_115 kernelRun0_A.sl.r_116 kernelRun0_A.sl.r_113 kernelRun0_A.sl.r_114 kernelRun0_A.sl.r_110 kernelRun0_A.sl.r_111 kernelRun0_A.sl.r_112 kernelRun0_A.sl.r_109 kernelRun0_A.sl.r_107 kernelRun0_A.sl.r_108 kernelRun0_A.sl.r_105 kernelRun0_A.sl.r_106 kernelRun0_A.sl.r_104 kernelRun0_A.sl.r_102 kernelRun0_A.sl.r_103
  dsimp only
  iterate 16
    refine l2_step ⟨rfl, by decide⟩ (by rfl) (by rfl) (by rfl) (fun _ => ld_bf16 _ _ _ _ _ _) (fun _ => ld_f32 _ _ _ _ _ _) (fun _ => ld_f32 _ _ _ _ _ _) (fun _ => ld_f32 _ _ _ _ _ _) ?_
  exact l2_32 c arg2 harg2 arg11 harg11 x0 x9

set_option maxHeartbeats 400000 in
/-- What the scratch array of the second contraction holds after group 1 of its stores. -/
theorem l3_10 :
    Fills key3 (g3 x0 x3 x9 x10) (kernelRun0_A.sl.HS2_10 c arg2 harg2 arg5 harg5 arg11 harg11 arg12 harg12 arg20 x0 x3 x9 x10) 10 := by
  unfold kernelRun0_A.sl.HS2_10
  delta kernelRun0_A.sl.r_29 kernelRun0_A.sl.v566 kernelRun0_A.sl.r_32 kernelRun0_A.sl.r_30 kernelRun0_A.sl.r_31 kernelRun0_A.sl.v571 kernelRun0_A.sl.r_33 kernelRun0_A.sl.r_26 kernelRun0_A.sl.v501 kernelRun0_A.sl.r_27 kernelRun0_A.sl.v506 kernelRun0_A.sl.r_28
  dsimp only
  iterate 10
    refine l3_step ⟨rfl, by decide⟩ (by rfl) (by rfl) (by rfl) (by rfl) (by rfl) (by rfl) (fun _ => ld_bf16 _ _ _ _ _ _) (fun _ => ld_bf16 _ _ _ _ _ _)
      (fun _ => load2 (l2_16 c arg2 harg2 arg11 harg11 x0 x9) (by decide) _) (fun _ => load2 (l2_16 c arg2 harg2 arg11 harg11 x0 x9) (by decide) _) (fun _ => ld_f32 _ _ _ _ _ _) ?_
  exact Fills.nil _ _

set_option maxHeartbeats 400000 in
/-- What the scratch array of the second contraction holds after group 2 of its stores. -/
theorem l3_20 :
    Fills key3 (g3 x0 x3 x9 x10) (kernelRun0_A.sl.HS2_20 c arg2 harg2 arg5 harg5 arg11 harg11 arg12 harg12 arg20 x0 x3 x9 x10) 20 := by
  unfold kernelRun0_A.sl.HS2_20
  delta kernelRun0_A.sl.r_83 kernelRun0_A.sl.r_80 kernelRun0_A.sl.v1534 kernelRun0_A.sl.r_81 kernelRun0_A.sl.v1539 kernelRun0_A.sl.r_82 kernelRun0_A.sl.r_75 kernelRun0_A.sl.v1469 kernelRun0_A.sl.r_76 kernelRun0_A.sl.v1474 kernelRun0_A.sl.r_79 kernelRun0_A.sl.r_77 kernelRun0_A.sl.r_78
  dsimp only
  iterate 10
    refine l3_step ⟨rfl, by decide⟩ (by rfl) (by rfl) (by rfl) (by rfl) (by rfl) (by rfl) (fun _ => ld_bf16 _ _ _ _ _ _) (fun _ => ld_bf16 _ _ _ _ _ _)
      (fun _ => load2 (l2_32 c arg2 harg2 arg11 harg11 x0 x9) (by decide) _) (fun _ => load2 (l2_32 c arg2 harg2 arg11 harg11 x0 x9) (by decide) _) (fun _ => ld_f32 _ _ _ _ _ _) ?_
  exact l3_10 c arg2 harg2 arg5 harg5 arg11 harg11 arg12 harg12 arg20 x0 x3 x9 x10

set_option maxHeartbeats 400000 in
/-- What the scratch array of the second contraction holds after group 3 of its stores. -/
theorem l3_30 :
    Fills key3 (g3 x0 x3 x9 x10) (kernelRun0_A.sl.HS2_30 c arg2 harg2 arg5 harg5 arg11 harg11 arg12 harg12 arg20 x0 x3 x9 x10) 30 := by
  unfold kernelRun0_A.sl.HS2_30
  delta kernelRun0_A.sl.r_129 kernelRun0_A.sl.v2502 kernelRun0_A.sl.r_130 kernelRun0_A.sl.v2507 kernelRun0_A.sl.r_131 kernelRun0_A.sl.r_128 kernelRun0_A.sl.r_125 kernelRun0_A.sl.v2437 kernelRun0_A.sl.r_126 kernelRun0_A.sl.v2442 kernelRun0_A.sl.r_127
  dsimp only
  iterate 10
    refine l3_step ⟨rfl, by decide⟩ (by rfl) (by rfl) (by rfl) (by rfl) (by rfl) (by rfl) (fun _ => ld_bf16 _ _ _ _ _ _) (fun _ => ld_bf16 _ _ _ _ _ _)
      (fun _ => load2 (l2_48 c arg2 harg2 arg11 harg11 x0 x9) (by decide) _) (fun _ => load2 (l2_48 c arg2 harg2 arg11 harg11 x0 x9) (by decide) _) (fun _ => ld_f32 _ _ _ _ _ _) ?_
  exact l3_20 c arg2 harg2 arg5 harg5 arg11 harg11 arg12 harg12 arg20 x0 x3 x9 x10

set_option maxHeartbeats 400000 in
/-- What the scratch array of the third contraction holds after group 1 of its stores. -/
theorem l4_5 :
    Fills key4 (g4 x0 x3 x4 x9 x10 x11) (kernelRun0_A.sl.HS3_5 c arg2 harg2 arg5 harg5 arg6 harg6 arg11 harg11 arg12 harg12 arg13 harg13 arg20 arg21 x0 x3 x4 x9 x10 x11) 5 := by
  unfold kernelRun0_A.sl.HS3_5
  delta kernelRun0_A.sl.r_39 kernelRun0_A.sl.v758 kernelRun0_A.sl.v745 kernelRun0_A.sl.v732 kernelRun0_A.sl.r_38 kernelRun0_A.sl.v719 kernelRun0_A.sl.v706
  dsimp only
  iterate 5
    refine l4_step (by rfl) (fun _ => ld_bf16 _ _ _ _ _ _) (fun _ => load3 (l3_10 c arg2 harg2 arg5 harg5 arg11 harg11 arg12 harg12 arg20 x0 x3 x9 x10) (by decide) _) (fun _ => ld_f32 _ _ _ _ _ _) ?_
  exact Fills.nil _ _

set_option maxHeartbeats 400000 in
/-- What the scratch array of the third contraction holds after group 2 of its stores. -/
theorem l4_10 :
    Fills key4 (g4 x0 x3 x4 x9 x10 x11) (kernelRun0_A.sl.HS3_10 c arg2 harg2 arg5 harg5 arg6 harg6 arg11 harg11 arg12 harg12 arg13 harg13 arg20 arg21 x0 x3 x4 x9 x10 x11) 10 := by
  unfold kernelRun0_A.sl.HS3_10
  delta kernelRun0_A.sl.r_89 kernelRun0_A.sl.v1726 kernelRun0_A.sl.v1713 kernelRun0_A.sl.r_87 kernelRun0_A.sl.r_88 kernelRun0_A.sl.v1700 kernelRun0_A.sl.v1687 kernelRun0_A.sl.v1674
  dsimp only
  iterate 5
    refine l4_step (by rfl) (fun _ => ld_bf16 _ _ _ _ _ _) (fun _ => load3 (l3_20 c arg2 harg2 arg5 harg5 arg11 harg11 arg12 harg12 arg20 x0 x3 x9 x10) (by decide) _) (fun _ => ld_f32 _ _ _ _ _ _) ?_
  exact l4_5 c arg2 harg2 arg5 harg5 arg6 harg6 arg11 harg11 arg12 harg12 arg13 harg13 arg20 arg21 x0 x3 x4 x9 x10 x11

set_option maxHeartbeats 400000 in
/-- What the scratch array of the third contraction holds after group 3 of its stores. -/
theorem l4_15 :
    Fills key4 (g4 x0 x3 x4 x9 x10 x11) (kernelRun0_A.sl.HS3_15 c arg2 harg2 arg5 harg5 arg6 harg6 arg11 harg11 arg12 harg12 arg13 harg13 arg20 arg21 x0 x3 x4 x9 x10 x11) 15 := by
  unfold kernelRun0_A.sl.HS3_15
  delta kernelRun0_A.sl.v2694 kernelRun0_A.sl.v2681 kernelRun0_A.sl.v2668 kernelRun0_A.sl.v2655 kernelRun0_A.sl.r_134 kernelRun0_A.sl.v2642
  dsimp only
  iterate 5
    refine l4_step (by rfl) (fun _ => ld_bf16 _ _ _ _ _ _) (fun _ => load3 (l3_30 c arg2 harg2 arg5 harg5 arg11 harg11 arg12 harg12 arg20 x0 x3 x9 x10) (by decide) _) (fun _ => ld_f32 _ _ _ _ _ _) ?_
  exact l4_10 c arg2 harg2 arg5 harg5 arg6 harg6 arg11 harg11 arg12 harg12 arg13 harg13 arg20 arg21 x0 x3 x4 x9 x10 x11

set_option maxHeartbeats 400000 in
/-- What the scratch array of the fourth transposed product holds after group 1 of its stores. -/
theorem q3_5 :
    Fills key4 (gq3 x1 x2 x5) (kernelRun0_A.sl.HS4_5 c arg3 harg3 arg4 harg4 arg7 harg7 x1 x2 x5) 5 := by
  unfold kernelRun0_A.sl.HS4_5
  delta kernelRun0_A.sl.r_3 kernelRun0_A.sl.r_25 kernelRun0_A.sl.r_24
  dsimp only
  iterate 5
    refine q3_step (by rfl) (fun _ => ld_f32 _ _ _ _ _ _) (fun _ => ld_bf16 _ _ _ _ _ _) (fun _ => ld_fp8e5m2 _ _ _ _ _ _) ?_
  exact Fills.nil _ _

set_option maxHeartbeats 400000 in
/-- What the scratch array of the fourth transposed product holds after group 2 of its stores. -/
theorem q3_10 :
    Fills key4 (gq3 x1 x2 x5) (kernelRun0_A.sl.HS4_10 c arg3 harg3 arg4 harg4 arg7 harg7 x1 x2 x5) 10 := by
  unfold kernelRun0_A.sl.HS4_10
  delta kernelRun0_A.sl.r_3 kernelRun0_A.sl.r_74 kernelRun0_A.sl.r_72 kernelRun0_A.sl.r_73
  dsimp only
  iterate 5
    refine q3_step (by rfl) (fun _ => ld_f32 _ _ _ _ _ _) (fun _ => ld_bf16 _ _ _ _ _ _) (fun _ => ld_fp8e5m2 _ _ _ _ _ _) ?_
  exact q3_5 c arg3 harg3 arg4 harg4 arg7 harg7 x1 x2 x5

set_option maxHeartbeats 400000 in
/-- What the scratch array of the fourth transposed product holds after group 3 of its stores. -/
theorem q3_15 :
    Fills key4 (gq3 x1 x2 x5) (kernelRun0_A.sl.HS4_15 c arg3 harg3 arg4 harg4 arg7 harg7 x1 x2 x5) 15 := by
  unfold kernelRun0_A.sl.HS4_15
  delta kernelRun0_A.sl.r_3 kernelRun0_A.sl.r_123 kernelRun0_A.sl.r_124 kernelRun0_A.sl.r_25
  dsimp only
  iterate 5
    refine q3_step (by rfl) (fun _ => ld_f32 _ _ _ _ _ _) (fun _ => ld_bf16 _ _ _ _ _ _) (fun _ => ld_fp8e5m2 _ _ _ _ _ _) ?_
  exact q3_10 c arg3 harg3 arg4 harg4 arg7 harg7 x1 x2 x5

set_option maxHeartbeats 400000 in
/-- What the scratch array of the third transposed product holds after group 1 of its stores. -/
theorem q2_10 :
    Fills keyr2 (gq2 x1 x2 x5 x6) (kernelRun0_A.sl.HS5_10 c arg3 harg3 arg4 harg4 arg7 harg7 arg8 harg8 arg23 x1 x2 x5 x6) 10 := by
  unfold kernelRun0_A.sl.HS5_10
  delta kernelRun0_A.sl.r_36 kernelRun0_A.sl.v691 kernelRun0_A.sl.r_37 kernelRun0_A.sl.v676 kernelRun0_A.sl.r_35 kernelRun0_A.sl.v661 kernelRun0_A.sl.v646 kernelRun0_A.sl.r_34 kernelRun0_A.sl.v631
  dsimp only
  iterate 10
    refine q2_step ⟨rfl, by decide⟩ (by rfl) (by rfl) (by rfl) (fun _ => ld_bf16 _ _ _ _ _ _) (fun _ => loadq3 (q3_5 c arg3 harg3 arg4 harg4 arg7 harg7 x1 x2 x5) (by decide) _) ?_
  exact Fills.nil _ _

set_option maxHeartbeats 400000 in
/-- What the scratch array of the third transposed product holds after group 2 of its stores. -/
theorem q2_20 :
    Fills keyr2 (gq2 x1 x2 x5 x6) (kernelRun0_A.sl.HS5_20 c arg3 harg3 arg4 harg4 arg7 harg7 arg8 harg8 arg23 x1 x2 x5 x6) 20 := by
  unfold kernelRun0_A.sl.HS5_20
  delta kernelRun0_A.sl.v1659 kernelRun0_A.sl.r_86 kernelRun0_A.sl.v1644 kernelRun0_A.sl.v1629 kernelRun0_A.sl.r_84 kernelRun0_A.sl.v1614 kernelRun0_A.sl.r_85 kernelRun0_A.sl.v1599
  dsimp only
  iterate 10
    refine q2_step ⟨rfl, by decide⟩ (by rfl) (by rfl) (by rfl) (fun _ => ld_bf16 _ _ _ _ _ _) (fun _ => loadq3 (q3_10 c arg3 harg3 arg4 harg4 arg7 harg7 x1 x2 x5) (by decide) _) ?_
  exact q2_10 c arg3 harg3 arg4 harg4 arg7 harg7 arg8 harg8 arg23 x1 x2 x5 x6

set_option maxHeartbeats 400000 in
/-- What the scratch array of the third transposed product holds after group 3 of its stores. -/
theorem q2_30 :
    Fills keyr2 (gq2 x1 x2 x5 x6) (kernelRun0_A.sl.HS5_30 c arg3 harg3 arg4 harg4 arg7 harg7 arg8 harg8 arg23 x1 x2 x5 x6) 30 := by
  unfold kernelRun0_A.sl.HS5_30
  delta kernelRun0_A.sl.v2627 kernelRun0_A.sl.r_133 kernelRun0_A.sl.v2612 kernelRun0_A.sl.v2597 kernelRun0_A.sl.r_132 kernelRun0_A.sl.v2582 kernelRun0_A.sl.v2567
  dsimp only
  iterate 10
    refine q2_step ⟨rfl, by decide⟩ (by rfl) (by rfl) (by rfl) (fun _ => ld_bf16 _ _ _ _ _ _) (fun _ => loadq3 (q3_15 c arg3 harg3 arg4 harg4 arg7 harg7 x1 x2 x5) (by decide) _) ?_
  exact q2_20 c arg3 harg3 arg4 harg4 arg7 harg7 arg8 harg8 arg23 x1 x2 x5 x6

set_option maxHeartbeats 400000 in
/-- What the scratch array of the second transposed product holds. -/
theorem q1_24 :
    Fills keyr1 (gq1 x1 x2 x5 x6 x7) (kernelRun0_A.sl.HS6_24 c arg3 harg3 arg4 harg4 arg7 harg7 arg8 harg8 arg9 harg9 arg23 arg24 x1 x2 x5 x6 x7) 24 := by
  unfold kernelRun0_A.sl.HS6_24
  delta kernelRun0_A.sl.v2808 kernelRun0_A.sl.v2798 kernelRun0_A.sl.r_138 kernelRun0_A.sl.v2788 kernelRun0_A.sl.v2778 kernelRun0_A.sl.v2768 kernelRun0_A.sl.r_137 kernelRun0_A.sl.v2758 kernelRun0_A.sl.v2748 kernelRun0_A.sl.v2738 kernelRun0_A.sl.r_93 kernelRun0_A.sl.v1840 kernelRun0_A.sl.v1830 kernelRun0_A.sl.v1820 kernelRun0_A.sl.r_92 kernelRun0_A.sl.v1810 kernelRun0_A.sl.v1800 kernelRun0_A.sl.v1790 kernelRun0_A.sl.r_91 kernelRun0_A.sl.v1780 kernelRun0_A.sl.v1770 kernelRun0_A.sl.v872 kernelRun0_A.sl.r_42 kernelRun0_A.sl.v862 kernelRun0_A.sl.r_43 kernelRun0_A.sl.v852 kernelRun0_A.sl.v842 kernelRun0_A.sl.r_41 kernelRun0_A.sl.v832 kernelRun0_A.sl.v822 kernelRun0_A.sl.v812 kernelRun0_A.sl.v802
  dsimp only [k0_pay120, k0_pay126, k0_pay128, k0_pay237, k0_pay243, k0_pay246, k0_pay345, k0_pay355]
  iterate 8
    refine q1_step (n := 2) (by rfl) (by rfl) (by rfl) (by rfl) (fun _ => ld_bf16 _ _ _ _ _ _) (fun _ => loadq2 (q2_30 c arg3 harg3 arg4 harg4 arg7 harg7 arg8 harg8 arg23 x1 x2 x5 x6) (by decide) _) ?_
  iterate 8
    refine q1_step (n := 1) (by rfl) (by rfl) (by rfl) (by rfl) (fun _ => ld_bf16 _ _ _ _ _ _) (fun _ => loadq2 (q2_20 c arg3 harg3 arg4 harg4 arg7 harg7 arg8 harg8 arg23 x1 x2 x5 x6) (by decide) _) ?_
  iterate 8
    refine q1_step (n := 0) (by rfl) (by rfl) (by rfl) (by rfl) (fun _ => ld_bf16 _ _ _ _ _ _) (fun _ => loadq2 (q2_10 c arg3 harg3 arg4 harg4 arg7 harg7 arg8 harg8 arg23 x1 x2 x5 x6) (by decide) _) ?_
  exact Fills.nil _ _

set_option maxHeartbeats 400000 in
/-- What the scratch array of the scaled gradient holds. -/
theorem d_15 : Fills keyd (gd x1 x2) (kernelRun0_A.sl.HS0_15 c arg3 harg3 arg4 harg4 x1 x2) 15 := by
  unfold kernelRun0_A.sl.HS0_15
  delta kernelRun0_A.sl.r_2 kernelRun0_A.sl.r_1
  dsimp only
  iterate 15
    refine dyd_step (by rfl) (fun _ => ld_f32 _ _ _ _ _ _) (fun _ => ld_fp8e5m2 _ _ _ _ _ _) ?_
  exact Fills.nil _ _

end Cert.KernelIdeal.Val.CaseA
-- ==== Proof.AccPay.lean ====
module
public import proofs.«01_k».proof.Proof.Steps
public import Idealize.ShloMosaic.Lib.WritesUnit
public import Idealize.ShloMosaic.Lib.VecWindow
@[expose] public section
set_option maxRecDepth 16384
noncomputable section
open Idealize.ShloMosaic Idealize.ShloMosaic.TcCoe Idealize.SL.Sem
namespace Cert.KernelIdeal.Val
open Cert.KernelIdeal Cert.KernelIdeal.Gen

/-! The terms of the four parameter gradients at one grid point, and the matrix products that compute them. -/

/-- One term of the first core's gradient. -/
def t1 (x0 : S128x256.Idx → EReal) (x1 : S15x108x256.Idx → EReal) (x2 : S1x256.Idx → EReal) (x5 : S1x208x112.Idx → EReal)
    (x6 : S256x208.Idx → EReal) (x7 : S80x160.Idx → EReal) (c a b : ℕ) : EReal :=
  ∑ s : Fin 256, rd x0 ![16 * c + a, s.val] * q1 x1 x2 x5 x6 x7 c b s.val

/-- One term of the second core's gradient. -/
def t2 (x0 : S128x256.Idx → EReal) (x9 : S3x3x40x128.Idx → EReal) (x1 : S15x108x256.Idx → EReal) (x2 : S1x256.Idx → EReal)
    (x5 : S1x208x112.Idx → EReal) (x6 : S256x208.Idx → EReal) (n l k a b : ℕ) : EReal :=
  ∑ s : Fin 256, s2 x0 x9 n ((l * 4 + k) * 80 + a) s.val * q2 x1 x2 x5 x6 n l (b / 32) (k * 32 + b % 32) s.val

/-- One term of the third core's gradient. -/
def t3 (x0 : S128x256.Idx → EReal) (x3 : S280x160.Idx → EReal) (x9 : S3x3x40x128.Idx → EReal)
    (x10 : S5x112x128.Idx → EReal) (x1 : S15x108x256.Idx → EReal) (x2 : S1x256.Idx → EReal)
    (x5 : S1x208x112.Idx → EReal) (g a b : ℕ) : EReal :=
  ∑ s : Fin 256, q3 x1 x2 x5 g a s.val * s3 x0 x3 x9 x10 g b s.val

/-- One term of the fourth core's gradient; `D` is the scaled gradient. -/
def t4 (x0 : S128x256.Idx → EReal) (x3 : S280x160.Idx → EReal) (x4 : S208x224.Idx → EReal)
    (x9 : S3x3x40x128.Idx → EReal) (x10 : S5x112x128.Idx → EReal) (x11 : S208x128.Idx → EReal)
    (D : S15x112x256.Idx → EReal) (g a b : ℕ) : EReal :=
  ∑ s : Fin 256, rd D ![g, a, s.val] * s4 x0 x3 x4 x9 x10 x11 g b s.val

def mm1 (X : Vec Ideal S16x256 .bf16) (Q : Vec Ideal S1x240x256 .bf16) : FVec Ideal S16x240 .f32 :=
  matmul dot_S16x256_S240x256_S16x240_1_1_0_0_n_n none
    (shapeCast S16x256 X shapeCasts_S16x256_S16x256 : FVec Ideal S16x256 .bf16)
    (shapeCast S240x256 Q shapeCasts_S1x240x256_S240x256 : FVec Ideal S240x256 .bf16) (constant S16x240 .f32 0x00000000#32)

theorem mm1_at (X : Vec Ideal S16x256 .bf16) (Q : Vec Ideal S1x240x256 .bf16) (a : Fin 16) (b : Fin 240) :
    mm1 X Q (ix2 a b) = ∑ s : Fin 256, X (ix2 a s) * Q (ix3 0 b s) := by
  pointwise [mm1]

def mm2 (X : Vec Ideal S1x80x256 .bf16) (Q : Vec Ideal S1x1x5x32x256 .bf16) : FVec Ideal S80x160 .f32 :=
  matmul dot_S80x256_S160x256_S80x160_1_1_0_0_n_n none
    (shapeCast S80x256 X shapeCasts_S1x80x256_S80x256 : FVec Ideal S80x256 .bf16)
    (shapeCast S160x256 (shapeCast S5x32x256 Q shapeCasts_S1x1x5x32x256_S5x32x256 : FVec Ideal S5x32x256 .bf16)
      shapeCasts_S5x32x256_S160x256 : FVec Ideal S160x256 .bf16) (constant S80x160 .f32 0x00000000#32)

theorem mm2_at (X : Vec Ideal S1x80x256 .bf16) (Q : Vec Ideal S1x1x5x32x256 .bf16) (a : Fin 80) (b : Fin 160) :
    mm2 X Q (ix2 a b)
      = ∑ s : Fin 256, X (ix3 0 a s) * Q (ix5 0 0 ⟨b.val / 32, by omega⟩ ⟨b.val % 32, by omega⟩ s) := by
  pointwise [mm2]

def mm3 (X : Vec Ideal S1x208x256 .bf16) (Q : Vec Ideal S1x224x256 .bf16) : FVec Ideal S208x224 .f32 :=
  matmul dot_S208x256_S224x256_S208x224_1_1_0_0_n_n none
    (shapeCast S208x256 X shapeCasts_S1x208x256_S208x256 : FVec Ideal S208x256 .bf16)
    (shapeCast S224x256 Q shapeCasts_S1x224x256_S224x256 : FVec Ideal S224x256 .bf16) (constant S208x224 .f32 0x00000000#32)

theorem mm3_at (X : Vec Ideal S1x208x256 .bf16) (Q : Vec Ideal S1x224x256 .bf16) (a : Fin 208) (b : Fin 224) :
    mm3 X Q (ix2 a b) = ∑ s : Fin 256, X (ix3 0 a s) * Q (ix3 0 b s) := by
  pointwise [mm3]

def mm4 (X : Vec Ideal S1x112x256 .bf16) (Q : Vec Ideal S1x208x256 .bf16) : FVec Ideal S112x208 .f32 :=
  matmul dot_S112x256_S208x256_S112x208_1_1_0_0_n_n none
    (shapeCast S112x256 X shapeCasts_S1x112x256_S112x256 : FVec Ideal S112x256 .bf16)
    (shapeCast S208x256 Q shapeCasts_S1x208x256_S208x256 : FVec Ideal S208x256 .bf16) (constant S112x208 .f32 0x00000000#32)

theorem mm4_at (X : Vec Ideal S1x112x256 .bf16) (Q : Vec Ideal S1x208x256 .bf16) (a : Fin 112) (b : Fin 208) :
    mm4 X Q (ix2 a b) = ∑ s : Fin 256, X (ix3 0 a s) * Q (ix3 0 b s) := by
  pointwise [mm4]

/-- The sum of two arrays whose entries are known. -/
theorem has_add {s : Shape} {u v : FVec Ideal s .f32} {f g : s.Idx → EReal} (hu : ∀ y, u y = f y) (hv : ∀ y, v y = g y)
    (y : s.Idx) : (addf u v : FVec Ideal s .f32) y = f y + g y :=
  congrArg₂ (· + ·) (hu y) (hv y)

theorem has_old1 {u : Vec Ideal S16x240 .f32} {f : S16x240.Idx → EReal} (hu : ∀ y, u y = f y) (y : S16x240.Idx) :
    (shapeCast S16x240 u shapeCasts_S16x240_S16x240 : FVec Ideal S16x240 .f32) y = f y := by
  rw [← hu]; idx_vars y; pointwise

theorem has_old2 {u : Vec Ideal S80x160 .f32} {f : S80x160.Idx → EReal} (hu : ∀ y, u y = f y) (y : S80x160.Idx) :
    (shapeCast S80x160 u shapeCasts_S80x160_S80x160 : FVec Ideal S80x160 .f32) y = f y := by
  rw [← hu]; idx_vars y; pointwise

theorem has_old3 {u : Vec Ideal S208x224 .f32} {f : S208x224.Idx → EReal} (hu : ∀ y, u y = f y) (y : S208x224.Idx) :
    (shapeCast S208x224 u shapeCasts_S208x224_S208x224 : FVec Ideal S208x224 .f32) y = f y := by
  rw [← hu]; idx_vars y; pointwise

/-- The block of the fourth gradient, read as a matrix, added to and written back. -/
theorem has_acc4 {u : Vec Ideal S1x112x208 .f32} {v : FVec Ideal S112x208 .f32} {f : S1x112x208.Idx → EReal}
    {g : S112x208.Idx → EReal} (hu : ∀ y, u y = f y) (hv : ∀ y, v y = g y) (y : S1x112x208.Idx) :
    (shapeCast S1x112x208 (addf (shapeCast S112x208 u shapeCasts_S1x112x208_S112x208) v : FVec Ideal S112x208 .f32)
      shapeCasts_S112x208_S1x112x208 : FVec Ideal S1x112x208 .f32) y = f y + g (ix2 (y 1) (y 2)) := by
  rw [← hu, ← hv]; idx_vars y
  obtain rfl : y0 = 0 := Subsingleton.elim _ _
  pointwise

theorem has_mm1 {x0 : Vec Ideal S128x256 .bf16} {x1 : Vec Ideal S15x108x256 .fp8e5m2} {x2 : Vec Ideal S1x256 .f32} {x5 : Vec Ideal S1x208x112 .bf16} {x6 : Vec Ideal S256x208 .bf16} {x7 : Vec Ideal S80x160 .bf16}
    {X : Vec Ideal S16x256 .bf16} {Q : Vec Ideal S1x240x256 .bf16} {r0 c : ℕ} (hr : r0 = 16 * c)
    (hX : ∀ y, X y = rd (s := S128x256) x0 (fun q => (![r0, 0] : Fin 2 → ℕ) q + (y q).val))
    (hQ : ∀ y, Q y = q1 x1 x2 x5 x6 x7 (c + 1 * (y 0).val) (0 + 1 * (y 1).val) (0 + 1 * (y 2).val))
    (y : S16x240.Idx) : mm1 X Q y = t1 x0 x1 x2 x5 x6 x7 c (y 0).val (y 1).val := by
  subst hr
  idx_vars y
  rw [mm1_at]
  simp only [hX, hQ]
  refine Finset.sum_congr rfl fun w _ => congrArg₂ (· * ·) ?_ ?_
  · refine rd_congr fun q => ?_; fin_cases q <;> simp
  · exact q1_congr (by simp) (by simp) (by simp)

theorem has_mm2 {x0 : Vec Ideal S128x256 .bf16} {x9 : Vec Ideal S3x3x40x128 .f32} {x1 : Vec Ideal S15x108x256 .fp8e5m2} {x2 : Vec Ideal S1x256 .f32} {x5 : Vec Ideal S1x208x112 .bf16} {x6 : Vec Ideal S256x208 .bf16}
    {X : Vec Ideal S1x80x256 .bf16} {Q : Vec Ideal S1x1x5x32x256 .bf16} {n l k b p : ℕ} (hb : b = (l * 4 + k) * 80) (hp : p = k * 32)
    (hX : ∀ y, X y = s2 x0 x9 (n + 1 * (y 0).val) (b + 1 * (y 1).val) (0 + 1 * (y 2).val))
    (hQ : ∀ y, Q y = q2 x1 x2 x5 x6 (n + 1 * (y 0).val) (l + 1 * (y 1).val) (0 + 1 * (y 2).val) (p + 1 * (y 3).val) (0 + 1 * (y 4).val))
    (y : S80x160.Idx) : mm2 X Q y = t2 x0 x9 x1 x2 x5 x6 n l k (y 0).val (y 1).val := by
  subst hb hp
  idx_vars y
  rw [mm2_at]
  simp only [hX, hQ]
  refine Finset.sum_congr rfl fun w _ => congrArg₂ (· * ·) ?_ ?_
  · exact s2_congr (by simp) (by simp) (by simp)
  · exact q2_congr (by simp) (by simp) (by simp) (by simp) (by simp)

theorem has_mm3 {x0 : Vec Ideal S128x256 .bf16} {x3 : Vec Ideal S280x160 .bf16} {x9 : Vec Ideal S3x3x40x128 .f32} {x10 : Vec Ideal S5x112x128 .f32} {x1 : Vec Ideal S15x108x256 .fp8e5m2} {x2 : Vec Ideal S1x256 .f32} {x5 : Vec Ideal S1x208x112 .bf16}
    {X : Vec Ideal S1x208x256 .bf16} {Q : Vec Ideal S1x224x256 .bf16} {g : ℕ}
    (hX : ∀ y, X y = q3 x1 x2 x5 (g + 1 * (y 0).val) (0 + 1 * (y 1).val) (0 + 1 * (y 2).val))
    (hQ : ∀ y, Q y = s3 x0 x3 x9 x10 (g + 1 * (y 0).val) (0 + 1 * (y 1).val) (0 + 1 * (y 2).val))
    (y : S208x224.Idx) : mm3 X Q y = t3 x0 x3 x9 x10 x1 x2 x5 g (y 0).val (y 1).val := by
  idx_vars y
  rw [mm3_at]
  simp only [hX, hQ]
  refine Finset.sum_congr rfl fun w _ => congrArg₂ (· * ·) ?_ ?_
  · exact q3_congr (by simp) (by simp) (by simp)
  · exact s3_congr (by simp) (by simp) (by simp)

theorem has_mm4 {x0 : Vec Ideal S128x256 .bf16} {x3 : Vec Ideal S280x160 .bf16} {x4 : Vec Ideal S208x224 .bf16} {x9 : Vec Ideal S3x3x40x128 .f32} {x10 : Vec Ideal S5x112x128 .f32} {x11 : Vec Ideal S208x128 .f32} {D : Vec Ideal S15x112x256 .bf16}
    {X : Vec Ideal S1x112x256 .bf16} {Q : Vec Ideal S1x208x256 .bf16} {g : ℕ}
    (hX : ∀ y, X y = rd (s := S15x112x256) D (fun q => (![g, 0, 0] : Fin 3 → ℕ) q + (y q).val))
    (hQ : ∀ y, Q y = s4 x0 x3 x4 x9 x10 x11 (g + 1 * (y 0).val) (0 + 1 * (y 1).val) (0 + 1 * (y 2).val))
    (y : S112x208.Idx) : mm4 X Q y = t4 x0 x3 x4 x9 x10 x11 D g (y 0).val (y 1).val := by
  idx_vars y
  rw [mm4_at]
  simp only [hX, hQ]
  refine Finset.sum_congr rfl fun w _ => congrArg₂ (· * ·) ?_ ?_
  · refine rd_congr fun q => ?_; fin_cases q <;> simp
  · exact s4_congr (by simp) (by simp) (by simp)

/-- A load of the scaled gradient, by its array. -/
theorem loadD {x1 : Vec Ideal S15x108x256 .fp8e5m2} {x2 : Vec Ideal S1x256 .f32} {g : ℕ}
    {L : List (View.Piece (Elt Ideal) S15x112x256 .bf16)} {sig : RefSig} {κ : Kind} {sp : Space}
    {v : View sig κ sp S15x112x256 .bf16} {inb : ∀ a, (![g, 0, 0] : Fin 3 → ℕ) a + S1x112x256.size a ≤ S15x112x256.size a}
    (hL : Fills keyd (gd x1 x2) L 15) (x : S1x112x256.Idx) :
    v.readCov L (Rect.unit (s := S15x112x256) ![g, 0, 0] S1x112x256.size inb).toLoadRect x
      = rd (s := S15x112x256) (gd x1 x2) (fun q => (![g, 0, 0] : Fin 3 → ℕ) q + (x q).val) :=
  (hL.load (fun z => ((Rect.unit (s := S15x112x256) ![g, 0, 0] S1x112x256.size inb).toLoadRect.idx z 0).isLt) x).trans
    (rd_idx (s := S15x112x256) (gd x1 x2) ![g, 0, 0] S1x112x256.size inb x)

/-- A load through the rectangle last stored reads what was stored. -/
theorem readCov_top {s : Shape} {e : EltTy} {sig : RefSig} {κ : Kind} {sp : Space} {v : View sig κ sp s e}
    {off size : Fin s.rank → ℕ} {inb inb' : ∀ a, off a + size a ≤ s.size a}
    {w : (Rect.unit off size inb).shape.Idx → Elt Ideal e} {L : List (View.Piece (Elt Ideal) s e)}
    (x : (Rect.unit off size inb).shape.Idx) :
    v.readCov (⟨Rect.unit off size inb, w⟩ :: L) (Rect.unit off size inb').toLoadRect x = w x := by
  rw [View.readCov_eq_canon']
  exact View.canon_cons_emb (Rect.unit off size inb) w L x

/-- Reading back an accumulator just stored. -/
theorem has_top {s : Shape} {sig : RefSig} {κ : Kind} {sp : Space} {v : View sig κ sp s .f32}
    {off size : Fin s.rank → ℕ} {inb inb' : ∀ a, off a + size a ≤ s.size a}
    {w : (Rect.unit off size inb).shape.Idx → Elt Ideal .f32} {L : List (View.Piece (Elt Ideal) s .f32)}
    {f : (Rect.unit off size inb).shape.Idx → EReal} (hw : ∀ x, w x = f x) (x : (Rect.unit off size inb).shape.Idx) :
    v.readCov (⟨Rect.unit off size inb, w⟩ :: L) (Rect.unit off size inb').toLoadRect x = f x :=
  (readCov_top x).trans (hw x)

/-- Reading back an accumulator stored whole. -/
theorem has_topw {s : Shape} {sig : RefSig} {κ : Kind} {sp : Space} {v : View sig κ sp s .f32}
    {off : Fin s.rank → ℕ} {inb inb' : ∀ a, off a + s.size a ≤ s.size a}
    {w : (Rect.unit off s.size inb).shape.Idx → Elt Ideal .f32} {L : List (View.Piece (Elt Ideal) s .f32)}
    {f : s.Idx → EReal} (hw : ∀ x : s.Idx, w x = f x) (x : s.Idx) :
    v.readCov (⟨Rect.unit off s.size inb, w⟩ :: L) (Rect.unit off s.size inb').toLoadRect x = f x :=
  (readCov_top x).trans (hw x)

/-- Reading a whole array whose contents are known. -/
theorem has_whole {sig : RefSig} {sp : Space} {s : Shape} {m : Memref sig .tc sp s .f32} (h : m.IsWhole)
    (X : Vec Ideal s .f32) {off : Fin s.rank → ℕ} (h0 : ∀ a, off a = 0) (inb : ∀ a, off a + s.size a ≤ s.size a) (y : s.Idx) :
    View.readAt (Elt Ideal) m.view (Rect.unit off s.size inb).toLoadRect (h.unread X) y = X y :=
  (ld_f32 h X off s.size inb y).trans (rd_of X _ y fun a => by rw [h0, Nat.zero_add])

/-- An array of zeros. -/
theorem has_zero {s : Shape} (y : s.Idx) :
    (broadcast s (Scalar.ofBits .f32 0x00000000#32 : Ideal .f32) : FVec Ideal s .f32) y = (0 : EReal) := by
  pointwise

/-- A load of a block of an array of zeros. -/
theorem has_zero_block {s : Shape} {sig : RefSig} {κ : Kind} {sp : Space} {v : View sig κ sp s .f32}
    {off off0 size : Fin s.rank → ℕ} {inb : ∀ a, off a + size a ≤ s.size a} {inb0 : ∀ a, off0 a + s.size a ≤ s.size a}
    {w : (Rect.unit off0 s.size inb0).shape.Idx → Elt Ideal .f32} (h0 : ∀ a, off0 a = 0) (hw : ∀ x, w x = (0 : EReal))
    (x : (Rect.unit off size inb).shape.Idx) :
    v.readCov [⟨Rect.unit off0 s.size inb0, w⟩] (Rect.unit off size inb).toLoadRect x = (0 : EReal) := by
  obtain rfl : off0 = fun _ => 0 := funext h0
  rw [View.readCov_eq_canon', View.canon_unit_zero rfl]
  exact hw _

/-- What a view holds after a store over the whole of it. -/
theorem read_top {s : Shape} {e : EltTy} {sig : RefSig} {κ : Kind} {sp : Space} {v : View sig κ sp s e} {f}
    {off : Fin s.rank → ℕ} {inb : ∀ a, off a + s.size a ≤ s.size a}
    {w : (Rect.unit off s.size inb).shape.Idx → Elt Ideal e} {L : List (View.Piece (Elt Ideal) s e)}
    {g : s.Idx → Elt Ideal e} (hw : ∀ x : s.Idx, w x = g x) (y : s.Idx) :
    v.read (Elt Ideal) (v.writes (Elt Ideal) f (⟨Rect.unit off s.size inb, w⟩ :: L)) y = g y :=
  (congrFun (View.read_writes_full v f inb w L) y).trans (hw y)

/-- What a view holds after a store over one block of it: the stored block there, and elsewhere what it held. -/
theorem read_block4 {sig : RefSig} {κ : Kind} {sp : Space} {v : View sig κ sp S8x112x208 .f32} {f} {j : ℕ}
    {off : Fin 3 → ℕ} (heq : off = ![j, 0, 0]) {inb : ∀ a, off a + S1x112x208.size a ≤ S8x112x208.size a}
    {w : (Rect.unit (s := S8x112x208) off S1x112x208.size inb).shape.Idx → Elt Ideal .f32}
    {L : List (View.Piece (Elt Ideal) S8x112x208 .f32)} {y : S8x112x208.Idx} {A B : EReal}
    (hin : (y 0).val = j → w (ix3 0 (y 1) (y 2) : S1x112x208.Idx) = A)
    (hout : (y 0).val ≠ j → v.read (Elt Ideal) (v.writes (Elt Ideal) f L) y = B) :
    v.read (Elt Ideal) (v.writes (Elt Ideal) f (⟨Rect.unit (s := S8x112x208) off S1x112x208.size inb, w⟩ :: L)) y
      = if (y 0).val = j then A else B := by
  by_cases hy : (y 0).val = j
  · rw [if_pos hy, ← hin hy]
    exact View.read_writes_cons_unit_of_mem (off' := ![j, 0, 0]) v f inb w L y (ix3 0 (y 1) (y 2) : S1x112x208.Idx) heq
      (fun a => by fin_cases a <;> simp [hy])
  · rw [if_neg hy, ← hout hy]
    exact View.read_writes_cons_unit_of_not_mem (off' := ![j, 0, 0]) v f inb w L y heq 0
      (by
        have : (![j, 0, 0] : Fin 3 → ℕ) 0 + S1x112x208.size 0 = j + 1 := rfl
        have h0 : (![j, 0, 0] : Fin 3 → ℕ) 0 = j := rfl
        omega)

/-- A store over one block leaves the rest as it was. -/
theorem read_block4_off {sig : RefSig} {κ : Kind} {sp : Space} {v : View sig κ sp S8x112x208 .f32} {f} {j : ℕ}
    {off : Fin 3 → ℕ} (heq : off = ![j, 0, 0]) {inb : ∀ a, off a + S1x112x208.size a ≤ S8x112x208.size a}
    {w : (Rect.unit (s := S8x112x208) off S1x112x208.size inb).shape.Idx → Elt Ideal .f32}
    {L : List (View.Piece (Elt Ideal) S8x112x208 .f32)} {y : S8x112x208.Idx} {B : EReal} (hy : (y 0).val ≠ j)
    (h : v.read (Elt Ideal) (v.writes (Elt Ideal) f L) y = B) :
    v.read (Elt Ideal) (v.writes (Elt Ideal) f (⟨Rect.unit (s := S8x112x208) off S1x112x208.size inb, w⟩ :: L)) y = B :=
  (read_block4 (A := 0) heq (fun h' => absurd h' hy) fun _ => h).trans (if_neg hy)

/-- What a view holds after the stores of a list that fill it. -/
theorem read_fills {s : Shape} {e : EltTy} {sig : RefSig} {κ : Kind} {sp : Space} {v : View sig κ sp s e}
    {key : s.Idx → ℕ} {G : s.Idx → Elt Ideal e} {L : List (View.Piece (Elt Ideal) s e)} {k : ℕ}
    (hL : Fills key G L k) (hk : ∀ y, key y < k) : v.read (Elt Ideal) (v.writes (Elt Ideal) v.junk L) = G :=
  funext fun y => (View.read_writes_junk_apply_eq_canon v y L).trans (hL y (hk y))

end Cert.KernelIdeal.Val
-- ==== Proof.AccA.lean ====
module
public import proofs.«01_k».proof.Proof.ListsA
public import proofs.«01_k».proof.Proof.AccPay
@[expose] public section
set_option maxRecDepth 16384
set_option pp.maxSteps 600
set_option pp.deepTerms false
set_option pp.deepTerms.threshold 4
noncomputable section
open Idealize.ShloMosaic Idealize.ShloMosaic.TcCoe Idealize.SL.Sem
namespace Cert.KernelIdeal.Val.CaseA
open Cert.KernelIdeal Cert.KernelIdeal.Gen Cert.KernelIdeal.Val

set_option maxHeartbeats 400000 in
/-- What the block of the input gradient holds after the point. -/
theorem dx_8 (c : Dev nD) (i : grid0.Coords) (arg2 : Memref sig .tc .vmem S128x256 .bf16) (harg2 : arg2.IsWhole) (arg3 : Memref sig .tc .vmem S15x108x256 .fp8e5m2) (harg3 : arg3.IsWhole) (arg4 : Memref sig .tc .vmem S1x256 .f32) (harg4 : arg4.IsWhole) (arg5 : Memref sig .tc .vmem S280x160 .bf16) (harg5 : arg5.IsWhole) (arg6 : Memref sig .tc .vmem S208x224 .bf16) (harg6 : arg6.IsWhole) (arg7 : Memref sig .tc .vmem S1x208x112 .bf16) (harg7 : arg7.IsWhole) (arg8 : Memref sig .tc .vmem S256x208 .bf16) (harg8 : arg8.IsWhole) (arg9 : Memref sig .tc .vmem S80x160 .bf16) (harg9 : arg9.IsWhole) (arg10 : Memref sig .tc .vmem S16x240 .bf16) (harg10 : arg10.IsWhole) (arg11 : Memref sig .tc .vmem S3x3x40x128 .f32) (harg11 : arg11.IsWhole) (arg12 : Memref sig .tc .vmem S5x112x128 .f32) (harg12 : arg12.IsWhole) (arg13 : Memref sig .tc .vmem S208x128 .f32) (harg13 : arg13.IsWhole) (arg14 : Memref sig .tc .vmem S128x256 .bf16) (harg14 : arg14.IsWhole) (arg15 : Memref sig .tc .vmem S16x240 .f32) (harg15 : arg15.IsWhole) (arg16 : Memref sig .tc .vmem S80x160 .f32) (harg16 : arg16.IsWhole) (arg17 : Memref sig .tc .vmem S208x224 .f32) (harg17 : arg17.IsWhole) (arg18 : Memref sig .tc .vmem S8x112x208 .f32) (harg18 : arg18.IsWhole) (arg19 : Memref sig .tc .vmem S15x112x256 .bf16) (harg19 : arg19.IsWhole) (arg20 : Memref sig .tc .vmem S3x640x256 .bf16) (harg20 : arg20.IsWhole) (arg21 : Memref sig .tc .vmem S15x224x256 .bf16) (harg21 : arg21.IsWhole) (arg22 : Memref sig .tc .vmem S15x208x256 .bf16) (harg22 : arg22.IsWhole) (arg23 : Memref sig .tc .vmem S15x208x256 .bf16) (harg23 : arg23.IsWhole) (arg24 : Memref sig .tc .vmem S3x2x5x128x256 .bf16) (harg24 : arg24.IsWhole) (arg25 : Memref sig .tc .vmem S8x240x256 .bf16) (harg25 : arg25.IsWhole) (hc0 : cond0_0 i) (hc1 : cond0_1 i)     (x0 : Vec Ideal S128x256 .bf16) (x1 : Vec Ideal S15x108x256 .fp8e5m2) (x2 : Vec Ideal S1x256 .f32) (x3 : Vec Ideal S280x160 .bf16) (x4 : Vec Ideal S208x224 .bf16) (x5 : Vec Ideal S1x208x112 .bf16) (x6 : Vec Ideal S256x208 .bf16) (x7 : Vec Ideal S80x160 .bf16) (x8 : Vec Ideal S16x240 .bf16) (x9 : Vec Ideal S3x3x40x128 .f32) (x10 : Vec Ideal S5x112x128 .f32) (x11 : Vec Ideal S208x128 .f32)  :
    Fills keydx (gdx x1 x2 x5 x6 x7 x8) (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11).1 8 := by
  unfold kernelRun0_A
  dsimp only
  delta kernelRun0_A.sl.r_152 kernelRun0_A.sl.v3006 kernelRun0_A.sl.v2993 kernelRun0_A.sl.r_150 kernelRun0_A.sl.v2980 kernelRun0_A.sl.v2967 kernelRun0_A.sl.r_148 kernelRun0_A.sl.v2954 kernelRun0_A.sl.v2941 kernelRun0_A.sl.r_146 kernelRun0_A.sl.v2928 kernelRun0_A.sl.v2916
  dsimp only
  iterate 8
    refine dx_step (by rfl) (by rfl) (fun _ => ld_bf16 _ _ _ _ _ _) (fun _ => loadq1 (q1_24 c arg3 harg3 arg4 harg4 arg7 harg7 arg8 harg8 arg9 harg9 arg23 arg24 x1 x2 x5 x6 x7) (by decide) _) ?_
  exact Fills.nil _ _

set_option maxHeartbeats 400000 in
/-- The first core's gradient after the point: what it held, and the point's terms. -/
theorem dg1_acc (c : Dev nD) (i : grid0.Coords) (arg2 : Memref sig .tc .vmem S128x256 .bf16) (harg2 : arg2.IsWhole) (arg3 : Memref sig .tc .vmem S15x108x256 .fp8e5m2) (harg3 : arg3.IsWhole) (arg4 : Memref sig .tc .vmem S1x256 .f32) (harg4 : arg4.IsWhole) (arg5 : Memref sig .tc .vmem S280x160 .bf16) (harg5 : arg5.IsWhole) (arg6 : Memref sig .tc .vmem S208x224 .bf16) (harg6 : arg6.IsWhole) (arg7 : Memref sig .tc .vmem S1x208x112 .bf16) (harg7 : arg7.IsWhole) (arg8 : Memref sig .tc .vmem S256x208 .bf16) (harg8 : arg8.IsWhole) (arg9 : Memref sig .tc .vmem S80x160 .bf16) (harg9 : arg9.IsWhole) (arg10 : Memref sig .tc .vmem S16x240 .bf16) (harg10 : arg10.IsWhole) (arg11 : Memref sig .tc .vmem S3x3x40x128 .f32) (harg11 : arg11.IsWhole) (arg12 : Memref sig .tc .vmem S5x112x128 .f32) (harg12 : arg12.IsWhole) (arg13 : Memref sig .tc .vmem S208x128 .f32) (harg13 : arg13.IsWhole) (arg14 : Memref sig .tc .vmem S128x256 .bf16) (harg14 : arg14.IsWhole) (arg15 : Memref sig .tc .vmem S16x240 .f32) (harg15 : arg15.IsWhole) (arg16 : Memref sig .tc .vmem S80x160 .f32) (harg16 : arg16.IsWhole) (arg17 : Memref sig .tc .vmem S208x224 .f32) (harg17 : arg17.IsWhole) (arg18 : Memref sig .tc .vmem S8x112x208 .f32) (harg18 : arg18.IsWhole) (arg19 : Memref sig .tc .vmem S15x112x256 .bf16) (harg19 : arg19.IsWhole) (arg20 : Memref sig .tc .vmem S3x640x256 .bf16) (harg20 : arg20.IsWhole) (arg21 : Memref sig .tc .vmem S15x224x256 .bf16) (harg21 : arg21.IsWhole) (arg22 : Memref sig .tc .vmem S15x208x256 .bf16) (harg22 : arg22.IsWhole) (arg23 : Memref sig .tc .vmem S15x208x256 .bf16) (harg23 : arg23.IsWhole) (arg24 : Memref sig .tc .vmem S3x2x5x128x256 .bf16) (harg24 : arg24.IsWhole) (arg25 : Memref sig .tc .vmem S8x240x256 .bf16) (harg25 : arg25.IsWhole) (hc0 : cond0_0 i) (hc1 : cond0_1 i)     (x0 : Vec Ideal S128x256 .bf16) (x1 : Vec Ideal S15x108x256 .fp8e5m2) (x2 : Vec Ideal S1x256 .f32) (x3 : Vec Ideal S280x160 .bf16) (x4 : Vec Ideal S208x224 .bf16) (x5 : Vec Ideal S1x208x112 .bf16) (x6 : Vec Ideal S256x208 .bf16) (x7 : Vec Ideal S80x160 .bf16) (x8 : Vec Ideal S16x240 .bf16) (x9 : Vec Ideal S3x3x40x128 .f32) (x10 : Vec Ideal S5x112x128 .f32) (x11 : Vec Ideal S208x128 .f32)
    {sig' : RefSig} {κ : Kind} {sp : Space} (v : View sig' κ sp S16x240 .f32) (f) (y : S16x240.Idx) :
    v.read (Elt Ideal) (v.writes (Elt Ideal) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11).2.1) y
      = 0 + ∑ g : Fin 8, t1 x0 x1 x2 x5 x6 x7 g.val (y 0).val (y 1).val := by
  rw [Fin.sum_univ_eight]
  revert y
  unfold kernelRun0_A
  dsimp only
  delta kernelRun0_A.sl.r_151 kernelRun0_A.sl.r_149 kernelRun0_A.sl.r_147 kernelRun0_A.sl.r_145 kernelRun0_A.sl.v2916 kernelRun0_A.sl.v2928 kernelRun0_A.sl.v2941 kernelRun0_A.sl.v2954 kernelRun0_A.sl.v2967 kernelRun0_A.sl.v2980 kernelRun0_A.sl.v2993 kernelRun0_A.sl.v3013 kernelRun0_A.sl.v3017 kernelRun0_A.sl.H13_1
  dsimp only [k0_pay358, k0_pay361, k0_pay365, k0_pay369, k0_pay18, k0_pay1]
  refine read_top ?_
  refine has_add (has_old1 (fun y => has_topw has_zero y)) ?_
  iterate 7
    refine has_add ?_ ?_
    on_goal 2 => exact has_mm1 (by rfl) (fun _ => ld_bf16 _ _ _ _ _ _) (fun _ => loadq1 (q1_24 c arg3 harg3 arg4 harg4 arg7 harg7 arg8 harg8 arg9 harg9 arg23 arg24 x1 x2 x5 x6 x7) (by decide) _)
  exact has_mm1 (by rfl) (fun _ => ld_bf16 _ _ _ _ _ _) (fun _ => loadq1 (q1_24 c arg3 harg3 arg4 harg4 arg7 harg7 arg8 harg8 arg9 harg9 arg23 arg24 x1 x2 x5 x6 x7) (by decide) _)

set_option maxHeartbeats 400000 in
/-- The second core's gradient after the point: what it held, and the point's terms. -/
theorem dg2_acc (c : Dev nD) (i : grid0.Coords) (arg2 : Memref sig .tc .vmem S128x256 .bf16) (harg2 : arg2.IsWhole) (arg3 : Memref sig .tc .vmem S15x108x256 .fp8e5m2) (harg3 : arg3.IsWhole) (arg4 : Memref sig .tc .vmem S1x256 .f32) (harg4 : arg4.IsWhole) (arg5 : Memref sig .tc .vmem S280x160 .bf16) (harg5 : arg5.IsWhole) (arg6 : Memref sig .tc .vmem S208x224 .bf16) (harg6 : arg6.IsWhole) (arg7 : Memref sig .tc .vmem S1x208x112 .bf16) (harg7 : arg7.IsWhole) (arg8 : Memref sig .tc .vmem S256x208 .bf16) (harg8 : arg8.IsWhole) (arg9 : Memref sig .tc .vmem S80x160 .bf16) (harg9 : arg9.IsWhole) (arg10 : Memref sig .tc .vmem S16x240 .bf16) (harg10 : arg10.IsWhole) (arg11 : Memref sig .tc .vmem S3x3x40x128 .f32) (harg11 : arg11.IsWhole) (arg12 : Memref sig .tc .vmem S5x112x128 .f32) (harg12 : arg12.IsWhole) (arg13 : Memref sig .tc .vmem S208x128 .f32) (harg13 : arg13.IsWhole) (arg14 : Memref sig .tc .vmem S128x256 .bf16) (harg14 : arg14.IsWhole) (arg15 : Memref sig .tc .vmem S16x240 .f32) (harg15 : arg15.IsWhole) (arg16 : Memref sig .tc .vmem S80x160 .f32) (harg16 : arg16.IsWhole) (arg17 : Memref sig .tc .vmem S208x224 .f32) (harg17 : arg17.IsWhole) (arg18 : Memref sig .tc .vmem S8x112x208 .f32) (harg18 : arg18.IsWhole) (arg19 : Memref sig .tc .vmem S15x112x256 .bf16) (harg19 : arg19.IsWhole) (arg20 : Memref sig .tc .vmem S3x640x256 .bf16) (harg20 : arg20.IsWhole) (arg21 : Memref sig .tc .vmem S15x224x256 .bf16) (harg21 : arg21.IsWhole) (arg22 : Memref sig .tc .vmem S15x208x256 .bf16) (harg22 : arg22.IsWhole) (arg23 : Memref sig .tc .vmem S15x208x256 .bf16) (harg23 : arg23.IsWhole) (arg24 : Memref sig .tc .vmem S3x2x5x128x256 .bf16) (harg24 : arg24.IsWhole) (arg25 : Memref sig .tc .vmem S8x240x256 .bf16) (harg25 : arg25.IsWhole) (hc0 : cond0_0 i) (hc1 : cond0_1 i)     (x0 : Vec Ideal S128x256 .bf16) (x1 : Vec Ideal S15x108x256 .fp8e5m2) (x2 : Vec Ideal S1x256 .f32) (x3 : Vec Ideal S280x160 .bf16) (x4 : Vec Ideal S208x224 .bf16) (x5 : Vec Ideal S1x208x112 .bf16) (x6 : Vec Ideal S256x208 .bf16) (x7 : Vec Ideal S80x160 .bf16) (x8 : Vec Ideal S16x240 .bf16) (x9 : Vec Ideal S3x3x40x128 .f32) (x10 : Vec Ideal S5x112x128 .f32) (x11 : Vec Ideal S208x128 .f32)
    {sig' : RefSig} {κ : Kind} {sp : Space} (v : View sig' κ sp S80x160 .f32) (f) (y : S80x160.Idx) :
    v.read (Elt Ideal) (v.writes (Elt Ideal) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11).2.2.1) y
      = ((0 + ∑ g : Fin 8, t2 x0 x9 x1 x2 x5 x6 0 (g.val / 4) (g.val % 4) (y 0).val (y 1).val) + ∑ g : Fin 8, t2 x0 x9 x1 x2 x5 x6 1 (g.val / 4) (g.val % 4) (y 0).val (y 1).val) + ∑ g : Fin 8, t2 x0 x9 x1 x2 x5 x6 2 (g.val / 4) (g.val % 4) (y 0).val (y 1).val := by
  simp only [Fin.sum_univ_eight]
  revert y
  unfold kernelRun0_A
  dsimp only
  delta kernelRun0_A.sl.r_143 kernelRun0_A.sl.r_141 kernelRun0_A.sl.v2738 kernelRun0_A.sl.v2858 kernelRun0_A.sl.v2748 kernelRun0_A.sl.v2864 kernelRun0_A.sl.r_142 kernelRun0_A.sl.v2758 kernelRun0_A.sl.v2871 kernelRun0_A.sl.v2768 kernelRun0_A.sl.v2878 kernelRun0_A.sl.v2778 kernelRun0_A.sl.v2885 kernelRun0_A.sl.v2788 kernelRun0_A.sl.v2892 kernelRun0_A.sl.r_144 kernelRun0_A.sl.v2798 kernelRun0_A.sl.v2899 kernelRun0_A.sl.v2808 kernelRun0_A.sl.v2906 kernelRun0_A.sl.v2910 kernelRun0_A.sl.H14_3 kernelRun0_A.sl.r_99 kernelRun0_A.sl.r_96 kernelRun0_A.sl.v1770 kernelRun0_A.sl.v1890 kernelRun0_A.sl.r_97 kernelRun0_A.sl.v1780 kernelRun0_A.sl.r_98 kernelRun0_A.sl.v1896 kernelRun0_A.sl.cst_1433 kernelRun0_A.sl.v1790 kernelRun0_A.sl.v1903 kernelRun0_A.sl.v1800 kernelRun0_A.sl.v1910 kernelRun0_A.sl.v1810 kernelRun0_A.sl.v1917 kernelRun0_A.sl.r_100 kernelRun0_A.sl.v1820 kernelRun0_A.sl.v1924 kernelRun0_A.sl.v1830 kernelRun0_A.sl.v1931 kernelRun0_A.sl.v1840 kernelRun0_A.sl.v1938 kernelRun0_A.sl.v1942 kernelRun0_A.sl.H14_2 kernelRun0_A.sl.r_48 kernelRun0_A.sl.r_46 kernelRun0_A.sl.r_45 kernelRun0_A.sl.v802 kernelRun0_A.sl.v922 kernelRun0_A.sl.v812 kernelRun0_A.sl.v928 kernelRun0_A.sl.v822 kernelRun0_A.sl.v935 kernelRun0_A.sl.v832 kernelRun0_A.sl.v942 kernelRun0_A.sl.r_47 kernelRun0_A.sl.v842 kernelRun0_A.sl.v949 kernelRun0_A.sl.v852 kernelRun0_A.sl.v956 kernelRun0_A.sl.v862 kernelRun0_A.sl.v963 kernelRun0_A.sl.v872 kernelRun0_A.sl.v970 kernelRun0_A.sl.v974 kernelRun0_A.sl.H14_1
  dsimp only [k0_pay352, k0_pay353, k0_pay354, k0_pay355, k0_pay242, k0_pay243, k0_pay244, k0_pay245, k0_pay246, k0_pay126, k0_pay127, k0_pay128, k0_pay19, k0_pay129, k0_pay247, k0_pay356]
  refine read_top ?_
  refine has_add (has_old2 ?_) ?_
  on_goal 2 =>
    iterate 7
      refine has_add ?_ ?_
      on_goal 2 => exact has_mm2 (by rfl) (by rfl) (fun _ => load2w (l2_48 c arg2 harg2 arg11 harg11 x0 x9) (by decide) _) (fun _ => loadq2 (q2_30 c arg3 harg3 arg4 harg4 arg7 harg7 arg8 harg8 arg23 x1 x2 x5 x6) (by decide) _)
    exact has_mm2 (by rfl) (by rfl) (fun _ => load2w (l2_48 c arg2 harg2 arg11 harg11 x0 x9) (by decide) _) (fun _ => loadq2 (q2_30 c arg3 harg3 arg4 harg4 arg7 harg7 arg8 harg8 arg23 x1 x2 x5 x6) (by decide) _)
  refine has_topw ?_
  refine has_add (has_old2 ?_) ?_
  on_goal 2 =>
    iterate 7
      refine has_add ?_ ?_
      on_goal 2 => exact has_mm2 (by rfl) (by rfl) (fun _ => load2w (l2_32 c arg2 harg2 arg11 harg11 x0 x9) (by decide) _) (fun _ => loadq2 (q2_20 c arg3 harg3 arg4 harg4 arg7 harg7 arg8 harg8 arg23 x1 x2 x5 x6) (by decide) _)
    exact has_mm2 (by rfl) (by rfl) (fun _ => load2w (l2_32 c arg2 harg2 arg11 harg11 x0 x9) (by decide) _) (fun _ => loadq2 (q2_20 c arg3 harg3 arg4 harg4 arg7 harg7 arg8 harg8 arg23 x1 x2 x5 x6) (by decide) _)
  refine has_topw ?_
  refine has_add (has_old2 ?_) ?_
  on_goal 2 =>
    iterate 7
      refine has_add ?_ ?_
      on_goal 2 => exact has_mm2 (by rfl) (by rfl) (fun _ => load2w (l2_16 c arg2 harg2 arg11 harg11 x0 x9) (by decide) _) (fun _ => loadq2 (q2_10 c arg3 harg3 arg4 harg4 arg7 harg7 arg8 harg8 arg23 x1 x2 x5 x6) (by decide) _)
    exact has_mm2 (by rfl) (by rfl) (fun _ => load2w (l2_16 c arg2 harg2 arg11 harg11 x0 x9) (by decide) _) (fun _ => loadq2 (q2_10 c arg3 harg3 arg4 harg4 arg7 harg7 arg8 harg8 arg23 x1 x2 x5 x6) (by decide) _)
  exact fun y => has_topw has_zero y

set_option maxHeartbeats 400000 in
/-- The third core's gradient after the point: what it held, and the point's terms. -/
theorem dg3_acc (c : Dev nD) (i : grid0.Coords) (arg2 : Memref sig .tc .vmem S128x256 .bf16) (harg2 : arg2.IsWhole) (arg3 : Memref sig .tc .vmem S15x108x256 .fp8e5m2) (harg3 : arg3.IsWhole) (arg4 : Memref sig .tc .vmem S1x256 .f32) (harg4 : arg4.IsWhole) (arg5 : Memref sig .tc .vmem S280x160 .bf16) (harg5 : arg5.IsWhole) (arg6 : Memref sig .tc .vmem S208x224 .bf16) (harg6 : arg6.IsWhole) (arg7 : Memref sig .tc .vmem S1x208x112 .bf16) (harg7 : arg7.IsWhole) (arg8 : Memref sig .tc .vmem S256x208 .bf16) (harg8 : arg8.IsWhole) (arg9 : Memref sig .tc .vmem S80x160 .bf16) (harg9 : arg9.IsWhole) (arg10 : Memref sig .tc .vmem S16x240 .bf16) (harg10 : arg10.IsWhole) (arg11 : Memref sig .tc .vmem S3x3x40x128 .f32) (harg11 : arg11.IsWhole) (arg12 : Memref sig .tc .vmem S5x112x128 .f32) (harg12 : arg12.IsWhole) (arg13 : Memref sig .tc .vmem S208x128 .f32) (harg13 : arg13.IsWhole) (arg14 : Memref sig .tc .vmem S128x256 .bf16) (harg14 : arg14.IsWhole) (arg15 : Memref sig .tc .vmem S16x240 .f32) (harg15 : arg15.IsWhole) (arg16 : Memref sig .tc .vmem S80x160 .f32) (harg16 : arg16.IsWhole) (arg17 : Memref sig .tc .vmem S208x224 .f32) (harg17 : arg17.IsWhole) (arg18 : Memref sig .tc .vmem S8x112x208 .f32) (harg18 : arg18.IsWhole) (arg19 : Memref sig .tc .vmem S15x112x256 .bf16) (harg19 : arg19.IsWhole) (arg20 : Memref sig .tc .vmem S3x640x256 .bf16) (harg20 : arg20.IsWhole) (arg21 : Memref sig .tc .vmem S15x224x256 .bf16) (harg21 : arg21.IsWhole) (arg22 : Memref sig .tc .vmem S15x208x256 .bf16) (harg22 : arg22.IsWhole) (arg23 : Memref sig .tc .vmem S15x208x256 .bf16) (harg23 : arg23.IsWhole) (arg24 : Memref sig .tc .vmem S3x2x5x128x256 .bf16) (harg24 : arg24.IsWhole) (arg25 : Memref sig .tc .vmem S8x240x256 .bf16) (harg25 : arg25.IsWhole) (hc0 : cond0_0 i) (hc1 : cond0_1 i)     (x0 : Vec Ideal S128x256 .bf16) (x1 : Vec Ideal S15x108x256 .fp8e5m2) (x2 : Vec Ideal S1x256 .f32) (x3 : Vec Ideal S280x160 .bf16) (x4 : Vec Ideal S208x224 .bf16) (x5 : Vec Ideal S1x208x112 .bf16) (x6 : Vec Ideal S256x208 .bf16) (x7 : Vec Ideal S80x160 .bf16) (x8 : Vec Ideal S16x240 .bf16) (x9 : Vec Ideal S3x3x40x128 .f32) (x10 : Vec Ideal S5x112x128 .f32) (x11 : Vec Ideal S208x128 .f32)
    {sig' : RefSig} {κ : Kind} {sp : Space} (v : View sig' κ sp S208x224 .f32) (f) (y : S208x224.Idx) :
    v.read (Elt Ideal) (v.writes (Elt Ideal) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11).2.2.2.1) y
      = ((0 + ∑ g : Fin 5, t3 x0 x3 x9 x10 x1 x2 x5 (0 + g.val) (y 0).val (y 1).val) + ∑ g : Fin 5, t3 x0 x3 x9 x10 x1 x2 x5 (5 + g.val) (y 0).val (y 1).val) + ∑ g : Fin 5, t3 x0 x3 x9 x10 x1 x2 x5 (10 + g.val) (y 0).val (y 1).val := by
  simp only [Fin.sum_univ_five]
  revert y
  unfold kernelRun0_A
  dsimp only
  delta kernelRun0_A.sl.r_136 kernelRun0_A.sl.r_135 kernelRun0_A.sl.v2567 kernelRun0_A.sl.v2642 kernelRun0_A.sl.v2582 kernelRun0_A.sl.v2655 kernelRun0_A.sl.v2597 kernelRun0_A.sl.v2668 kernelRun0_A.sl.v2612 kernelRun0_A.sl.v2681 kernelRun0_A.sl.v2627 kernelRun0_A.sl.v2694 kernelRun0_A.sl.v2734 kernelRun0_A.sl.H15_3 kernelRun0_A.sl.r_90 kernelRun0_A.sl.v1599 kernelRun0_A.sl.v1674 kernelRun0_A.sl.v1614 kernelRun0_A.sl.v1687 kernelRun0_A.sl.v1629 kernelRun0_A.sl.v1700 kernelRun0_A.sl.v1644 kernelRun0_A.sl.v1713 kernelRun0_A.sl.v1659 kernelRun0_A.sl.v1726 kernelRun0_A.sl.v1766 kernelRun0_A.sl.H15_2 kernelRun0_A.sl.r_40 kernelRun0_A.sl.v631 kernelRun0_A.sl.v706 kernelRun0_A.sl.v646 kernelRun0_A.sl.v719 kernelRun0_A.sl.v661 kernelRun0_A.sl.v732 kernelRun0_A.sl.v676 kernelRun0_A.sl.v745 kernelRun0_A.sl.v691 kernelRun0_A.sl.v758 kernelRun0_A.sl.v798 kernelRun0_A.sl.H15_1
  dsimp only [k0_pay337, k0_pay226, k0_pay111, k0_pay20, k0_pay112, k0_pay227, k0_pay338]
  refine read_top ?_
  refine has_add (has_old3 ?_) ?_
  on_goal 2 =>
    iterate 4
      refine has_add ?_ ?_
      on_goal 2 => exact has_mm3 (fun _ => loadq3 (q3_15 c arg3 harg3 arg4 harg4 arg7 harg7 x1 x2 x5) (by decide) _) (fun _ => load3 (l3_30 c arg2 harg2 arg5 harg5 arg11 harg11 arg12 harg12 arg20 x0 x3 x9 x10) (by decide) _)
    exact has_mm3 (fun _ => loadq3 (q3_15 c arg3 harg3 arg4 harg4 arg7 harg7 x1 x2 x5) (by decide) _) (fun _ => load3 (l3_30 c arg2 harg2 arg5 harg5 arg11 harg11 arg12 harg12 arg20 x0 x3 x9 x10) (by decide) _)
  refine has_topw ?_
  refine has_add (has_old3 ?_) ?_
  on_goal 2 =>
    iterate 4
      refine has_add ?_ ?_
      on_goal 2 => exact has_mm3 (fun _ => loadq3 (q3_10 c arg3 harg3 arg4 harg4 arg7 harg7 x1 x2 x5) (by decide) _) (fun _ => load3 (l3_20 c arg2 harg2 arg5 harg5 arg11 harg11 arg12 harg12 arg20 x0 x3 x9 x10) (by decide) _)
    exact has_mm3 (fun _ => loadq3 (q3_10 c arg3 harg3 arg4 harg4 arg7 harg7 x1 x2 x5) (by decide) _) (fun _ => load3 (l3_20 c arg2 harg2 arg5 harg5 arg11 harg11 arg12 harg12 arg20 x0 x3 x9 x10) (by decide) _)
  refine has_topw ?_
  refine has_add (has_old3 ?_) ?_
  on_goal 2 =>
    iterate 4
      refine has_add ?_ ?_
      on_goal 2 => exact has_mm3 (fun _ => loadq3 (q3_5 c arg3 harg3 arg4 harg4 arg7 harg7 x1 x2 x5) (by decide) _) (fun _ => load3 (l3_10 c arg2 harg2 arg5 harg5 arg11 harg11 arg12 harg12 arg20 x0 x3 x9 x10) (by decide) _)
    exact has_mm3 (fun _ => loadq3 (q3_5 c arg3 harg3 arg4 harg4 arg7 harg7 x1 x2 x5) (by decide) _) (fun _ => load3 (l3_10 c arg2 harg2 arg5 harg5 arg11 harg11 arg12 harg12 arg20 x0 x3 x9 x10) (by decide) _)
  exact fun y => has_topw has_zero y

set_option maxHeartbeats 400000 in
/-- The fourth core's gradient after the point: what it held, and in the point's block the point's terms. -/
theorem dg4_acc (c : Dev nD) (i : grid0.Coords) (arg2 : Memref sig .tc .vmem S128x256 .bf16) (harg2 : arg2.IsWhole) (arg3 : Memref sig .tc .vmem S15x108x256 .fp8e5m2) (harg3 : arg3.IsWhole) (arg4 : Memref sig .tc .vmem S1x256 .f32) (harg4 : arg4.IsWhole) (arg5 : Memref sig .tc .vmem S280x160 .bf16) (harg5 : arg5.IsWhole) (arg6 : Memref sig .tc .vmem S208x224 .bf16) (harg6 : arg6.IsWhole) (arg7 : Memref sig .tc .vmem S1x208x112 .bf16) (harg7 : arg7.IsWhole) (arg8 : Memref sig .tc .vmem S256x208 .bf16) (harg8 : arg8.IsWhole) (arg9 : Memref sig .tc .vmem S80x160 .bf16) (harg9 : arg9.IsWhole) (arg10 : Memref sig .tc .vmem S16x240 .bf16) (harg10 : arg10.IsWhole) (arg11 : Memref sig .tc .vmem S3x3x40x128 .f32) (harg11 : arg11.IsWhole) (arg12 : Memref sig .tc .vmem S5x112x128 .f32) (harg12 : arg12.IsWhole) (arg13 : Memref sig .tc .vmem S208x128 .f32) (harg13 : arg13.IsWhole) (arg14 : Memref sig .tc .vmem S128x256 .bf16) (harg14 : arg14.IsWhole) (arg15 : Memref sig .tc .vmem S16x240 .f32) (harg15 : arg15.IsWhole) (arg16 : Memref sig .tc .vmem S80x160 .f32) (harg16 : arg16.IsWhole) (arg17 : Memref sig .tc .vmem S208x224 .f32) (harg17 : arg17.IsWhole) (arg18 : Memref sig .tc .vmem S8x112x208 .f32) (harg18 : arg18.IsWhole) (arg19 : Memref sig .tc .vmem S15x112x256 .bf16) (harg19 : arg19.IsWhole) (arg20 : Memref sig .tc .vmem S3x640x256 .bf16) (harg20 : arg20.IsWhole) (arg21 : Memref sig .tc .vmem S15x224x256 .bf16) (harg21 : arg21.IsWhole) (arg22 : Memref sig .tc .vmem S15x208x256 .bf16) (harg22 : arg22.IsWhole) (arg23 : Memref sig .tc .vmem S15x208x256 .bf16) (harg23 : arg23.IsWhole) (arg24 : Memref sig .tc .vmem S3x2x5x128x256 .bf16) (harg24 : arg24.IsWhole) (arg25 : Memref sig .tc .vmem S8x240x256 .bf16) (harg25 : arg25.IsWhole) (hc0 : cond0_0 i) (hc1 : cond0_1 i)     (x0 : Vec Ideal S128x256 .bf16) (x1 : Vec Ideal S15x108x256 .fp8e5m2) (x2 : Vec Ideal S1x256 .f32) (x3 : Vec Ideal S280x160 .bf16) (x4 : Vec Ideal S208x224 .bf16) (x5 : Vec Ideal S1x208x112 .bf16) (x6 : Vec Ideal S256x208 .bf16) (x7 : Vec Ideal S80x160 .bf16) (x8 : Vec Ideal S16x240 .bf16) (x9 : Vec Ideal S3x3x40x128 .f32) (x10 : Vec Ideal S5x112x128 .f32) (x11 : Vec Ideal S208x128 .f32)
    {sig' : RefSig} {κ : Kind} {sp : Space} (v : View sig' κ sp S8x112x208 .f32) (f) (y : S8x112x208.Idx) :
    v.read (Elt Ideal) (v.writes (Elt Ideal) f (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11).2.2.2.2.1) y
      = if (y 0).val = (i 1).val then
          ((0 + ∑ g : Fin 5, t4 x0 x3 x4 x9 x10 x11 (gd x1 x2) (0 + g.val) (y 1).val (y 2).val) + ∑ g : Fin 5, t4 x0 x3 x4 x9 x10 x11 (gd x1 x2) (5 + g.val) (y 1).val (y 2).val) + ∑ g : Fin 5, t4 x0 x3 x4 x9 x10 x11 (gd x1 x2) (10 + g.val) (y 1).val (y 2).val
        else 0 := by
  unfold kernelRun0_A
  dsimp only
  delta kernelRun0_A.sl.r_139 kernelRun0_A.sl.v2818 kernelRun0_A.sl.v2820 kernelRun0_A.sl.v2823 kernelRun0_A.sl.v2825 kernelRun0_A.sl.v2829 kernelRun0_A.sl.v2831 kernelRun0_A.sl.v2835 kernelRun0_A.sl.v2837 kernelRun0_A.sl.r_140 kernelRun0_A.sl.v2841 kernelRun0_A.sl.v2843 kernelRun0_A.sl.v2848 kernelRun0_A.sl.H16_3 kernelRun0_A.sl.r_94 kernelRun0_A.sl.v1850 kernelRun0_A.sl.v1852 kernelRun0_A.sl.v1855 kernelRun0_A.sl.v1857 kernelRun0_A.sl.v1861 kernelRun0_A.sl.v1863 kernelRun0_A.sl.r_95 kernelRun0_A.sl.v1867 kernelRun0_A.sl.v1869 kernelRun0_A.sl.v1873 kernelRun0_A.sl.v1875 kernelRun0_A.sl.v1880 kernelRun0_A.sl.H16_2 kernelRun0_A.sl.r_44 kernelRun0_A.sl.v882 kernelRun0_A.sl.v884 kernelRun0_A.sl.v887 kernelRun0_A.sl.v889 kernelRun0_A.sl.v893 kernelRun0_A.sl.v895 kernelRun0_A.sl.v899 kernelRun0_A.sl.v901 kernelRun0_A.sl.v905 kernelRun0_A.sl.v907 kernelRun0_A.sl.H16_1
  dsimp only [k0_pay349, k0_pay350, k0_pay239, k0_pay240, k0_pay124, k0_pay21, k0_pay125, k0_pay241, k0_pay351]
  refine read_block4 (k0_off1_eq i) (fun hy => ?_) (fun hy => ?_)
  · refine Eq.trans (has_acc4 (f := fun z => ((fun _ : S1x112x208.Idx => (0 : EReal)) z + (fun z : S112x208.Idx => ∑ g : Fin 5, t4 x0 x3 x4 x9 x10 x11 (gd x1 x2) (0 + g.val) (z 0).val (z 1).val) (ix2 (z 1) (z 2))) + (fun z : S112x208.Idx => ∑ g : Fin 5, t4 x0 x3 x4 x9 x10 x11 (gd x1 x2) (5 + g.val) (z 0).val (z 1).val) (ix2 (z 1) (z 2))) (g := (fun z : S112x208.Idx => ∑ g : Fin 5, t4 x0 x3 x4 x9 x10 x11 (gd x1 x2) (10 + g.val) (z 0).val (z 1).val)) (has_top (s := S8x112x208) (size := S1x112x208.size) (has_acc4 (f := fun z => (fun _ : S1x112x208.Idx => (0 : EReal)) z + (fun z : S112x208.Idx => ∑ g : Fin 5, t4 x0 x3 x4 x9 x10 x11 (gd x1 x2) (0 + g.val) (z 0).val (z 1).val) (ix2 (z 1) (z 2))) (g := (fun z : S112x208.Idx => ∑ g : Fin 5, t4 x0 x3 x4 x9 x10 x11 (gd x1 x2) (5 + g.val) (z 0).val (z 1).val)) (has_top (s := S8x112x208) (size := S1x112x208.size) (has_acc4 (f := (fun _ : S1x112x208.Idx => (0 : EReal))) (g := (fun z : S112x208.Idx => ∑ g : Fin 5, t4 x0 x3 x4 x9 x10 x11 (gd x1 x2) (0 + g.val) (z 0).val (z 1).val)) ?_ ?_)) ?_)) ?_ _) ?_
    · exact has_zero_block (s := S8x112x208) (size := S1x112x208.size) (by decide) has_zero
    · simp only [Fin.sum_univ_five]
      iterate 4
        refine has_add ?_ ?_
        on_goal 2 => exact has_mm4 (fun _ => loadD (d_15 c arg3 harg3 arg4 harg4 x1 x2) _) (fun _ => load4 (l4_5 c arg2 harg2 arg5 harg5 arg6 harg6 arg11 harg11 arg12 harg12 arg13 harg13 arg20 arg21 x0 x3 x4 x9 x10 x11) (by decide) _)
      exact has_mm4 (fun _ => loadD (d_15 c arg3 harg3 arg4 harg4 x1 x2) _) (fun _ => load4 (l4_5 c arg2 harg2 arg5 harg5 arg6 harg6 arg11 harg11 arg12 harg12 arg13 harg13 arg20 arg21 x0 x3 x4 x9 x10 x11) (by decide) _)
    · simp only [Fin.sum_univ_five]
      iterate 4
        refine has_add ?_ ?_
        on_goal 2 => exact has_mm4 (fun _ => loadD (d_15 c arg3 harg3 arg4 harg4 x1 x2) _) (fun _ => load4 (l4_10 c arg2 harg2 arg5 harg5 arg6 harg6 arg11 harg11 arg12 harg12 arg13 harg13 arg20 arg21 x0 x3 x4 x9 x10 x11) (by decide) _)
      exact has_mm4 (fun _ => loadD (d_15 c arg3 harg3 arg4 harg4 x1 x2) _) (fun _ => load4 (l4_10 c arg2 harg2 arg5 harg5 arg6 harg6 arg11 harg11 arg12 harg12 arg13 harg13 arg20 arg21 x0 x3 x4 x9 x10 x11) (by decide) _)
    · simp only [Fin.sum_univ_five]
      iterate 4
        refine has_add ?_ ?_
        on_goal 2 => exact has_mm4 (fun _ => loadD (d_15 c arg3 harg3 arg4 harg4 x1 x2) _) (fun _ => load4 (l4_15 c arg2 harg2 arg5 harg5 arg6 harg6 arg11 harg11 arg12 harg12 arg13 harg13 arg20 arg21 x0 x3 x4 x9 x10 x11) (by decide) _)
      exact has_mm4 (fun _ => loadD (d_15 c arg3 harg3 arg4 harg4 x1 x2) _) (fun _ => load4 (l4_15 c arg2 harg2 arg5 harg5 arg6 harg6 arg11 harg11 arg12 harg12 arg13 harg13 arg20 arg21 x0 x3 x4 x9 x10 x11) (by decide) _)
    · rfl
  · exact read_block4_off (k0_off1_eq i) hy (read_block4_off (k0_off1_eq i) hy (read_top (s := S8x112x208) (e := .f32) (g := fun _ => (0 : EReal)) has_zero y))

/-- The scaled gradient the point leaves for the points after it. -/
theorem dyd_out (c : Dev nD) (i : grid0.Coords) (arg2 : Memref sig .tc .vmem S128x256 .bf16) (harg2 : arg2.IsWhole) (arg3 : Memref sig .tc .vmem S15x108x256 .fp8e5m2) (harg3 : arg3.IsWhole) (arg4 : Memref sig .tc .vmem S1x256 .f32) (harg4 : arg4.IsWhole) (arg5 : Memref sig .tc .vmem S280x160 .bf16) (harg5 : arg5.IsWhole) (arg6 : Memref sig .tc .vmem S208x224 .bf16) (harg6 : arg6.IsWhole) (arg7 : Memref sig .tc .vmem S1x208x112 .bf16) (harg7 : arg7.IsWhole) (arg8 : Memref sig .tc .vmem S256x208 .bf16) (harg8 : arg8.IsWhole) (arg9 : Memref sig .tc .vmem S80x160 .bf16) (harg9 : arg9.IsWhole) (arg10 : Memref sig .tc .vmem S16x240 .bf16) (harg10 : arg10.IsWhole) (arg11 : Memref sig .tc .vmem S3x3x40x128 .f32) (harg11 : arg11.IsWhole) (arg12 : Memref sig .tc .vmem S5x112x128 .f32) (harg12 : arg12.IsWhole) (arg13 : Memref sig .tc .vmem S208x128 .f32) (harg13 : arg13.IsWhole) (arg14 : Memref sig .tc .vmem S128x256 .bf16) (harg14 : arg14.IsWhole) (arg15 : Memref sig .tc .vmem S16x240 .f32) (harg15 : arg15.IsWhole) (arg16 : Memref sig .tc .vmem S80x160 .f32) (harg16 : arg16.IsWhole) (arg17 : Memref sig .tc .vmem S208x224 .f32) (harg17 : arg17.IsWhole) (arg18 : Memref sig .tc .vmem S8x112x208 .f32) (harg18 : arg18.IsWhole) (arg19 : Memref sig .tc .vmem S15x112x256 .bf16) (harg19 : arg19.IsWhole) (arg20 : Memref sig .tc .vmem S3x640x256 .bf16) (harg20 : arg20.IsWhole) (arg21 : Memref sig .tc .vmem S15x224x256 .bf16) (harg21 : arg21.IsWhole) (arg22 : Memref sig .tc .vmem S15x208x256 .bf16) (harg22 : arg22.IsWhole) (arg23 : Memref sig .tc .vmem S15x208x256 .bf16) (harg23 : arg23.IsWhole) (arg24 : Memref sig .tc .vmem S3x2x5x128x256 .bf16) (harg24 : arg24.IsWhole) (arg25 : Memref sig .tc .vmem S8x240x256 .bf16) (harg25 : arg25.IsWhole) (hc0 : cond0_0 i) (hc1 : cond0_1 i)     (x0 : Vec Ideal S128x256 .bf16) (x1 : Vec Ideal S15x108x256 .fp8e5m2) (x2 : Vec Ideal S1x256 .f32) (x3 : Vec Ideal S280x160 .bf16) (x4 : Vec Ideal S208x224 .bf16) (x5 : Vec Ideal S1x208x112 .bf16) (x6 : Vec Ideal S256x208 .bf16) (x7 : Vec Ideal S80x160 .bf16) (x8 : Vec Ideal S16x240 .bf16) (x9 : Vec Ideal S3x3x40x128 .f32) (x10 : Vec Ideal S5x112x128 .f32) (x11 : Vec Ideal S208x128 .f32)
    {sig' : RefSig} {κ : Kind} {sp : Space} (v : View sig' κ sp S15x112x256 .bf16) :
    v.read (Elt Ideal) (v.writes (Elt Ideal) v.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11).2.2.2.2.2.1) = gd x1 x2 :=
  read_fills (d_15 c arg3 harg3 arg4 harg4 x1 x2) fun y => (y 0).isLt

end Cert.KernelIdeal.Val.CaseA
-- ==== Proof.ListsB.lean ====
module
public import proofs.«01_k».proof.Proof.Steps
public import proofs.«01_k».proof.Proof.Gen.KernelIdeal.Frame.RunB
@[expose] public section
set_option maxRecDepth 16384
set_option pp.maxSteps 300
noncomputable section
open Idealize.ShloMosaic Idealize.ShloMosaic.TcCoe Idealize.SL.Sem
namespace Cert.KernelIdeal.Val.CaseB
open Cert.KernelIdeal Cert.KernelIdeal.Gen Cert.KernelIdeal.Val

variable (c : Dev nD)
  (arg2 : Memref sig .tc .vmem S128x256 .bf16) (harg2 : arg2.IsWhole)
  (arg3 : Memref sig .tc .vmem S15x108x256 .fp8e5m2) (harg3 : arg3.IsWhole)
  (arg4 : Memref sig .tc .vmem S1x256 .f32) (harg4 : arg4.IsWhole)
  (arg5 : Memref sig .tc .vmem S280x160 .bf16) (harg5 : arg5.IsWhole)
  (arg6 : Memref sig .tc .vmem S208x224 .bf16) (harg6 : arg6.IsWhole)
  (arg7 : Memref sig .tc .vmem S1x208x112 .bf16) (harg7 : arg7.IsWhole)
  (arg8 : Memref sig .tc .vmem S256x208 .bf16) (harg8 : arg8.IsWhole)
  (arg9 : Memref sig .tc .vmem S80x160 .bf16) (harg9 : arg9.IsWhole)
  (arg10 : Memref sig .tc .vmem S16x240 .bf16) (harg10 : arg10.IsWhole)
  (arg11 : Memref sig .tc .vmem S3x3x40x128 .f32) (harg11 : arg11.IsWhole)
  (arg12 : Memref sig .tc .vmem S5x112x128 .f32) (harg12 : arg12.IsWhole)
  (arg13 : Memref sig .tc .vmem S208x128 .f32) (harg13 : arg13.IsWhole)
  (arg19 : Memref sig .tc .vmem S15x112x256 .bf16)
  (arg20 : Memref sig .tc .vmem S3x640x256 .bf16)
  (arg21 : Memref sig .tc .vmem S15x224x256 .bf16)
  (arg22 : Memref sig .tc .vmem S15x208x256 .bf16)
  (arg23 : Memref sig .tc .vmem S15x208x256 .bf16)
  (arg24 : Memref sig .tc .vmem S3x2x5x128x256 .bf16)
  (arg25 : Memref sig .tc .vmem S8x240x256 .bf16)
  (x0 : Vec Ideal S128x256 .bf16)
  (x1 : Vec Ideal S15x108x256 .fp8e5m2)
  (x2 : Vec Ideal S1x256 .f32)
  (x3 : Vec Ideal S280x160 .bf16)
  (x4 : Vec Ideal S208x224 .bf16)
  (x5 : Vec Ideal S1x208x112 .bf16)
  (x6 : Vec Ideal S256x208 .bf16)
  (x7 : Vec Ideal S80x160 .bf16)
  (x8 : Vec Ideal S16x240 .bf16)
  (x9 : Vec Ideal S3x3x40x128 .f32)
  (x10 : Vec Ideal S5x112x128 .f32)
  (x11 : Vec Ideal S208x128 .f32)

set_option maxHeartbeats 400000 in
/-- What the scratch array of the first contraction holds after group 1 of its stores. -/
theorem l2_16 :
    Fills key2 (g2 x0 x9) (kernelRun0_B.sl.HS1_16 c arg2 harg2 arg11 harg11 x0 x9) 16 := by
  unfold kernelRun0_B.sl.HS1_16
  delta kernelRun0_B.sl.r_19 kernelRun0_B.sl.r_1 kernelRun0_B.sl.r_20 kernelRun0_B.sl.r_18 kernelRun0_B.sl.r_16 kernelRun0_B.sl.r_17 kernelRun0_B.sl.r_15 kernelRun0_B.sl.r_12 kernelRun0_B.sl.r_13 kernelRun0_B.sl.r_14 kernelRun0_B.sl.r_11 kernelRun0_B.sl.r_8 kernelRun0_B.sl.r_9 kernelRun0_B.sl.r_10 kernelRun0_B.sl.r_6 kernelRun0_B.sl.r_7 kernelRun0_B.sl.r_5 kernelRun0_B.sl.r_3 kernelRun0_B.sl.r_4 kernelRun0_B.sl.r_2
  dsimp only
  iterate 16
    refine l2_step ⟨rfl, by decide⟩ (by rfl) (by rfl) (by rfl) (fun _ => ld_bf16 _ _ _ _ _ _) (fun _ => ld_f32 _ _ _ _ _ _) (fun _ => ld_f32 _ _ _ _ _ _) (fun _ => ld_f32 _ _ _ _ _ _) ?_
  exact Fills.nil _ _

set_option maxHeartbeats 400000 in
/-- What the scratch array of the first contraction holds after group 2 of its stores. -/
theorem l2_32 :
    Fills key2 (g2 x0 x9) (kernelRun0_B.sl.HS1_32 c arg2 harg2 arg11 harg11 x0 x9) 32 := by
  unfold kernelRun0_B.sl.HS1_32
  delta kernelRun0_B.sl.r_68 kernelRun0_B.sl.r_47 kernelRun0_B.sl.r_69 kernelRun0_B.sl.r_65 kernelRun0_B.sl.r_66 kernelRun0_B.sl.r_67 kernelRun0_B.sl.r_64 kernelRun0_B.sl.r_62 kernelRun0_B.sl.r_63 kernelRun0_B.sl.r_60 kernelRun0_B.sl.r_61 kernelRun0_B.sl.r_57 kernelRun0_B.sl.r_58 kernelRun0_B.sl.r_59 kernelRun0_B.sl.r_56 kernelRun0_B.sl.r_54 kernelRun0_B.sl.r_55 kernelRun0_B.sl.r_51 kernelRun0_B.sl.r_52 kernelRun0_B.sl.r_53 kernelRun0_B.sl.r_50 kernelRun0_B.sl.r_48 kernelRun0_B.sl.r_49
  dsimp only
  iterate 16
    refine l2_step ⟨rfl, by decide⟩ (by rfl) (by rfl) (by rfl) (fun _ => ld_bf16 _ _ _ _ _ _) (fun _ => ld_f32 _ _ _ _ _ _) (fun _ => ld_f32 _ _ _ _ _ _) (fun _ => ld_f32 _ _ _ _ _ _) ?_
  exact l2_16 c arg2 harg2 arg11 harg11 x0 x9

set_option maxHeartbeats 400000 in
/-- What the scratch array of the first contraction holds after group 3 of its stores. -/
theorem l2_48 :
    Fills key2 (g2 x0 x9) (kernelRun0_B.sl.HS1_48 c arg2 harg2 arg11 harg11 x0 x9) 48 := by
  unfold kernelRun0_B.sl.HS1_48
  delta kernelRun0_B.sl.r_120 kernelRun0_B.sl.r_99 kernelRun0_B.sl.r_118 kernelRun0_B.sl.r_119 kernelRun0_B.sl.r_116 kernelRun0_B.sl.r_117 kernelRun0_B.sl.r_115 kernelRun0_B.sl.r_113 kernelRun0_B.sl.r_114 kernelRun0_B.sl.r_111 kernelRun0_B.sl.r_112 kernelRun0_B.sl.r_108 kernelRun0_B.sl.r_109 kernelRun0_B.sl.r_110 kernelRun0_B.sl.r_107 kernelRun0_B.sl.r_105 kernelRun0_B.sl.r_106 kernelRun0_B.sl.r_103 kernelRun0_B.sl.r_104 kernelRun0_B.sl.r_102 kernelRun0_B.sl.r_100 kernelRun0_B.sl.r_101
  dsimp only
  iterate 16
    refine l2_step ⟨rfl, by decide⟩ (by rfl) (by rfl) (by rfl) (fun _ => ld_bf16 _ _ _ _ _ _) (fun _ => ld_f32 _ _ _ _ _ _) (fun _ => ld_f32 _ _ _ _ _ _) (fun _ => ld_f32 _ _ _ _ _ _) ?_
  exact l2_32 c arg2 harg2 arg11 harg11 x0 x9

set_option maxHeartbeats 400000 in
/-- What the scratch array of the second contraction holds after group 1 of its stores. -/
theorem l3_10 :
    Fills key3 (g3 x0 x3 x9 x10) (kernelRun0_B.sl.HS2_10 c arg2 harg2 arg5 harg5 arg11 harg11 arg12 harg12 arg20 x0 x3 x9 x10) 10 := by
  unfold kernelRun0_B.sl.HS2_10
  delta kernelRun0_B.sl.r_26 kernelRun0_B.sl.v566 kernelRun0_B.sl.r_29 kernelRun0_B.sl.r_27 kernelRun0_B.sl.r_28 kernelRun0_B.sl.v571 kernelRun0_B.sl.r_30 kernelRun0_B.sl.r_23 kernelRun0_B.sl.v501 kernelRun0_B.sl.r_24 kernelRun0_B.sl.v506 kernelRun0_B.sl.r_25
  dsimp only
  iterate 10
    refine l3_step ⟨rfl, by decide⟩ (by rfl) (by rfl) (by rfl) (by rfl) (by rfl) (by rfl) (fun _ => ld_bf16 _ _ _ _ _ _) (fun _ => ld_bf16 _ _ _ _ _ _)
      (fun _ => load2 (l2_16 c arg2 harg2 arg11 harg11 x0 x9) (by decide) _) (fun _ => load2 (l2_16 c arg2 harg2 arg11 harg11 x0 x9) (by decide) _) (fun _ => ld_f32 _ _ _ _ _ _) ?_
  exact Fills.nil _ _

set_option maxHeartbeats 400000 in
/-- What the scratch array of the second contraction holds after group 2 of its stores. -/
theorem l3_20 :
    Fills key3 (g3 x0 x3 x9 x10) (kernelRun0_B.sl.HS2_20 c arg2 harg2 arg5 harg5 arg11 harg11 arg12 harg12 arg20 x0 x3 x9 x10) 20 := by
  unfold kernelRun0_B.sl.HS2_20
  delta kernelRun0_B.sl.r_81 kernelRun0_B.sl.r_78 kernelRun0_B.sl.v1534 kernelRun0_B.sl.r_79 kernelRun0_B.sl.v1539 kernelRun0_B.sl.r_80 kernelRun0_B.sl.r_73 kernelRun0_B.sl.v1469 kernelRun0_B.sl.r_74 kernelRun0_B.sl.v1474 kernelRun0_B.sl.r_77 kernelRun0_B.sl.r_75 kernelRun0_B.sl.r_76
  dsimp only
  iterate 10
    refine l3_step ⟨rfl, by decide⟩ (by rfl) (by rfl) (by rfl) (by rfl) (by rfl) (by rfl) (fun _ => ld_bf16 _ _ _ _ _ _) (fun _ => ld_bf16 _ _ _ _ _ _)
      (fun _ => load2 (l2_32 c arg2 harg2 arg11 harg11 x0 x9) (by decide) _) (fun _ => load2 (l2_32 c arg2 harg2 arg11 harg11 x0 x9) (by decide) _) (fun _ => ld_f32 _ _ _ _ _ _) ?_
  exact l3_10 c arg2 harg2 arg5 harg5 arg11 harg11 arg12 harg12 arg20 x0 x3 x9 x10

set_option maxHeartbeats 400000 in
/-- What the scratch array of the second contraction holds after group 3 of its stores. -/
theorem l3_30 :
    Fills key3 (g3 x0 x3 x9 x10) (kernelRun0_B.sl.HS2_30 c arg2 harg2 arg5 harg5 arg11 harg11 arg12 harg12 arg20 x0 x3 x9 x10) 30 := by
  unfold kernelRun0_B.sl.HS2_30
  delta kernelRun0_B.sl.r_127 kernelRun0_B.sl.v2502 kernelRun0_B.sl.r_128 kernelRun0_B.sl.v2507 kernelRun0_B.sl.r_129 kernelRun0_B.sl.r_126 kernelRun0_B.sl.r_123 kernelRun0_B.sl.v2437 kernelRun0_B.sl.r_124 kernelRun0_B.sl.v2442 kernelRun0_B.sl.r_125
  dsimp only
  iterate 10
    refine l3_step ⟨rfl, by decide⟩ (by rfl) (by rfl) (by rfl) (by rfl) (by rfl) (by rfl) (fun _ => ld_bf16 _ _ _ _ _ _) (fun _ => ld_bf16 _ _ _ _ _ _)
      (fun _ => load2 (l2_48 c arg2 harg2 arg11 harg11 x0 x9) (by decide) _) (fun _ => load2 (l2_48 c arg2 harg2 arg11 harg11 x0 x9) (by decide) _) (fun _ => ld_f32 _ _ _ _ _ _) ?_
  exact l3_20 c arg2 harg2 arg5 harg5 arg11 harg11 arg12 harg12 arg20 x0 x3 x9 x10

set_option maxHeartbeats 400000 in
/-- What the scratch array of the third contraction holds after group 1 of its stores. -/
theorem l4_5 :
    Fills key4 (g4 x0 x3 x4 x9 x10 x11) (kernelRun0_B.sl.HS3_5 c arg2 harg2 arg5 harg5 arg6 harg6 arg11 harg11 arg12 harg12 arg13 harg13 arg20 arg21 x0 x3 x4 x9 x10 x11) 5 := by
  unfold kernelRun0_B.sl.HS3_5
  delta kernelRun0_B.sl.r_36 kernelRun0_B.sl.v758 kernelRun0_B.sl.v745 kernelRun0_B.sl.v732 kernelRun0_B.sl.r_35 kernelRun0_B.sl.v719 kernelRun0_B.sl.v706
  dsimp only
  iterate 5
    refine l4_step (by rfl) (fun _ => ld_bf16 _ _ _ _ _ _) (fun _ => load3 (l3_10 c arg2 harg2 arg5 harg5 arg11 harg11 arg12 harg12 arg20 x0 x3 x9 x10) (by decide) _) (fun _ => ld_f32 _ _ _ _ _ _) ?_
  exact Fills.nil _ _

set_option maxHeartbeats 400000 in
/-- What the scratch array of the third contraction holds after group 2 of its stores. -/
theorem l4_10 :
    Fills key4 (g4 x0 x3 x4 x9 x10 x11) (kernelRun0_B.sl.HS3_10 c arg2 harg2 arg5 harg5 arg6 harg6 arg11 harg11 arg12 harg12 arg13 harg13 arg20 arg21 x0 x3 x4 x9 x10 x11) 10 := by
  unfold kernelRun0_B.sl.HS3_10
  delta kernelRun0_B.sl.r_87 kernelRun0_B.sl.v1726 kernelRun0_B.sl.v1713 kernelRun0_B.sl.r_85 kernelRun0_B.sl.r_86 kernelRun0_B.sl.v1700 kernelRun0_B.sl.v1687 kernelRun0_B.sl.v1674
  dsimp only
  iterate 5
    refine l4_step (by rfl) (fun _ => ld_bf16 _ _ _ _ _ _) (fun _ => load3 (l3_20 c arg2 harg2 arg5 harg5 arg11 harg11 arg12 harg12 arg20 x0 x3 x9 x10) (by decide) _) (fun _ => ld_f32 _ _ _ _ _ _) ?_
  exact l4_5 c arg2 harg2 arg5 harg5 arg6 harg6 arg11 harg11 arg12 harg12 arg13 harg13 arg20 arg21 x0 x3 x4 x9 x10 x11

set_option maxHeartbeats 400000 in
/-- What the scratch array of the third contraction holds after group 3 of its stores. -/
theorem l4_15 :
    Fills key4 (g4 x0 x3 x4 x9 x10 x11) (kernelRun0_B.sl.HS3_15 c arg2 harg2 arg5 harg5 arg6 harg6 arg11 harg11 arg12 harg12 arg13 harg13 arg20 arg21 x0 x3 x4 x9 x10 x11) 15 := by
  unfold kernelRun0_B.sl.HS3_15
  delta kernelRun0_B.sl.v2694 kernelRun0_B.sl.v2681 kernelRun0_B.sl.v2668 kernelRun0_B.sl.v2655 kernelRun0_B.sl.r_132 kernelRun0_B.sl.v2642
  dsimp only
  iterate 5
    refine l4_step (by rfl) (fun _ => ld_bf16 _ _ _ _ _ _) (fun _ => load3 (l3_30 c arg2 harg2 arg5 harg5 arg11 harg11 arg12 harg12 arg20 x0 x3 x9 x10) (by decide) _) (fun _ => ld_f32 _ _ _ _ _ _) ?_
  exact l4_10 c arg2 harg2 arg5 harg5 arg6 harg6 arg11 harg11 arg12 harg12 arg13 harg13 arg20 arg21 x0 x3 x4 x9 x10 x11

set_option maxHeartbeats 400000 in
/-- What the scratch array of the fourth transposed product holds after group 1 of its stores. -/
theorem q3_5 :
    Fills key4 (gq3 x1 x2 x5) (kernelRun0_B.sl.HS4_5 c arg3 harg3 arg4 harg4 arg7 harg7 x1 x2 x5) 5 := by
  unfold kernelRun0_B.sl.HS4_5
  delta kernelRun0_B.sl.r kernelRun0_B.sl.r_22 kernelRun0_B.sl.r_21
  dsimp only
  iterate 5
    refine q3_step (by rfl) (fun _ => ld_f32 _ _ _ _ _ _) (fun _ => ld_bf16 _ _ _ _ _ _) (fun _ => ld_fp8e5m2 _ _ _ _ _ _) ?_
  exact Fills.nil _ _

set_option maxHeartbeats 400000 in
/-- What the scratch array of the fourth transposed product holds after group 2 of its stores. -/
theorem q3_10 :
    Fills key4 (gq3 x1 x2 x5) (kernelRun0_B.sl.HS4_10 c arg3 harg3 arg4 harg4 arg7 harg7 x1 x2 x5) 10 := by
  unfold kernelRun0_B.sl.HS4_10
  delta kernelRun0_B.sl.r kernelRun0_B.sl.r_72 kernelRun0_B.sl.r_70 kernelRun0_B.sl.r_71
  dsimp only
  iterate 5
    refine q3_step (by rfl) (fun _ => ld_f32 _ _ _ _ _ _) (fun _ => ld_bf16 _ _ _ _ _ _) (fun _ => ld_fp8e5m2 _ _ _ _ _ _) ?_
  exact q3_5 c arg3 harg3 arg4 harg4 arg7 harg7 x1 x2 x5

set_option maxHeartbeats 400000 in
/-- What the scratch array of the fourth transposed product holds after group 3 of its stores. -/
theorem q3_15 :
    Fills key4 (gq3 x1 x2 x5) (kernelRun0_B.sl.HS4_15 c arg3 harg3 arg4 harg4 arg7 harg7 x1 x2 x5) 15 := by
  unfold kernelRun0_B.sl.HS4_15
  delta kernelRun0_B.sl.r kernelRun0_B.sl.r_121 kernelRun0_B.sl.r_122 kernelRun0_B.sl.r_22
  dsimp only
  iterate 5
    refine q3_step (by rfl) (fun _ => ld_f32 _ _ _ _ _ _) (fun _ => ld_bf16 _ _ _ _ _ _) (fun _ => ld_fp8e5m2 _ _ _ _ _ _) ?_
  exact q3_10 c arg3 harg3 arg4 harg4 arg7 harg7 x1 x2 x5

set_option maxHeartbeats 400000 in
/-- What the scratch array of the third transposed product holds after group 1 of its stores. -/
theorem q2_10 :
    Fills keyr2 (gq2 x1 x2 x5 x6) (kernelRun0_B.sl.HS5_10 c arg3 harg3 arg4 harg4 arg7 harg7 arg8 harg8 arg23 x1 x2 x5 x6) 10 := by
  unfold kernelRun0_B.sl.HS5_10
  delta kernelRun0_B.sl.r_33 kernelRun0_B.sl.v691 kernelRun0_B.sl.r_34 kernelRun0_B.sl.v676 kernelRun0_B.sl.r_32 kernelRun0_B.sl.v661 kernelRun0_B.sl.v646 kernelRun0_B.sl.r_31 kernelRun0_B.sl.v631
  dsimp only
  iterate 10
    refine q2_step ⟨rfl, by decide⟩ (by rfl) (by rfl) (by rfl) (fun _ => ld_bf16 _ _ _ _ _ _) (fun _ => loadq3 (q3_5 c arg3 harg3 arg4 harg4 arg7 harg7 x1 x2 x5) (by decide) _) ?_
  exact Fills.nil _ _

set_option maxHeartbeats 400000 in
/-- What the scratch array of the third transposed product holds after group 2 of its stores. -/
theorem q2_20 :
    Fills keyr2 (gq2 x1 x2 x5 x6) (kernelRun0_B.sl.HS5_20 c arg3 harg3 arg4 harg4 arg7 harg7 arg8 harg8 arg23 x1 x2 x5 x6) 20 := by
  unfold kernelRun0_B.sl.HS5_20
  delta kernelRun0_B.sl.v1659 kernelRun0_B.sl.r_84 kernelRun0_B.sl.v1644 kernelRun0_B.sl.v1629 kernelRun0_B.sl.r_82 kernelRun0_B.sl.v1614 kernelRun0_B.sl.r_83 kernelRun0_B.sl.v1599
  dsimp only
  iterate 10
    refine q2_step ⟨rfl, by decide⟩ (by rfl) (by rfl) (by rfl) (fun _ => ld_bf16 _ _ _ _ _ _) (fun _ => loadq3 (q3_10 c arg3 harg3 arg4 harg4 arg7 harg7 x1 x2 x5) (by decide) _) ?_
  exact q2_10 c arg3 harg3 arg4 harg4 arg7 harg7 arg8 harg8 arg23 x1 x2 x5 x6

set_option maxHeartbeats 400000 in
/-- What the scratch array of the third transposed product holds after group 3 of its stores. -/
theorem q2_30 :
    Fills keyr2 (gq2 x1 x2 x5 x6) (kernelRun0_B.sl.HS5_30 c arg3 harg3 arg4 harg4 arg7 harg7 arg8 harg8 arg23 x1 x2 x5 x6) 30 := by
  unfold kernelRun0_B.sl.HS5_30
  delta kernelRun0_B.sl.v2627 kernelRun0_B.sl.r_131 kernelRun0_B.sl.v2612 kernelRun0_B.sl.v2597 kernelRun0_B.sl.r_130 kernelRun0_B.sl.v2582 kernelRun0_B.sl.v2567
  dsimp only
  iterate 10
    refine q2_step ⟨rfl, by decide⟩ (by rfl) (by rfl) (by rfl) (fun _ => ld_bf16 _ _ _ _ _ _) (fun _ => loadq3 (q3_15 c arg3 harg3 arg4 harg4 arg7 harg7 x1 x2 x5) (by decide) _) ?_
  exact q2_20 c arg3 harg3 arg4 harg4 arg7 harg7 arg8 harg8 arg23 x1 x2 x5 x6

set_option maxHeartbeats 400000 in
/-- What the scratch array of the second transposed product holds. -/
theorem q1_24 :
    Fills keyr1 (gq1 x1 x2 x5 x6 x7) (kernelRun0_B.sl.HS6_24 c arg3 harg3 arg4 harg4 arg7 harg7 arg8 harg8 arg9 harg9 arg23 arg24 x1 x2 x5 x6 x7) 24 := by
  unfold kernelRun0_B.sl.HS6_24
  delta kernelRun0_B.sl.v2808 kernelRun0_B.sl.v2798 kernelRun0_B.sl.r_136 kernelRun0_B.sl.v2788 kernelRun0_B.sl.v2778 kernelRun0_B.sl.v2768 kernelRun0_B.sl.r_135 kernelRun0_B.sl.v2758 kernelRun0_B.sl.v2748 kernelRun0_B.sl.v2738 kernelRun0_B.sl.r_91 kernelRun0_B.sl.v1840 kernelRun0_B.sl.v1830 kernelRun0_B.sl.v1820 kernelRun0_B.sl.r_90 kernelRun0_B.sl.v1810 kernelRun0_B.sl.v1800 kernelRun0_B.sl.v1790 kernelRun0_B.sl.r_89 kernelRun0_B.sl.v1780 kernelRun0_B.sl.v1770 kernelRun0_B.sl.v872 kernelRun0_B.sl.r_39 kernelRun0_B.sl.v862 kernelRun0_B.sl.r_40 kernelRun0_B.sl.v852 kernelRun0_B.sl.v842 kernelRun0_B.sl.r_38 kernelRun0_B.sl.v832 kernelRun0_B.sl.v822 kernelRun0_B.sl.v812 kernelRun0_B.sl.v802
  dsimp only [k0_pay120, k0_pay126, k0_pay128, k0_pay237, k0_pay243, k0_pay246, k0_pay345, k0_pay355]
  iterate 8
    refine q1_step (n := 2) (by rfl) (by rfl) (by rfl) (by rfl) (fun _ => ld_bf16 _ _ _ _ _ _) (fun _ => loadq2 (q2_30 c arg3 harg3 arg4 harg4 arg7 harg7 arg8 harg8 arg23 x1 x2 x5 x6) (by decide) _) ?_
  iterate 8
    refine q1_step (n := 1) (by rfl) (by rfl) (by rfl) (by rfl) (fun _ => ld_bf16 _ _ _ _ _ _) (fun _ => loadq2 (q2_20 c arg3 harg3 arg4 harg4 arg7 harg7 arg8 harg8 arg23 x1 x2 x5 x6) (by decide) _) ?_
  iterate 8
    refine q1_step (n := 0) (by rfl) (by rfl) (by rfl) (by rfl) (fun _ => ld_bf16 _ _ _ _ _ _) (fun _ => loadq2 (q2_10 c arg3 harg3 arg4 harg4 arg7 harg7 arg8 harg8 arg23 x1 x2 x5 x6) (by decide) _) ?_
  exact Fills.nil _ _

end Cert.KernelIdeal.Val.CaseB
-- ==== Proof.AccB.lean ====
module
public import proofs.«01_k».proof.Proof.ListsB
public import proofs.«01_k».proof.Proof.AccPay
@[expose] public section
set_option maxRecDepth 16384
set_option pp.maxSteps 600
set_option pp.deepTerms false
set_option pp.deepTerms.threshold 4
noncomputable section
open Idealize.ShloMosaic Idealize.ShloMosaic.TcCoe Idealize.SL.Sem
namespace Cert.KernelIdeal.Val.CaseB
open Cert.KernelIdeal Cert.KernelIdeal.Gen Cert.KernelIdeal.Val

set_option maxHeartbeats 400000 in
/-- What the block of the input gradient holds after the point. -/
theorem dx_8 (c : Dev nD) (i : grid0.Coords) (arg2 : Memref sig .tc .vmem S128x256 .bf16) (harg2 : arg2.IsWhole) (arg3 : Memref sig .tc .vmem S15x108x256 .fp8e5m2) (harg3 : arg3.IsWhole) (arg4 : Memref sig .tc .vmem S1x256 .f32) (harg4 : arg4.IsWhole) (arg5 : Memref sig .tc .vmem S280x160 .bf16) (harg5 : arg5.IsWhole) (arg6 : Memref sig .tc .vmem S208x224 .bf16) (harg6 : arg6.IsWhole) (arg7 : Memref sig .tc .vmem S1x208x112 .bf16) (harg7 : arg7.IsWhole) (arg8 : Memref sig .tc .vmem S256x208 .bf16) (harg8 : arg8.IsWhole) (arg9 : Memref sig .tc .vmem S80x160 .bf16) (harg9 : arg9.IsWhole) (arg10 : Memref sig .tc .vmem S16x240 .bf16) (harg10 : arg10.IsWhole) (arg11 : Memref sig .tc .vmem S3x3x40x128 .f32) (harg11 : arg11.IsWhole) (arg12 : Memref sig .tc .vmem S5x112x128 .f32) (harg12 : arg12.IsWhole) (arg13 : Memref sig .tc .vmem S208x128 .f32) (harg13 : arg13.IsWhole) (arg14 : Memref sig .tc .vmem S128x256 .bf16) (harg14 : arg14.IsWhole) (arg15 : Memref sig .tc .vmem S16x240 .f32) (harg15 : arg15.IsWhole) (arg16 : Memref sig .tc .vmem S80x160 .f32) (harg16 : arg16.IsWhole) (arg17 : Memref sig .tc .vmem S208x224 .f32) (harg17 : arg17.IsWhole) (arg18 : Memref sig .tc .vmem S8x112x208 .f32) (harg18 : arg18.IsWhole) (arg19 : Memref sig .tc .vmem S15x112x256 .bf16) (harg19 : arg19.IsWhole) (arg20 : Memref sig .tc .vmem S3x640x256 .bf16) (harg20 : arg20.IsWhole) (arg21 : Memref sig .tc .vmem S15x224x256 .bf16) (harg21 : arg21.IsWhole) (arg22 : Memref sig .tc .vmem S15x208x256 .bf16) (harg22 : arg22.IsWhole) (arg23 : Memref sig .tc .vmem S15x208x256 .bf16) (harg23 : arg23.IsWhole) (arg24 : Memref sig .tc .vmem S3x2x5x128x256 .bf16) (harg24 : arg24.IsWhole) (arg25 : Memref sig .tc .vmem S8x240x256 .bf16) (harg25 : arg25.IsWhole) (hc0 : ¬cond0_0 i) (hc1 : ¬cond0_1 i)     (x0 : Vec Ideal S128x256 .bf16) (x1 : Vec Ideal S15x108x256 .fp8e5m2) (x2 : Vec Ideal S1x256 .f32) (x3 : Vec Ideal S280x160 .bf16) (x4 : Vec Ideal S208x224 .bf16) (x5 : Vec Ideal S1x208x112 .bf16) (x6 : Vec Ideal S256x208 .bf16) (x7 : Vec Ideal S80x160 .bf16) (x8 : Vec Ideal S16x240 .bf16) (x9 : Vec Ideal S3x3x40x128 .f32) (x10 : Vec Ideal S5x112x128 .f32) (x11 : Vec Ideal S208x128 .f32) (xo13 : Vec Ideal S16x240 .f32) (xo14 : Vec Ideal S80x160 .f32) (xo15 : Vec Ideal S208x224 .f32) (xo16 : Vec Ideal S8x112x208 .f32) (xs0 : Vec Ideal S15x112x256 .bf16)  :
    Fills keydx (gdx x1 x2 x5 x6 x7 x8) (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo13 xo14 xo15 xo16 xs0).1 8 := by
  unfold kernelRun0_B
  dsimp only
  delta kernelRun0_B.sl.r_150 kernelRun0_B.sl.v3006 kernelRun0_B.sl.v2993 kernelRun0_B.sl.r_148 kernelRun0_B.sl.v2980 kernelRun0_B.sl.v2967 kernelRun0_B.sl.r_146 kernelRun0_B.sl.v2954 kernelRun0_B.sl.v2941 kernelRun0_B.sl.r_144 kernelRun0_B.sl.v2928 kernelRun0_B.sl.v2916
  dsimp only
  iterate 8
    refine dx_step (by rfl) (by rfl) (fun _ => ld_bf16 _ _ _ _ _ _) (fun _ => loadq1 (q1_24 c arg3 harg3 arg4 harg4 arg7 harg7 arg8 harg8 arg9 harg9 arg23 arg24 x1 x2 x5 x6 x7) (by decide) _) ?_
  exact Fills.nil _ _

set_option maxHeartbeats 400000 in
/-- The first core's gradient after the point: what it held, and the point's terms. -/
theorem dg1_acc (c : Dev nD) (i : grid0.Coords) (arg2 : Memref sig .tc .vmem S128x256 .bf16) (harg2 : arg2.IsWhole) (arg3 : Memref sig .tc .vmem S15x108x256 .fp8e5m2) (harg3 : arg3.IsWhole) (arg4 : Memref sig .tc .vmem S1x256 .f32) (harg4 : arg4.IsWhole) (arg5 : Memref sig .tc .vmem S280x160 .bf16) (harg5 : arg5.IsWhole) (arg6 : Memref sig .tc .vmem S208x224 .bf16) (harg6 : arg6.IsWhole) (arg7 : Memref sig .tc .vmem S1x208x112 .bf16) (harg7 : arg7.IsWhole) (arg8 : Memref sig .tc .vmem S256x208 .bf16) (harg8 : arg8.IsWhole) (arg9 : Memref sig .tc .vmem S80x160 .bf16) (harg9 : arg9.IsWhole) (arg10 : Memref sig .tc .vmem S16x240 .bf16) (harg10 : arg10.IsWhole) (arg11 : Memref sig .tc .vmem S3x3x40x128 .f32) (harg11 : arg11.IsWhole) (arg12 : Memref sig .tc .vmem S5x112x128 .f32) (harg12 : arg12.IsWhole) (arg13 : Memref sig .tc .vmem S208x128 .f32) (harg13 : arg13.IsWhole) (arg14 : Memref sig .tc .vmem S128x256 .bf16) (harg14 : arg14.IsWhole) (arg15 : Memref sig .tc .vmem S16x240 .f32) (harg15 : arg15.IsWhole) (arg16 : Memref sig .tc .vmem S80x160 .f32) (harg16 : arg16.IsWhole) (arg17 : Memref sig .tc .vmem S208x224 .f32) (harg17 : arg17.IsWhole) (arg18 : Memref sig .tc .vmem S8x112x208 .f32) (harg18 : arg18.IsWhole) (arg19 : Memref sig .tc .vmem S15x112x256 .bf16) (harg19 : arg19.IsWhole) (arg20 : Memref sig .tc .vmem S3x640x256 .bf16) (harg20 : arg20.IsWhole) (arg21 : Memref sig .tc .vmem S15x224x256 .bf16) (harg21 : arg21.IsWhole) (arg22 : Memref sig .tc .vmem S15x208x256 .bf16) (harg22 : arg22.IsWhole) (arg23 : Memref sig .tc .vmem S15x208x256 .bf16) (harg23 : arg23.IsWhole) (arg24 : Memref sig .tc .vmem S3x2x5x128x256 .bf16) (harg24 : arg24.IsWhole) (arg25 : Memref sig .tc .vmem S8x240x256 .bf16) (harg25 : arg25.IsWhole) (hc0 : ¬cond0_0 i) (hc1 : ¬cond0_1 i)     (x0 : Vec Ideal S128x256 .bf16) (x1 : Vec Ideal S15x108x256 .fp8e5m2) (x2 : Vec Ideal S1x256 .f32) (x3 : Vec Ideal S280x160 .bf16) (x4 : Vec Ideal S208x224 .bf16) (x5 : Vec Ideal S1x208x112 .bf16) (x6 : Vec Ideal S256x208 .bf16) (x7 : Vec Ideal S80x160 .bf16) (x8 : Vec Ideal S16x240 .bf16) (x9 : Vec Ideal S3x3x40x128 .f32) (x10 : Vec Ideal S5x112x128 .f32) (x11 : Vec Ideal S208x128 .f32) (xo13 : Vec Ideal S16x240 .f32) (xo14 : Vec Ideal S80x160 .f32) (xo15 : Vec Ideal S208x224 .f32) (xo16 : Vec Ideal S8x112x208 .f32) (xs0 : Vec Ideal S15x112x256 .bf16)
    {sig' : RefSig} {κ : Kind} {sp : Space} (v : View sig' κ sp S16x240 .f32) (f) (y : S16x240.Idx) :
    v.read (Elt Ideal) (v.writes (Elt Ideal) f (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo13 xo14 xo15 xo16 xs0).2.1) y
      = xo13 y + ∑ g : Fin 8, t1 x0 x1 x2 x5 x6 x7 g.val (y 0).val (y 1).val := by
  rw [Fin.sum_univ_eight]
  revert y
  unfold kernelRun0_B
  dsimp only
  delta kernelRun0_B.sl.r_149 kernelRun0_B.sl.r_147 kernelRun0_B.sl.r_145 kernelRun0_B.sl.r_143 kernelRun0_B.sl.v2916 kernelRun0_B.sl.v2928 kernelRun0_B.sl.v2941 kernelRun0_B.sl.v2954 kernelRun0_B.sl.v2967 kernelRun0_B.sl.v2980 kernelRun0_B.sl.v2993 kernelRun0_B.sl.v3013
  dsimp only [k0_pay358, k0_pay361, k0_pay365, k0_pay369, k0_pay1]
  refine read_top ?_
  refine has_add (has_old1 (has_whole _ _ (by decide) _)) ?_
  iterate 7
    refine has_add ?_ ?_
    on_goal 2 => exact has_mm1 (by rfl) (fun _ => ld_bf16 _ _ _ _ _ _) (fun _ => loadq1 (q1_24 c arg3 harg3 arg4 harg4 arg7 harg7 arg8 harg8 arg9 harg9 arg23 arg24 x1 x2 x5 x6 x7) (by decide) _)
  exact has_mm1 (by rfl) (fun _ => ld_bf16 _ _ _ _ _ _) (fun _ => loadq1 (q1_24 c arg3 harg3 arg4 harg4 arg7 harg7 arg8 harg8 arg9 harg9 arg23 arg24 x1 x2 x5 x6 x7) (by decide) _)

set_option maxHeartbeats 400000 in
/-- The second core's gradient after the point: what it held, and the point's terms. -/
theorem dg2_acc (c : Dev nD) (i : grid0.Coords) (arg2 : Memref sig .tc .vmem S128x256 .bf16) (harg2 : arg2.IsWhole) (arg3 : Memref sig .tc .vmem S15x108x256 .fp8e5m2) (harg3 : arg3.IsWhole) (arg4 : Memref sig .tc .vmem S1x256 .f32) (harg4 : arg4.IsWhole) (arg5 : Memref sig .tc .vmem S280x160 .bf16) (harg5 : arg5.IsWhole) (arg6 : Memref sig .tc .vmem S208x224 .bf16) (harg6 : arg6.IsWhole) (arg7 : Memref sig .tc .vmem S1x208x112 .bf16) (harg7 : arg7.IsWhole) (arg8 : Memref sig .tc .vmem S256x208 .bf16) (harg8 : arg8.IsWhole) (arg9 : Memref sig .tc .vmem S80x160 .bf16) (harg9 : arg9.IsWhole) (arg10 : Memref sig .tc .vmem S16x240 .bf16) (harg10 : arg10.IsWhole) (arg11 : Memref sig .tc .vmem S3x3x40x128 .f32) (harg11 : arg11.IsWhole) (arg12 : Memref sig .tc .vmem S5x112x128 .f32) (harg12 : arg12.IsWhole) (arg13 : Memref sig .tc .vmem S208x128 .f32) (harg13 : arg13.IsWhole) (arg14 : Memref sig .tc .vmem S128x256 .bf16) (harg14 : arg14.IsWhole) (arg15 : Memref sig .tc .vmem S16x240 .f32) (harg15 : arg15.IsWhole) (arg16 : Memref sig .tc .vmem S80x160 .f32) (harg16 : arg16.IsWhole) (arg17 : Memref sig .tc .vmem S208x224 .f32) (harg17 : arg17.IsWhole) (arg18 : Memref sig .tc .vmem S8x112x208 .f32) (harg18 : arg18.IsWhole) (arg19 : Memref sig .tc .vmem S15x112x256 .bf16) (harg19 : arg19.IsWhole) (arg20 : Memref sig .tc .vmem S3x640x256 .bf16) (harg20 : arg20.IsWhole) (arg21 : Memref sig .tc .vmem S15x224x256 .bf16) (harg21 : arg21.IsWhole) (arg22 : Memref sig .tc .vmem S15x208x256 .bf16) (harg22 : arg22.IsWhole) (arg23 : Memref sig .tc .vmem S15x208x256 .bf16) (harg23 : arg23.IsWhole) (arg24 : Memref sig .tc .vmem S3x2x5x128x256 .bf16) (harg24 : arg24.IsWhole) (arg25 : Memref sig .tc .vmem S8x240x256 .bf16) (harg25 : arg25.IsWhole) (hc0 : ¬cond0_0 i) (hc1 : ¬cond0_1 i)     (x0 : Vec Ideal S128x256 .bf16) (x1 : Vec Ideal S15x108x256 .fp8e5m2) (x2 : Vec Ideal S1x256 .f32) (x3 : Vec Ideal S280x160 .bf16) (x4 : Vec Ideal S208x224 .bf16) (x5 : Vec Ideal S1x208x112 .bf16) (x6 : Vec Ideal S256x208 .bf16) (x7 : Vec Ideal S80x160 .bf16) (x8 : Vec Ideal S16x240 .bf16) (x9 : Vec Ideal S3x3x40x128 .f32) (x10 : Vec Ideal S5x112x128 .f32) (x11 : Vec Ideal S208x128 .f32) (xo13 : Vec Ideal S16x240 .f32) (xo14 : Vec Ideal S80x160 .f32) (xo15 : Vec Ideal S208x224 .f32) (xo16 : Vec Ideal S8x112x208 .f32) (xs0 : Vec Ideal S15x112x256 .bf16)
    {sig' : RefSig} {κ : Kind} {sp : Space} (v : View sig' κ sp S80x160 .f32) (f) (y : S80x160.Idx) :
    v.read (Elt Ideal) (v.writes (Elt Ideal) f (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo13 xo14 xo15 xo16 xs0).2.2.1) y
      = ((xo14 y + ∑ g : Fin 8, t2 x0 x9 x1 x2 x5 x6 0 (g.val / 4) (g.val % 4) (y 0).val (y 1).val) + ∑ g : Fin 8, t2 x0 x9 x1 x2 x5 x6 1 (g.val / 4) (g.val % 4) (y 0).val (y 1).val) + ∑ g : Fin 8, t2 x0 x9 x1 x2 x5 x6 2 (g.val / 4) (g.val % 4) (y 0).val (y 1).val := by
  simp only [Fin.sum_univ_eight]
  revert y
  unfold kernelRun0_B
  dsimp only
  delta kernelRun0_B.sl.r_141 kernelRun0_B.sl.r_139 kernelRun0_B.sl.v2738 kernelRun0_B.sl.v2858 kernelRun0_B.sl.v2748 kernelRun0_B.sl.v2864 kernelRun0_B.sl.r_140 kernelRun0_B.sl.v2758 kernelRun0_B.sl.v2871 kernelRun0_B.sl.v2768 kernelRun0_B.sl.v2878 kernelRun0_B.sl.v2778 kernelRun0_B.sl.v2885 kernelRun0_B.sl.v2788 kernelRun0_B.sl.v2892 kernelRun0_B.sl.r_142 kernelRun0_B.sl.v2798 kernelRun0_B.sl.v2899 kernelRun0_B.sl.v2808 kernelRun0_B.sl.v2906 kernelRun0_B.sl.v2910 kernelRun0_B.sl.H14_2 kernelRun0_B.sl.r_97 kernelRun0_B.sl.r_94 kernelRun0_B.sl.v1770 kernelRun0_B.sl.v1890 kernelRun0_B.sl.r_95 kernelRun0_B.sl.v1780 kernelRun0_B.sl.r_96 kernelRun0_B.sl.v1896 kernelRun0_B.sl.cst_1433 kernelRun0_B.sl.v1790 kernelRun0_B.sl.v1903 kernelRun0_B.sl.v1800 kernelRun0_B.sl.v1910 kernelRun0_B.sl.v1810 kernelRun0_B.sl.v1917 kernelRun0_B.sl.r_98 kernelRun0_B.sl.v1820 kernelRun0_B.sl.v1924 kernelRun0_B.sl.v1830 kernelRun0_B.sl.v1931 kernelRun0_B.sl.v1840 kernelRun0_B.sl.v1938 kernelRun0_B.sl.v1942 kernelRun0_B.sl.H14_1 kernelRun0_B.sl.r_46 kernelRun0_B.sl.r_44 kernelRun0_B.sl.r_43 kernelRun0_B.sl.v802 kernelRun0_B.sl.v922 kernelRun0_B.sl.v812 kernelRun0_B.sl.v928 kernelRun0_B.sl.v822 kernelRun0_B.sl.v935 kernelRun0_B.sl.v832 kernelRun0_B.sl.v942 kernelRun0_B.sl.r_45 kernelRun0_B.sl.v842 kernelRun0_B.sl.v949 kernelRun0_B.sl.v852 kernelRun0_B.sl.v956 kernelRun0_B.sl.v862 kernelRun0_B.sl.v963 kernelRun0_B.sl.v872 kernelRun0_B.sl.v970
  dsimp only [k0_pay352, k0_pay353, k0_pay354, k0_pay355, k0_pay242, k0_pay243, k0_pay244, k0_pay245, k0_pay246, k0_pay126, k0_pay127, k0_pay128, k0_pay129, k0_pay247, k0_pay356]
  refine read_top ?_
  refine has_add (has_old2 ?_) ?_
  on_goal 2 =>
    iterate 7
      refine has_add ?_ ?_
      on_goal 2 => exact has_mm2 (by rfl) (by rfl) (fun _ => load2w (l2_48 c arg2 harg2 arg11 harg11 x0 x9) (by decide) _) (fun _ => loadq2 (q2_30 c arg3 harg3 arg4 harg4 arg7 harg7 arg8 harg8 arg23 x1 x2 x5 x6) (by decide) _)
    exact has_mm2 (by rfl) (by rfl) (fun _ => load2w (l2_48 c arg2 harg2 arg11 harg11 x0 x9) (by decide) _) (fun _ => loadq2 (q2_30 c arg3 harg3 arg4 harg4 arg7 harg7 arg8 harg8 arg23 x1 x2 x5 x6) (by decide) _)
  refine has_topw ?_
  refine has_add (has_old2 ?_) ?_
  on_goal 2 =>
    iterate 7
      refine has_add ?_ ?_
      on_goal 2 => exact has_mm2 (by rfl) (by rfl) (fun _ => load2w (l2_32 c arg2 harg2 arg11 harg11 x0 x9) (by decide) _) (fun _ => loadq2 (q2_20 c arg3 harg3 arg4 harg4 arg7 harg7 arg8 harg8 arg23 x1 x2 x5 x6) (by decide) _)
    exact has_mm2 (by rfl) (by rfl) (fun _ => load2w (l2_32 c arg2 harg2 arg11 harg11 x0 x9) (by decide) _) (fun _ => loadq2 (q2_20 c arg3 harg3 arg4 harg4 arg7 harg7 arg8 harg8 arg23 x1 x2 x5 x6) (by decide) _)
  refine has_topw ?_
  refine has_add (has_old2 ?_) ?_
  on_goal 2 =>
    iterate 7
      refine has_add ?_ ?_
      on_goal 2 => exact has_mm2 (by rfl) (by rfl) (fun _ => load2w (l2_16 c arg2 harg2 arg11 harg11 x0 x9) (by decide) _) (fun _ => loadq2 (q2_10 c arg3 harg3 arg4 harg4 arg7 harg7 arg8 harg8 arg23 x1 x2 x5 x6) (by decide) _)
    exact has_mm2 (by rfl) (by rfl) (fun _ => load2w (l2_16 c arg2 harg2 arg11 harg11 x0 x9) (by decide) _) (fun _ => loadq2 (q2_10 c arg3 harg3 arg4 harg4 arg7 harg7 arg8 harg8 arg23 x1 x2 x5 x6) (by decide) _)
  exact has_whole _ _ (by decide) _

set_option maxHeartbeats 400000 in
/-- The third core's gradient after the point: what it held, and the point's terms. -/
theorem dg3_acc (c : Dev nD) (i : grid0.Coords) (arg2 : Memref sig .tc .vmem S128x256 .bf16) (harg2 : arg2.IsWhole) (arg3 : Memref sig .tc .vmem S15x108x256 .fp8e5m2) (harg3 : arg3.IsWhole) (arg4 : Memref sig .tc .vmem S1x256 .f32) (harg4 : arg4.IsWhole) (arg5 : Memref sig .tc .vmem S280x160 .bf16) (harg5 : arg5.IsWhole) (arg6 : Memref sig .tc .vmem S208x224 .bf16) (harg6 : arg6.IsWhole) (arg7 : Memref sig .tc .vmem S1x208x112 .bf16) (harg7 : arg7.IsWhole) (arg8 : Memref sig .tc .vmem S256x208 .bf16) (harg8 : arg8.IsWhole) (arg9 : Memref sig .tc .vmem S80x160 .bf16) (harg9 : arg9.IsWhole) (arg10 : Memref sig .tc .vmem S16x240 .bf16) (harg10 : arg10.IsWhole) (arg11 : Memref sig .tc .vmem S3x3x40x128 .f32) (harg11 : arg11.IsWhole) (arg12 : Memref sig .tc .vmem S5x112x128 .f32) (harg12 : arg12.IsWhole) (arg13 : Memref sig .tc .vmem S208x128 .f32) (harg13 : arg13.IsWhole) (arg14 : Memref sig .tc .vmem S128x256 .bf16) (harg14 : arg14.IsWhole) (arg15 : Memref sig .tc .vmem S16x240 .f32) (harg15 : arg15.IsWhole) (arg16 : Memref sig .tc .vmem S80x160 .f32) (harg16 : arg16.IsWhole) (arg17 : Memref sig .tc .vmem S208x224 .f32) (harg17 : arg17.IsWhole) (arg18 : Memref sig .tc .vmem S8x112x208 .f32) (harg18 : arg18.IsWhole) (arg19 : Memref sig .tc .vmem S15x112x256 .bf16) (harg19 : arg19.IsWhole) (arg20 : Memref sig .tc .vmem S3x640x256 .bf16) (harg20 : arg20.IsWhole) (arg21 : Memref sig .tc .vmem S15x224x256 .bf16) (harg21 : arg21.IsWhole) (arg22 : Memref sig .tc .vmem S15x208x256 .bf16) (harg22 : arg22.IsWhole) (arg23 : Memref sig .tc .vmem S15x208x256 .bf16) (harg23 : arg23.IsWhole) (arg24 : Memref sig .tc .vmem S3x2x5x128x256 .bf16) (harg24 : arg24.IsWhole) (arg25 : Memref sig .tc .vmem S8x240x256 .bf16) (harg25 : arg25.IsWhole) (hc0 : ¬cond0_0 i) (hc1 : ¬cond0_1 i)     (x0 : Vec Ideal S128x256 .bf16) (x1 : Vec Ideal S15x108x256 .fp8e5m2) (x2 : Vec Ideal S1x256 .f32) (x3 : Vec Ideal S280x160 .bf16) (x4 : Vec Ideal S208x224 .bf16) (x5 : Vec Ideal S1x208x112 .bf16) (x6 : Vec Ideal S256x208 .bf16) (x7 : Vec Ideal S80x160 .bf16) (x8 : Vec Ideal S16x240 .bf16) (x9 : Vec Ideal S3x3x40x128 .f32) (x10 : Vec Ideal S5x112x128 .f32) (x11 : Vec Ideal S208x128 .f32) (xo13 : Vec Ideal S16x240 .f32) (xo14 : Vec Ideal S80x160 .f32) (xo15 : Vec Ideal S208x224 .f32) (xo16 : Vec Ideal S8x112x208 .f32) (xs0 : Vec Ideal S15x112x256 .bf16)
    {sig' : RefSig} {κ : Kind} {sp : Space} (v : View sig' κ sp S208x224 .f32) (f) (y : S208x224.Idx) :
    v.read (Elt Ideal) (v.writes (Elt Ideal) f (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo13 xo14 xo15 xo16 xs0).2.2.2.1) y
      = ((xo15 y + ∑ g : Fin 5, t3 x0 x3 x9 x10 x1 x2 x5 (0 + g.val) (y 0).val (y 1).val) + ∑ g : Fin 5, t3 x0 x3 x9 x10 x1 x2 x5 (5 + g.val) (y 0).val (y 1).val) + ∑ g : Fin 5, t3 x0 x3 x9 x10 x1 x2 x5 (10 + g.val) (y 0).val (y 1).val := by
  simp only [Fin.sum_univ_five]
  revert y
  unfold kernelRun0_B
  dsimp only
  delta kernelRun0_B.sl.r_134 kernelRun0_B.sl.r_133 kernelRun0_B.sl.v2567 kernelRun0_B.sl.v2642 kernelRun0_B.sl.v2582 kernelRun0_B.sl.v2655 kernelRun0_B.sl.v2597 kernelRun0_B.sl.v2668 kernelRun0_B.sl.v2612 kernelRun0_B.sl.v2681 kernelRun0_B.sl.v2627 kernelRun0_B.sl.v2694 kernelRun0_B.sl.v2734 kernelRun0_B.sl.H15_2 kernelRun0_B.sl.r_88 kernelRun0_B.sl.v1599 kernelRun0_B.sl.v1674 kernelRun0_B.sl.v1614 kernelRun0_B.sl.v1687 kernelRun0_B.sl.v1629 kernelRun0_B.sl.v1700 kernelRun0_B.sl.v1644 kernelRun0_B.sl.v1713 kernelRun0_B.sl.v1659 kernelRun0_B.sl.v1726 kernelRun0_B.sl.v1766 kernelRun0_B.sl.H15_1 kernelRun0_B.sl.r_37 kernelRun0_B.sl.v631 kernelRun0_B.sl.v706 kernelRun0_B.sl.v646 kernelRun0_B.sl.v719 kernelRun0_B.sl.v661 kernelRun0_B.sl.v732 kernelRun0_B.sl.v676 kernelRun0_B.sl.v745 kernelRun0_B.sl.v691 kernelRun0_B.sl.v758
  dsimp only [k0_pay337, k0_pay226, k0_pay111, k0_pay112, k0_pay227, k0_pay338]
  refine read_top ?_
  refine has_add (has_old3 ?_) ?_
  on_goal 2 =>
    iterate 4
      refine has_add ?_ ?_
      on_goal 2 => exact has_mm3 (fun _ => loadq3 (q3_15 c arg3 harg3 arg4 harg4 arg7 harg7 x1 x2 x5) (by decide) _) (fun _ => load3 (l3_30 c arg2 harg2 arg5 harg5 arg11 harg11 arg12 harg12 arg20 x0 x3 x9 x10) (by decide) _)
    exact has_mm3 (fun _ => loadq3 (q3_15 c arg3 harg3 arg4 harg4 arg7 harg7 x1 x2 x5) (by decide) _) (fun _ => load3 (l3_30 c arg2 harg2 arg5 harg5 arg11 harg11 arg12 harg12 arg20 x0 x3 x9 x10) (by decide) _)
  refine has_topw ?_
  refine has_add (has_old3 ?_) ?_
  on_goal 2 =>
    iterate 4
      refine has_add ?_ ?_
      on_goal 2 => exact has_mm3 (fun _ => loadq3 (q3_10 c arg3 harg3 arg4 harg4 arg7 harg7 x1 x2 x5) (by decide) _) (fun _ => load3 (l3_20 c arg2 harg2 arg5 harg5 arg11 harg11 arg12 harg12 arg20 x0 x3 x9 x10) (by decide) _)
    exact has_mm3 (fun _ => loadq3 (q3_10 c arg3 harg3 arg4 harg4 arg7 harg7 x1 x2 x5) (by decide) _) (fun _ => load3 (l3_20 c arg2 harg2 arg5 harg5 arg11 harg11 arg12 harg12 arg20 x0 x3 x9 x10) (by decide) _)
  refine has_topw ?_
  refine has_add (has_old3 ?_) ?_
  on_goal 2 =>
    iterate 4
      refine has_add ?_ ?_
      on_goal 2 => exact has_mm3 (fun _ => loadq3 (q3_5 c arg3 harg3 arg4 harg4 arg7 harg7 x1 x2 x5) (by decide) _) (fun _ => load3 (l3_10 c arg2 harg2 arg5 harg5 arg11 harg11 arg12 harg12 arg20 x0 x3 x9 x10) (by decide) _)
    exact has_mm3 (fun _ => loadq3 (q3_5 c arg3 harg3 arg4 harg4 arg7 harg7 x1 x2 x5) (by decide) _) (fun _ => load3 (l3_10 c arg2 harg2 arg5 harg5 arg11 harg11 arg12 harg12 arg20 x0 x3 x9 x10) (by decide) _)
  exact has_whole _ _ (by decide) _

set_option maxHeartbeats 400000 in
/-- The fourth core's gradient after the point: what it held, and in the point's block the point's terms. -/
theorem dg4_acc (c : Dev nD) (i : grid0.Coords) (arg2 : Memref sig .tc .vmem S128x256 .bf16) (harg2 : arg2.IsWhole) (arg3 : Memref sig .tc .vmem S15x108x256 .fp8e5m2) (harg3 : arg3.IsWhole) (arg4 : Memref sig .tc .vmem S1x256 .f32) (harg4 : arg4.IsWhole) (arg5 : Memref sig .tc .vmem S280x160 .bf16) (harg5 : arg5.IsWhole) (arg6 : Memref sig .tc .vmem S208x224 .bf16) (harg6 : arg6.IsWhole) (arg7 : Memref sig .tc .vmem S1x208x112 .bf16) (harg7 : arg7.IsWhole) (arg8 : Memref sig .tc .vmem S256x208 .bf16) (harg8 : arg8.IsWhole) (arg9 : Memref sig .tc .vmem S80x160 .bf16) (harg9 : arg9.IsWhole) (arg10 : Memref sig .tc .vmem S16x240 .bf16) (harg10 : arg10.IsWhole) (arg11 : Memref sig .tc .vmem S3x3x40x128 .f32) (harg11 : arg11.IsWhole) (arg12 : Memref sig .tc .vmem S5x112x128 .f32) (harg12 : arg12.IsWhole) (arg13 : Memref sig .tc .vmem S208x128 .f32) (harg13 : arg13.IsWhole) (arg14 : Memref sig .tc .vmem S128x256 .bf16) (harg14 : arg14.IsWhole) (arg15 : Memref sig .tc .vmem S16x240 .f32) (harg15 : arg15.IsWhole) (arg16 : Memref sig .tc .vmem S80x160 .f32) (harg16 : arg16.IsWhole) (arg17 : Memref sig .tc .vmem S208x224 .f32) (harg17 : arg17.IsWhole) (arg18 : Memref sig .tc .vmem S8x112x208 .f32) (harg18 : arg18.IsWhole) (arg19 : Memref sig .tc .vmem S15x112x256 .bf16) (harg19 : arg19.IsWhole) (arg20 : Memref sig .tc .vmem S3x640x256 .bf16) (harg20 : arg20.IsWhole) (arg21 : Memref sig .tc .vmem S15x224x256 .bf16) (harg21 : arg21.IsWhole) (arg22 : Memref sig .tc .vmem S15x208x256 .bf16) (harg22 : arg22.IsWhole) (arg23 : Memref sig .tc .vmem S15x208x256 .bf16) (harg23 : arg23.IsWhole) (arg24 : Memref sig .tc .vmem S3x2x5x128x256 .bf16) (harg24 : arg24.IsWhole) (arg25 : Memref sig .tc .vmem S8x240x256 .bf16) (harg25 : arg25.IsWhole) (hc0 : ¬cond0_0 i) (hc1 : ¬cond0_1 i)     (x0 : Vec Ideal S128x256 .bf16) (x1 : Vec Ideal S15x108x256 .fp8e5m2) (x2 : Vec Ideal S1x256 .f32) (x3 : Vec Ideal S280x160 .bf16) (x4 : Vec Ideal S208x224 .bf16) (x5 : Vec Ideal S1x208x112 .bf16) (x6 : Vec Ideal S256x208 .bf16) (x7 : Vec Ideal S80x160 .bf16) (x8 : Vec Ideal S16x240 .bf16) (x9 : Vec Ideal S3x3x40x128 .f32) (x10 : Vec Ideal S5x112x128 .f32) (x11 : Vec Ideal S208x128 .f32) (xo13 : Vec Ideal S16x240 .f32) (xo14 : Vec Ideal S80x160 .f32) (xo15 : Vec Ideal S208x224 .f32) (xo16 : Vec Ideal S8x112x208 .f32) (xs0 : Vec Ideal S15x112x256 .bf16)
    {sig' : RefSig} {κ : Kind} {sp : Space} (v : View sig' κ sp S8x112x208 .f32) (f) (hf : v.read (Elt Ideal) f = xo16) (y : S8x112x208.Idx) :
    v.read (Elt Ideal) (v.writes (Elt Ideal) f (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo13 xo14 xo15 xo16 xs0).2.2.2.2.1) y
      = if (y 0).val = (i 1).val then
          ((xo16 y + ∑ g : Fin 5, t4 x0 x3 x4 x9 x10 x11 (xs0) (0 + g.val) (y 1).val (y 2).val) + ∑ g : Fin 5, t4 x0 x3 x4 x9 x10 x11 (xs0) (5 + g.val) (y 1).val (y 2).val) + ∑ g : Fin 5, t4 x0 x3 x4 x9 x10 x11 (xs0) (10 + g.val) (y 1).val (y 2).val
        else xo16 y := by
  unfold kernelRun0_B
  dsimp only
  delta kernelRun0_B.sl.r_137 kernelRun0_B.sl.v2820 kernelRun0_B.sl.v2825 kernelRun0_B.sl.v2831 kernelRun0_B.sl.v2837 kernelRun0_B.sl.r_138 kernelRun0_B.sl.v2843 kernelRun0_B.sl.v2848 kernelRun0_B.sl.H16_2 kernelRun0_B.sl.r_92 kernelRun0_B.sl.v1852 kernelRun0_B.sl.v1857 kernelRun0_B.sl.v1863 kernelRun0_B.sl.r_93 kernelRun0_B.sl.v1869 kernelRun0_B.sl.v1875 kernelRun0_B.sl.v1880 kernelRun0_B.sl.H16_1 kernelRun0_B.sl.r_41 kernelRun0_B.sl.v884 kernelRun0_B.sl.v889 kernelRun0_B.sl.r_42 kernelRun0_B.sl.v895 kernelRun0_B.sl.v901 kernelRun0_B.sl.v907
  dsimp only [k0_pay349, k0_pay350, k0_pay239, k0_pay240, k0_pay124, k0_pay125, k0_pay241, k0_pay351]
  refine read_block4 (k0_off1_eq i) (fun hy => ?_) (fun hy => ?_)
  · refine Eq.trans (has_acc4 (f := fun z => ((fun z : S1x112x208.Idx => rd (s := S8x112x208) xo16 (fun q => k0_off1 i q + (z q).val)) z + (fun z : S112x208.Idx => ∑ g : Fin 5, t4 x0 x3 x4 x9 x10 x11 (xs0) (0 + g.val) (z 0).val (z 1).val) (ix2 (z 1) (z 2))) + (fun z : S112x208.Idx => ∑ g : Fin 5, t4 x0 x3 x4 x9 x10 x11 (xs0) (5 + g.val) (z 0).val (z 1).val) (ix2 (z 1) (z 2))) (g := (fun z : S112x208.Idx => ∑ g : Fin 5, t4 x0 x3 x4 x9 x10 x11 (xs0) (10 + g.val) (z 0).val (z 1).val)) (has_top (s := S8x112x208) (size := S1x112x208.size) (has_acc4 (f := fun z => (fun z : S1x112x208.Idx => rd (s := S8x112x208) xo16 (fun q => k0_off1 i q + (z q).val)) z + (fun z : S112x208.Idx => ∑ g : Fin 5, t4 x0 x3 x4 x9 x10 x11 (xs0) (0 + g.val) (z 0).val (z 1).val) (ix2 (z 1) (z 2))) (g := (fun z : S112x208.Idx => ∑ g : Fin 5, t4 x0 x3 x4 x9 x10 x11 (xs0) (5 + g.val) (z 0).val (z 1).val)) (has_top (s := S8x112x208) (size := S1x112x208.size) (has_acc4 (f := (fun z : S1x112x208.Idx => rd (s := S8x112x208) xo16 (fun q => k0_off1 i q + (z q).val))) (g := (fun z : S112x208.Idx => ∑ g : Fin 5, t4 x0 x3 x4 x9 x10 x11 (xs0) (0 + g.val) (z 0).val (z 1).val)) ?_ ?_)) ?_)) ?_ _) ?_
    · exact fun z => ld_f32 harg18 xo16 _ _ _ z
    · simp only [Fin.sum_univ_five]
      iterate 4
        refine has_add ?_ ?_
        on_goal 2 => exact has_mm4 (fun _ => ld_bf16 _ _ _ _ _ _) (fun _ => load4 (l4_5 c arg2 harg2 arg5 harg5 arg6 harg6 arg11 harg11 arg12 harg12 arg13 harg13 arg20 arg21 x0 x3 x4 x9 x10 x11) (by decide) _)
      exact has_mm4 (fun _ => ld_bf16 _ _ _ _ _ _) (fun _ => load4 (l4_5 c arg2 harg2 arg5 harg5 arg6 harg6 arg11 harg11 arg12 harg12 arg13 harg13 arg20 arg21 x0 x3 x4 x9 x10 x11) (by decide) _)
    · simp only [Fin.sum_univ_five]
      iterate 4
        refine has_add ?_ ?_
        on_goal 2 => exact has_mm4 (fun _ => ld_bf16 _ _ _ _ _ _) (fun _ => load4 (l4_10 c arg2 harg2 arg5 harg5 arg6 harg6 arg11 harg11 arg12 harg12 arg13 harg13 arg20 arg21 x0 x3 x4 x9 x10 x11) (by decide) _)
      exact has_mm4 (fun _ => ld_bf16 _ _ _ _ _ _) (fun _ => load4 (l4_10 c arg2 harg2 arg5 harg5 arg6 harg6 arg11 harg11 arg12 harg12 arg13 harg13 arg20 arg21 x0 x3 x4 x9 x10 x11) (by decide) _)
    · simp only [Fin.sum_univ_five]
      iterate 4
        refine has_add ?_ ?_
        on_goal 2 => exact has_mm4 (fun _ => ld_bf16 _ _ _ _ _ _) (fun _ => load4 (l4_15 c arg2 harg2 arg5 harg5 arg6 harg6 arg11 harg11 arg12 harg12 arg13 harg13 arg20 arg21 x0 x3 x4 x9 x10 x11) (by decide) _)
      exact has_mm4 (fun _ => ld_bf16 _ _ _ _ _ _) (fun _ => load4 (l4_15 c arg2 harg2 arg5 harg5 arg6 harg6 arg11 harg11 arg12 harg12 arg13 harg13 arg20 arg21 x0 x3 x4 x9 x10 x11) (by decide) _)
    · dsimp only
      rw [rd_of xo16 _ y fun a => by rw [k0_off1_eq i]; fin_cases a <;> simp [*]]
      rfl
  · exact read_block4_off (k0_off1_eq i) hy (read_block4_off (k0_off1_eq i) hy (congrFun hf y))

end Cert.KernelIdeal.Val.CaseB
-- ==== Proof.ListsC.lean ====
module
public import proofs.«01_k».proof.Proof.Steps
public import proofs.«01_k».proof.Proof.Gen.KernelIdeal.Frame.RunC
@[expose] public section
set_option maxRecDepth 16384
set_option pp.maxSteps 300
noncomputable section
open Idealize.ShloMosaic Idealize.ShloMosaic.TcCoe Idealize.SL.Sem
namespace Cert.KernelIdeal.Val.CaseC
open Cert.KernelIdeal Cert.KernelIdeal.Gen Cert.KernelIdeal.Val

variable (c : Dev nD)
  (arg2 : Memref sig .tc .vmem S128x256 .bf16) (harg2 : arg2.IsWhole)
  (arg3 : Memref sig .tc .vmem S15x108x256 .fp8e5m2) (harg3 : arg3.IsWhole)
  (arg4 : Memref sig .tc .vmem S1x256 .f32) (harg4 : arg4.IsWhole)
  (arg5 : Memref sig .tc .vmem S280x160 .bf16) (harg5 : arg5.IsWhole)
  (arg6 : Memref sig .tc .vmem S208x224 .bf16) (harg6 : arg6.IsWhole)
  (arg7 : Memref sig .tc .vmem S1x208x112 .bf16) (harg7 : arg7.IsWhole)
  (arg8 : Memref sig .tc .vmem S256x208 .bf16) (harg8 : arg8.IsWhole)
  (arg9 : Memref sig .tc .vmem S80x160 .bf16) (harg9 : arg9.IsWhole)
  (arg10 : Memref sig .tc .vmem S16x240 .bf16) (harg10 : arg10.IsWhole)
  (arg11 : Memref sig .tc .vmem S3x3x40x128 .f32) (harg11 : arg11.IsWhole)
  (arg12 : Memref sig .tc .vmem S5x112x128 .f32) (harg12 : arg12.IsWhole)
  (arg13 : Memref sig .tc .vmem S208x128 .f32) (harg13 : arg13.IsWhole)
  (arg19 : Memref sig .tc .vmem S15x112x256 .bf16)
  (arg20 : Memref sig .tc .vmem S3x640x256 .bf16)
  (arg21 : Memref sig .tc .vmem S15x224x256 .bf16)
  (arg22 : Memref sig .tc .vmem S15x208x256 .bf16)
  (arg23 : Memref sig .tc .vmem S15x208x256 .bf16)
  (arg24 : Memref sig .tc .vmem S3x2x5x128x256 .bf16)
  (arg25 : Memref sig .tc .vmem S8x240x256 .bf16)
  (x0 : Vec Ideal S128x256 .bf16)
  (x1 : Vec Ideal S15x108x256 .fp8e5m2)
  (x2 : Vec Ideal S1x256 .f32)
  (x3 : Vec Ideal S280x160 .bf16)
  (x4 : Vec Ideal S208x224 .bf16)
  (x5 : Vec Ideal S1x208x112 .bf16)
  (x6 : Vec Ideal S256x208 .bf16)
  (x7 : Vec Ideal S80x160 .bf16)
  (x8 : Vec Ideal S16x240 .bf16)
  (x9 : Vec Ideal S3x3x40x128 .f32)
  (x10 : Vec Ideal S5x112x128 .f32)
  (x11 : Vec Ideal S208x128 .f32)

set_option maxHeartbeats 400000 in
/-- What the scratch array of the first contraction holds after group 1 of its stores. -/
theorem l2_16 :
    Fills key2 (g2 x0 x9) (kernelRun0_C.sl.HS1_16 c arg2 harg2 arg11 harg11 x0 x9) 16 := by
  unfold kernelRun0_C.sl.HS1_16
  delta kernelRun0_C.sl.r_22 kernelRun0_C.sl.r_4 kernelRun0_C.sl.r_23 kernelRun0_C.sl.r_21 kernelRun0_C.sl.r_19 kernelRun0_C.sl.r_20 kernelRun0_C.sl.r_18 kernelRun0_C.sl.r_15 kernelRun0_C.sl.r_16 kernelRun0_C.sl.r_17 kernelRun0_C.sl.r_14 kernelRun0_C.sl.r_11 kernelRun0_C.sl.r_12 kernelRun0_C.sl.r_13 kernelRun0_C.sl.r_9 kernelRun0_C.sl.r_10 kernelRun0_C.sl.r_8 kernelRun0_C.sl.r_6 kernelRun0_C.sl.r_7 kernelRun0_C.sl.r_5
  dsimp only
  iterate 16
    refine l2_step ⟨rfl, by decide⟩ (by rfl) (by rfl) (by rfl) (fun _ => ld_bf16 _ _ _ _ _ _) (fun _ => ld_f32 _ _ _ _ _ _) (fun _ => ld_f32 _ _ _ _ _ _) (fun _ => ld_f32 _ _ _ _ _ _) ?_
  exact Fills.nil _ _

set_option maxHeartbeats 400000 in
/-- What the scratch array of the first contraction holds after group 2 of its stores. -/
theorem l2_32 :
    Fills key2 (g2 x0 x9) (kernelRun0_C.sl.HS1_32 c arg2 harg2 arg11 harg11 x0 x9) 32 := by
  unfold kernelRun0_C.sl.HS1_32
  delta kernelRun0_C.sl.r_70 kernelRun0_C.sl.r_49 kernelRun0_C.sl.r_71 kernelRun0_C.sl.r_67 kernelRun0_C.sl.r_68 kernelRun0_C.sl.r_69 kernelRun0_C.sl.r_66 kernelRun0_C.sl.r_64 kernelRun0_C.sl.r_65 kernelRun0_C.sl.r_62 kernelRun0_C.sl.r_63 kernelRun0_C.sl.r_59 kernelRun0_C.sl.r_60 kernelRun0_C.sl.r_61 kernelRun0_C.sl.r_58 kernelRun0_C.sl.r_56 kernelRun0_C.sl.r_57 kernelRun0_C.sl.r_53 kernelRun0_C.sl.r_54 kernelRun0_C.sl.r_55 kernelRun0_C.sl.r_52 kernelRun0_C.sl.r_50 kernelRun0_C.sl.r_51
  dsimp only
  iterate 16
    refine l2_step ⟨rfl, by decide⟩ (by rfl) (by rfl) (by rfl) (fun _ => ld_bf16 _ _ _ _ _ _) (fun _ => ld_f32 _ _ _ _ _ _) (fun _ => ld_f32 _ _ _ _ _ _) (fun _ => ld_f32 _ _ _ _ _ _) ?_
  exact l2_16 c arg2 harg2 arg11 harg11 x0 x9

set_option maxHeartbeats 400000 in
/-- What the scratch array of the first contraction holds after group 3 of its stores. -/
theorem l2_48 :
    Fills key2 (g2 x0 x9) (kernelRun0_C.sl.HS1_48 c arg2 harg2 arg11 harg11 x0 x9) 48 := by
  unfold kernelRun0_C.sl.HS1_48
  delta kernelRun0_C.sl.r_122 kernelRun0_C.sl.r_101 kernelRun0_C.sl.r_120 kernelRun0_C.sl.r_121 kernelRun0_C.sl.r_118 kernelRun0_C.sl.r_119 kernelRun0_C.sl.r_117 kernelRun0_C.sl.r_115 kernelRun0_C.sl.r_116 kernelRun0_C.sl.r_113 kernelRun0_C.sl.r_114 kernelRun0_C.sl.r_110 kernelRun0_C.sl.r_111 kernelRun0_C.sl.r_112 kernelRun0_C.sl.r_109 kernelRun0_C.sl.r_107 kernelRun0_C.sl.r_108 kernelRun0_C.sl.r_105 kernelRun0_C.sl.r_106 kernelRun0_C.sl.r_104 kernelRun0_C.sl.r_102 kernelRun0_C.sl.r_103
  dsimp only
  iterate 16
    refine l2_step ⟨rfl, by decide⟩ (by rfl) (by rfl) (by rfl) (fun _ => ld_bf16 _ _ _ _ _ _) (fun _ => ld_f32 _ _ _ _ _ _) (fun _ => ld_f32 _ _ _ _ _ _) (fun _ => ld_f32 _ _ _ _ _ _) ?_
  exact l2_32 c arg2 harg2 arg11 harg11 x0 x9

set_option maxHeartbeats 400000 in
/-- What the scratch array of the second contraction holds after group 1 of its stores. -/
theorem l3_10 :
    Fills key3 (g3 x0 x3 x9 x10) (kernelRun0_C.sl.HS2_10 c arg2 harg2 arg5 harg5 arg11 harg11 arg12 harg12 arg20 x0 x3 x9 x10) 10 := by
  unfold kernelRun0_C.sl.HS2_10
  delta kernelRun0_C.sl.r_29 kernelRun0_C.sl.v566 kernelRun0_C.sl.r_32 kernelRun0_C.sl.r_30 kernelRun0_C.sl.r_31 kernelRun0_C.sl.v571 kernelRun0_C.sl.r_33 kernelRun0_C.sl.r_26 kernelRun0_C.sl.v501 kernelRun0_C.sl.r_27 kernelRun0_C.sl.v506 kernelRun0_C.sl.r_28
  dsimp only
  iterate 10
    refine l3_step ⟨rfl, by decide⟩ (by rfl) (by rfl) (by rfl) (by rfl) (by rfl) (by rfl) (fun _ => ld_bf16 _ _ _ _ _ _) (fun _ => ld_bf16 _ _ _ _ _ _)
      (fun _ => load2 (l2_16 c arg2 harg2 arg11 harg11 x0 x9) (by decide) _) (fun _ => load2 (l2_16 c arg2 harg2 arg11 harg11 x0 x9) (by decide) _) (fun _ => ld_f32 _ _ _ _ _ _) ?_
  exact Fills.nil _ _

set_option maxHeartbeats 400000 in
/-- What the scratch array of the second contraction holds after group 2 of its stores. -/
theorem l3_20 :
    Fills key3 (g3 x0 x3 x9 x10) (kernelRun0_C.sl.HS2_20 c arg2 harg2 arg5 harg5 arg11 harg11 arg12 harg12 arg20 x0 x3 x9 x10) 20 := by
  unfold kernelRun0_C.sl.HS2_20
  delta kernelRun0_C.sl.r_83 kernelRun0_C.sl.r_80 kernelRun0_C.sl.v1534 kernelRun0_C.sl.r_81 kernelRun0_C.sl.v1539 kernelRun0_C.sl.r_82 kernelRun0_C.sl.r_75 kernelRun0_C.sl.v1469 kernelRun0_C.sl.r_76 kernelRun0_C.sl.v1474 kernelRun0_C.sl.r_79 kernelRun0_C.sl.r_77 kernelRun0_C.sl.r_78
  dsimp only
  iterate 10
    refine l3_step ⟨rfl, by decide⟩ (by rfl) (by rfl) (by rfl) (by rfl) (by rfl) (by rfl) (fun _ => ld_bf16 _ _ _ _ _ _) (fun _ => ld_bf16 _ _ _ _ _ _)
      (fun _ => load2 (l2_32 c arg2 harg2 arg11 harg11 x0 x9) (by decide) _) (fun _ => load2 (l2_32 c arg2 harg2 arg11 harg11 x0 x9) (by decide) _) (fun _ => ld_f32 _ _ _ _ _ _) ?_
  exact l3_10 c arg2 harg2 arg5 harg5 arg11 harg11 arg12 harg12 arg20 x0 x3 x9 x10

set_option maxHeartbeats 400000 in
/-- What the scratch array of the second contraction holds after group 3 of its stores. -/
theorem l3_30 :
    Fills key3 (g3 x0 x3 x9 x10) (kernelRun0_C.sl.HS2_30 c arg2 harg2 arg5 harg5 arg11 harg11 arg12 harg12 arg20 x0 x3 x9 x10) 30 := by
  unfold kernelRun0_C.sl.HS2_30
  delta kernelRun0_C.sl.r_129 kernelRun0_C.sl.v2502 kernelRun0_C.sl.r_130 kernelRun0_C.sl.v2507 kernelRun0_C.sl.r_131 kernelRun0_C.sl.r_128 kernelRun0_C.sl.r_125 kernelRun0_C.sl.v2437 kernelRun0_C.sl.r_126 kernelRun0_C.sl.v2442 kernelRun0_C.sl.r_127
  dsimp only
  iterate 10
    refine l3_step ⟨rfl, by decide⟩ (by rfl) (by rfl) (by rfl) (by rfl) (by rfl) (by rfl) (fun _ => ld_bf16 _ _ _ _ _ _) (fun _ => ld_bf16 _ _ _ _ _ _)
      (fun _ => load2 (l2_48 c arg2 harg2 arg11 harg11 x0 x9) (by decide) _) (fun _ => load2 (l2_48 c arg2 harg2 arg11 harg11 x0 x9) (by decide) _) (fun _ => ld_f32 _ _ _ _ _ _) ?_
  exact l3_20 c arg2 harg2 arg5 harg5 arg11 harg11 arg12 harg12 arg20 x0 x3 x9 x10

set_option maxHeartbeats 400000 in
/-- What the scratch array of the third contraction holds after group 1 of its stores. -/
theorem l4_5 :
    Fills key4 (g4 x0 x3 x4 x9 x10 x11) (kernelRun0_C.sl.HS3_5 c arg2 harg2 arg5 harg5 arg6 harg6 arg11 harg11 arg12 harg12 arg13 harg13 arg20 arg21 x0 x3 x4 x9 x10 x11) 5 := by
  unfold kernelRun0_C.sl.HS3_5
  delta kernelRun0_C.sl.r_39 kernelRun0_C.sl.v758 kernelRun0_C.sl.v745 kernelRun0_C.sl.v732 kernelRun0_C.sl.r_38 kernelRun0_C.sl.v719 kernelRun0_C.sl.v706
  dsimp only
  iterate 5
    refine l4_step (by rfl) (fun _ => ld_bf16 _ _ _ _ _ _) (fun _ => load3 (l3_10 c arg2 harg2 arg5 harg5 arg11 harg11 arg12 harg12 arg20 x0 x3 x9 x10) (by decide) _) (fun _ => ld_f32 _ _ _ _ _ _) ?_
  exact Fills.nil _ _

set_option maxHeartbeats 400000 in
/-- What the scratch array of the third contraction holds after group 2 of its stores. -/
theorem l4_10 :
    Fills key4 (g4 x0 x3 x4 x9 x10 x11) (kernelRun0_C.sl.HS3_10 c arg2 harg2 arg5 harg5 arg6 harg6 arg11 harg11 arg12 harg12 arg13 harg13 arg20 arg21 x0 x3 x4 x9 x10 x11) 10 := by
  unfold kernelRun0_C.sl.HS3_10
  delta kernelRun0_C.sl.r_89 kernelRun0_C.sl.v1726 kernelRun0_C.sl.v1713 kernelRun0_C.sl.r_87 kernelRun0_C.sl.r_88 kernelRun0_C.sl.v1700 kernelRun0_C.sl.v1687 kernelRun0_C.sl.v1674
  dsimp only
  iterate 5
    refine l4_step (by rfl) (fun _ => ld_bf16 _ _ _ _ _ _) (fun _ => load3 (l3_20 c arg2 harg2 arg5 harg5 arg11 harg11 arg12 harg12 arg20 x0 x3 x9 x10) (by decide) _) (fun _ => ld_f32 _ _ _ _ _ _) ?_
  exact l4_5 c arg2 harg2 arg5 harg5 arg6 harg6 arg11 harg11 arg12 harg12 arg13 harg13 arg20 arg21 x0 x3 x4 x9 x10 x11

set_option maxHeartbeats 400000 in
/-- What the scratch array of the third contraction holds after group 3 of its stores. -/
theorem l4_15 :
    Fills key4 (g4 x0 x3 x4 x9 x10 x11) (kernelRun0_C.sl.HS3_15 c arg2 harg2 arg5 harg5 arg6 harg6 arg11 harg11 arg12 harg12 arg13 harg13 arg20 arg21 x0 x3 x4 x9 x10 x11) 15 := by
  unfold kernelRun0_C.sl.HS3_15
  delta kernelRun0_C.sl.v2694 kernelRun0_C.sl.v2681 kernelRun0_C.sl.v2668 kernelRun0_C.sl.v2655 kernelRun0_C.sl.r_134 kernelRun0_C.sl.v2642
  dsimp only
  iterate 5
    refine l4_step (by rfl) (fun _ => ld_bf16 _ _ _ _ _ _) (fun _ => load3 (l3_30 c arg2 harg2 arg5 harg5 arg11 harg11 arg12 harg12 arg20 x0 x3 x9 x10) (by decide) _) (fun _ => ld_f32 _ _ _ _ _ _) ?_
  exact l4_10 c arg2 harg2 arg5 harg5 arg6 harg6 arg11 harg11 arg12 harg12 arg13 harg13 arg20 arg21 x0 x3 x4 x9 x10 x11

set_option maxHeartbeats 400000 in
/-- What the scratch array of the fourth transposed product holds after group 1 of its stores. -/
theorem q3_5 :
    Fills key4 (gq3 x1 x2 x5) (kernelRun0_C.sl.HS4_5 c arg3 harg3 arg4 harg4 arg7 harg7 x1 x2 x5) 5 := by
  unfold kernelRun0_C.sl.HS4_5
  delta kernelRun0_C.sl.r_3 kernelRun0_C.sl.r_25 kernelRun0_C.sl.r_24
  dsimp only
  iterate 5
    refine q3_step (by rfl) (fun _ => ld_f32 _ _ _ _ _ _) (fun _ => ld_bf16 _ _ _ _ _ _) (fun _ => ld_fp8e5m2 _ _ _ _ _ _) ?_
  exact Fills.nil _ _

set_option maxHeartbeats 400000 in
/-- What the scratch array of the fourth transposed product holds after group 2 of its stores. -/
theorem q3_10 :
    Fills key4 (gq3 x1 x2 x5) (kernelRun0_C.sl.HS4_10 c arg3 harg3 arg4 harg4 arg7 harg7 x1 x2 x5) 10 := by
  unfold kernelRun0_C.sl.HS4_10
  delta kernelRun0_C.sl.r_3 kernelRun0_C.sl.r_74 kernelRun0_C.sl.r_72 kernelRun0_C.sl.r_73
  dsimp only
  iterate 5
    refine q3_step (by rfl) (fun _ => ld_f32 _ _ _ _ _ _) (fun _ => ld_bf16 _ _ _ _ _ _) (fun _ => ld_fp8e5m2 _ _ _ _ _ _) ?_
  exact q3_5 c arg3 harg3 arg4 harg4 arg7 harg7 x1 x2 x5

set_option maxHeartbeats 400000 in
/-- What the scratch array of the fourth transposed product holds after group 3 of its stores. -/
theorem q3_15 :
    Fills key4 (gq3 x1 x2 x5) (kernelRun0_C.sl.HS4_15 c arg3 harg3 arg4 harg4 arg7 harg7 x1 x2 x5) 15 := by
  unfold kernelRun0_C.sl.HS4_15
  delta kernelRun0_C.sl.r_3 kernelRun0_C.sl.r_123 kernelRun0_C.sl.r_124 kernelRun0_C.sl.r_25
  dsimp only
  iterate 5
    refine q3_step (by rfl) (fun _ => ld_f32 _ _ _ _ _ _) (fun _ => ld_bf16 _ _ _ _ _ _) (fun _ => ld_fp8e5m2 _ _ _ _ _ _) ?_
  exact q3_10 c arg3 harg3 arg4 harg4 arg7 harg7 x1 x2 x5

set_option maxHeartbeats 400000 in
/-- What the scratch array of the third transposed product holds after group 1 of its stores. -/
theorem q2_10 :
    Fills keyr2 (gq2 x1 x2 x5 x6) (kernelRun0_C.sl.HS5_10 c arg3 harg3 arg4 harg4 arg7 harg7 arg8 harg8 arg23 x1 x2 x5 x6) 10 := by
  unfold kernelRun0_C.sl.HS5_10
  delta kernelRun0_C.sl.r_36 kernelRun0_C.sl.v691 kernelRun0_C.sl.r_37 kernelRun0_C.sl.v676 kernelRun0_C.sl.r_35 kernelRun0_C.sl.v661 kernelRun0_C.sl.v646 kernelRun0_C.sl.r_34 kernelRun0_C.sl.v631
  dsimp only
  iterate 10
    refine q2_step ⟨rfl, by decide⟩ (by rfl) (by rfl) (by rfl) (fun _ => ld_bf16 _ _ _ _ _ _) (fun _ => loadq3 (q3_5 c arg3 harg3 arg4 harg4 arg7 harg7 x1 x2 x5) (by decide) _) ?_
  exact Fills.nil _ _

set_option maxHeartbeats 400000 in
/-- What the scratch array of the third transposed product holds after group 2 of its stores. -/
theorem q2_20 :
    Fills keyr2 (gq2 x1 x2 x5 x6) (kernelRun0_C.sl.HS5_20 c arg3 harg3 arg4 harg4 arg7 harg7 arg8 harg8 arg23 x1 x2 x5 x6) 20 := by
  unfold kernelRun0_C.sl.HS5_20
  delta kernelRun0_C.sl.v1659 kernelRun0_C.sl.r_86 kernelRun0_C.sl.v1644 kernelRun0_C.sl.v1629 kernelRun0_C.sl.r_84 kernelRun0_C.sl.v1614 kernelRun0_C.sl.r_85 kernelRun0_C.sl.v1599
  dsimp only
  iterate 10
    refine q2_step ⟨rfl, by decide⟩ (by rfl) (by rfl) (by rfl) (fun _ => ld_bf16 _ _ _ _ _ _) (fun _ => loadq3 (q3_10 c arg3 harg3 arg4 harg4 arg7 harg7 x1 x2 x5) (by decide) _) ?_
  exact q2_10 c arg3 harg3 arg4 harg4 arg7 harg7 arg8 harg8 arg23 x1 x2 x5 x6

set_option maxHeartbeats 400000 in
/-- What the scratch array of the third transposed product holds after group 3 of its stores. -/
theorem q2_30 :
    Fills keyr2 (gq2 x1 x2 x5 x6) (kernelRun0_C.sl.HS5_30 c arg3 harg3 arg4 harg4 arg7 harg7 arg8 harg8 arg23 x1 x2 x5 x6) 30 := by
  unfold kernelRun0_C.sl.HS5_30
  delta kernelRun0_C.sl.v2627 kernelRun0_C.sl.r_133 kernelRun0_C.sl.v2612 kernelRun0_C.sl.v2597 kernelRun0_C.sl.r_132 kernelRun0_C.sl.v2582 kernelRun0_C.sl.v2567
  dsimp only
  iterate 10
    refine q2_step ⟨rfl, by decide⟩ (by rfl) (by rfl) (by rfl) (fun _ => ld_bf16 _ _ _ _ _ _) (fun _ => loadq3 (q3_15 c arg3 harg3 arg4 harg4 arg7 harg7 x1 x2 x5) (by decide) _) ?_
  exact q2_20 c arg3 harg3 arg4 harg4 arg7 harg7 arg8 harg8 arg23 x1 x2 x5 x6

set_option maxHeartbeats 400000 in
/-- What the scratch array of the second transposed product holds. -/
theorem q1_24 :
    Fills keyr1 (gq1 x1 x2 x5 x6 x7) (kernelRun0_C.sl.HS6_24 c arg3 harg3 arg4 harg4 arg7 harg7 arg8 harg8 arg9 harg9 arg23 arg24 x1 x2 x5 x6 x7) 24 := by
  unfold kernelRun0_C.sl.HS6_24
  delta kernelRun0_C.sl.v2808 kernelRun0_C.sl.v2798 kernelRun0_C.sl.r_138 kernelRun0_C.sl.v2788 kernelRun0_C.sl.v2778 kernelRun0_C.sl.v2768 kernelRun0_C.sl.r_137 kernelRun0_C.sl.v2758 kernelRun0_C.sl.v2748 kernelRun0_C.sl.v2738 kernelRun0_C.sl.r_93 kernelRun0_C.sl.v1840 kernelRun0_C.sl.v1830 kernelRun0_C.sl.v1820 kernelRun0_C.sl.r_92 kernelRun0_C.sl.v1810 kernelRun0_C.sl.v1800 kernelRun0_C.sl.v1790 kernelRun0_C.sl.r_91 kernelRun0_C.sl.v1780 kernelRun0_C.sl.v1770 kernelRun0_C.sl.v872 kernelRun0_C.sl.r_42 kernelRun0_C.sl.v862 kernelRun0_C.sl.r_43 kernelRun0_C.sl.v852 kernelRun0_C.sl.v842 kernelRun0_C.sl.r_41 kernelRun0_C.sl.v832 kernelRun0_C.sl.v822 kernelRun0_C.sl.v812 kernelRun0_C.sl.v802
  dsimp only [k0_pay120, k0_pay126, k0_pay128, k0_pay237, k0_pay243, k0_pay246, k0_pay345, k0_pay355]
  iterate 8
    refine q1_step (n := 2) (by rfl) (by rfl) (by rfl) (by rfl) (fun _ => ld_bf16 _ _ _ _ _ _) (fun _ => loadq2 (q2_30 c arg3 harg3 arg4 harg4 arg7 harg7 arg8 harg8 arg23 x1 x2 x5 x6) (by decide) _) ?_
  iterate 8
    refine q1_step (n := 1) (by rfl) (by rfl) (by rfl) (by rfl) (fun _ => ld_bf16 _ _ _ _ _ _) (fun _ => loadq2 (q2_20 c arg3 harg3 arg4 harg4 arg7 harg7 arg8 harg8 arg23 x1 x2 x5 x6) (by decide) _) ?_
  iterate 8
    refine q1_step (n := 0) (by rfl) (by rfl) (by rfl) (by rfl) (fun _ => ld_bf16 _ _ _ _ _ _) (fun _ => loadq2 (q2_10 c arg3 harg3 arg4 harg4 arg7 harg7 arg8 harg8 arg23 x1 x2 x5 x6) (by decide) _) ?_
  exact Fills.nil _ _

set_option maxHeartbeats 400000 in
/-- What the scratch array of the scaled gradient holds. -/
theorem d_15 : Fills keyd (gd x1 x2) (kernelRun0_C.sl.HS0_15 c arg3 harg3 arg4 harg4 x1 x2) 15 := by
  unfold kernelRun0_C.sl.HS0_15
  delta kernelRun0_C.sl.r_2 kernelRun0_C.sl.r_1
  dsimp only
  iterate 15
    refine dyd_step (by rfl) (fun _ => ld_f32 _ _ _ _ _ _) (fun _ => ld_fp8e5m2 _ _ _ _ _ _) ?_
  exact Fills.nil _ _

end Cert.KernelIdeal.Val.CaseC
-- ==== Proof.AccC.lean ====
module
public import proofs.«01_k».proof.Proof.ListsC
public import proofs.«01_k».proof.Proof.AccPay
@[expose] public section
set_option maxRecDepth 16384
set_option pp.maxSteps 600
set_option pp.deepTerms false
set_option pp.deepTerms.threshold 4
noncomputable section
open Idealize.ShloMosaic Idealize.ShloMosaic.TcCoe Idealize.SL.Sem
namespace Cert.KernelIdeal.Val.CaseC
open Cert.KernelIdeal Cert.KernelIdeal.Gen Cert.KernelIdeal.Val

set_option maxHeartbeats 400000 in
/-- What the block of the input gradient holds after the point. -/
theorem dx_8 (c : Dev nD) (i : grid0.Coords) (arg2 : Memref sig .tc .vmem S128x256 .bf16) (harg2 : arg2.IsWhole) (arg3 : Memref sig .tc .vmem S15x108x256 .fp8e5m2) (harg3 : arg3.IsWhole) (arg4 : Memref sig .tc .vmem S1x256 .f32) (harg4 : arg4.IsWhole) (arg5 : Memref sig .tc .vmem S280x160 .bf16) (harg5 : arg5.IsWhole) (arg6 : Memref sig .tc .vmem S208x224 .bf16) (harg6 : arg6.IsWhole) (arg7 : Memref sig .tc .vmem S1x208x112 .bf16) (harg7 : arg7.IsWhole) (arg8 : Memref sig .tc .vmem S256x208 .bf16) (harg8 : arg8.IsWhole) (arg9 : Memref sig .tc .vmem S80x160 .bf16) (harg9 : arg9.IsWhole) (arg10 : Memref sig .tc .vmem S16x240 .bf16) (harg10 : arg10.IsWhole) (arg11 : Memref sig .tc .vmem S3x3x40x128 .f32) (harg11 : arg11.IsWhole) (arg12 : Memref sig .tc .vmem S5x112x128 .f32) (harg12 : arg12.IsWhole) (arg13 : Memref sig .tc .vmem S208x128 .f32) (harg13 : arg13.IsWhole) (arg14 : Memref sig .tc .vmem S128x256 .bf16) (harg14 : arg14.IsWhole) (arg15 : Memref sig .tc .vmem S16x240 .f32) (harg15 : arg15.IsWhole) (arg16 : Memref sig .tc .vmem S80x160 .f32) (harg16 : arg16.IsWhole) (arg17 : Memref sig .tc .vmem S208x224 .f32) (harg17 : arg17.IsWhole) (arg18 : Memref sig .tc .vmem S8x112x208 .f32) (harg18 : arg18.IsWhole) (arg19 : Memref sig .tc .vmem S15x112x256 .bf16) (harg19 : arg19.IsWhole) (arg20 : Memref sig .tc .vmem S3x640x256 .bf16) (harg20 : arg20.IsWhole) (arg21 : Memref sig .tc .vmem S15x224x256 .bf16) (harg21 : arg21.IsWhole) (arg22 : Memref sig .tc .vmem S15x208x256 .bf16) (harg22 : arg22.IsWhole) (arg23 : Memref sig .tc .vmem S15x208x256 .bf16) (harg23 : arg23.IsWhole) (arg24 : Memref sig .tc .vmem S3x2x5x128x256 .bf16) (harg24 : arg24.IsWhole) (arg25 : Memref sig .tc .vmem S8x240x256 .bf16) (harg25 : arg25.IsWhole) (hc0 : ¬cond0_0 i) (hc1 : cond0_1 i)     (x0 : Vec Ideal S128x256 .bf16) (x1 : Vec Ideal S15x108x256 .fp8e5m2) (x2 : Vec Ideal S1x256 .f32) (x3 : Vec Ideal S280x160 .bf16) (x4 : Vec Ideal S208x224 .bf16) (x5 : Vec Ideal S1x208x112 .bf16) (x6 : Vec Ideal S256x208 .bf16) (x7 : Vec Ideal S80x160 .bf16) (x8 : Vec Ideal S16x240 .bf16) (x9 : Vec Ideal S3x3x40x128 .f32) (x10 : Vec Ideal S5x112x128 .f32) (x11 : Vec Ideal S208x128 .f32) (xo13 : Vec Ideal S16x240 .f32) (xo14 : Vec Ideal S80x160 .f32) (xo15 : Vec Ideal S208x224 .f32) (xo16 : Vec Ideal S8x112x208 .f32)  :
    Fills keydx (gdx x1 x2 x5 x6 x7 x8) (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo13 xo14 xo15 xo16).1 8 := by
  unfold kernelRun0_C
  dsimp only
  delta kernelRun0_C.sl.r_152 kernelRun0_C.sl.v3006 kernelRun0_C.sl.v2993 kernelRun0_C.sl.r_150 kernelRun0_C.sl.v2980 kernelRun0_C.sl.v2967 kernelRun0_C.sl.r_148 kernelRun0_C.sl.v2954 kernelRun0_C.sl.v2941 kernelRun0_C.sl.r_146 kernelRun0_C.sl.v2928 kernelRun0_C.sl.v2916
  dsimp only
  iterate 8
    refine dx_step (by rfl) (by rfl) (fun _ => ld_bf16 _ _ _ _ _ _) (fun _ => loadq1 (q1_24 c arg3 harg3 arg4 harg4 arg7 harg7 arg8 harg8 arg9 harg9 arg23 arg24 x1 x2 x5 x6 x7) (by decide) _) ?_
  exact Fills.nil _ _

set_option maxHeartbeats 400000 in
/-- The first core's gradient after the point: what it held, and the point's terms. -/
theorem dg1_acc (c : Dev nD) (i : grid0.Coords) (arg2 : Memref sig .tc .vmem S128x256 .bf16) (harg2 : arg2.IsWhole) (arg3 : Memref sig .tc .vmem S15x108x256 .fp8e5m2) (harg3 : arg3.IsWhole) (arg4 : Memref sig .tc .vmem S1x256 .f32) (harg4 : arg4.IsWhole) (arg5 : Memref sig .tc .vmem S280x160 .bf16) (harg5 : arg5.IsWhole) (arg6 : Memref sig .tc .vmem S208x224 .bf16) (harg6 : arg6.IsWhole) (arg7 : Memref sig .tc .vmem S1x208x112 .bf16) (harg7 : arg7.IsWhole) (arg8 : Memref sig .tc .vmem S256x208 .bf16) (harg8 : arg8.IsWhole) (arg9 : Memref sig .tc .vmem S80x160 .bf16) (harg9 : arg9.IsWhole) (arg10 : Memref sig .tc .vmem S16x240 .bf16) (harg10 : arg10.IsWhole) (arg11 : Memref sig .tc .vmem S3x3x40x128 .f32) (harg11 : arg11.IsWhole) (arg12 : Memref sig .tc .vmem S5x112x128 .f32) (harg12 : arg12.IsWhole) (arg13 : Memref sig .tc .vmem S208x128 .f32) (harg13 : arg13.IsWhole) (arg14 : Memref sig .tc .vmem S128x256 .bf16) (harg14 : arg14.IsWhole) (arg15 : Memref sig .tc .vmem S16x240 .f32) (harg15 : arg15.IsWhole) (arg16 : Memref sig .tc .vmem S80x160 .f32) (harg16 : arg16.IsWhole) (arg17 : Memref sig .tc .vmem S208x224 .f32) (harg17 : arg17.IsWhole) (arg18 : Memref sig .tc .vmem S8x112x208 .f32) (harg18 : arg18.IsWhole) (arg19 : Memref sig .tc .vmem S15x112x256 .bf16) (harg19 : arg19.IsWhole) (arg20 : Memref sig .tc .vmem S3x640x256 .bf16) (harg20 : arg20.IsWhole) (arg21 : Memref sig .tc .vmem S15x224x256 .bf16) (harg21 : arg21.IsWhole) (arg22 : Memref sig .tc .vmem S15x208x256 .bf16) (harg22 : arg22.IsWhole) (arg23 : Memref sig .tc .vmem S15x208x256 .bf16) (harg23 : arg23.IsWhole) (arg24 : Memref sig .tc .vmem S3x2x5x128x256 .bf16) (harg24 : arg24.IsWhole) (arg25 : Memref sig .tc .vmem S8x240x256 .bf16) (harg25 : arg25.IsWhole) (hc0 : ¬cond0_0 i) (hc1 : cond0_1 i)     (x0 : Vec Ideal S128x256 .bf16) (x1 : Vec Ideal S15x108x256 .fp8e5m2) (x2 : Vec Ideal S1x256 .f32) (x3 : Vec Ideal S280x160 .bf16) (x4 : Vec Ideal S208x224 .bf16) (x5 : Vec Ideal S1x208x112 .bf16) (x6 : Vec Ideal S256x208 .bf16) (x7 : Vec Ideal S80x160 .bf16) (x8 : Vec Ideal S16x240 .bf16) (x9 : Vec Ideal S3x3x40x128 .f32) (x10 : Vec Ideal S5x112x128 .f32) (x11 : Vec Ideal S208x128 .f32) (xo13 : Vec Ideal S16x240 .f32) (xo14 : Vec Ideal S80x160 .f32) (xo15 : Vec Ideal S208x224 .f32) (xo16 : Vec Ideal S8x112x208 .f32)
    {sig' : RefSig} {κ : Kind} {sp : Space} (v : View sig' κ sp S16x240 .f32) (f) (y : S16x240.Idx) :
    v.read (Elt Ideal) (v.writes (Elt Ideal) f (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo13 xo14 xo15 xo16).2.1) y
      = xo13 y + ∑ g : Fin 8, t1 x0 x1 x2 x5 x6 x7 g.val (y 0).val (y 1).val := by
  rw [Fin.sum_univ_eight]
  revert y
  unfold kernelRun0_C
  dsimp only
  delta kernelRun0_C.sl.r_151 kernelRun0_C.sl.r_149 kernelRun0_C.sl.r_147 kernelRun0_C.sl.r_145 kernelRun0_C.sl.v2916 kernelRun0_C.sl.v2928 kernelRun0_C.sl.v2941 kernelRun0_C.sl.v2954 kernelRun0_C.sl.v2967 kernelRun0_C.sl.v2980 kernelRun0_C.sl.v2993 kernelRun0_C.sl.v3013
  dsimp only [k0_pay358, k0_pay361, k0_pay365, k0_pay369, k0_pay1]
  refine read_top ?_
  refine has_add (has_old1 (has_whole _ _ (by decide) _)) ?_
  iterate 7
    refine has_add ?_ ?_
    on_goal 2 => exact has_mm1 (by rfl) (fun _ => ld_bf16 _ _ _ _ _ _) (fun _ => loadq1 (q1_24 c arg3 harg3 arg4 harg4 arg7 harg7 arg8 harg8 arg9 harg9 arg23 arg24 x1 x2 x5 x6 x7) (by decide) _)
  exact has_mm1 (by rfl) (fun _ => ld_bf16 _ _ _ _ _ _) (fun _ => loadq1 (q1_24 c arg3 harg3 arg4 harg4 arg7 harg7 arg8 harg8 arg9 harg9 arg23 arg24 x1 x2 x5 x6 x7) (by decide) _)

set_option maxHeartbeats 400000 in
/-- The second core's gradient after the point: what it held, and the point's terms. -/
theorem dg2_acc (c : Dev nD) (i : grid0.Coords) (arg2 : Memref sig .tc .vmem S128x256 .bf16) (harg2 : arg2.IsWhole) (arg3 : Memref sig .tc .vmem S15x108x256 .fp8e5m2) (harg3 : arg3.IsWhole) (arg4 : Memref sig .tc .vmem S1x256 .f32) (harg4 : arg4.IsWhole) (arg5 : Memref sig .tc .vmem S280x160 .bf16) (harg5 : arg5.IsWhole) (arg6 : Memref sig .tc .vmem S208x224 .bf16) (harg6 : arg6.IsWhole) (arg7 : Memref sig .tc .vmem S1x208x112 .bf16) (harg7 : arg7.IsWhole) (arg8 : Memref sig .tc .vmem S256x208 .bf16) (harg8 : arg8.IsWhole) (arg9 : Memref sig .tc .vmem S80x160 .bf16) (harg9 : arg9.IsWhole) (arg10 : Memref sig .tc .vmem S16x240 .bf16) (harg10 : arg10.IsWhole) (arg11 : Memref sig .tc .vmem S3x3x40x128 .f32) (harg11 : arg11.IsWhole) (arg12 : Memref sig .tc .vmem S5x112x128 .f32) (harg12 : arg12.IsWhole) (arg13 : Memref sig .tc .vmem S208x128 .f32) (harg13 : arg13.IsWhole) (arg14 : Memref sig .tc .vmem S128x256 .bf16) (harg14 : arg14.IsWhole) (arg15 : Memref sig .tc .vmem S16x240 .f32) (harg15 : arg15.IsWhole) (arg16 : Memref sig .tc .vmem S80x160 .f32) (harg16 : arg16.IsWhole) (arg17 : Memref sig .tc .vmem S208x224 .f32) (harg17 : arg17.IsWhole) (arg18 : Memref sig .tc .vmem S8x112x208 .f32) (harg18 : arg18.IsWhole) (arg19 : Memref sig .tc .vmem S15x112x256 .bf16) (harg19 : arg19.IsWhole) (arg20 : Memref sig .tc .vmem S3x640x256 .bf16) (harg20 : arg20.IsWhole) (arg21 : Memref sig .tc .vmem S15x224x256 .bf16) (harg21 : arg21.IsWhole) (arg22 : Memref sig .tc .vmem S15x208x256 .bf16) (harg22 : arg22.IsWhole) (arg23 : Memref sig .tc .vmem S15x208x256 .bf16) (harg23 : arg23.IsWhole) (arg24 : Memref sig .tc .vmem S3x2x5x128x256 .bf16) (harg24 : arg24.IsWhole) (arg25 : Memref sig .tc .vmem S8x240x256 .bf16) (harg25 : arg25.IsWhole) (hc0 : ¬cond0_0 i) (hc1 : cond0_1 i)     (x0 : Vec Ideal S128x256 .bf16) (x1 : Vec Ideal S15x108x256 .fp8e5m2) (x2 : Vec Ideal S1x256 .f32) (x3 : Vec Ideal S280x160 .bf16) (x4 : Vec Ideal S208x224 .bf16) (x5 : Vec Ideal S1x208x112 .bf16) (x6 : Vec Ideal S256x208 .bf16) (x7 : Vec Ideal S80x160 .bf16) (x8 : Vec Ideal S16x240 .bf16) (x9 : Vec Ideal S3x3x40x128 .f32) (x10 : Vec Ideal S5x112x128 .f32) (x11 : Vec Ideal S208x128 .f32) (xo13 : Vec Ideal S16x240 .f32) (xo14 : Vec Ideal S80x160 .f32) (xo15 : Vec Ideal S208x224 .f32) (xo16 : Vec Ideal S8x112x208 .f32)
    {sig' : RefSig} {κ : Kind} {sp : Space} (v : View sig' κ sp S80x160 .f32) (f) (y : S80x160.Idx) :
    v.read (Elt Ideal) (v.writes (Elt Ideal) f (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo13 xo14 xo15 xo16).2.2.1) y
      = ((xo14 y + ∑ g : Fin 8, t2 x0 x9 x1 x2 x5 x6 0 (g.val / 4) (g.val % 4) (y 0).val (y 1).val) + ∑ g : Fin 8, t2 x0 x9 x1 x2 x5 x6 1 (g.val / 4) (g.val % 4) (y 0).val (y 1).val) + ∑ g : Fin 8, t2 x0 x9 x1 x2 x5 x6 2 (g.val / 4) (g.val % 4) (y 0).val (y 1).val := by
  simp only [Fin.sum_univ_eight]
  revert y
  unfold kernelRun0_C
  dsimp only
  delta kernelRun0_C.sl.r_143 kernelRun0_C.sl.r_141 kernelRun0_C.sl.v2738 kernelRun0_C.sl.v2858 kernelRun0_C.sl.v2748 kernelRun0_C.sl.v2864 kernelRun0_C.sl.r_142 kernelRun0_C.sl.v2758 kernelRun0_C.sl.v2871 kernelRun0_C.sl.v2768 kernelRun0_C.sl.v2878 kernelRun0_C.sl.v2778 kernelRun0_C.sl.v2885 kernelRun0_C.sl.v2788 kernelRun0_C.sl.v2892 kernelRun0_C.sl.r_144 kernelRun0_C.sl.v2798 kernelRun0_C.sl.v2899 kernelRun0_C.sl.v2808 kernelRun0_C.sl.v2906 kernelRun0_C.sl.v2910 kernelRun0_C.sl.H14_2 kernelRun0_C.sl.r_99 kernelRun0_C.sl.r_96 kernelRun0_C.sl.v1770 kernelRun0_C.sl.v1890 kernelRun0_C.sl.r_97 kernelRun0_C.sl.v1780 kernelRun0_C.sl.r_98 kernelRun0_C.sl.v1896 kernelRun0_C.sl.cst_1433 kernelRun0_C.sl.v1790 kernelRun0_C.sl.v1903 kernelRun0_C.sl.v1800 kernelRun0_C.sl.v1910 kernelRun0_C.sl.v1810 kernelRun0_C.sl.v1917 kernelRun0_C.sl.r_100 kernelRun0_C.sl.v1820 kernelRun0_C.sl.v1924 kernelRun0_C.sl.v1830 kernelRun0_C.sl.v1931 kernelRun0_C.sl.v1840 kernelRun0_C.sl.v1938 kernelRun0_C.sl.v1942 kernelRun0_C.sl.H14_1 kernelRun0_C.sl.r_48 kernelRun0_C.sl.r_46 kernelRun0_C.sl.r_45 kernelRun0_C.sl.v802 kernelRun0_C.sl.v922 kernelRun0_C.sl.v812 kernelRun0_C.sl.v928 kernelRun0_C.sl.v822 kernelRun0_C.sl.v935 kernelRun0_C.sl.v832 kernelRun0_C.sl.v942 kernelRun0_C.sl.r_47 kernelRun0_C.sl.v842 kernelRun0_C.sl.v949 kernelRun0_C.sl.v852 kernelRun0_C.sl.v956 kernelRun0_C.sl.v862 kernelRun0_C.sl.v963 kernelRun0_C.sl.v872 kernelRun0_C.sl.v970
  dsimp only [k0_pay352, k0_pay353, k0_pay354, k0_pay355, k0_pay242, k0_pay243, k0_pay244, k0_pay245, k0_pay246, k0_pay126, k0_pay127, k0_pay128, k0_pay129, k0_pay247, k0_pay356]
  refine read_top ?_
  refine has_add (has_old2 ?_) ?_
  on_goal 2 =>
    iterate 7
      refine has_add ?_ ?_
      on_goal 2 => exact has_mm2 (by rfl) (by rfl) (fun _ => load2w (l2_48 c arg2 harg2 arg11 harg11 x0 x9) (by decide) _) (fun _ => loadq2 (q2_30 c arg3 harg3 arg4 harg4 arg7 harg7 arg8 harg8 arg23 x1 x2 x5 x6) (by decide) _)
    exact has_mm2 (by rfl) (by rfl) (fun _ => load2w (l2_48 c arg2 harg2 arg11 harg11 x0 x9) (by decide) _) (fun _ => loadq2 (q2_30 c arg3 harg3 arg4 harg4 arg7 harg7 arg8 harg8 arg23 x1 x2 x5 x6) (by decide) _)
  refine has_topw ?_
  refine has_add (has_old2 ?_) ?_
  on_goal 2 =>
    iterate 7
      refine has_add ?_ ?_
      on_goal 2 => exact has_mm2 (by rfl) (by rfl) (fun _ => load2w (l2_32 c arg2 harg2 arg11 harg11 x0 x9) (by decide) _) (fun _ => loadq2 (q2_20 c arg3 harg3 arg4 harg4 arg7 harg7 arg8 harg8 arg23 x1 x2 x5 x6) (by decide) _)
    exact has_mm2 (by rfl) (by rfl) (fun _ => load2w (l2_32 c arg2 harg2 arg11 harg11 x0 x9) (by decide) _) (fun _ => loadq2 (q2_20 c arg3 harg3 arg4 harg4 arg7 harg7 arg8 harg8 arg23 x1 x2 x5 x6) (by decide) _)
  refine has_topw ?_
  refine has_add (has_old2 ?_) ?_
  on_goal 2 =>
    iterate 7
      refine has_add ?_ ?_
      on_goal 2 => exact has_mm2 (by rfl) (by rfl) (fun _ => load2w (l2_16 c arg2 harg2 arg11 harg11 x0 x9) (by decide) _) (fun _ => loadq2 (q2_10 c arg3 harg3 arg4 harg4 arg7 harg7 arg8 harg8 arg23 x1 x2 x5 x6) (by decide) _)
    exact has_mm2 (by rfl) (by rfl) (fun _ => load2w (l2_16 c arg2 harg2 arg11 harg11 x0 x9) (by decide) _) (fun _ => loadq2 (q2_10 c arg3 harg3 arg4 harg4 arg7 harg7 arg8 harg8 arg23 x1 x2 x5 x6) (by decide) _)
  exact has_whole _ _ (by decide) _

set_option maxHeartbeats 400000 in
/-- The third core's gradient after the point: what it held, and the point's terms. -/
theorem dg3_acc (c : Dev nD) (i : grid0.Coords) (arg2 : Memref sig .tc .vmem S128x256 .bf16) (harg2 : arg2.IsWhole) (arg3 : Memref sig .tc .vmem S15x108x256 .fp8e5m2) (harg3 : arg3.IsWhole) (arg4 : Memref sig .tc .vmem S1x256 .f32) (harg4 : arg4.IsWhole) (arg5 : Memref sig .tc .vmem S280x160 .bf16) (harg5 : arg5.IsWhole) (arg6 : Memref sig .tc .vmem S208x224 .bf16) (harg6 : arg6.IsWhole) (arg7 : Memref sig .tc .vmem S1x208x112 .bf16) (harg7 : arg7.IsWhole) (arg8 : Memref sig .tc .vmem S256x208 .bf16) (harg8 : arg8.IsWhole) (arg9 : Memref sig .tc .vmem S80x160 .bf16) (harg9 : arg9.IsWhole) (arg10 : Memref sig .tc .vmem S16x240 .bf16) (harg10 : arg10.IsWhole) (arg11 : Memref sig .tc .vmem S3x3x40x128 .f32) (harg11 : arg11.IsWhole) (arg12 : Memref sig .tc .vmem S5x112x128 .f32) (harg12 : arg12.IsWhole) (arg13 : Memref sig .tc .vmem S208x128 .f32) (harg13 : arg13.IsWhole) (arg14 : Memref sig .tc .vmem S128x256 .bf16) (harg14 : arg14.IsWhole) (arg15 : Memref sig .tc .vmem S16x240 .f32) (harg15 : arg15.IsWhole) (arg16 : Memref sig .tc .vmem S80x160 .f32) (harg16 : arg16.IsWhole) (arg17 : Memref sig .tc .vmem S208x224 .f32) (harg17 : arg17.IsWhole) (arg18 : Memref sig .tc .vmem S8x112x208 .f32) (harg18 : arg18.IsWhole) (arg19 : Memref sig .tc .vmem S15x112x256 .bf16) (harg19 : arg19.IsWhole) (arg20 : Memref sig .tc .vmem S3x640x256 .bf16) (harg20 : arg20.IsWhole) (arg21 : Memref sig .tc .vmem S15x224x256 .bf16) (harg21 : arg21.IsWhole) (arg22 : Memref sig .tc .vmem S15x208x256 .bf16) (harg22 : arg22.IsWhole) (arg23 : Memref sig .tc .vmem S15x208x256 .bf16) (harg23 : arg23.IsWhole) (arg24 : Memref sig .tc .vmem S3x2x5x128x256 .bf16) (harg24 : arg24.IsWhole) (arg25 : Memref sig .tc .vmem S8x240x256 .bf16) (harg25 : arg25.IsWhole) (hc0 : ¬cond0_0 i) (hc1 : cond0_1 i)     (x0 : Vec Ideal S128x256 .bf16) (x1 : Vec Ideal S15x108x256 .fp8e5m2) (x2 : Vec Ideal S1x256 .f32) (x3 : Vec Ideal S280x160 .bf16) (x4 : Vec Ideal S208x224 .bf16) (x5 : Vec Ideal S1x208x112 .bf16) (x6 : Vec Ideal S256x208 .bf16) (x7 : Vec Ideal S80x160 .bf16) (x8 : Vec Ideal S16x240 .bf16) (x9 : Vec Ideal S3x3x40x128 .f32) (x10 : Vec Ideal S5x112x128 .f32) (x11 : Vec Ideal S208x128 .f32) (xo13 : Vec Ideal S16x240 .f32) (xo14 : Vec Ideal S80x160 .f32) (xo15 : Vec Ideal S208x224 .f32) (xo16 : Vec Ideal S8x112x208 .f32)
    {sig' : RefSig} {κ : Kind} {sp : Space} (v : View sig' κ sp S208x224 .f32) (f) (y : S208x224.Idx) :
    v.read (Elt Ideal) (v.writes (Elt Ideal) f (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo13 xo14 xo15 xo16).2.2.2.1) y
      = ((xo15 y + ∑ g : Fin 5, t3 x0 x3 x9 x10 x1 x2 x5 (0 + g.val) (y 0).val (y 1).val) + ∑ g : Fin 5, t3 x0 x3 x9 x10 x1 x2 x5 (5 + g.val) (y 0).val (y 1).val) + ∑ g : Fin 5, t3 x0 x3 x9 x10 x1 x2 x5 (10 + g.val) (y 0).val (y 1).val := by
  simp only [Fin.sum_univ_five]
  revert y
  unfold kernelRun0_C
  dsimp only
  delta kernelRun0_C.sl.r_136 kernelRun0_C.sl.r_135 kernelRun0_C.sl.v2567 kernelRun0_C.sl.v2642 kernelRun0_C.sl.v2582 kernelRun0_C.sl.v2655 kernelRun0_C.sl.v2597 kernelRun0_C.sl.v2668 kernelRun0_C.sl.v2612 kernelRun0_C.sl.v2681 kernelRun0_C.sl.v2627 kernelRun0_C.sl.v2694 kernelRun0_C.sl.v2734 kernelRun0_C.sl.H15_2 kernelRun0_C.sl.r_90 kernelRun0_C.sl.v1599 kernelRun0_C.sl.v1674 kernelRun0_C.sl.v1614 kernelRun0_C.sl.v1687 kernelRun0_C.sl.v1629 kernelRun0_C.sl.v1700 kernelRun0_C.sl.v1644 kernelRun0_C.sl.v1713 kernelRun0_C.sl.v1659 kernelRun0_C.sl.v1726 kernelRun0_C.sl.v1766 kernelRun0_C.sl.H15_1 kernelRun0_C.sl.r_40 kernelRun0_C.sl.v631 kernelRun0_C.sl.v706 kernelRun0_C.sl.v646 kernelRun0_C.sl.v719 kernelRun0_C.sl.v661 kernelRun0_C.sl.v732 kernelRun0_C.sl.v676 kernelRun0_C.sl.v745 kernelRun0_C.sl.v691 kernelRun0_C.sl.v758
  dsimp only [k0_pay337, k0_pay226, k0_pay111, k0_pay112, k0_pay227, k0_pay338]
  refine read_top ?_
  refine has_add (has_old3 ?_) ?_
  on_goal 2 =>
    iterate 4
      refine has_add ?_ ?_
      on_goal 2 => exact has_mm3 (fun _ => loadq3 (q3_15 c arg3 harg3 arg4 harg4 arg7 harg7 x1 x2 x5) (by decide) _) (fun _ => load3 (l3_30 c arg2 harg2 arg5 harg5 arg11 harg11 arg12 harg12 arg20 x0 x3 x9 x10) (by decide) _)
    exact has_mm3 (fun _ => loadq3 (q3_15 c arg3 harg3 arg4 harg4 arg7 harg7 x1 x2 x5) (by decide) _) (fun _ => load3 (l3_30 c arg2 harg2 arg5 harg5 arg11 harg11 arg12 harg12 arg20 x0 x3 x9 x10) (by decide) _)
  refine has_topw ?_
  refine has_add (has_old3 ?_) ?_
  on_goal 2 =>
    iterate 4
      refine has_add ?_ ?_
      on_goal 2 => exact has_mm3 (fun _ => loadq3 (q3_10 c arg3 harg3 arg4 harg4 arg7 harg7 x1 x2 x5) (by decide) _) (fun _ => load3 (l3_20 c arg2 harg2 arg5 harg5 arg11 harg11 arg12 harg12 arg20 x0 x3 x9 x10) (by decide) _)
    exact has_mm3 (fun _ => loadq3 (q3_10 c arg3 harg3 arg4 harg4 arg7 harg7 x1 x2 x5) (by decide) _) (fun _ => load3 (l3_20 c arg2 harg2 arg5 harg5 arg11 harg11 arg12 harg12 arg20 x0 x3 x9 x10) (by decide) _)
  refine has_topw ?_
  refine has_add (has_old3 ?_) ?_
  on_goal 2 =>
    iterate 4
      refine has_add ?_ ?_
      on_goal 2 => exact has_mm3 (fun _ => loadq3 (q3_5 c arg3 harg3 arg4 harg4 arg7 harg7 x1 x2 x5) (by decide) _) (fun _ => load3 (l3_10 c arg2 harg2 arg5 harg5 arg11 harg11 arg12 harg12 arg20 x0 x3 x9 x10) (by decide) _)
    exact has_mm3 (fun _ => loadq3 (q3_5 c arg3 harg3 arg4 harg4 arg7 harg7 x1 x2 x5) (by decide) _) (fun _ => load3 (l3_10 c arg2 harg2 arg5 harg5 arg11 harg11 arg12 harg12 arg20 x0 x3 x9 x10) (by decide) _)
  exact has_whole _ _ (by decide) _

set_option maxHeartbeats 400000 in
/-- The fourth core's gradient after the point: what it held, and in the point's block the point's terms. -/
theorem dg4_acc (c : Dev nD) (i : grid0.Coords) (arg2 : Memref sig .tc .vmem S128x256 .bf16) (harg2 : arg2.IsWhole) (arg3 : Memref sig .tc .vmem S15x108x256 .fp8e5m2) (harg3 : arg3.IsWhole) (arg4 : Memref sig .tc .vmem S1x256 .f32) (harg4 : arg4.IsWhole) (arg5 : Memref sig .tc .vmem S280x160 .bf16) (harg5 : arg5.IsWhole) (arg6 : Memref sig .tc .vmem S208x224 .bf16) (harg6 : arg6.IsWhole) (arg7 : Memref sig .tc .vmem S1x208x112 .bf16) (harg7 : arg7.IsWhole) (arg8 : Memref sig .tc .vmem S256x208 .bf16) (harg8 : arg8.IsWhole) (arg9 : Memref sig .tc .vmem S80x160 .bf16) (harg9 : arg9.IsWhole) (arg10 : Memref sig .tc .vmem S16x240 .bf16) (harg10 : arg10.IsWhole) (arg11 : Memref sig .tc .vmem S3x3x40x128 .f32) (harg11 : arg11.IsWhole) (arg12 : Memref sig .tc .vmem S5x112x128 .f32) (harg12 : arg12.IsWhole) (arg13 : Memref sig .tc .vmem S208x128 .f32) (harg13 : arg13.IsWhole) (arg14 : Memref sig .tc .vmem S128x256 .bf16) (harg14 : arg14.IsWhole) (arg15 : Memref sig .tc .vmem S16x240 .f32) (harg15 : arg15.IsWhole) (arg16 : Memref sig .tc .vmem S80x160 .f32) (harg16 : arg16.IsWhole) (arg17 : Memref sig .tc .vmem S208x224 .f32) (harg17 : arg17.IsWhole) (arg18 : Memref sig .tc .vmem S8x112x208 .f32) (harg18 : arg18.IsWhole) (arg19 : Memref sig .tc .vmem S15x112x256 .bf16) (harg19 : arg19.IsWhole) (arg20 : Memref sig .tc .vmem S3x640x256 .bf16) (harg20 : arg20.IsWhole) (arg21 : Memref sig .tc .vmem S15x224x256 .bf16) (harg21 : arg21.IsWhole) (arg22 : Memref sig .tc .vmem S15x208x256 .bf16) (harg22 : arg22.IsWhole) (arg23 : Memref sig .tc .vmem S15x208x256 .bf16) (harg23 : arg23.IsWhole) (arg24 : Memref sig .tc .vmem S3x2x5x128x256 .bf16) (harg24 : arg24.IsWhole) (arg25 : Memref sig .tc .vmem S8x240x256 .bf16) (harg25 : arg25.IsWhole) (hc0 : ¬cond0_0 i) (hc1 : cond0_1 i)     (x0 : Vec Ideal S128x256 .bf16) (x1 : Vec Ideal S15x108x256 .fp8e5m2) (x2 : Vec Ideal S1x256 .f32) (x3 : Vec Ideal S280x160 .bf16) (x4 : Vec Ideal S208x224 .bf16) (x5 : Vec Ideal S1x208x112 .bf16) (x6 : Vec Ideal S256x208 .bf16) (x7 : Vec Ideal S80x160 .bf16) (x8 : Vec Ideal S16x240 .bf16) (x9 : Vec Ideal S3x3x40x128 .f32) (x10 : Vec Ideal S5x112x128 .f32) (x11 : Vec Ideal S208x128 .f32) (xo13 : Vec Ideal S16x240 .f32) (xo14 : Vec Ideal S80x160 .f32) (xo15 : Vec Ideal S208x224 .f32) (xo16 : Vec Ideal S8x112x208 .f32)
    {sig' : RefSig} {κ : Kind} {sp : Space} (v : View sig' κ sp S8x112x208 .f32) (f) (hf : v.read (Elt Ideal) f = xo16) (y : S8x112x208.Idx) :
    v.read (Elt Ideal) (v.writes (Elt Ideal) f (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo13 xo14 xo15 xo16).2.2.2.2.1) y
      = if (y 0).val = (i 1).val then
          ((xo16 y + ∑ g : Fin 5, t4 x0 x3 x4 x9 x10 x11 (gd x1 x2) (0 + g.val) (y 1).val (y 2).val) + ∑ g : Fin 5, t4 x0 x3 x4 x9 x10 x11 (gd x1 x2) (5 + g.val) (y 1).val (y 2).val) + ∑ g : Fin 5, t4 x0 x3 x4 x9 x10 x11 (gd x1 x2) (10 + g.val) (y 1).val (y 2).val
        else xo16 y := by
  unfold kernelRun0_C
  dsimp only
  delta kernelRun0_C.sl.r_139 kernelRun0_C.sl.v2818 kernelRun0_C.sl.v2820 kernelRun0_C.sl.v2823 kernelRun0_C.sl.v2825 kernelRun0_C.sl.v2829 kernelRun0_C.sl.v2831 kernelRun0_C.sl.v2835 kernelRun0_C.sl.v2837 kernelRun0_C.sl.r_140 kernelRun0_C.sl.v2841 kernelRun0_C.sl.v2843 kernelRun0_C.sl.v2848 kernelRun0_C.sl.H16_2 kernelRun0_C.sl.r_94 kernelRun0_C.sl.v1850 kernelRun0_C.sl.v1852 kernelRun0_C.sl.v1855 kernelRun0_C.sl.v1857 kernelRun0_C.sl.v1861 kernelRun0_C.sl.v1863 kernelRun0_C.sl.r_95 kernelRun0_C.sl.v1867 kernelRun0_C.sl.v1869 kernelRun0_C.sl.v1873 kernelRun0_C.sl.v1875 kernelRun0_C.sl.v1880 kernelRun0_C.sl.H16_1 kernelRun0_C.sl.r_44 kernelRun0_C.sl.v882 kernelRun0_C.sl.v884 kernelRun0_C.sl.v887 kernelRun0_C.sl.v889 kernelRun0_C.sl.v893 kernelRun0_C.sl.v895 kernelRun0_C.sl.v899 kernelRun0_C.sl.v901 kernelRun0_C.sl.v905 kernelRun0_C.sl.v907
  dsimp only [k0_pay349, k0_pay350, k0_pay239, k0_pay240, k0_pay124, k0_pay125, k0_pay241, k0_pay351]
  refine read_block4 (k0_off1_eq i) (fun hy => ?_) (fun hy => ?_)
  · refine Eq.trans (has_acc4 (f := fun z => ((fun z : S1x112x208.Idx => rd (s := S8x112x208) xo16 (fun q => k0_off1 i q + (z q).val)) z + (fun z : S112x208.Idx => ∑ g : Fin 5, t4 x0 x3 x4 x9 x10 x11 (gd x1 x2) (0 + g.val) (z 0).val (z 1).val) (ix2 (z 1) (z 2))) + (fun z : S112x208.Idx => ∑ g : Fin 5, t4 x0 x3 x4 x9 x10 x11 (gd x1 x2) (5 + g.val) (z 0).val (z 1).val) (ix2 (z 1) (z 2))) (g := (fun z : S112x208.Idx => ∑ g : Fin 5, t4 x0 x3 x4 x9 x10 x11 (gd x1 x2) (10 + g.val) (z 0).val (z 1).val)) (has_top (s := S8x112x208) (size := S1x112x208.size) (has_acc4 (f := fun z => (fun z : S1x112x208.Idx => rd (s := S8x112x208) xo16 (fun q => k0_off1 i q + (z q).val)) z + (fun z : S112x208.Idx => ∑ g : Fin 5, t4 x0 x3 x4 x9 x10 x11 (gd x1 x2) (0 + g.val) (z 0).val (z 1).val) (ix2 (z 1) (z 2))) (g := (fun z : S112x208.Idx => ∑ g : Fin 5, t4 x0 x3 x4 x9 x10 x11 (gd x1 x2) (5 + g.val) (z 0).val (z 1).val)) (has_top (s := S8x112x208) (size := S1x112x208.size) (has_acc4 (f := (fun z : S1x112x208.Idx => rd (s := S8x112x208) xo16 (fun q => k0_off1 i q + (z q).val))) (g := (fun z : S112x208.Idx => ∑ g : Fin 5, t4 x0 x3 x4 x9 x10 x11 (gd x1 x2) (0 + g.val) (z 0).val (z 1).val)) ?_ ?_)) ?_)) ?_ _) ?_
    · exact fun z => ld_f32 harg18 xo16 _ _ _ z
    · simp only [Fin.sum_univ_five]
      iterate 4
        refine has_add ?_ ?_
        on_goal 2 => exact has_mm4 (fun _ => loadD (d_15 c arg3 harg3 arg4 harg4 x1 x2) _) (fun _ => load4 (l4_5 c arg2 harg2 arg5 harg5 arg6 harg6 arg11 harg11 arg12 harg12 arg13 harg13 arg20 arg21 x0 x3 x4 x9 x10 x11) (by decide) _)
      exact has_mm4 (fun _ => loadD (d_15 c arg3 harg3 arg4 harg4 x1 x2) _) (fun _ => load4 (l4_5 c arg2 harg2 arg5 harg5 arg6 harg6 arg11 harg11 arg12 harg12 arg13 harg13 arg20 arg21 x0 x3 x4 x9 x10 x11) (by decide) _)
    · simp only [Fin.sum_univ_five]
      iterate 4
        refine has_add ?_ ?_
        on_goal 2 => exact has_mm4 (fun _ => loadD (d_15 c arg3 harg3 arg4 harg4 x1 x2) _) (fun _ => load4 (l4_10 c arg2 harg2 arg5 harg5 arg6 harg6 arg11 harg11 arg12 harg12 arg13 harg13 arg20 arg21 x0 x3 x4 x9 x10 x11) (by decide) _)
      exact has_mm4 (fun _ => loadD (d_15 c arg3 harg3 arg4 harg4 x1 x2) _) (fun _ => load4 (l4_10 c arg2 harg2 arg5 harg5 arg6 harg6 arg11 harg11 arg12 harg12 arg13 harg13 arg20 arg21 x0 x3 x4 x9 x10 x11) (by decide) _)
    · simp only [Fin.sum_univ_five]
      iterate 4
        refine has_add ?_ ?_
        on_goal 2 => exact has_mm4 (fun _ => loadD (d_15 c arg3 harg3 arg4 harg4 x1 x2) _) (fun _ => load4 (l4_15 c arg2 harg2 arg5 harg5 arg6 harg6 arg11 harg11 arg12 harg12 arg13 harg13 arg20 arg21 x0 x3 x4 x9 x10 x11) (by decide) _)
      exact has_mm4 (fun _ => loadD (d_15 c arg3 harg3 arg4 harg4 x1 x2) _) (fun _ => load4 (l4_15 c arg2 harg2 arg5 harg5 arg6 harg6 arg11 harg11 arg12 harg12 arg13 harg13 arg20 arg21 x0 x3 x4 x9 x10 x11) (by decide) _)
    · dsimp only
      rw [rd_of xo16 _ y fun a => by rw [k0_off1_eq i]; fin_cases a <;> simp [*]]
      rfl
  · exact read_block4_off (k0_off1_eq i) hy (read_block4_off (k0_off1_eq i) hy (congrFun hf y))

/-- The scaled gradient the point leaves for the points after it. -/
theorem dyd_out (c : Dev nD) (i : grid0.Coords) (arg2 : Memref sig .tc .vmem S128x256 .bf16) (harg2 : arg2.IsWhole) (arg3 : Memref sig .tc .vmem S15x108x256 .fp8e5m2) (harg3 : arg3.IsWhole) (arg4 : Memref sig .tc .vmem S1x256 .f32) (harg4 : arg4.IsWhole) (arg5 : Memref sig .tc .vmem S280x160 .bf16) (harg5 : arg5.IsWhole) (arg6 : Memref sig .tc .vmem S208x224 .bf16) (harg6 : arg6.IsWhole) (arg7 : Memref sig .tc .vmem S1x208x112 .bf16) (harg7 : arg7.IsWhole) (arg8 : Memref sig .tc .vmem S256x208 .bf16) (harg8 : arg8.IsWhole) (arg9 : Memref sig .tc .vmem S80x160 .bf16) (harg9 : arg9.IsWhole) (arg10 : Memref sig .tc .vmem S16x240 .bf16) (harg10 : arg10.IsWhole) (arg11 : Memref sig .tc .vmem S3x3x40x128 .f32) (harg11 : arg11.IsWhole) (arg12 : Memref sig .tc .vmem S5x112x128 .f32) (harg12 : arg12.IsWhole) (arg13 : Memref sig .tc .vmem S208x128 .f32) (harg13 : arg13.IsWhole) (arg14 : Memref sig .tc .vmem S128x256 .bf16) (harg14 : arg14.IsWhole) (arg15 : Memref sig .tc .vmem S16x240 .f32) (harg15 : arg15.IsWhole) (arg16 : Memref sig .tc .vmem S80x160 .f32) (harg16 : arg16.IsWhole) (arg17 : Memref sig .tc .vmem S208x224 .f32) (harg17 : arg17.IsWhole) (arg18 : Memref sig .tc .vmem S8x112x208 .f32) (harg18 : arg18.IsWhole) (arg19 : Memref sig .tc .vmem S15x112x256 .bf16) (harg19 : arg19.IsWhole) (arg20 : Memref sig .tc .vmem S3x640x256 .bf16) (harg20 : arg20.IsWhole) (arg21 : Memref sig .tc .vmem S15x224x256 .bf16) (harg21 : arg21.IsWhole) (arg22 : Memref sig .tc .vmem S15x208x256 .bf16) (harg22 : arg22.IsWhole) (arg23 : Memref sig .tc .vmem S15x208x256 .bf16) (harg23 : arg23.IsWhole) (arg24 : Memref sig .tc .vmem S3x2x5x128x256 .bf16) (harg24 : arg24.IsWhole) (arg25 : Memref sig .tc .vmem S8x240x256 .bf16) (harg25 : arg25.IsWhole) (hc0 : ¬cond0_0 i) (hc1 : cond0_1 i)     (x0 : Vec Ideal S128x256 .bf16) (x1 : Vec Ideal S15x108x256 .fp8e5m2) (x2 : Vec Ideal S1x256 .f32) (x3 : Vec Ideal S280x160 .bf16) (x4 : Vec Ideal S208x224 .bf16) (x5 : Vec Ideal S1x208x112 .bf16) (x6 : Vec Ideal S256x208 .bf16) (x7 : Vec Ideal S80x160 .bf16) (x8 : Vec Ideal S16x240 .bf16) (x9 : Vec Ideal S3x3x40x128 .f32) (x10 : Vec Ideal S5x112x128 .f32) (x11 : Vec Ideal S208x128 .f32) (xo13 : Vec Ideal S16x240 .f32) (xo14 : Vec Ideal S80x160 .f32) (xo15 : Vec Ideal S208x224 .f32) (xo16 : Vec Ideal S8x112x208 .f32)
    {sig' : RefSig} {κ : Kind} {sp : Space} (v : View sig' κ sp S15x112x256 .bf16) :
    v.read (Elt Ideal) (v.writes (Elt Ideal) v.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 xo13 xo14 xo15 xo16).2.2.2.2.2.1) = gd x1 x2 :=
  read_fills (d_15 c arg3 harg3 arg4 harg4 x1 x2) fun y => (y 0).isLt

end Cert.KernelIdeal.Val.CaseC
-- ==== Proof.Point.lean ====
module
public import proofs.«01_k».proof.Proof.AccA
public import proofs.«01_k».proof.Proof.AccB
public import proofs.«01_k».proof.Proof.AccC
public import proofs.«01_k».proof.Proof.Gen.KernelIdeal.Frame
@[expose] public section
set_option maxRecDepth 16384
set_option pp.maxSteps 600
set_option pp.deepTerms false
set_option pp.deepTerms.threshold 4
noncomputable section
open Idealize.ShloMosaic Idealize.ShloMosaic.TcCoe Idealize.SL.Sem
namespace Cert.KernelIdeal.Val
open Cert.KernelIdeal Cert.KernelIdeal.Gen

/-! What each grid point leaves in the output blocks, over the input blocks it is given. -/

variable (m : (ℓ : Loc nD τ sig) → Buf (Elt Ideal) ℓ) (c : Dev nD)

/-- Input block 0 of a grid point. -/
abbrev b0 (t : Fin cfg0.N) : S128x256.Idx → EReal := iblk m c 0 t
/-- Input block 1 of a grid point. -/
abbrev b1 (t : Fin cfg0.N) : S15x108x256.Idx → EReal := iblk m c 1 t
/-- Input block 2 of a grid point. -/
abbrev b2 (t : Fin cfg0.N) : S1x256.Idx → EReal := iblk m c 2 t
/-- Input block 3 of a grid point. -/
abbrev b3 (t : Fin cfg0.N) : S280x160.Idx → EReal := iblk m c 3 t
/-- Input block 4 of a grid point. -/
abbrev b4 (t : Fin cfg0.N) : S208x224.Idx → EReal := iblk m c 4 t
/-- Input block 5 of a grid point. -/
abbrev b5 (t : Fin cfg0.N) : S1x208x112.Idx → EReal := iblk m c 5 t
/-- Input block 6 of a grid point. -/
abbrev b6 (t : Fin cfg0.N) : S256x208.Idx → EReal := iblk m c 6 t
/-- Input block 7 of a grid point. -/
abbrev b7 (t : Fin cfg0.N) : S80x160.Idx → EReal := iblk m c 7 t
/-- Input block 8 of a grid point. -/
abbrev b8 (t : Fin cfg0.N) : S16x240.Idx → EReal := iblk m c 8 t
/-- Input block 9 of a grid point. -/
abbrev b9 (t : Fin cfg0.N) : S3x3x40x128.Idx → EReal := iblk m c 9 t
/-- Input block 10 of a grid point. -/
abbrev b10 (t : Fin cfg0.N) : S5x112x128.Idx → EReal := iblk m c 10 t
/-- Input block 11 of a grid point. -/
abbrev b11 (t : Fin cfg0.N) : S208x128.Idx → EReal := iblk m c 11 t

/-- The block of the input gradient that a point computes. -/
def pdx (t : Fin cfg0.N) : S128x256.Idx → EReal := gdx (b1 m c t) (b2 m c t) (b5 m c t) (b6 m c t) (b7 m c t) (b8 m c t)
/-- The terms that a point adds to the first core's gradient. -/
def p1 (t : Fin cfg0.N) (y : S16x240.Idx) : EReal :=
  ∑ g : Fin 8, t1 (b0 m c t) (b1 m c t) (b2 m c t) (b5 m c t) (b6 m c t) (b7 m c t) g.val (y 0).val (y 1).val
/-- The terms that a point adds to the second core's gradient. -/
def p2 (t : Fin cfg0.N) (y : S80x160.Idx) : EReal :=
  ∑ n : Fin 3, ∑ g : Fin 8, t2 (b0 m c t) (b9 m c t) (b1 m c t) (b2 m c t) (b5 m c t) (b6 m c t) n.val (g.val / 4) (g.val % 4) (y 0).val (y 1).val
/-- The terms that a point adds to the third core's gradient. -/
def p3 (t : Fin cfg0.N) (y : S208x224.Idx) : EReal :=
  ∑ n : Fin 3, ∑ g : Fin 5, t3 (b0 m c t) (b3 m c t) (b9 m c t) (b10 m c t) (b1 m c t) (b2 m c t) (b5 m c t) (5 * n.val + g.val) (y 0).val (y 1).val
/-- The terms that a point adds to its block of the fourth core's gradient, from a scaled gradient. -/
def p4 (D : S15x112x256.Idx → EReal) (t : Fin cfg0.N) (y : S8x112x208.Idx) : EReal :=
  ∑ n : Fin 3, ∑ g : Fin 5, t4 (b0 m c t) (b3 m c t) (b4 m c t) (b9 m c t) (b10 m c t) (b11 m c t) D (5 * n.val + g.val) (y 1).val (y 2).val

theorem dx_A (t : Fin cfg0.N) (h0 : t.val % 48 = 0) (h1 : t.val % 8 = 0) : (outsAt0 m c t.val t.isLt).1 = pdx m c t := by
  rw [outsAt0_A m c t h0 h1]; dsimp only; unfold out0_A_12
  exact read_fills (CaseA.dx_8 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) fun y => Nat.div_lt_of_lt_mul (y 0).isLt

theorem dg1_A (t : Fin cfg0.N) (h0 : t.val % 48 = 0) (h1 : t.val % 8 = 0) (y : S16x240.Idx) :
    (outsAt0 m c t.val t.isLt).2.1 y = 0 + p1 m c t y := by
  rw [outsAt0_A m c t h0 h1]; dsimp only; unfold out0_A_13
  exact CaseA.dg1_acc _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y

theorem dg2_A (t : Fin cfg0.N) (h0 : t.val % 48 = 0) (h1 : t.val % 8 = 0) (y : S80x160.Idx) :
    (outsAt0 m c t.val t.isLt).2.2.1 y = 0 + p2 m c t y := by
  rw [outsAt0_A m c t h0 h1]; dsimp only; unfold out0_A_14
  refine (CaseA.dg2_acc _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y).trans ?_
  unfold p2
  rw [Fin.sum_univ_three, add_assoc, add_assoc, add_assoc]
  rfl

theorem dg3_A (t : Fin cfg0.N) (h0 : t.val % 48 = 0) (h1 : t.val % 8 = 0) (y : S208x224.Idx) :
    (outsAt0 m c t.val t.isLt).2.2.2.1 y = 0 + p3 m c t y := by
  rw [outsAt0_A m c t h0 h1]; dsimp only; unfold out0_A_15
  refine (CaseA.dg3_acc _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y).trans ?_
  unfold p3
  rw [Fin.sum_univ_three, add_assoc, add_assoc, add_assoc]
  rfl

theorem dg4_A (t : Fin cfg0.N) (h0 : t.val % 48 = 0) (h1 : t.val % 8 = 0) (y : S8x112x208.Idx) :
    (outsAt0 m c t.val t.isLt).2.2.2.2.1 y
      = if (y 0).val = (grid0.coords t 1).val then 0 + p4 m c (gd (b1 m c t) (b2 m c t)) t y else 0 := by
  rw [outsAt0_A m c t h0 h1]; dsimp only; unfold out0_A_16
  refine (CaseA.dg4_acc _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y).trans ?_
  refine if_congr Iff.rfl ?_ rfl
  unfold p4
  rw [Fin.sum_univ_three, add_assoc, add_assoc, add_assoc]
  rfl

theorem dyd_A (t : Fin cfg0.N) (h0 : t.val % 48 = 0) (h1 : t.val % 8 = 0) : (outsAt0 m c t.val t.isLt).2.2.2.2.2 = (gd (b1 m c t) (b2 m c t)) := by
  rw [outsAt0_A m c t h0 h1]; dsimp only; unfold sout0_A_0
  exact CaseA.dyd_out _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

theorem dx_B (t : Fin cfg0.N) (h0 : ¬t.val % 48 = 0) (h1 : ¬t.val % 8 = 0) : (outsAt0 m c t.val t.isLt).1 = pdx m c t := by
  rw [outsAt0_B m c t h0 h1]; dsimp only; unfold out0_B_12
  exact read_fills (CaseB.dx_8 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) fun y => Nat.div_lt_of_lt_mul (y 0).isLt

theorem dg1_B (t : Fin cfg0.N) (h0 : ¬t.val % 48 = 0) (h1 : ¬t.val % 8 = 0) (y : S16x240.Idx) :
    (outsAt0 m c t.val t.isLt).2.1 y = (outsAt0 m c (t.val - 1) (Nat.lt_of_le_of_lt (Nat.sub_le _ _) t.isLt)).2.1 y + p1 m c t y := by
  rw [outsAt0_B m c t h0 h1]; dsimp only; unfold out0_B_13
  exact CaseB.dg1_acc _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y

theorem dg2_B (t : Fin cfg0.N) (h0 : ¬t.val % 48 = 0) (h1 : ¬t.val % 8 = 0) (y : S80x160.Idx) :
    (outsAt0 m c t.val t.isLt).2.2.1 y = (outsAt0 m c (t.val - 1) (Nat.lt_of_le_of_lt (Nat.sub_le _ _) t.isLt)).2.2.1 y + p2 m c t y := by
  rw [outsAt0_B m c t h0 h1]; dsimp only; unfold out0_B_14
  refine (CaseB.dg2_acc _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y).trans ?_
  unfold p2
  rw [Fin.sum_univ_three, add_assoc, add_assoc, add_assoc]
  rfl

theorem dg3_B (t : Fin cfg0.N) (h0 : ¬t.val % 48 = 0) (h1 : ¬t.val % 8 = 0) (y : S208x224.Idx) :
    (outsAt0 m c t.val t.isLt).2.2.2.1 y = (outsAt0 m c (t.val - 1) (Nat.lt_of_le_of_lt (Nat.sub_le _ _) t.isLt)).2.2.2.1 y + p3 m c t y := by
  rw [outsAt0_B m c t h0 h1]; dsimp only; unfold out0_B_15
  refine (CaseB.dg3_acc _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y).trans ?_
  unfold p3
  rw [Fin.sum_univ_three, add_assoc, add_assoc, add_assoc]
  rfl

theorem dg4_B (t : Fin cfg0.N) (h0 : ¬t.val % 48 = 0) (h1 : ¬t.val % 8 = 0) (y : S8x112x208.Idx) :
    (outsAt0 m c t.val t.isLt).2.2.2.2.1 y
      = if (y 0).val = (grid0.coords t 1).val then (outsAt0 m c (t.val - 1) (Nat.lt_of_le_of_lt (Nat.sub_le _ _) t.isLt)).2.2.2.2.1 y + p4 m c (outsAt0 m c (t.val - 1) (Nat.lt_of_le_of_lt (Nat.sub_le _ _) t.isLt)).2.2.2.2.2 t y else (outsAt0 m c (t.val - 1) (Nat.lt_of_le_of_lt (Nat.sub_le _ _) t.isLt)).2.2.2.2.1 y := by
  rw [outsAt0_B m c t h0 h1]; dsimp only; unfold out0_B_16
  refine (CaseB.dg4_acc _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (Memref.IsWhole.read_unread _ _) y).trans ?_
  refine if_congr Iff.rfl ?_ rfl
  unfold p4
  rw [Fin.sum_univ_three, add_assoc, add_assoc, add_assoc]
  rfl

theorem dyd_B (t : Fin cfg0.N) (h0 : ¬t.val % 48 = 0) (h1 : ¬t.val % 8 = 0) : (outsAt0 m c t.val t.isLt).2.2.2.2.2 = (outsAt0 m c (t.val - 1) (Nat.lt_of_le_of_lt (Nat.sub_le _ _) t.isLt)).2.2.2.2.2 := by
  rw [outsAt0_B m c t h0 h1]; dsimp only; unfold sout0_B_0
  rfl

theorem dx_C (t : Fin cfg0.N) (h0 : ¬t.val % 48 = 0) (h1 : t.val % 8 = 0) : (outsAt0 m c t.val t.isLt).1 = pdx m c t := by
  rw [outsAt0_C m c t h0 h1]; dsimp only; unfold out0_C_12
  exact read_fills (CaseC.dx_8 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _) fun y => Nat.div_lt_of_lt_mul (y 0).isLt

theorem dg1_C (t : Fin cfg0.N) (h0 : ¬t.val % 48 = 0) (h1 : t.val % 8 = 0) (y : S16x240.Idx) :
    (outsAt0 m c t.val t.isLt).2.1 y = (outsAt0 m c (t.val - 1) (Nat.lt_of_le_of_lt (Nat.sub_le _ _) t.isLt)).2.1 y + p1 m c t y := by
  rw [outsAt0_C m c t h0 h1]; dsimp only; unfold out0_C_13
  exact CaseC.dg1_acc _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y

theorem dg2_C (t : Fin cfg0.N) (h0 : ¬t.val % 48 = 0) (h1 : t.val % 8 = 0) (y : S80x160.Idx) :
    (outsAt0 m c t.val t.isLt).2.2.1 y = (outsAt0 m c (t.val - 1) (Nat.lt_of_le_of_lt (Nat.sub_le _ _) t.isLt)).2.2.1 y + p2 m c t y := by
  rw [outsAt0_C m c t h0 h1]; dsimp only; unfold out0_C_14
  refine (CaseC.dg2_acc _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y).trans ?_
  unfold p2
  rw [Fin.sum_univ_three, add_assoc, add_assoc, add_assoc]
  rfl

theorem dg3_C (t : Fin cfg0.N) (h0 : ¬t.val % 48 = 0) (h1 : t.val % 8 = 0) (y : S208x224.Idx) :
    (outsAt0 m c t.val t.isLt).2.2.2.1 y = (outsAt0 m c (t.val - 1) (Nat.lt_of_le_of_lt (Nat.sub_le _ _) t.isLt)).2.2.2.1 y + p3 m c t y := by
  rw [outsAt0_C m c t h0 h1]; dsimp only; unfold out0_C_15
  refine (CaseC.dg3_acc _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y).trans ?_
  unfold p3
  rw [Fin.sum_univ_three, add_assoc, add_assoc, add_assoc]
  rfl

theorem dg4_C (t : Fin cfg0.N) (h0 : ¬t.val % 48 = 0) (h1 : t.val % 8 = 0) (y : S8x112x208.Idx) :
    (outsAt0 m c t.val t.isLt).2.2.2.2.1 y
      = if (y 0).val = (grid0.coords t 1).val then (outsAt0 m c (t.val - 1) (Nat.lt_of_le_of_lt (Nat.sub_le _ _) t.isLt)).2.2.2.2.1 y + p4 m c (gd (b1 m c t) (b2 m c t)) t y else (outsAt0 m c (t.val - 1) (Nat.lt_of_le_of_lt (Nat.sub_le _ _) t.isLt)).2.2.2.2.1 y := by
  rw [outsAt0_C m c t h0 h1]; dsimp only; unfold out0_C_16
  refine (CaseC.dg4_acc _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (Memref.IsWhole.read_unread _ _) y).trans ?_
  refine if_congr Iff.rfl ?_ rfl
  unfold p4
  rw [Fin.sum_univ_three, add_assoc, add_assoc, add_assoc]
  rfl

theorem dyd_C (t : Fin cfg0.N) (h0 : ¬t.val % 48 = 0) (h1 : t.val % 8 = 0) : (outsAt0 m c t.val t.isLt).2.2.2.2.2 = (gd (b1 m c t) (b2 m c t)) := by
  rw [outsAt0_C m c t h0 h1]; dsimp only; unfold sout0_C_0
  exact CaseC.dyd_out _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

end Cert.KernelIdeal.Val
-- ==== Proof.RefStages.lean ====
module
public import proofs.«01_k».proof.Proof.Gen.ReferenceIdeal.Frame
public import Idealize.ShloMosaic.Lib.Pipeline.ValueKit
public import Idealize.ShloMosaic.Lib.Pointwise
public import Idealize.ShloMosaic.Lib.Claim
public import Idealize.ShloMosaic.Lib.StableHlo.RunRead
@[expose] public section
set_option maxRecDepth 16384
noncomputable section
open Idealize.ShloMosaic Idealize.ShloMosaic.TcCoe Idealize.SL.Sem
namespace Cert.ReferenceIdeal.Val
open Cert.ReferenceIdeal Cert.ReferenceIdeal.Gen

/-- A signed 8-bit core code as a bf16 array. -/
def codes {s : Shape} (g : Vec Ideal s .i8) : FVec Ideal s .bf16 :=
  truncf FTy.bf16 (sitofp FTy.f32 (extsi 32 g natLt_8_32) : FVec Ideal s .f32) bitsLt_bf16_f32

/-- The fourth core's transposed product with the output gradient, times the gradient's scale. -/
def R3 (y : FVec Ideal S1536x3x5x9x12 .bf16) (ds : FVec Ideal S1536 .f32) (g4 : Vec Ideal S11x16x12 .i8)
    (s4 : FVec Ideal S12 .f32) : FVec Ideal S1536x3x5x9x16x11 .bf16 :=
  truncf FTy.bf16
    (mulf
      (transpose S1536x3x5x9x16x11 [2, 3, 4, 5, 1, 0]
        (Host.dotGeneral dot_S11x16x12_S1536x3x5x9x12_S11x16x1536x3x5x9_2_4_01_0123_n_n none
          (mulf (codes g4)
            (broadcastInDim S11x16x12 ![0, 1, 2] bcast_S1x1x12_S11x16x12_0_1_2
              (broadcastInDim S1x1x12 ![2] bcast_S12_S1x1x12_2 (truncf FTy.bf16 s4 bitsLt_bf16_f32))))
          y : FVec Ideal S11x16x1536x3x5x9 .f32)
        transposes_S11x16x1536x3x5x9_S1536x3x5x9x16x11_2_3_4_5_1_0)
      (broadcastInDim S1536x3x5x9x16x11 ![0, 1, 2, 3, 4, 5]
        bcast_S1536x1x1x1x1x1_S1536x3x5x9x16x11_0_1_2_3_4_5
        (broadcastInDim S1536x1x1x1x1x1 ![0] bcast_S1536_S1536x1x1x1x1x1_0 ds)))
    bitsLt_bf16_f32

set_option maxHeartbeats 1600000 in
theorem R3_at (y : FVec Ideal S1536x3x5x9x12 .bf16) (ds : FVec Ideal S1536 .f32) (g4 : Vec Ideal S11x16x12 .i8)
    (s4 : FVec Ideal S12 .f32) (t : Fin 1536) (n : Fin 3) (o : Fin 5) (p : Fin 9) (l : Fin 16) (z : Fin 11) :
    R3 y ds g4 s4 (ix6 t n o p l z)
      = (∑ q : Fin 12, codes g4 (ix3 z l q) * s4 (ix1 q) * y (ix5 t n o p q)) * ds (ix1 t) := by
  pointwise [R3]

/-- The third core's transposed product. -/
def R2 (r3 : FVec Ideal S1536x3x5x9x16x11 .bf16) (g3 : Vec Ideal S14x8x9x11 .i8)
    (s3 : FVec Ideal S9x11 .f32) : FVec Ideal S1536x3x5x8x16x14 .bf16 :=
  truncf FTy.bf16
   (transpose S1536x3x5x8x16x14 [2, 3, 4, 1, 5, 0]
     (Host.dotGeneral dot_S14x8x9x11_S1536x3x5x9x16x11_S14x8x1536x3x5x16_23_35_01_0124_n_n none
       (mulf (codes g3)
         (broadcastInDim S14x8x9x11 ![0, 1, 2, 3] bcast_S1x1x9x11_S14x8x9x11_0_1_2_3
           (broadcastInDim S1x1x9x11 ![2, 3] bcast_S9x11_S1x1x9x11_2_3
             (truncf FTy.bf16 s3 bitsLt_bf16_f32))))
       r3 : FVec Ideal S14x8x1536x3x5x16 .f32)
     transposes_S14x8x1536x3x5x16_S1536x3x5x8x16x14_2_3_4_1_5_0)
    bitsLt_bf16_f32

set_option maxHeartbeats 1600000 in
theorem R2_at (r3 : FVec Ideal S1536x3x5x9x16x11 .bf16) (g3 : Vec Ideal S14x8x9x11 .i8)
    (s3 : FVec Ideal S9x11 .f32) (t : Fin 1536) (n : Fin 3) (o : Fin 5) (k : Fin 8) (l : Fin 16) (y : Fin 14) :
    R2 r3 g3 s3 (ix6 t n o k l y)
      = ∑ p : Fin 9, ∑ z : Fin 11, codes g3 (ix4 y k p z) * s3 (ix2 p z) * r3 (ix6 t n o p l z) := by
  pointwise [R2]

/-- The second core's transposed product. -/
def R1 (r2 : FVec Ideal S1536x3x5x8x16x14 .bf16) (g2 : Vec Ideal S10x4x5x14 .i8)
    (s2 : FVec Ideal S5x14 .f32) : FVec Ideal S1536x3x4x8x16x10 .bf16 :=
  truncf FTy.bf16
   (transpose S1536x3x4x8x16x10 [2, 3, 1, 4, 5, 0]
     (Host.dotGeneral dot_S10x4x5x14_S1536x3x5x8x16x14_S10x4x1536x3x8x16_23_25_01_0134_n_n none
       (mulf (codes g2)
         (broadcastInDim S10x4x5x14 ![0, 1, 2, 3] bcast_S1x1x5x14_S10x4x5x14_0_1_2_3
           (broadcastInDim S1x1x5x14 ![2, 3] bcast_S5x14_S1x1x5x14_2_3
             (truncf FTy.bf16 s2 bitsLt_bf16_f32))))
       r2 : FVec Ideal S10x4x1536x3x8x16 .f32)
     transposes_S10x4x1536x3x8x16_S1536x3x4x8x16x10_2_3_1_4_5_0)
    bitsLt_bf16_f32

set_option maxHeartbeats 1600000 in
theorem R1_at (r2 : FVec Ideal S1536x3x5x8x16x14 .bf16) (g2 : Vec Ideal S10x4x5x14 .i8)
    (s2 : FVec Ideal S5x14 .f32) (t : Fin 1536) (n : Fin 3) (j : Fin 4) (k : Fin 8) (l : Fin 16) (x : Fin 10) :
    R1 r2 g2 s2 (ix6 t n j k l x)
      = ∑ o : Fin 5, ∑ y : Fin 14, codes g2 (ix4 x j o y) * s2 (ix2 o y) * r2 (ix6 t n o k l y) := by
  pointwise [R1]

/-- The first result: the gradient of the input. -/
def Dx (r1 : FVec Ideal S1536x3x4x8x16x10 .bf16) (g1 : Vec Ideal S2x3x10 .i8)
    (s1 : FVec Ideal S3x10 .f32) : FVec Ideal S6x256x1024 .bf16 :=
  shapeCast S6x256x1024 (truncf FTy.bf16
   (transpose S1536x2x4x8x16 [1, 0, 2, 3, 4]
     (Host.dotGeneral dot_S2x3x10_S1536x3x4x8x16x10_S2x1536x4x8x16_12_15_0_0234_n_n none
       (mulf (codes g1)
         (broadcastInDim S2x3x10 ![0, 1, 2] bcast_S1x3x10_S2x3x10_0_1_2
           (broadcastInDim S1x3x10 ![1, 2] bcast_S3x10_S1x3x10_1_2
             (truncf FTy.bf16 s1 bitsLt_bf16_f32))))
       r1 : FVec Ideal S2x1536x4x8x16 .f32)
     transposes_S2x1536x4x8x16_S1536x2x4x8x16_1_0_2_3_4)
    bitsLt_bf16_f32) shapeCasts_S1536x2x4x8x16_S6x256x1024

set_option maxHeartbeats 1600000 in
theorem Dx_at (r1 : FVec Ideal S1536x3x4x8x16x10 .bf16) (g1 : Vec Ideal S2x3x10 .i8)
    (s1 : FVec Ideal S3x10 .f32) (b : Fin 6) (s : Fin 256) (d : Fin 1024) :
    Dx r1 g1 s1 (ix3 b s d)
      = ∑ n : Fin 3, ∑ x : Fin 10, codes g1 (ix3 ⟨d / 512, by omega⟩ n x) * s1 (ix2 n x)
          * r1 (ix6 ⟨b * 256 + s, by omega⟩ n ⟨d / 128 % 4, by omega⟩ ⟨d / 16 % 8, by omega⟩ ⟨d % 16, by omega⟩ x) := by
  pointwise [Dx]

/-- The first core's product with the input, scaled. -/
def L2 (x : FVec Ideal S1536x2x4x8x16 .bf16) (g1 : Vec Ideal S2x3x10 .i8)
    (s1 : FVec Ideal S3x10 .f32) : FVec Ideal S1536x3x10x4x8x16 .bf16 :=
  truncf FTy.bf16
    (mulf
      (transpose S1536x3x10x4x8x16 [2, 0, 1, 3, 4, 5]
        (Host.dotGeneral dot_S2x3x10_S1536x2x4x8x16_S3x10x1536x4x8x16_0_1_12_0234_n_n none (codes g1) x : FVec Ideal S3x10x1536x4x8x16 .f32)
        transposes_S3x10x1536x4x8x16_S1536x3x10x4x8x16_2_0_1_3_4_5)
      (broadcastInDim S1536x3x10x4x8x16 ![0, 1, 2, 3, 4, 5] bcast_S1x3x10x1x1x1_S1536x3x10x4x8x16_0_1_2_3_4_5
        (broadcastInDim S1x3x10x1x1x1 ![1, 2, 3, 4, 5] bcast_S3x10x1x1x1_S1x3x10x1x1x1_1_2_3_4_5
          (broadcastInDim S3x10x1x1x1 ![0, 1] bcast_S3x10_S3x10x1x1x1_0_1 s1))))
    bitsLt_bf16_f32

set_option maxHeartbeats 1600000 in
theorem L2_at (x : FVec Ideal S1536x2x4x8x16 .bf16) (g1 : Vec Ideal S2x3x10 .i8)
    (s1 : FVec Ideal S3x10 .f32) (t : Fin 1536) (n : Fin 3) (a : Fin 10) (j : Fin 4) (k : Fin 8) (l : Fin 16) :
    L2 x g1 s1 (ix6 t n a j k l)
      = (∑ i : Fin 2, codes g1 (ix3 i n a) * x (ix5 t i j k l)) * s1 (ix2 n a) := by
  pointwise [L2]

/-- The second core's product, scaled. -/
def L3 (l2 : FVec Ideal S1536x3x10x4x8x16 .bf16) (g2 : Vec Ideal S10x4x5x14 .i8)
    (s2 : FVec Ideal S5x14 .f32) : FVec Ideal S1536x3x5x14x8x16 .bf16 :=
  truncf FTy.bf16
    (mulf
      (transpose S1536x3x5x14x8x16 [2, 3, 0, 1, 4, 5]
        (Host.dotGeneral dot_S10x4x5x14_S1536x3x10x4x8x16_S5x14x1536x3x8x16_10_32_23_0145_n_n none (codes g2) l2 : FVec Ideal S5x14x1536x3x8x16 .f32)
        transposes_S5x14x1536x3x8x16_S1536x3x5x14x8x16_2_3_0_1_4_5)
      (broadcastInDim S1536x3x5x14x8x16 ![0, 1, 2, 3, 4, 5] bcast_S1x1x5x14x1x1_S1536x3x5x14x8x16_0_1_2_3_4_5
        (broadcastInDim S1x1x5x14x1x1 ![2, 3, 4, 5] bcast_S5x14x1x1_S1x1x5x14x1x1_2_3_4_5
          (broadcastInDim S5x14x1x1 ![0, 1] bcast_S5x14_S5x14x1x1_0_1 s2))))
    bitsLt_bf16_f32

set_option maxHeartbeats 1600000 in
theorem L3_at (l2 : FVec Ideal S1536x3x10x4x8x16 .bf16) (g2 : Vec Ideal S10x4x5x14 .i8)
    (s2 : FVec Ideal S5x14 .f32) (t : Fin 1536) (n : Fin 3) (o : Fin 5) (y : Fin 14) (k : Fin 8) (l : Fin 16) :
    L3 l2 g2 s2 (ix6 t n o y k l)
      = (∑ j : Fin 4, ∑ a : Fin 10, codes g2 (ix4 a j o y) * l2 (ix6 t n a j k l)) * s2 (ix2 o y) := by
  pointwise [L3]

/-- The third core's product, scaled. -/
def L4 (l3 : FVec Ideal S1536x3x5x14x8x16 .bf16) (g3 : Vec Ideal S14x8x9x11 .i8)
    (s3 : FVec Ideal S9x11 .f32) : FVec Ideal S1536x3x5x9x11x16 .bf16 :=
  truncf FTy.bf16
    (mulf
      (transpose S1536x3x5x9x11x16 [2, 3, 4, 0, 1, 5]
        (Host.dotGeneral dot_S14x8x9x11_S1536x3x5x14x8x16_S9x11x1536x3x5x16_10_43_23_0125_n_n none (codes g3) l3 : FVec Ideal S9x11x1536x3x5x16 .f32)
        transposes_S9x11x1536x3x5x16_S1536x3x5x9x11x16_2_3_4_0_1_5)
      (broadcastInDim S1536x3x5x9x11x16 ![0, 1, 2, 3, 4, 5] bcast_S1x1x1x9x11x1_S1536x3x5x9x11x16_0_1_2_3_4_5
        (broadcastInDim S1x1x1x9x11x1 ![3, 4, 5] bcast_S9x11x1_S1x1x1x9x11x1_3_4_5
          (broadcastInDim S9x11x1 ![0, 1] bcast_S9x11_S9x11x1_0_1 s3))))
    bitsLt_bf16_f32

set_option maxHeartbeats 1600000 in
theorem L4_at (l3 : FVec Ideal S1536x3x5x14x8x16 .bf16) (g3 : Vec Ideal S14x8x9x11 .i8)
    (s3 : FVec Ideal S9x11 .f32) (t : Fin 1536) (n : Fin 3) (o : Fin 5) (p : Fin 9) (z : Fin 11) (l : Fin 16) :
    L4 l3 g3 s3 (ix6 t n o p z l)
      = (∑ k : Fin 8, ∑ y : Fin 14, codes g3 (ix4 y k p z) * l3 (ix6 t n o y k l)) * s3 (ix2 p z) := by
  pointwise [L4]

/-- The output gradient times its scale. -/
def Dyd (y : FVec Ideal S1536x3x5x9x12 .bf16) (ds : FVec Ideal S1536 .f32) : FVec Ideal S1536x3x5x9x12 .bf16 :=
  mulf y (broadcastInDim S1536x3x5x9x12 ![0, 1, 2, 3, 4] bcast_S1536x1x1x1x1_S1536x3x5x9x12_0_1_2_3_4
    (broadcastInDim S1536x1x1x1x1 ![0] bcast_S1536_S1536x1x1x1x1_0 (truncf .bf16 ds bitsLt_bf16_f32)))

theorem Dyd_at (y : FVec Ideal S1536x3x5x9x12 .bf16) (ds : FVec Ideal S1536 .f32) (t : Fin 1536) (n : Fin 3) (o : Fin 5) (p : Fin 9) (q : Fin 12) :
    Dyd y ds (ix5 t n o p q) = y (ix5 t n o p q) * ds (ix1 t) := by
  pointwise [Dyd]

end Cert.ReferenceIdeal.Val
end
-- ==== Proof.Chain.lean ====
module
public import proofs.«01_k».proof.Proof.Stages
public import proofs.«01_k».proof.Proof.RefStages
@[expose] public section
set_option maxRecDepth 16384
noncomputable section
open Idealize.ShloMosaic Idealize.ShloMosaic.TcCoe Idealize.SL.Sem
open Cert.ReferenceIdeal.Val (codes L2 L3 L4 R3 R2 R1 Dyd L2_at L3_at L4_at R3_at R2_at R1_at Dyd_at)
namespace Cert.KernelIdeal.Val
open Cert.KernelIdeal

/-! The stages of one grid point are the stages of the reference at the point's tokens. -/

/-- A sum over `a * b` positions, by quotient and remainder. -/
theorem sum_split (a b N : ℕ) (h : N = a * b) (f : ℕ → EReal) :
    ∑ w : Fin N, f w.val = ∑ i : Fin a, ∑ j : Fin b, f (i.val * b + j.val) := by
  subst h
  rw [← Equiv.sum_comp finProdFinEquiv, Fintype.sum_prod_type]
  refine Finset.sum_congr rfl fun i _ => Finset.sum_congr rfl fun j _ => congrArg f ?_
  show j.val + b * i.val = _
  rw [Nat.mul_comm, Nat.add_comm]

/-- A sum whose positions from `a` on give zero. -/
theorem sum_pad (a b N : ℕ) (h : N = a + b) (f : ℕ → EReal) (hz : ∀ j, j < b → f (a + j) = 0) :
    ∑ w : Fin N, f w.val = ∑ i : Fin a, f i.val := by
  subst h
  rw [Fin.sum_univ_add]
  rw [show (∑ i : Fin b, f (Fin.natAdd a i).val) = 0 from Finset.sum_eq_zero fun i _ => hz i.val i.isLt, add_zero]
  rfl

/-- A sum with one term that is not zero. -/
theorem sum_at {n : ℕ} (K : Fin n) (f : Fin n → EReal) (h : ∀ k, k ≠ K → f k = 0) : ∑ k, f k = f K :=
  Finset.sum_eq_single K (fun k _ hk => h k hk) (fun hK => absurd (Finset.mem_univ K) hK)

theorem zmul {a b : EReal} (h : a = 0) : a * b = 0 := by rw [h, zero_mul]
theorem mulz {a b : EReal} (h : b = 0) : a * b = 0 := by rw [h, mul_zero]

/-- Token `s` of tile `T`. -/
def tok (T : Fin 6) (s : Fin 256) : Fin 1536 := ⟨T.val * 256 + s.val, by omega⟩
/-- Position `l` of pair `lp`. -/
def lf (lp : Fin 8) (l : Fin 2) : Fin 16 := ⟨lp.val * 2 + l.val, by omega⟩

/-- The tokens as the reference reads them. -/
def rx (x : Vec Ideal S6x256x1024 .bf16) : FVec Ideal Cert.ReferenceIdeal.S1536x2x4x8x16 .bf16 :=
  shapeCast Cert.ReferenceIdeal.S1536x2x4x8x16 x Cert.ReferenceIdeal.Gen.shapeCasts_S6x256x1024_S1536x2x4x8x16
/-- The gradient codes as the reference reads them. -/
def rdy (dy : Vec Ideal S6x256x1620 .fp8e5m2) : FVec Ideal Cert.ReferenceIdeal.S1536x3x5x9x12 .bf16 :=
  shapeCast Cert.ReferenceIdeal.S1536x3x5x9x12 (fun i => (dy i : EReal) : FVec Ideal S6x256x1620 .bf16)
    Cert.ReferenceIdeal.Gen.shapeCasts_S6x256x1620_S1536x3x5x9x12
/-- The gradient scales as the reference reads them. -/
def rds (ds : Vec Ideal S6x256 .f32) : FVec Ideal Cert.ReferenceIdeal.S1536 .f32 :=
  shapeCast Cert.ReferenceIdeal.S1536 ds Cert.ReferenceIdeal.Gen.shapeCasts_S6x256_S1536

theorem rx_at (x : Vec Ideal S6x256x1024 .bf16) (T : Fin 6) (s : Fin 256) (i : Fin 2) (j : Fin 4) (k : Fin 8) (l : Fin 16) :
    rx x (ix5 (tok T s) i j k l) = x (ix3 T s ⟨((i.val * 4 + j.val) * 8 + k.val) * 16 + l.val, by omega⟩) := by
  unfold tok
  pointwise [hlo_ix, rx]
  exact congrArg (fun d => x (ix3 T s d)) (Fin.ext (by dsimp only; omega))
theorem rdy_at (dy : Vec Ideal S6x256x1620 .fp8e5m2) (T : Fin 6) (s : Fin 256) (n : Fin 3) (o : Fin 5) (p : Fin 9) (q : Fin 12) :
    rdy dy (ix5 (tok T s) n o p q) = dy (ix3 T s ⟨(n.val * 5 + o.val) * 108 + (p.val * 12 + q.val), by omega⟩) := by
  unfold tok
  pointwise [hlo_ix, rdy]
  exact congrArg (fun d => dy (ix3 T s d)) (Fin.ext (by dsimp only; omega))
theorem rds_at (ds : Vec Ideal S6x256 .f32) (T : Fin 6) (s : Fin 256) :
    rds ds (ix1 (tok T s)) = ds (ix2 T s) := by
  unfold tok
  pointwise [hlo_ix, rds]

/-- What the blocks of a grid point hold: tile `T` of the tokens and pair `lp` of the last axis. -/
structure Blocks (x : Vec Ideal S6x256x1024 .bf16) (dy : Vec Ideal S6x256x1620 .fp8e5m2) (ds : Vec Ideal S6x256 .f32)
    (g1 : Vec Ideal S2x3x10 .i8) (g2 : Vec Ideal S10x4x5x14 .i8) (g3 : Vec Ideal S14x8x9x11 .i8) (g4 : Vec Ideal S11x16x12 .i8)
    (s1 : Vec Ideal S3x10 .f32) (s2 : Vec Ideal S5x14 .f32) (s3 : Vec Ideal S9x11 .f32) (s4 : Vec Ideal S12 .f32)
    (T : Fin 6) (lp : Fin 8)
    (x0 : S128x256.Idx → EReal) (x1 : S15x108x256.Idx → EReal) (x2 : S1x256.Idx → EReal) (x3 : S280x160.Idx → EReal)
    (x4 : S208x224.Idx → EReal) (x5 : S1x208x112.Idx → EReal) (x6 : S256x208.Idx → EReal) (x7 : S80x160.Idx → EReal)
    (x8 : S16x240.Idx → EReal) (x9 : S3x3x40x128.Idx → EReal) (x10 : S5x112x128.Idx → EReal) (x11 : S208x128.Idx → EReal) : Prop where
  h0 : ∀ (r : ℕ) (l : Fin 2) (k : Fin 8) (i : Fin 2) (j : Fin 4) (s : Fin 256), r = (l.val * 8 + k.val) * 8 + (i.val * 4 + j.val) →
    rd x0 ![r, s.val] = rx x (ix5 (tok T s) i j k (lf lp l))
  h1 : ∀ (g w : ℕ) (n : Fin 3) (o : Fin 5) (p : Fin 9) (q : Fin 12) (s : Fin 256), g = n.val * 5 + o.val → w = p.val * 12 + q.val →
    rd x1 ![g, w, s.val] = rdy dy (ix5 (tok T s) n o p q)
  h2 : ∀ s : Fin 256, rd x2 ![0, s.val] = rds ds (ix1 (tok T s))
  h3 : ∀ (r c : ℕ) (o : Fin 5) (k : Fin 4) (y : Fin 14) (a : Fin 10) (j : Fin 4), r = o.val * 56 + k.val * 14 + y.val →
    c = k.val * 40 + a.val * 4 + j.val → rd x3 ![r, c] = codes g2 (ix4 a j o y)
  h3z : ∀ (r c : ℕ) (o : Fin 5) (k : Fin 4) (y : Fin 14) (K : Fin 4) (a : Fin 10) (j : Fin 4), k ≠ K → r = o.val * 56 + k.val * 14 + y.val →
    c = K.val * 40 + a.val * 4 + j.val → rd x3 ![r, c] = 0
  h4 : ∀ (r c : ℕ) (l : Fin 2) (p : Fin 9) (z : Fin 11) (k : Fin 8) (y : Fin 14), r = l.val * 104 + (p.val * 11 + z.val) →
    c = l.val * 112 + (k.val * 14 + y.val) → rd x4 ![r, c] = codes g3 (ix4 y k p z)
  h4z : ∀ (r c : ℕ) (L : Fin 2) (p : Fin 9) (z : Fin 11) (l : Fin 2) (k : Fin 8) (y : Fin 14), L ≠ l → r = L.val * 104 + (p.val * 11 + z.val) →
    c = l.val * 112 + (k.val * 14 + y.val) → rd x4 ![r, c] = 0
  h5 : ∀ (r c : ℕ) (l : Fin 2) (p : Fin 9) (z : Fin 11) (q : Fin 12), r = l.val * 104 + (p.val * 11 + z.val) →
    c = p.val * 12 + q.val → rd x5 ![0, r, c] = codes g4 (ix3 z (lf lp l) q) * s4 (ix1 q)
  h5z : ∀ (r c : ℕ) (l : Fin 2) (p : Fin 9) (z : Fin 11) (P : Fin 9) (q : Fin 12), p ≠ P → r = l.val * 104 + (p.val * 11 + z.val) →
    c = P.val * 12 + q.val → rd x5 ![0, r, c] = 0
  h6 : ∀ (r c : ℕ) (l : Fin 2) (k : Fin 8) (y : Fin 14) (p : Fin 9) (z : Fin 11), r = l.val * 128 + (k.val * 16 + y.val) →
    c = l.val * 104 + (p.val * 11 + z.val) → rd x6 ![r, c] = codes g3 (ix4 y k p z) * s3 (ix2 p z)
  h6z : ∀ (r c : ℕ) (L : Fin 2) (k : Fin 8) (y : Fin 14) (l : Fin 2) (p : Fin 9) (z : Fin 11), L ≠ l → r = L.val * 128 + (k.val * 16 + y.val) →
    c = l.val * 104 + (p.val * 11 + z.val) → rd x6 ![r, c] = 0
  h6p : ∀ (r c : ℕ) (L : Fin 2) (k : Fin 8) (y : Fin 14) (l : Fin 2) (e : Fin 5), r = L.val * 128 + (k.val * 16 + y.val) →
    c = l.val * 104 + (99 + e.val) → rd x6 ![r, c] = 0
  h7 : ∀ (r c : ℕ) (K : Fin 2) (a : Fin 10) (j : Fin 4) (o : Fin 5) (y : Fin 14), r = K.val * 40 + (a.val * 4 + j.val) →
    c = o.val * 32 + (K.val * 16 + y.val) → rd x7 ![r, c] = codes g2 (ix4 a j o y) * s2 (ix2 o y)
  h7z : ∀ (r c : ℕ) (K : Fin 2) (a : Fin 10) (j : Fin 4) (o : Fin 5) (k : Fin 2) (y : Fin 14), K ≠ k → r = K.val * 40 + (a.val * 4 + j.val) →
    c = o.val * 32 + (k.val * 16 + y.val) → rd x7 ![r, c] = 0
  h7p : ∀ (r c : ℕ) (K : Fin 2) (a : Fin 10) (j : Fin 4) (o : Fin 5) (k : Fin 2) (e : Fin 2), r = K.val * 40 + (a.val * 4 + j.val) →
    c = o.val * 32 + (k.val * 16 + (14 + e.val)) → rd x7 ![r, c] = 0
  h8 : ∀ (r c : ℕ) (K : Fin 2) (i : Fin 2) (j : Fin 4) (n : Fin 3) (a : Fin 10), r = K.val * 8 + (i.val * 4 + j.val) →
    c = n.val * 80 + (K.val * 40 + (a.val * 4 + j.val)) → rd x8 ![r, c] = codes g1 (ix3 i n a) * s1 (ix2 n a)
  h8z : ∀ (r c : ℕ) (K : Fin 2) (i : Fin 2) (j : Fin 4) (n : Fin 3) (k : Fin 2) (a : Fin 10) (J : Fin 4), (K ≠ k ∨ j ≠ J) →
    r = K.val * 8 + (i.val * 4 + j.val) → c = n.val * 80 + (k.val * 40 + (a.val * 4 + J.val)) → rd x8 ![r, c] = 0
  h9a : ∀ (c w : ℕ) (n : Fin 3) (a : Fin 10) (j : Fin 4), c = a.val * 4 + j.val → w < 128 → rd x9 ![0, n.val, c, w] = codes g1 (ix3 0 n a)
  h9b : ∀ (c w : ℕ) (n : Fin 3) (a : Fin 10) (j : Fin 4), c = a.val * 4 + j.val → w < 128 → rd x9 ![1, n.val, c, w] = codes g1 (ix3 1 n a)
  h9c : ∀ (c w : ℕ) (n : Fin 3) (a : Fin 10) (j : Fin 4), c = a.val * 4 + j.val → w < 128 → rd x9 ![2, n.val, c, w] = s1 (ix2 n a)
  h10 : ∀ (g c w : ℕ) (o : Fin 5) (k : Fin 8) (y : Fin 14), g = o.val → c = k.val * 14 + y.val → w < 128 → rd x10 ![g, c, w] = s2 (ix2 o y)
  h11 : ∀ (r w : ℕ) (l : Fin 2) (p : Fin 9) (z : Fin 11), r = l.val * 104 + (p.val * 11 + z.val) → w < 128 → rd x11 ![r, w] = s3 (ix2 p z)

section
variable {x : Vec Ideal S6x256x1024 .bf16} {dy : Vec Ideal S6x256x1620 .fp8e5m2} {ds : Vec Ideal S6x256 .f32}
    {g1 : Vec Ideal S2x3x10 .i8} {g2 : Vec Ideal S10x4x5x14 .i8} {g3 : Vec Ideal S14x8x9x11 .i8} {g4 : Vec Ideal S11x16x12 .i8}
    {s1 : Vec Ideal S3x10 .f32} {s2 : Vec Ideal S5x14 .f32} {s3 : Vec Ideal S9x11 .f32} {s4 : Vec Ideal S12 .f32}
    {T : Fin 6} {lp : Fin 8}
    {x0 : S128x256.Idx → EReal} {x1 : S15x108x256.Idx → EReal} {x2 : S1x256.Idx → EReal} {x3 : S280x160.Idx → EReal}
    {x4 : S208x224.Idx → EReal} {x5 : S1x208x112.Idx → EReal} {x6 : S256x208.Idx → EReal} {x7 : S80x160.Idx → EReal}
    {x8 : S16x240.Idx → EReal} {x9 : S3x3x40x128.Idx → EReal} {x10 : S5x112x128.Idx → EReal} {x11 : S208x128.Idx → EReal}
    (H : Blocks x dy ds g1 g2 g3 g4 s1 s2 s3 s4 T lp x0 x1 x2 x3 x4 x5 x6 x7 x8 x9 x10 x11)
include H

theorem s2_eq (N r : ℕ) (n : Fin 3) (l : Fin 2) (k : Fin 8) (a : Fin 10) (j : Fin 4) (s : Fin 256)
    (hN : N = n.val) (hr : r = (l.val * 8 + k.val) * 40 + (a.val * 4 + j.val)) :
    Val.s2 x0 x9 N r s.val = L2 (rx x) g1 s1 (ix6 (tok T s) n a j k (lf lp l)) := by
  subst hN
  rw [L2_at, Fin.sum_univ_two, mul_comm (codes g1 _), mul_comm (codes g1 _)]
  unfold Val.s2
  have hw : s.val % 128 < 128 := Nat.mod_lt _ (by decide)
  have hc : r % 40 = a.val * 4 + j.val := by omega
  exact congrArg₂ (· * ·) (congrArg₂ (· + ·)
    (congrArg₂ (· * ·) (H.h0 _ l k 0 j s (by show _ = _ + (0 * 4 + _); omega)) (H.h9a _ _ n a j hc hw))
    (congrArg₂ (· * ·) (H.h0 _ l k 1 j s (by show _ = _ + (1 * 4 + _); omega)) (H.h9b _ _ n a j hc hw))) (H.h9c _ _ n a j hc hw)

theorem s3_eq (g r : ℕ) (n : Fin 3) (o : Fin 5) (l : Fin 2) (k : Fin 8) (y : Fin 14) (s : Fin 256)
    (hg : g = n.val * 5 + o.val) (hr : r = l.val * 112 + (k.val * 14 + y.val)) :
    Val.s3 x0 x3 x9 x10 g r s.val = L3 (L2 (rx x) g1 s1) g2 s2 (ix6 (tok T s) n o y k (lf lp l)) := by
  rw [L3_at]
  unfold Val.s3
  let k4 : Fin 4 := ⟨k.val % 4, Nat.mod_lt _ (by decide)⟩
  have hk : k4.val = k.val % 4 := rfl
  refine congrArg₂ (· * ·) ?_ (H.h10 _ _ _ o k y (by omega) (by omega) (Nat.mod_lt _ (by decide)))
  refine (sum_split 4 40 160 rfl (fun w => rd x3 ![g % 5 * 56 + r % 56, w]
    * Val.s2 x0 x9 (g / 5) ((r / 112 * 8 + r % 112 / 56 * 4) * 40 + w) s.val)).trans ?_
  refine (sum_at k4 _ fun K hK => Finset.sum_eq_zero fun w _ => zmul
    (H.h3z _ _ o k4 y K ⟨w.val / 4, by omega⟩ ⟨w.val % 4, by omega⟩ (Ne.symm hK) (by omega) (by dsimp only; omega))).trans ?_
  refine (sum_split 10 4 40 rfl (fun w => rd x3 ![g % 5 * 56 + r % 56, k4.val * 40 + w]
    * Val.s2 x0 x9 (g / 5) ((r / 112 * 8 + r % 112 / 56 * 4) * 40 + (k4.val * 40 + w)) s.val)).trans ?_
  rw [Finset.sum_comm]
  refine Finset.sum_congr rfl fun j _ => Finset.sum_congr rfl fun a _ => ?_
  exact congrArg₂ (· * ·) (H.h3 _ _ o k4 y a j (by omega) (by omega)) (s2_eq H _ _ n l k a j s (by omega) (by omega))

theorem s4_eq (g r : ℕ) (n : Fin 3) (o : Fin 5) (l : Fin 2) (p : Fin 9) (z : Fin 11) (s : Fin 256)
    (hg : g = n.val * 5 + o.val) (hr : r = l.val * 104 + (p.val * 11 + z.val)) :
    Val.s4 x0 x3 x4 x9 x10 x11 g r s.val = L4 (L3 (L2 (rx x) g1 s1) g2 s2) g3 s3 (ix6 (tok T s) n o p z (lf lp l)) := by
  rw [L4_at]
  unfold Val.s4
  refine congrArg₂ (· * ·) ?_ (H.h11 _ _ l p z hr (Nat.mod_lt _ (by decide)))
  refine (sum_split 2 112 224 rfl (fun w => rd x4 ![r, w] * Val.s3 x0 x3 x9 x10 g w s.val)).trans ?_
  refine (sum_at l _ fun K hK => Finset.sum_eq_zero fun w _ => zmul
    (H.h4z _ _ l p z K ⟨w.val / 14, by omega⟩ ⟨w.val % 14, by omega⟩ (Ne.symm hK) hr (by dsimp only; omega))).trans ?_
  refine (sum_split 8 14 112 rfl (fun w => rd x4 ![r, l.val * 112 + w] * Val.s3 x0 x3 x9 x10 g (l.val * 112 + w) s.val)).trans ?_
  refine Finset.sum_congr rfl fun k _ => Finset.sum_congr rfl fun y _ => ?_
  exact congrArg₂ (· * ·) (H.h4 _ _ l p z k y hr rfl) (s3_eq H _ _ n o l k y s hg rfl)

theorem dyq_eq (g w : ℕ) (n : Fin 3) (o : Fin 5) (p : Fin 9) (q : Fin 12) (s : Fin 256)
    (hg : g = n.val * 5 + o.val) (hw : w = p.val * 12 + q.val) :
    dyq x1 g w s.val = rdy dy (ix5 (tok T s) n o p q) := by
  unfold dyq
  rw [if_pos (by omega)]
  exact H.h1 _ _ n o p q s hg hw

theorem dyd_eq (g w : ℕ) (n : Fin 3) (o : Fin 5) (p : Fin 9) (q : Fin 12) (s : Fin 256)
    (hg : g = n.val * 5 + o.val) (hw : w = p.val * 12 + q.val) :
    dyd x1 x2 g w s.val = Dyd (rdy dy) (rds ds) (ix5 (tok T s) n o p q) := by
  rw [Dyd_at]
  exact congrArg₂ (· * ·) (dyq_eq H _ _ n o p q s hg hw) (H.h2 s)

theorem q3_eq (g r : ℕ) (n : Fin 3) (o : Fin 5) (l : Fin 2) (p : Fin 9) (z : Fin 11) (s : Fin 256)
    (hg : g = n.val * 5 + o.val) (hr : r = l.val * 104 + (p.val * 11 + z.val)) :
    q3 x1 x2 x5 g r s.val = R3 (rdy dy) (rds ds) g4 s4 (ix6 (tok T s) n o p (lf lp l) z) := by
  rw [R3_at]
  unfold q3
  refine congrArg₂ (· * ·) ?_ (H.h2 s)
  refine (sum_pad 108 4 112 rfl (fun w => rd x5 ![0, r, w] * dyq x1 g w s.val)
    (fun j _ => mulz (if_neg (by omega)))).trans ?_
  refine (sum_split 9 12 108 rfl (fun w => rd x5 ![0, r, w] * dyq x1 g w s.val)).trans ?_
  refine (sum_at p _ fun K hK => Finset.sum_eq_zero fun w _ => zmul
    (H.h5z _ _ l p z K w (Ne.symm hK) hr rfl)).trans ?_
  refine Finset.sum_congr rfl fun q _ => ?_
  exact congrArg₂ (· * ·) (H.h5 _ _ l p z q hr rfl) (dyq_eq H _ _ n o p q s hg rfl)

theorem q2_eq (N L O r : ℕ) (n : Fin 3) (o : Fin 5) (l : Fin 2) (k : Fin 8) (y : Fin 14) (s : Fin 256)
    (hN : N = n.val) (hL : L = l.val) (hO : O = o.val) (hr : r = k.val * 16 + y.val) :
    q2 x1 x2 x5 x6 N L O r s.val = R2 (R3 (rdy dy) (rds ds) g4 s4) g3 s3 (ix6 (tok T s) n o k (lf lp l) y) := by
  rw [R2_at]
  unfold q2
  refine (sum_split 2 104 208 rfl (fun w => rd x6 ![L * 128 + r, w] * q3 x1 x2 x5 (N * 5 + O) w s.val)).trans ?_
  have hpad : ∀ (K : Fin 2) (j : ℕ), j < 5 → rd x6 ![L * 128 + r, K.val * 104 + (99 + j)] = 0 := fun K j hj =>
    H.h6p _ _ l k y K ⟨j, hj⟩ (by omega) rfl
  refine (sum_at l _ fun K hK => ?_).trans ?_
  · refine (sum_pad 99 5 104 rfl (fun w => rd x6 ![L * 128 + r, K.val * 104 + w] * q3 x1 x2 x5 (N * 5 + O) (K.val * 104 + w) s.val)
      (fun j hj => zmul (hpad K j hj))).trans ?_
    exact Finset.sum_eq_zero fun w _ => zmul
      (H.h6z _ _ l k y K ⟨w.val / 11, by omega⟩ ⟨w.val % 11, by omega⟩ (Ne.symm hK) (by omega) (by dsimp only; omega))
  refine (sum_pad 99 5 104 rfl (fun w => rd x6 ![L * 128 + r, l.val * 104 + w] * q3 x1 x2 x5 (N * 5 + O) (l.val * 104 + w) s.val)
      (fun j hj => zmul (hpad l j hj))).trans ?_
  refine (sum_split 9 11 99 rfl (fun w => rd x6 ![L * 128 + r, l.val * 104 + w] * q3 x1 x2 x5 (N * 5 + O) (l.val * 104 + w) s.val)).trans ?_
  refine Finset.sum_congr rfl fun p _ => Finset.sum_congr rfl fun z _ => ?_
  exact congrArg₂ (· * ·) (H.h6 _ _ l k y p z (by omega) rfl) (q3_eq H _ _ n o l p z s (by omega) rfl)

theorem q1_eq (C b : ℕ) (n : Fin 3) (l : Fin 2) (kp : Fin 4) (kk : Fin 2) (k : Fin 8) (a : Fin 10) (j : Fin 4) (s : Fin 256)
    (hk : k.val = kp.val * 2 + kk.val)
    (hC : C = l.val * 4 + kp.val) (hb : b = n.val * 80 + (kk.val * 40 + (a.val * 4 + j.val))) :
    q1 x1 x2 x5 x6 x7 C b s.val
      = R1 (R2 (R3 (rdy dy) (rds ds) g4 s4) g3 s3) g2 s2 (ix6 (tok T s) n j k (lf lp l) a) := by
  rw [R1_at]
  unfold q1
  refine (sum_split 5 32 160 rfl (fun w => rd x7 ![b % 80, w]
    * q2 x1 x2 x5 x6 (b / 80) (C / 4) (w / 32) (C % 4 * 32 + w % 32) s.val)).trans ?_
  refine Finset.sum_congr rfl fun o _ => ?_
  refine (sum_split 2 16 32 rfl (fun w => rd x7 ![b % 80, o.val * 32 + w]
    * q2 x1 x2 x5 x6 (b / 80) (C / 4) ((o.val * 32 + w) / 32) (C % 4 * 32 + (o.val * 32 + w) % 32) s.val)).trans ?_
  have hpad : ∀ (K : Fin 2) (e : ℕ), e < 2 → rd x7 ![b % 80, o.val * 32 + (K.val * 16 + (14 + e))] = 0 := fun K e he =>
    H.h7p _ _ kk a j o K ⟨e, he⟩ (by omega) rfl
  refine (sum_at kk _ fun K hK => ?_).trans ?_
  · refine (sum_pad 14 2 16 rfl (fun w => rd x7 ![b % 80, o.val * 32 + (K.val * 16 + w)]
      * q2 x1 x2 x5 x6 (b / 80) (C / 4) ((o.val * 32 + (K.val * 16 + w)) / 32) (C % 4 * 32 + (o.val * 32 + (K.val * 16 + w)) % 32) s.val)
      (fun e he => zmul (hpad K e he))).trans ?_
    exact Finset.sum_eq_zero fun w _ => zmul (H.h7z _ _ kk a j o K w (Ne.symm hK) (by omega) rfl)
  refine (sum_pad 14 2 16 rfl (fun w => rd x7 ![b % 80, o.val * 32 + (kk.val * 16 + w)]
      * q2 x1 x2 x5 x6 (b / 80) (C / 4) ((o.val * 32 + (kk.val * 16 + w)) / 32) (C % 4 * 32 + (o.val * 32 + (kk.val * 16 + w)) % 32) s.val)
      (fun e he => zmul (hpad kk e he))).trans ?_
  refine Finset.sum_congr rfl fun y _ => ?_
  exact congrArg₂ (· * ·) (H.h7 _ _ kk a j o y (by omega) rfl)
    (q2_eq H _ _ _ _ n o l k y s (by omega) (by omega) (by omega) (by omega))

theorem dxv_eq (r : ℕ) (l : Fin 2) (k : Fin 8) (i : Fin 2) (j : Fin 4) (s : Fin 256)
    (hr : r = (l.val * 8 + k.val) * 8 + (i.val * 4 + j.val)) :
    dxv x1 x2 x5 x6 x7 x8 r s.val
      = ∑ n : Fin 3, ∑ a : Fin 10, codes g1 (ix3 i n a) * s1 (ix2 n a)
          * R1 (R2 (R3 (rdy dy) (rds ds) g4 s4) g3 s3) g2 s2 (ix6 (tok T s) n j k (lf lp l) a) := by
  unfold dxv
  let kp : Fin 4 := ⟨k.val / 2, by omega⟩
  let kk : Fin 2 := ⟨k.val % 2, by omega⟩
  have hkp : kp.val = k.val / 2 := rfl
  have hkk : kk.val = k.val % 2 := rfl
  refine (sum_split 3 80 240 rfl (fun w => rd x8 ![r % 16, w] * q1 x1 x2 x5 x6 x7 (r / 16) w s.val)).trans ?_
  refine Finset.sum_congr rfl fun n _ => ?_
  refine (sum_split 2 40 80 rfl (fun w => rd x8 ![r % 16, n.val * 80 + w] * q1 x1 x2 x5 x6 x7 (r / 16) (n.val * 80 + w) s.val)).trans ?_
  refine (sum_at kk _ fun K hK => Finset.sum_eq_zero fun w _ => zmul
    (H.h8z _ _ kk i j n K ⟨w.val / 4, by omega⟩ ⟨w.val % 4, by omega⟩ (Or.inl (Ne.symm hK)) (by omega) (by dsimp only; omega))).trans ?_
  refine (sum_split 10 4 40 rfl (fun w => rd x8 ![r % 16, n.val * 80 + (kk.val * 40 + w)]
    * q1 x1 x2 x5 x6 x7 (r / 16) (n.val * 80 + (kk.val * 40 + w)) s.val)).trans ?_
  refine Finset.sum_congr rfl fun a _ => ?_
  refine (sum_at j _ fun J hJ => zmul (H.h8z _ _ kk i j n kk a J (Or.inr (Ne.symm hJ)) (by omega) rfl)).trans ?_
  exact congrArg₂ (· * ·) (H.h8 _ _ kk i j n a (by omega) rfl)
    (q1_eq H _ _ n l kp kk k a j s (by omega) (by omega) rfl)
end
end Cert.KernelIdeal.Val
-- ==== Proof.Host.lean ====
module
public import proofs.«01_k».proof.Proof.Point
public import proofs.«01_k».proof.Proof.RefStages
public import Idealize.ShloMosaic.Lib.Pipeline.Value
public import Idealize.ShloMosaic.Lib.Claim
public import Idealize.ShloMosaic.Lib.StableHlo.RunRead
@[expose] public section
set_option maxRecDepth 16384
noncomputable section
open Idealize.ShloMosaic Idealize.ShloMosaic.TcCoe Idealize.SL.Sem
open Idealize.ShloMosaic.Pipeline (Dat)
open Cert.ReferenceIdeal.Val (codes)
namespace Cert.KernelIdeal.Val
open Cert.KernelIdeal Cert.KernelIdeal.Gen
variable (m : (ℓ : Loc nD τ sig) → Buf (Elt Ideal) ℓ) (c : Dev nD)
set_option maxHeartbeats 1000000

/-! The arrays the grid reads, as functions of the arguments. -/

/-- The identity matrix as the program writes it. -/
def eye (s : Shape) (a b : Fin s.rank) (h : S_.BroadcastsInDim s ![]) : FVec Ideal s .bf16 :=
  uitofp FTy.bf16 (cmpi CmpIPredicate.eq
    (addi (iotaInDim s 32 a) (broadcastInDim s ![] h (constantI S_ 32 0#32))) (iotaInDim s 32 b))

/-- An entry of the identity matrix. -/
theorem eye_val (n : ℕ) (hn : n ≤ 16) (k K : Fin n) :
    FloatOps.uitofp (F := Ideal) FTy.bf16
      (BitVec.ofBool (decide ((IntOp.addi (BitVec.ofNat 32 k.val) 0#32).toNat = (BitVec.ofNat 32 K.val).toNat)))
    = (if k = K then 1 else 0 : EReal) := by
  have hk := k.isLt
  have hK := K.isLt
  have e : (IntOp.addi (BitVec.ofNat 32 k.val) 0#32).toNat = k.val := by
    show (BitVec.ofNat 32 k.val + 0#32).toNat = _
    rw [BitVec.add_zero, BitVec.toNat_ofNat]; omega
  have e' : (BitVec.ofNat 32 K.val).toNat = K.val := by
    rw [BitVec.toNat_ofNat]; omega
  rw [e, e']
  by_cases h : k = K
  · subst h
    simp [FloatOps.uitofp]
  · have h' : ¬ k.val = K.val := fun e => h (Fin.ext e)
    simp [FloatOps.uitofp, h, h']

/-- The tokens, transposed. -/
def W0 (x : Vec Ideal S6x256x1024 .bf16) : Vec Ideal S1024x1536 .bf16 :=
  shapeCast S1024x1536 (transpose S16x8x8x1536 [3, 2, 1, 0] (shapeCast S1536x8x8x16 x shapeCasts_S6x256x1024_S1536x8x8x16) transposes_S1536x8x8x16_S16x8x8x1536_3_2_1_0) shapeCasts_S16x8x8x1536_S1024x1536

theorem V_0 : (V m c main_v2 : Vec Ideal S1024x1536 .bf16) = W0 (m (c, Proc.tc.devRef main_arg0)) := by
  entry_read
  simp only [List.flatten_cons, List.flatten_nil, List.append_nil, hostOps0, hostOps0_1, hostOps0_2, hostOps0_3, hostOps0_4,
    hostOps0_5, hostOps0_6, hostOps0_7, hostOps0_8, hostOps0_9, hostOps0_10, List.cons_append, List.nil_append]
  after_reads_simp
  rfl

/-- The gradient codes, transposed. -/
def W1 (dy : Vec Ideal S6x256x1620 .fp8e5m2) : Vec Ideal S15x108x1536 .fp8e5m2 :=
  transpose S15x108x1536 [1, 2, 0] (shapeCast S1536x15x108 dy shapeCasts_S6x256x1620_S1536x15x108) transposes_S1536x15x108_S15x108x1536_1_2_0

theorem V_1 : (V m c main_v4 : Vec Ideal S15x108x1536 .fp8e5m2) = W1 (m (c, Proc.tc.devRef main_arg1)) := by
  entry_read
  simp only [List.flatten_cons, List.flatten_nil, List.append_nil, hostOps0, hostOps0_1, hostOps0_2, hostOps0_3, hostOps0_4,
    hostOps0_5, hostOps0_6, hostOps0_7, hostOps0_8, hostOps0_9, hostOps0_10, List.cons_append, List.nil_append]
  after_reads_simp
  rfl

/-- The gradient scales in one row. -/
def W2 (ds : Vec Ideal S6x256 .f32) : Vec Ideal S1x1536 .f32 :=
  shapeCast S1x1536 ds shapeCasts_S6x256_S1x1536

theorem V_2 : (V m c main_v5 : Vec Ideal S1x1536 .f32) = W2 (m (c, Proc.tc.devRef main_arg2)) := by
  entry_read
  simp only [List.flatten_cons, List.flatten_nil, List.append_nil, hostOps0, hostOps0_1, hostOps0_2, hostOps0_3, hostOps0_4,
    hostOps0_5, hostOps0_6, hostOps0_7, hostOps0_8, hostOps0_9, hostOps0_10, List.cons_append, List.nil_append]
  after_reads_simp
  rfl

/-- The second core, packed. -/
def W3 (g2 : Vec Ideal S10x4x5x14 .i8) : Vec Ideal S280x160 .bf16 :=
  shapeCast S280x160 (mulf (φ := .bf16) (broadcastInDim S5x4x14x4x10x4 ![0, 1, 2, 3, 4, 5] bcast_S5x1x14x1x10x4_S5x4x14x4x10x4_0_1_2_3_4_5 (broadcastInDim S5x1x14x1x10x4 ![0, 2, 4, 5] bcast_S5x14x10x4_S5x1x14x1x10x4_0_2_4_5 (transpose S5x14x10x4 [2, 3, 0, 1] (codes g2) transposes_S10x4x5x14_S5x14x10x4_2_3_0_1)))
    (broadcastInDim S5x4x14x4x10x4 ![0, 1, 2, 3, 4, 5] bcast_S1x4x1x4x1x1_S5x4x14x4x10x4_0_1_2_3_4_5 (broadcastInDim S1x4x1x4x1x1 ![1, 3] bcast_S4x4_S1x4x1x4x1x1_1_3 (eye S4x4 0 1 bcast_S_S4x4)))) shapeCasts_S5x4x14x4x10x4_S280x160

theorem V_3 : (V m c main_v58 : Vec Ideal S280x160 .bf16) = W3 (m (c, Proc.tc.devRef main_arg4)) := by
  entry_read
  simp only [List.flatten_cons, List.flatten_nil, List.append_nil, hostOps0, hostOps0_1, hostOps0_2, hostOps0_3, hostOps0_4,
    hostOps0_5, hostOps0_6, hostOps0_7, hostOps0_8, hostOps0_9, hostOps0_10, List.cons_append, List.nil_append]
  after_reads_simp
  rfl

/-- The third core, packed. -/
def W4 (g3 : Vec Ideal S14x8x9x11 .i8) : Vec Ideal S208x224 .bf16 :=
  shapeCast S208x224 (mulf (φ := .bf16) (broadcastInDim S2x104x2x112 ![0, 1, 2, 3] bcast_S1x104x1x112_S2x104x2x112_0_1_2_3 (broadcastInDim S1x104x1x112 ![1, 3] bcast_S104x112_S1x104x1x112_1_3 (pad S104x112 ![0, 0] ![5, 0] ![0, 0] (shapeCast S99x112 (transpose S9x11x8x14 [2, 3, 1, 0] (codes g3) transposes_S14x8x9x11_S9x11x8x14_2_3_1_0) shapeCasts_S9x11x8x14_S99x112) (sitofp .bf16 (constantI S_ 32 0#32) : FVec Ideal S_ .bf16) pads_S99x112_S104x112_050_000 h_S_)))
    (broadcastInDim S2x104x2x112 ![0, 1, 2, 3] bcast_S2x1x2x1_S2x104x2x112_0_1_2_3 (broadcastInDim S2x1x2x1 ![0, 2] bcast_S2x2_S2x1x2x1_0_2 (eye S2x2 0 1 bcast_S_S2x2)))) shapeCasts_S2x104x2x112_S208x224

theorem V_4 : (V m c main_v67 : Vec Ideal S208x224 .bf16) = W4 (m (c, Proc.tc.devRef main_arg5)) := by
  entry_read
  simp only [List.flatten_cons, List.flatten_nil, List.append_nil, hostOps0, hostOps0_1, hostOps0_2, hostOps0_3, hostOps0_4,
    hostOps0_5, hostOps0_6, hostOps0_7, hostOps0_8, hostOps0_9, hostOps0_10, List.cons_append, List.nil_append]
  after_reads_simp
  rfl

/-- The fourth core times its scale, packed. -/
def W5 (g4 : Vec Ideal S11x16x12 .i8) (s4 : Vec Ideal S12 .f32) : Vec Ideal S8x208x112 .bf16 :=
  shapeCast S8x208x112 (pad S16x104x112 ![0, 0, 0] ![0, 5, 4] ![0, 0, 0] (shapeCast S16x99x108 (mulf (φ := .bf16) (broadcastInDim S16x9x11x9x12 ![0, 1, 2, 3, 4] bcast_S16x1x11x1x12_S16x9x11x9x12_0_1_2_3_4 (broadcastInDim S16x1x11x1x12 ![0, 2, 4] bcast_S16x11x12_S16x1x11x1x12_0_2_4 (transpose S16x11x12 [1, 0, 2] (mulf (codes g4) (broadcastInDim S11x16x12 ![0, 1, 2] bcast_S1x1x12_S11x16x12_0_1_2 (broadcastInDim S1x1x12 ![2] bcast_S12_S1x1x12_2 (truncf FTy.bf16 s4 bitsLt_bf16_f32)))) transposes_S11x16x12_S16x11x12_1_0_2)))
    (broadcastInDim S16x9x11x9x12 ![0, 1, 2, 3, 4] bcast_S1x9x1x9x1_S16x9x11x9x12_0_1_2_3_4 (broadcastInDim S1x9x1x9x1 ![1, 3] bcast_S9x9_S1x9x1x9x1_1_3 (eye S9x9 0 1 bcast_S_S9x9)))) shapeCasts_S16x9x11x9x12_S16x99x108) (sitofp .bf16 (constantI S_ 32 0#32) : FVec Ideal S_ .bf16) pads_S16x99x108_S16x104x112_000_050_040 h_S_) shapeCasts_S16x104x112_S8x208x112

theorem V_5 : (V m c main_v76 : Vec Ideal S8x208x112 .bf16) = W5 (m (c, Proc.tc.devRef main_arg6)) (m (c, Proc.tc.devRef main_arg10)) := by
  entry_read
  simp only [List.flatten_cons, List.flatten_nil, List.append_nil, hostOps0, hostOps0_1, hostOps0_2, hostOps0_3, hostOps0_4,
    hostOps0_5, hostOps0_6, hostOps0_7, hostOps0_8, hostOps0_9, hostOps0_10, List.cons_append, List.nil_append]
  after_reads_simp
  rfl

/-- The third core times its scale, packed for the way back. -/
def W6 (g3 : Vec Ideal S14x8x9x11 .i8) (s3 : Vec Ideal S9x11 .f32) : Vec Ideal S256x208 .bf16 :=
  shapeCast S256x208 (mulf (φ := .bf16) (broadcastInDim S2x128x2x104 ![0, 1, 2, 3] bcast_S1x128x1x104_S2x128x2x104_0_1_2_3 (broadcastInDim S1x128x1x104 ![1, 3] bcast_S128x104_S1x128x1x104_1_3 (shapeCast S128x104 (pad S8x16x104 ![0, 0, 0] ![0, 2, 5] ![0, 0, 0] (shapeCast S8x14x99 (transpose S8x14x9x11 [1, 0, 2, 3] (mulf (codes g3) (broadcastInDim S14x8x9x11 ![0, 1, 2, 3] bcast_S1x1x9x11_S14x8x9x11_0_1_2_3 (broadcastInDim S1x1x9x11 ![2, 3] bcast_S9x11_S1x1x9x11_2_3 (truncf FTy.bf16 s3 bitsLt_bf16_f32)))) transposes_S14x8x9x11_S8x14x9x11_1_0_2_3) shapeCasts_S8x14x9x11_S8x14x99) (sitofp .bf16 (constantI S_ 32 0#32) : FVec Ideal S_ .bf16) pads_S8x14x99_S8x16x104_000_020_050 h_S_) shapeCasts_S8x16x104_S128x104)))
    (broadcastInDim S2x128x2x104 ![0, 1, 2, 3] bcast_S2x1x2x1_S2x128x2x104_0_1_2_3 (broadcastInDim S2x1x2x1 ![0, 2] bcast_S2x2_S2x1x2x1_0_2 (eye S2x2 0 1 bcast_S_S2x2)))) shapeCasts_S2x128x2x104_S256x208

theorem V_6 : (V m c main_v86 : Vec Ideal S256x208 .bf16) = W6 (m (c, Proc.tc.devRef main_arg5)) (m (c, Proc.tc.devRef main_arg9)) := by
  entry_read
  simp only [List.flatten_cons, List.flatten_nil, List.append_nil, hostOps0, hostOps0_1, hostOps0_2, hostOps0_3, hostOps0_4,
    hostOps0_5, hostOps0_6, hostOps0_7, hostOps0_8, hostOps0_9, hostOps0_10, List.cons_append, List.nil_append]
  after_reads_simp
  rfl

/-- The second core times its scale, packed for the way back. -/
def W7 (g2 : Vec Ideal S10x4x5x14 .i8) (s2 : Vec Ideal S5x14 .f32) : Vec Ideal S80x160 .bf16 :=
  shapeCast S80x160 (mulf (φ := .bf16) (broadcastInDim S2x40x5x2x16 ![0, 1, 2, 3, 4] bcast_S1x40x5x1x16_S2x40x5x2x16_0_1_2_3_4 (broadcastInDim S1x40x5x1x16 ![1, 2, 4] bcast_S40x5x16_S1x40x5x1x16_1_2_4 (pad S40x5x16 ![0, 0, 0] ![0, 0, 2] ![0, 0, 0] (shapeCast S40x5x14 (mulf (codes g2) (broadcastInDim S10x4x5x14 ![0, 1, 2, 3] bcast_S1x1x5x14_S10x4x5x14_0_1_2_3 (broadcastInDim S1x1x5x14 ![2, 3] bcast_S5x14_S1x1x5x14_2_3 (truncf FTy.bf16 s2 bitsLt_bf16_f32)))) shapeCasts_S10x4x5x14_S40x5x14) (sitofp .bf16 (constantI S_ 32 0#32) : FVec Ideal S_ .bf16) pads_S40x5x14_S40x5x16_000_000_020 h_S_)))
    (broadcastInDim S2x40x5x2x16 ![0, 1, 2, 3, 4] bcast_S2x1x1x2x1_S2x40x5x2x16_0_1_2_3_4 (broadcastInDim S2x1x1x2x1 ![0, 3] bcast_S2x2_S2x1x1x2x1_0_3 (eye S2x2 0 1 bcast_S_S2x2)))) shapeCasts_S2x40x5x2x16_S80x160

theorem V_7 : (V m c main_v94 : Vec Ideal S80x160 .bf16) = W7 (m (c, Proc.tc.devRef main_arg4)) (m (c, Proc.tc.devRef main_arg8)) := by
  entry_read
  simp only [List.flatten_cons, List.flatten_nil, List.append_nil, hostOps0, hostOps0_1, hostOps0_2, hostOps0_3, hostOps0_4,
    hostOps0_5, hostOps0_6, hostOps0_7, hostOps0_8, hostOps0_9, hostOps0_10, List.cons_append, List.nil_append]
  after_reads_simp
  rfl

/-- The first core times its scale, packed for the way back. -/
def W8 (g1 : Vec Ideal S2x3x10 .i8) (s1 : Vec Ideal S3x10 .f32) : Vec Ideal S16x240 .bf16 :=
  shapeCast S16x240 (mulf (φ := .bf16) (broadcastInDim S2x8x3x2x40 ![0, 1, 2, 3, 4] bcast_S1x8x3x1x40_S2x8x3x2x40_0_1_2_3_4 (broadcastInDim S1x8x3x1x40 ![1, 2, 4] bcast_S8x3x40_S1x8x3x1x40_1_2_4 (shapeCast S8x3x40 (mulf (φ := .bf16) (broadcastInDim S2x4x3x10x4 ![0, 1, 2, 3, 4] bcast_S2x1x3x10x1_S2x4x3x10x4_0_1_2_3_4 (broadcastInDim S2x1x3x10x1 ![0, 2, 3] bcast_S2x3x10_S2x1x3x10x1_0_2_3 (mulf (codes g1) (broadcastInDim S2x3x10 ![0, 1, 2] bcast_S1x3x10_S2x3x10_0_1_2 (broadcastInDim S1x3x10 ![1, 2] bcast_S3x10_S1x3x10_1_2 (truncf FTy.bf16 s1 bitsLt_bf16_f32))))))
    (broadcastInDim S2x4x3x10x4 ![0, 1, 2, 3, 4] bcast_S1x4x1x1x4_S2x4x3x10x4_0_1_2_3_4 (broadcastInDim S1x4x1x1x4 ![1, 4] bcast_S4x4_S1x4x1x1x4_1_4 (eye S4x4 0 1 bcast_S_S4x4)))) shapeCasts_S2x4x3x10x4_S8x3x40)))
    (broadcastInDim S2x8x3x2x40 ![0, 1, 2, 3, 4] bcast_S2x1x1x2x1_S2x8x3x2x40_0_1_2_3_4 (broadcastInDim S2x1x1x2x1 ![0, 3] bcast_S2x2_S2x1x1x2x1_0_3 (eye S2x2 0 1 bcast_S_S2x2)))) shapeCasts_S2x8x3x2x40_S16x240

theorem V_8 : (V m c main_v106 : Vec Ideal S16x240 .bf16) = W8 (m (c, Proc.tc.devRef main_arg3)) (m (c, Proc.tc.devRef main_arg7)) := by
  entry_read
  simp only [List.flatten_cons, List.flatten_nil, List.append_nil, hostOps0, hostOps0_1, hostOps0_2, hostOps0_3, hostOps0_4,
    hostOps0_5, hostOps0_6, hostOps0_7, hostOps0_8, hostOps0_9, hostOps0_10, List.cons_append, List.nil_append]
  after_reads_simp
  rfl

/-- The first core and its scale along the lanes. -/
def W9 (g1 : Vec Ideal S2x3x10 .i8) (s1 : Vec Ideal S3x10 .f32) : Vec Ideal S3x3x40x128 .f32 :=
  broadcastInDim S3x3x40x128 ![0, 1, 2, 3] bcast_S3x3x40x1_S3x3x40x128_0_1_2_3 (broadcastInDim S3x3x40x1 ![0, 1, 2] bcast_S3x3x40_S3x3x40x1_0_1_2 (shapeCast S3x3x40 (broadcastInDim S3x3x10x4 ![0, 1, 2] bcast_S3x3x10_S3x3x10x4_0_1_2
    (concatenate S3x3x10 0 [⟨S1x3x10, (broadcastInDim S1x3x10 ![1, 2] bcast_S3x10_S1x3x10_1_2 (shapeCast S3x10 (extractStridedSlice S1x3x10 ![0, 0, 0] (sitofp FTy.f32 (extsi 32 g1 natLt_8_32) : FVec Ideal S2x3x10 .f32) slices_S2x3x10_S1x3x10_0_0_0) shapeCasts_S1x3x10_S3x10))⟩, ⟨S1x3x10, (broadcastInDim S1x3x10 ![1, 2] bcast_S3x10_S1x3x10_1_2 (shapeCast S3x10 (extractStridedSlice S1x3x10 ![1, 0, 0] (sitofp FTy.f32 (extsi 32 g1 natLt_8_32) : FVec Ideal S2x3x10 .f32) slices_S2x3x10_S1x3x10_1_0_0) shapeCasts_S1x3x10_S3x10))⟩,
      ⟨S1x3x10, (broadcastInDim S1x3x10 ![1, 2] bcast_S3x10_S1x3x10_1_2 s1)⟩] concatenates_S1x3x10_S1x3x10_S1x3x10_S3x3x10_d0)) shapeCasts_S3x3x10x4_S3x3x40))

theorem V_9 : (V m c main_v120 : Vec Ideal S3x3x40x128 .f32) = W9 (m (c, Proc.tc.devRef main_arg3)) (m (c, Proc.tc.devRef main_arg7)) := by
  entry_read
  simp only [List.flatten_cons, List.flatten_nil, List.append_nil, hostOps0, hostOps0_1, hostOps0_2, hostOps0_3, hostOps0_4,
    hostOps0_5, hostOps0_6, hostOps0_7, hostOps0_8, hostOps0_9, hostOps0_10, List.cons_append, List.nil_append]
  after_reads_simp
  rfl

/-- The second scale along the lanes. -/
def W10 (s2 : Vec Ideal S5x14 .f32) : Vec Ideal S5x112x128 .f32 :=
  broadcastInDim S5x112x128 ![0, 1, 2] bcast_S5x112x1_S5x112x128_0_1_2 (broadcastInDim S5x112x1 ![0, 1] bcast_S5x112_S5x112x1_0_1 (shapeCast S5x112 (broadcastInDim S1x5x8x14 ![0, 1, 2, 3] bcast_S1x5x1x14_S1x5x8x14_0_1_2_3 (shapeCast S1x5x1x14 s2 shapeCasts_S5x14_S1x5x1x14)) shapeCasts_S1x5x8x14_S5x112))

theorem V_10 : (V m c main_v125 : Vec Ideal S5x112x128 .f32) = W10 (m (c, Proc.tc.devRef main_arg8)) := by
  entry_read
  simp only [List.flatten_cons, List.flatten_nil, List.append_nil, hostOps0, hostOps0_1, hostOps0_2, hostOps0_3, hostOps0_4,
    hostOps0_5, hostOps0_6, hostOps0_7, hostOps0_8, hostOps0_9, hostOps0_10, List.cons_append, List.nil_append]
  after_reads_simp
  rfl

/-- The third scale along the lanes. -/
def W11 (s3 : Vec Ideal S9x11 .f32) : Vec Ideal S208x128 .f32 :=
  broadcastInDim S208x128 ![0, 1] bcast_S208x1_S208x128_0_1 (broadcastInDim S208x1 ![0] bcast_S208_S208x1_0 (concatenate S208 0 [⟨S104, (pad S104 ![0] ![5] ![0] (shapeCast S99 s3 shapeCasts_S9x11_S99) (sitofp .f32 (constantI S_ 32 0#32) : FVec Ideal S_ .f32) pads_S99_S104_050 h_S_)⟩, ⟨S104, (pad S104 ![0] ![5] ![0] (shapeCast S99 s3 shapeCasts_S9x11_S99) (sitofp .f32 (constantI S_ 32 0#32) : FVec Ideal S_ .f32) pads_S99_S104_050 h_S_)⟩] concatenates_S104_S104_S208_d0))

theorem V_11 : (V m c main_v130 : Vec Ideal S208x128 .f32) = W11 (m (c, Proc.tc.devRef main_arg9)) := by
  entry_read
  simp only [List.flatten_cons, List.flatten_nil, List.append_nil, hostOps0, hostOps0_1, hostOps0_2, hostOps0_3, hostOps0_4,
    hostOps0_5, hostOps0_6, hostOps0_7, hostOps0_8, hostOps0_9, hostOps0_10, List.cons_append, List.nil_append]
  after_reads_simp
  rfl

theorem W0_at (x : Vec Ideal S6x256x1024 .bf16) (l : Fin 16) (k : Fin 8) (i : Fin 2) (j : Fin 4) (b : Fin 6) (s : Fin 256) :
    W0 x (ix2 ⟨(l.val * 8 + k.val) * 8 + (i.val * 4 + j.val), by omega⟩ ⟨b.val * 256 + s.val, by omega⟩)
      = x (ix3 b s ⟨((i.val * 4 + j.val) * 8 + k.val) * 16 + l.val, by omega⟩) := by
  pointwise [hlo_ix, W0, eye]
  have h0 : ((l.val * 8 + k.val) * 8 + (i.val * 4 + j.val)) % 8 * 128 + k.val * 16 + l.val
      = ((i.val * 4 + j.val) * 8 + k.val) * 16 + l.val := by omega
  simp only [h0]

theorem W1_at (dy : Vec Ideal S6x256x1620 .fp8e5m2) (n : Fin 3) (o : Fin 5) (p : Fin 9) (q : Fin 12) (b : Fin 6) (s : Fin 256) :
    W1 dy (ix3 ⟨n.val * 5 + o.val, by omega⟩ ⟨p.val * 12 + q.val, by omega⟩ ⟨b.val * 256 + s.val, by omega⟩)
      = dy (ix3 b s ⟨(n.val * 5 + o.val) * 108 + (p.val * 12 + q.val), by omega⟩) := by
  pointwise [hlo_ix, W1, eye]

theorem W2_at (ds : Vec Ideal S6x256 .f32) (b : Fin 6) (s : Fin 256) :
    W2 ds (ix2 (0 : Fin 1) ⟨b.val * 256 + s.val, by omega⟩)
      = ds (ix2 b s) := by
  pointwise [hlo_ix, W2, eye]

theorem W3_at (g2 : Vec Ideal S10x4x5x14 .i8) (o : Fin 5) (k : Fin 4) (y : Fin 14) (K : Fin 4) (x : Fin 10) (j : Fin 4) :
    W3 g2 (ix2 ⟨o.val * 56 + k.val * 14 + y.val, by omega⟩ ⟨K.val * 40 + x.val * 4 + j.val, by omega⟩)
      = codes g2 (ix4 x j o y) * (if k = K then 1 else 0) := by
  pointwise [hlo_ix, W3, eye]
  all_goals simp only [eye_val _ (by omega : 2 ≤ 16), eye_val _ (by omega : 4 ≤ 16), eye_val _ (by omega : 9 ≤ 16)]

theorem W4_at (g3 : Vec Ideal S14x8x9x11 .i8) (L : Fin 2) (p : Fin 9) (z : Fin 11) (l : Fin 2) (k : Fin 8) (y : Fin 14) :
    W4 g3 (ix2 ⟨L.val * 104 + (p.val * 11 + z.val), by omega⟩ ⟨l.val * 112 + (k.val * 14 + y.val), by omega⟩)
      = codes g3 (ix4 y k p z) * (if L = l then 1 else 0) := by
  pointwise [hlo_ix, W4, eye]
  all_goals simp only [eye_val _ (by omega : 2 ≤ 16), eye_val _ (by omega : 4 ≤ 16), eye_val _ (by omega : 9 ≤ 16)]
  have h0 : (L.val * 104 + (p.val * 11 + z.val)) % 104 = p.val * 11 + z.val := by
    rw [Nat.mul_add_mod_self_right]; omega
  have h2 : (L.val * 104 + (p.val * 11 + z.val)) % 104 / 11 = p.val := by rw [h0]; omega
  have h3 : (L.val * 104 + (p.val * 11 + z.val)) % 104 % 11 = z.val := by rw [h0]; omega
  rw [dif_pos ⟨by omega, by omega⟩]
  simp only [h2, h3, Fin.eta]

theorem W5_at (g4 : Vec Ideal S11x16x12 .i8) (s4 : Vec Ideal S12 .f32) (lp : Fin 8) (l : Fin 2) (p : Fin 9) (z : Fin 11) (P : Fin 9) (q : Fin 12) :
    W5 g4 s4 (ix3 lp ⟨l.val * 104 + (p.val * 11 + z.val), by omega⟩ ⟨P.val * 12 + q.val, by omega⟩)
      = codes g4 (ix3 z ⟨lp.val * 2 + l.val, by omega⟩ q) * s4 (ix1 q) * (if p = P then 1 else 0) := by
  pointwise [hlo_ix, W5, eye]
  have h0 : (l.val * 104 + (p.val * 11 + z.val)) % 104 = p.val * 11 + z.val := by
    rw [Nat.mul_add_mod_self_right]; omega
  have h1 : (l.val * 104 + (p.val * 11 + z.val)) / 104 = l.val := by omega
  have h2 : (l.val * 104 + (p.val * 11 + z.val)) % 104 / 11 = p.val := by rw [h0]; omega
  have h3 : (l.val * 104 + (p.val * 11 + z.val)) % 104 % 11 = z.val := by rw [h0]; omega
  rw [dif_pos ⟨by omega, by omega, by omega⟩]
  simp only [h1, h2, h3, Fin.eta]
  simp only [eye_val _ (by omega : 2 ≤ 16), eye_val _ (by omega : 4 ≤ 16), eye_val _ (by omega : 9 ≤ 16)]

theorem W6_at (g3 : Vec Ideal S14x8x9x11 .i8) (s3 : Vec Ideal S9x11 .f32) (L : Fin 2) (k : Fin 8) (y : Fin 14) (l : Fin 2) (p : Fin 9) (z : Fin 11) :
    W6 g3 s3 (ix2 ⟨L.val * 128 + (k.val * 16 + y.val), by omega⟩ ⟨l.val * 104 + (p.val * 11 + z.val), by omega⟩)
      = codes g3 (ix4 y k p z) * s3 (ix2 p z) * (if L = l then 1 else 0) := by
  pointwise [hlo_ix, W6, eye]
  all_goals simp only [eye_val _ (by omega : 2 ≤ 16), eye_val _ (by omega : 4 ≤ 16), eye_val _ (by omega : 9 ≤ 16)]
  have h1 : (L.val * 128 + (k.val * 16 + y.val)) % 128 % 16 = y.val := by omega
  have h0 : (l.val * 104 + (p.val * 11 + z.val)) % 104 = p.val * 11 + z.val := by
    rw [Nat.mul_add_mod_self_right]; omega
  have h2 : (l.val * 104 + (p.val * 11 + z.val)) % 104 / 11 = p.val := by rw [h0]; omega
  have h3 : (l.val * 104 + (p.val * 11 + z.val)) % 104 % 11 = z.val := by rw [h0]; omega
  rw [dif_pos ⟨by omega, by omega⟩]
  simp only [h1, h2, h3, Fin.eta]

theorem W6_pad (g3 : Vec Ideal S14x8x9x11 .i8) (s3 : Vec Ideal S9x11 .f32) (L : Fin 2) (k : Fin 8) (y : Fin 14) (l : Fin 2) (e : Fin 5) :
    W6 g3 s3 (ix2 ⟨L.val * 128 + (k.val * 16 + y.val), by omega⟩ ⟨l.val * 104 + (99 + e.val), by omega⟩)
      = 0 := by
  pointwise [hlo_ix, W6, eye]
  rw [dif_neg (by omega), show FloatOps.sitofp (F := Ideal) FTy.bf16 0#32 = (0 : EReal) from by simp [FloatOps.sitofp], zero_mul]

theorem W7_at (g2 : Vec Ideal S10x4x5x14 .i8) (s2 : Vec Ideal S5x14 .f32) (K : Fin 2) (x : Fin 10) (j : Fin 4) (o : Fin 5) (k : Fin 2) (y : Fin 14) :
    W7 g2 s2 (ix2 ⟨K.val * 40 + (x.val * 4 + j.val), by omega⟩ ⟨o.val * 32 + (k.val * 16 + y.val), by omega⟩)
      = codes g2 (ix4 x j o y) * s2 (ix2 o y) * (if K = k then 1 else 0) := by
  pointwise [hlo_ix, W7, eye]
  all_goals simp only [eye_val _ (by omega : 2 ≤ 16), eye_val _ (by omega : 4 ≤ 16), eye_val _ (by omega : 9 ≤ 16)]
  have h1 : (o.val * 32 + (k.val * 16 + y.val)) % 16 = y.val := by omega
  rw [dif_pos ⟨by omega, by omega⟩]
  simp only [h1, Fin.eta]

theorem W7_pad (g2 : Vec Ideal S10x4x5x14 .i8) (s2 : Vec Ideal S5x14 .f32) (K : Fin 2) (x : Fin 10) (j : Fin 4) (o : Fin 5) (k : Fin 2) (e : Fin 2) :
    W7 g2 s2 (ix2 ⟨K.val * 40 + (x.val * 4 + j.val), by omega⟩ ⟨o.val * 32 + (k.val * 16 + (14 + e.val)), by omega⟩)
      = 0 := by
  pointwise [hlo_ix, W7, eye]
  rw [dif_neg (by omega), show FloatOps.sitofp (F := Ideal) FTy.bf16 0#32 = (0 : EReal) from by simp [FloatOps.sitofp], zero_mul]

theorem W8_at (g1 : Vec Ideal S2x3x10 .i8) (s1 : Vec Ideal S3x10 .f32) (K : Fin 2) (i : Fin 2) (j : Fin 4) (n : Fin 3) (k : Fin 2) (x : Fin 10) (J : Fin 4) :
    W8 g1 s1 (ix2 ⟨K.val * 8 + (i.val * 4 + j.val), by omega⟩ ⟨n.val * 80 + (k.val * 40 + (x.val * 4 + J.val)), by omega⟩)
      = codes g1 (ix3 i n x) * s1 (ix2 n x) * (if j = J then 1 else 0) * (if K = k then 1 else 0) := by
  pointwise [hlo_ix, W8, eye]
  all_goals simp only [eye_val _ (by omega : 2 ≤ 16), eye_val _ (by omega : 4 ≤ 16), eye_val _ (by omega : 9 ≤ 16)]

theorem W9_at0 (g1 : Vec Ideal S2x3x10 .i8) (s1 : Vec Ideal S3x10 .f32) (i : Fin 2) (n : Fin 3) (x : Fin 10) (j : Fin 4) (s : Fin 128) :
    W9 g1 s1 (ix4 ⟨i.val, by omega⟩ n ⟨x.val * 4 + j.val, by omega⟩ s)
      = codes g1 (ix3 i n x) := by
  pointwise [hlo_ix, W9, eye]
  rcases i with ⟨_ | _ | i, hi⟩
  · rfl
  · rfl
  · omega

theorem W9_at2 (g1 : Vec Ideal S2x3x10 .i8) (s1 : Vec Ideal S3x10 .f32) (n : Fin 3) (x : Fin 10) (j : Fin 4) (s : Fin 128) :
    W9 g1 s1 (ix4 2 n ⟨x.val * 4 + j.val, by omega⟩ s)
      = s1 (ix2 n x) := by
  pointwise [hlo_ix, W9, eye]

theorem W10_at (s2 : Vec Ideal S5x14 .f32) (o : Fin 5) (k : Fin 8) (y : Fin 14) (s : Fin 128) :
    W10 s2 (ix3 o ⟨k.val * 14 + y.val, by omega⟩ s)
      = s2 (ix2 o y) := by
  pointwise [hlo_ix, W10, eye]

theorem W11_at (s3 : Vec Ideal S9x11 .f32) (l : Fin 2) (p : Fin 9) (z : Fin 11) (s : Fin 128) :
    W11 s3 (ix2 ⟨l.val * 104 + (p.val * 11 + z.val), by omega⟩ s)
      = s3 (ix2 p z) := by
  pointwise [hlo_ix, W11, eye]
  rcases l with ⟨_ | _ | l, hl⟩
  · have h3 : (0 * 104 + (p.val * 11 + z.val)) % 11 = z.val := by omega
    rw [dif_pos (by dsimp only; omega), dif_pos (by dsimp only; omega)]
    simp only [h3, Fin.eta]
  · have h3 : ((0 + 1) * 104 + (p.val * 11 + z.val) - 104) % 11 = z.val := by omega
    have h4 : ((0 + 1) * 104 + (p.val * 11 + z.val) - 104) / 11 = p.val := by omega
    rw [dif_neg (by dsimp only; omega), dif_pos (by dsimp only; omega)]
    simp only [h3, h4, Fin.eta]
  · omega

end Cert.KernelIdeal.Val
-- ==== Proof.Blocks.lean ====
module
public import proofs.«01_k».proof.Proof.Chain
public import proofs.«01_k».proof.Proof.Host
public import proofs.«01_k».proof.Proof.Gen.KernelIdeal.Frame
@[expose] public section
set_option maxRecDepth 16384
noncomputable section
open Idealize.ShloMosaic Idealize.ShloMosaic.TcCoe Idealize.SL.Sem
open Cert.ReferenceIdeal.Val (codes)
namespace Cert.KernelIdeal.Val
open Cert.KernelIdeal Cert.KernelIdeal.Gen

/-! What the input blocks of a grid point hold, over the argument arrays. -/

variable (m : (ℓ : Loc nD τ sig) → Buf (Elt Ideal) ℓ) (c : Dev nD)

theorem ix_0 : ∀ t : Fin cfg0.N, win0_0.index t (0 : Fin 2) = t.val % 8 ∧ win0_0.index t (1 : Fin 2) = t.val / 8 :=
  (by decide +kernel : ∀ t : Fin grid0.N, _)
theorem ix_1 : ∀ t : Fin cfg0.N, win0_1.index t (0 : Fin 3) = 0 ∧ win0_1.index t (1 : Fin 3) = 0 ∧ win0_1.index t (2 : Fin 3) = t.val / 8 :=
  (by decide +kernel : ∀ t : Fin grid0.N, _)
theorem ix_2 : ∀ t : Fin cfg0.N, win0_2.index t (0 : Fin 2) = 0 ∧ win0_2.index t (1 : Fin 2) = t.val / 8 :=
  (by decide +kernel : ∀ t : Fin grid0.N, _)
theorem ix_5 : ∀ t : Fin cfg0.N, win0_5.index t (0 : Fin 3) = t.val % 8 ∧ win0_5.index t (1 : Fin 3) = 0 ∧ win0_5.index t (2 : Fin 3) = 0 :=
  (by decide +kernel : ∀ t : Fin grid0.N, _)
theorem ix_2d : ∀ t : Fin cfg0.N, (∀ a : Fin 2, win0_3.index t a = 0 ∧ win0_4.index t a = 0 ∧ win0_6.index t a = 0
    ∧ win0_7.index t a = 0 ∧ win0_8.index t a = 0 ∧ win0_11.index t a = 0) :=
  (by decide +kernel : ∀ t : Fin grid0.N, _)
theorem ix_9 : ∀ t : Fin cfg0.N, (∀ a : Fin 4, win0_9.index t a = 0) := (by decide +kernel : ∀ t : Fin grid0.N, _)
theorem ix_10 : ∀ t : Fin cfg0.N, (∀ a : Fin 3, win0_10.index t a = 0) := (by decide +kernel : ∀ t : Fin grid0.N, _)
theorem ix_12 : ∀ t : Fin cfg0.N, win0_12.index t (0 : Fin 2) = t.val % 8 ∧ win0_12.index t (1 : Fin 2) = t.val / 8 :=
  (by decide +kernel : ∀ t : Fin grid0.N, _)
theorem t48 (t : Fin cfg0.N) : t.val < 48 := lt_of_lt_of_eq t.isLt (show cfg0.N = 48 from N_0)

theorem rd_at {s : Shape} {f : s.Idx → EReal} {c : Fin s.rank → ℕ} {v : EReal} (y : s.Idx) (h : ∀ a, c a = (y a).val) (e : f y = v) :
    rd f c = v := (rd_of f c y h).trans e

theorem blk0 (t : Fin cfg0.N) (y : S128x256.Idx) (r : Fin 1024) (w : Fin 1536) (hr : r.val = t.val % 8 * 128 + (y 0).val)
    (hw : w.val = t.val / 8 * 256 + (y 1).val) :
    (iblk m c 0 t : S128x256.Idx → EReal) y = W0 (m (c, Proc.tc.devRef main_arg0)) (ix2 r w) := by
  refine (congrFun (V_0 m c) _).trans (congrArg _ (funext fun a => Fin.ext ?_))
  have e := ix_0 t
  match a with
  | ⟨0, _⟩ => show win0_0.index t (0 : Fin 2) * 128 + 1 * (y 0).val = r.val; omega
  | ⟨1, _⟩ => show win0_0.index t (1 : Fin 2) * 256 + 1 * (y 1).val = w.val; omega
theorem blk1 (t : Fin cfg0.N) (y : S15x108x256.Idx) (w : Fin 1536) (hw : w.val = t.val / 8 * 256 + (y 2).val) :
    (iblk m c 1 t : S15x108x256.Idx → EReal) y = W1 (m (c, Proc.tc.devRef main_arg1)) (ix3 (y 0) (y 1) w) := by
  refine (congrFun (V_1 m c) _).trans (congrArg (W1 _) (funext fun a => Fin.ext ?_))
  have e := ix_1 t
  match a with
  | ⟨0, _⟩ => show win0_1.index t (0 : Fin 3) * 15 + 1 * (y 0).val = (y 0).val; omega
  | ⟨1, _⟩ => show win0_1.index t (1 : Fin 3) * 108 + 1 * (y 1).val = (y 1).val; omega
  | ⟨2, _⟩ => show win0_1.index t (2 : Fin 3) * 256 + 1 * (y 2).val = w.val; omega
theorem blk2 (t : Fin cfg0.N) (y : S1x256.Idx) (w : Fin 1536) (hw : w.val = t.val / 8 * 256 + (y 1).val) :
    (iblk m c 2 t : S1x256.Idx → EReal) y = W2 (m (c, Proc.tc.devRef main_arg2)) (ix2 (y 0) w) := by
  refine (congrFun (V_2 m c) _).trans (congrArg _ (funext fun a => Fin.ext ?_))
  have e := ix_2 t
  match a with
  | ⟨0, _⟩ => show win0_2.index t (0 : Fin 2) * 1 + 1 * (y 0).val = (y 0).val; omega
  | ⟨1, _⟩ => show win0_2.index t (1 : Fin 2) * 256 + 1 * (y 1).val = w.val; omega
theorem blk5 (t : Fin cfg0.N) (y : S1x208x112.Idx) (lp : Fin 8) (hl : lp.val = t.val % 8) :
    (iblk m c 5 t : S1x208x112.Idx → EReal) y
      = W5 (m (c, Proc.tc.devRef main_arg6)) (m (c, Proc.tc.devRef main_arg10)) (ix3 lp (y 1) (y 2)) := by
  refine (congrFun (V_5 m c) _).trans (congrArg _ (funext fun a => Fin.ext ?_))
  have e := ix_5 t
  have h0 : (y 0).val < 1 := (y 0).isLt
  match a with
  | ⟨0, _⟩ => show win0_5.index t (0 : Fin 3) * 1 + 1 * (y 0).val = lp.val; omega
  | ⟨1, _⟩ => show win0_5.index t (1 : Fin 3) * 208 + 1 * (y 1).val = (y 1).val; omega
  | ⟨2, _⟩ => show win0_5.index t (2 : Fin 3) * 112 + 1 * (y 2).val = (y 2).val; omega
theorem blk3 (t : Fin cfg0.N) : (iblk m c 3 t : S280x160.Idx → EReal) = W3 (m (c, Proc.tc.devRef main_arg4)) := by
  funext y
  refine (congrFun (V_3 m c) _).trans (congrArg _ (funext fun a => Fin.ext ?_))
  match a with
  | ⟨0, _⟩ => show win0_3.index t (0 : Fin 2) * 280 + 1 * (y 0).val = (y 0).val; have e := (ix_2d t (0 : Fin 2)).1; omega
  | ⟨1, _⟩ => show win0_3.index t (1 : Fin 2) * 160 + 1 * (y 1).val = (y 1).val; have e := (ix_2d t (1 : Fin 2)).1; omega
theorem blk4 (t : Fin cfg0.N) : (iblk m c 4 t : S208x224.Idx → EReal) = W4 (m (c, Proc.tc.devRef main_arg5)) := by
  funext y
  refine (congrFun (V_4 m c) _).trans (congrArg _ (funext fun a => Fin.ext ?_))
  match a with
  | ⟨0, _⟩ => show win0_4.index t (0 : Fin 2) * 208 + 1 * (y 0).val = (y 0).val; have e := (ix_2d t (0 : Fin 2)).2.1; omega
  | ⟨1, _⟩ => show win0_4.index t (1 : Fin 2) * 224 + 1 * (y 1).val = (y 1).val; have e := (ix_2d t (1 : Fin 2)).2.1; omega
theorem blk6 (t : Fin cfg0.N) : (iblk m c 6 t : S256x208.Idx → EReal) = W6 (m (c, Proc.tc.devRef main_arg5)) (m (c, Proc.tc.devRef main_arg9)) := by
  funext y
  refine (congrFun (V_6 m c) _).trans (congrArg _ (funext fun a => Fin.ext ?_))
  match a with
  | ⟨0, _⟩ => show win0_6.index t (0 : Fin 2) * 256 + 1 * (y 0).val = (y 0).val; have e := (ix_2d t (0 : Fin 2)).2.2.1; omega
  | ⟨1, _⟩ => show win0_6.index t (1 : Fin 2) * 208 + 1 * (y 1).val = (y 1).val; have e := (ix_2d t (1 : Fin 2)).2.2.1; omega
theorem blk7 (t : Fin cfg0.N) : (iblk m c 7 t : S80x160.Idx → EReal) = W7 (m (c, Proc.tc.devRef main_arg4)) (m (c, Proc.tc.devRef main_arg8)) := by
  funext y
  refine (congrFun (V_7 m c) _).trans (congrArg _ (funext fun a => Fin.ext ?_))
  match a with
  | ⟨0, _⟩ => show win0_7.index t (0 : Fin 2) * 80 + 1 * (y 0).val = (y 0).val; have e := (ix_2d t (0 : Fin 2)).2.2.2.1; omega
  | ⟨1, _⟩ => show win0_7.index t (1 : Fin 2) * 160 + 1 * (y 1).val = (y 1).val; have e := (ix_2d t (1 : Fin 2)).2.2.2.1; omega
theorem blk8 (t : Fin cfg0.N) : (iblk m c 8 t : S16x240.Idx → EReal) = W8 (m (c, Proc.tc.devRef main_arg3)) (m (c, Proc.tc.devRef main_arg7)) := by
  funext y
  refine (congrFun (V_8 m c) _).trans (congrArg _ (funext fun a => Fin.ext ?_))
  match a with
  | ⟨0, _⟩ => show win0_8.index t (0 : Fin 2) * 16 + 1 * (y 0).val = (y 0).val; have e := (ix_2d t (0 : Fin 2)).2.2.2.2.1; omega
  | ⟨1, _⟩ => show win0_8.index t (1 : Fin 2) * 240 + 1 * (y 1).val = (y 1).val; have e := (ix_2d t (1 : Fin 2)).2.2.2.2.1; omega
theorem blk9 (t : Fin cfg0.N) : (iblk m c 9 t : S3x3x40x128.Idx → EReal) = W9 (m (c, Proc.tc.devRef main_arg3)) (m (c, Proc.tc.devRef main_arg7)) := by
  funext y
  refine (congrFun (V_9 m c) _).trans (congrArg _ (funext fun a => Fin.ext ?_))
  match a with
  | ⟨0, _⟩ => show win0_9.index t (0 : Fin 4) * 3 + 1 * (y 0).val = (y 0).val; have e := ix_9 t (0 : Fin 4); omega
  | ⟨1, _⟩ => show win0_9.index t (1 : Fin 4) * 3 + 1 * (y 1).val = (y 1).val; have e := ix_9 t (1 : Fin 4); omega
  | ⟨2, _⟩ => show win0_9.index t (2 : Fin 4) * 40 + 1 * (y 2).val = (y 2).val; have e := ix_9 t (2 : Fin 4); omega
  | ⟨3, _⟩ => show win0_9.index t (3 : Fin 4) * 128 + 1 * (y 3).val = (y 3).val; have e := ix_9 t (3 : Fin 4); omega
theorem blk10 (t : Fin cfg0.N) : (iblk m c 10 t : S5x112x128.Idx → EReal) = W10 (m (c, Proc.tc.devRef main_arg8)) := by
  funext y
  refine (congrFun (V_10 m c) _).trans (congrArg _ (funext fun a => Fin.ext ?_))
  match a with
  | ⟨0, _⟩ => show win0_10.index t (0 : Fin 3) * 5 + 1 * (y 0).val = (y 0).val; have e := ix_10 t (0 : Fin 3); omega
  | ⟨1, _⟩ => show win0_10.index t (1 : Fin 3) * 112 + 1 * (y 1).val = (y 1).val; have e := ix_10 t (1 : Fin 3); omega
  | ⟨2, _⟩ => show win0_10.index t (2 : Fin 3) * 128 + 1 * (y 2).val = (y 2).val; have e := ix_10 t (2 : Fin 3); omega
theorem blk11 (t : Fin cfg0.N) : (iblk m c 11 t : S208x128.Idx → EReal) = W11 (m (c, Proc.tc.devRef main_arg9)) := by
  funext y
  refine (congrFun (V_11 m c) _).trans (congrArg _ (funext fun a => Fin.ext ?_))
  match a with
  | ⟨0, _⟩ => show win0_11.index t (0 : Fin 2) * 208 + 1 * (y 0).val = (y 0).val; have e := (ix_2d t (0 : Fin 2)).2.2.2.2.2; omega
  | ⟨1, _⟩ => show win0_11.index t (1 : Fin 2) * 128 + 1 * (y 1).val = (y 1).val; have e := (ix_2d t (1 : Fin 2)).2.2.2.2.2; omega

/-- The blocks of a grid point hold its tile of the tokens and its pair. -/
theorem blocks (t : Fin cfg0.N) (T : Fin 6) (lp : Fin 8) (hT : T.val = t.val / 8) (hl : lp.val = t.val % 8) :
    Blocks (m (c, Proc.tc.devRef main_arg0)) (m (c, Proc.tc.devRef main_arg1)) (m (c, Proc.tc.devRef main_arg2))
      (m (c, Proc.tc.devRef main_arg3)) (m (c, Proc.tc.devRef main_arg4)) (m (c, Proc.tc.devRef main_arg5)) (m (c, Proc.tc.devRef main_arg6))
      (m (c, Proc.tc.devRef main_arg7)) (m (c, Proc.tc.devRef main_arg8)) (m (c, Proc.tc.devRef main_arg9)) (m (c, Proc.tc.devRef main_arg10))
      T lp (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) where
  h0 := fun r l k i j s hr => rd_at (s := S128x256) (ix2 ⟨r, by omega⟩ s) (fun a => by match a with | ⟨0, _⟩ => rfl | ⟨1, _⟩ => rfl)
    ((blk0 m c t _ ⟨((lp.val * 2 + l.val) * 8 + k.val) * 8 + (i.val * 4 + j.val), by omega⟩ ⟨T.val * 256 + s.val, by omega⟩
      (by show ((lp.val * 2 + l.val) * 8 + k.val) * 8 + (i.val * 4 + j.val) = t.val % 8 * 128 + r; omega) (by show T.val * 256 + s.val = t.val / 8 * 256 + s.val; omega)).trans
      ((W0_at _ (lf lp l) k i j T s).trans (rx_at _ T s i j k (lf lp l)).symm))
  h1 := fun g w n o p q s hg hw => rd_at (s := S15x108x256) (ix3 ⟨g, by omega⟩ ⟨w, by omega⟩ s) (fun a => by match a with | ⟨0, _⟩ => rfl | ⟨1, _⟩ => rfl | ⟨2, _⟩ => rfl)
    ((blk1 m c t _ ⟨T.val * 256 + s.val, by omega⟩ (by show T.val * 256 + s.val = t.val / 8 * 256 + s.val; omega)).trans (by
      subst hg hw; exact (W1_at _ n o p q T s).trans (rdy_at _ T s n o p q).symm))
  h2 := fun s => rd_at (s := S1x256) (ix2 0 s) (fun a => by match a with | ⟨0, _⟩ => rfl | ⟨1, _⟩ => rfl)
    ((blk2 m c t _ ⟨T.val * 256 + s.val, by omega⟩ (by show T.val * 256 + s.val = t.val / 8 * 256 + s.val; omega)).trans ((W2_at _ T s).trans (rds_at _ T s).symm))
  h3 := fun r c' o k y a j hr hc => rd_at (s := S280x160) (ix2 ⟨r, by omega⟩ ⟨c', by omega⟩) (fun a => by match a with | ⟨0, _⟩ => rfl | ⟨1, _⟩ => rfl)
    ((congrFun (blk3 m c t) _).trans (by subst hr hc; exact (W3_at _ o k y k a j).trans (by rw [if_pos rfl, mul_one])))
  h3z := fun r c' o k y K a j h hr hc => rd_at (s := S280x160) (ix2 ⟨r, by omega⟩ ⟨c', by omega⟩) (fun a => by match a with | ⟨0, _⟩ => rfl | ⟨1, _⟩ => rfl)
    ((congrFun (blk3 m c t) _).trans (by subst hr hc; exact (W3_at _ o k y K a j).trans (by rw [if_neg h, mul_zero])))
  h4 := fun r c' l p z k y hr hc => rd_at (s := S208x224) (ix2 ⟨r, by omega⟩ ⟨c', by omega⟩) (fun a => by match a with | ⟨0, _⟩ => rfl | ⟨1, _⟩ => rfl)
    ((congrFun (blk4 m c t) _).trans (by subst hr hc; exact (W4_at _ l p z l k y).trans (by rw [if_pos rfl, mul_one])))
  h4z := fun r c' L p z l k y h hr hc => rd_at (s := S208x224) (ix2 ⟨r, by omega⟩ ⟨c', by omega⟩) (fun a => by match a with | ⟨0, _⟩ => rfl | ⟨1, _⟩ => rfl)
    ((congrFun (blk4 m c t) _).trans (by subst hr hc; exact (W4_at _ L p z l k y).trans (by rw [if_neg h, mul_zero])))
  h5 := fun r c' l p z q hr hc => rd_at (s := S1x208x112) (ix3 0 ⟨r, by omega⟩ ⟨c', by omega⟩) (fun a => by match a with | ⟨0, _⟩ => rfl | ⟨1, _⟩ => rfl | ⟨2, _⟩ => rfl)
    ((blk5 m c t _ lp hl).trans (by subst hr hc; exact (W5_at _ _ lp l p z p q).trans (by rw [if_pos rfl, mul_one]; rfl)))
  h5z := fun r c' l p z P q h hr hc => rd_at (s := S1x208x112) (ix3 0 ⟨r, by omega⟩ ⟨c', by omega⟩) (fun a => by match a with | ⟨0, _⟩ => rfl | ⟨1, _⟩ => rfl | ⟨2, _⟩ => rfl)
    ((blk5 m c t _ lp hl).trans (by subst hr hc; exact (W5_at _ _ lp l p z P q).trans (by rw [if_neg h, mul_zero])))
  h6 := fun r c' l k y p z hr hc => rd_at (s := S256x208) (ix2 ⟨r, by omega⟩ ⟨c', by omega⟩) (fun a => by match a with | ⟨0, _⟩ => rfl | ⟨1, _⟩ => rfl)
    ((congrFun (blk6 m c t) _).trans (by subst hr hc; exact (W6_at _ _ l k y l p z).trans (by rw [if_pos rfl, mul_one])))
  h6z := fun r c' L k y l p z h hr hc => rd_at (s := S256x208) (ix2 ⟨r, by omega⟩ ⟨c', by omega⟩) (fun a => by match a with | ⟨0, _⟩ => rfl | ⟨1, _⟩ => rfl)
    ((congrFun (blk6 m c t) _).trans (by subst hr hc; exact (W6_at _ _ L k y l p z).trans (by rw [if_neg h, mul_zero])))
  h6p := fun r c' L k y l e hr hc => rd_at (s := S256x208) (ix2 ⟨r, by omega⟩ ⟨c', by omega⟩) (fun a => by match a with | ⟨0, _⟩ => rfl | ⟨1, _⟩ => rfl)
    ((congrFun (blk6 m c t) _).trans (by subst hr hc; exact W6_pad _ _ L k y l e))
  h7 := fun r c' K a j o y hr hc => rd_at (s := S80x160) (ix2 ⟨r, by omega⟩ ⟨c', by omega⟩) (fun a => by match a with | ⟨0, _⟩ => rfl | ⟨1, _⟩ => rfl)
    ((congrFun (blk7 m c t) _).trans (by subst hr hc; exact (W7_at _ _ K a j o K y).trans (by rw [if_pos rfl, mul_one])))
  h7z := fun r c' K a j o k y h hr hc => rd_at (s := S80x160) (ix2 ⟨r, by omega⟩ ⟨c', by omega⟩) (fun a => by match a with | ⟨0, _⟩ => rfl | ⟨1, _⟩ => rfl)
    ((congrFun (blk7 m c t) _).trans (by subst hr hc; exact (W7_at _ _ K a j o k y).trans (by rw [if_neg h, mul_zero])))
  h7p := fun r c' K a j o k e hr hc => rd_at (s := S80x160) (ix2 ⟨r, by omega⟩ ⟨c', by omega⟩) (fun a => by match a with | ⟨0, _⟩ => rfl | ⟨1, _⟩ => rfl)
    ((congrFun (blk7 m c t) _).trans (by subst hr hc; exact W7_pad _ _ K a j o k e))
  h8 := fun r c' K i j n a hr hc => rd_at (s := S16x240) (ix2 ⟨r, by omega⟩ ⟨c', by omega⟩) (fun a => by match a with | ⟨0, _⟩ => rfl | ⟨1, _⟩ => rfl)
    ((congrFun (blk8 m c t) _).trans (by subst hr hc; exact (W8_at _ _ K i j n K a j).trans (by rw [if_pos rfl, if_pos rfl, mul_one, mul_one])))
  h8z := fun r c' K i j n k a J h hr hc => rd_at (s := S16x240) (ix2 ⟨r, by omega⟩ ⟨c', by omega⟩) (fun a => by match a with | ⟨0, _⟩ => rfl | ⟨1, _⟩ => rfl)
    ((congrFun (blk8 m c t) _).trans (by
      subst hr hc
      refine (W8_at _ _ K i j n k a J).trans ?_
      rcases h with h | h
      · rw [if_neg h, mul_zero]
      · rw [if_neg h, mul_zero, zero_mul]))
  h9a := fun c' w n a j hc hw => rd_at (s := S3x3x40x128) (ix4 0 n ⟨c', by omega⟩ ⟨w, hw⟩) (fun a => by match a with | ⟨0, _⟩ => rfl | ⟨1, _⟩ => rfl | ⟨2, _⟩ => rfl | ⟨3, _⟩ => rfl)
    ((congrFun (blk9 m c t) _).trans (by subst hc; exact W9_at0 _ _ 0 n a j ⟨w, hw⟩))
  h9b := fun c' w n a j hc hw => rd_at (s := S3x3x40x128) (ix4 1 n ⟨c', by omega⟩ ⟨w, hw⟩) (fun a => by match a with | ⟨0, _⟩ => rfl | ⟨1, _⟩ => rfl | ⟨2, _⟩ => rfl | ⟨3, _⟩ => rfl)
    ((congrFun (blk9 m c t) _).trans (by subst hc; exact W9_at0 _ _ 1 n a j ⟨w, hw⟩))
  h9c := fun c' w n a j hc hw => rd_at (s := S3x3x40x128) (ix4 2 n ⟨c', by omega⟩ ⟨w, hw⟩) (fun a => by match a with | ⟨0, _⟩ => rfl | ⟨1, _⟩ => rfl | ⟨2, _⟩ => rfl | ⟨3, _⟩ => rfl)
    ((congrFun (blk9 m c t) _).trans (by subst hc; exact W9_at2 _ _ n a j ⟨w, hw⟩))
  h10 := fun g c' w o k y hg hc hw => rd_at (s := S5x112x128) (ix3 o ⟨c', by omega⟩ ⟨w, hw⟩)
    (fun a => by match a with | ⟨0, _⟩ => exact hg | ⟨1, _⟩ => rfl | ⟨2, _⟩ => rfl)
    ((congrFun (blk10 m c t) _).trans (by subst hc; exact W10_at _ o k y ⟨w, hw⟩))
  h11 := fun r w l p z hr hw => rd_at (s := S208x128) (ix2 ⟨r, by omega⟩ ⟨w, hw⟩) (fun a => by match a with | ⟨0, _⟩ => rfl | ⟨1, _⟩ => rfl)
    ((congrFun (blk11 m c t) _).trans (by subst hr; exact W11_at _ l p z ⟨w, hw⟩))
end Cert.KernelIdeal.Val
-- ==== Proof.Accum.lean ====
module
public import proofs.«01_k».proof.Proof.Point
public import proofs.«01_k».proof.Proof.Blocks
public import Idealize.ShloMosaic.Lib.Pipeline.Value
@[expose] public section
set_option maxRecDepth 16384
set_option pp.maxSteps 2000
noncomputable section
open Idealize.ShloMosaic Idealize.ShloMosaic.TcCoe Idealize.SL.Sem
open Idealize.ShloMosaic.Pipeline (Dat)
namespace Cert.KernelIdeal.Val
open Cert.KernelIdeal Cert.KernelIdeal.Gen

/-! What the output arrays hold after the last grid point. -/

/-- A value that starts at zero and gains one term per step is the sum of the terms. -/
theorem sum_steps {N : ℕ} (o p : Fin N → EReal) (h0 : ∀ t : Fin N, t.val = 0 → o t = 0 + p t)
    (h1 : ∀ t : Fin N, t.val ≠ 0 → o t = o ⟨t.val - 1, lt_of_le_of_lt (Nat.sub_le _ _) t.isLt⟩ + p t) :
    ∀ n (hn : n < N), o ⟨n, hn⟩ = ∑ k : Fin (n + 1), p ⟨k.val, lt_of_le_of_lt (Nat.le_of_lt_succ k.isLt) hn⟩
  | 0, hn => by rw [h0 _ rfl, zero_add]; simp
  | n + 1, hn => by
    rw [h1 ⟨n + 1, hn⟩ (Nat.succ_ne_zero n), Fin.sum_univ_castSucc]
    exact congrArg (· + _) (sum_steps o p h0 h1 n (Nat.lt_of_succ_lt hn))

/-- The same at the last step. -/
theorem sum_last {N : ℕ} (o p : Fin N → EReal) (h0 : ∀ t : Fin N, t.val = 0 → o t = 0 + p t)
    (h1 : ∀ t : Fin N, t.val ≠ 0 → o t = o ⟨t.val - 1, lt_of_le_of_lt (Nat.sub_le _ _) t.isLt⟩ + p t)
    (t : Fin N) (ht : t.val + 1 = N) : o t = ∑ k, p k := by
  obtain ⟨n, hn⟩ := t
  obtain rfl : n + 1 = N := ht
  exact sum_steps o p h0 h1 n hn

variable (m : (ℓ : Loc nD τ sig) → Buf (Elt Ideal) ℓ) (c : Dev nD)

theorem lt48 (t : Fin cfg0.N) : t.val < 48 := lt_of_lt_of_eq t.isLt (show cfg0.N = 48 from N_0)
theorem mod0 {t : Fin cfg0.N} (h : t.val = 0) : t.val % 48 = 0 := by rw [h]
theorem mod1 {t : Fin cfg0.N} (h : t.val = 0) : t.val % 8 = 0 := by rw [h]
theorem mod2 {t : Fin cfg0.N} (h : t.val ≠ 0) : ¬t.val % 48 = 0 := by have := lt48 t; omega

/-- The gradient codes and scales depend on the tile of tokens alone. -/
theorem b1_pred (t : Fin cfg0.N) (h : ¬t.val % 8 = 0) :
    b1 m c ⟨t.val - 1, lt_of_le_of_lt (Nat.sub_le _ _) t.isLt⟩ = b1 m c t := by
  funext y
  have hy : (y 2).val < 256 := (y 2).isLt
  have ht := t48 t
  exact (blk1 m c ⟨t.val - 1, lt_of_le_of_lt (Nat.sub_le _ _) t.isLt⟩ y ⟨t.val / 8 * 256 + (y 2).val, by omega⟩
    (by show t.val / 8 * 256 + (y 2).val = (t.val - 1) / 8 * 256 + (y 2).val; omega)).trans (blk1 m c t y _ rfl).symm
theorem b2_pred (t : Fin cfg0.N) (h : ¬t.val % 8 = 0) :
    b2 m c ⟨t.val - 1, lt_of_le_of_lt (Nat.sub_le _ _) t.isLt⟩ = b2 m c t := by
  funext y
  have hy : (y 1).val < 256 := (y 1).isLt
  have ht := t48 t
  exact (blk2 m c ⟨t.val - 1, lt_of_le_of_lt (Nat.sub_le _ _) t.isLt⟩ y ⟨t.val / 8 * 256 + (y 1).val, by omega⟩
    (by show t.val / 8 * 256 + (y 1).val = (t.val - 1) / 8 * 256 + (y 1).val; omega)).trans (blk2 m c t y _ rfl).symm

/-- The carried scratch holds the scaled gradient of the point's tile. -/
theorem dyd_all : ∀ n (hn : n < cfg0.N), (outsAt0 m c n hn).2.2.2.2.2 = gd (b1 m c ⟨n, hn⟩) (b2 m c ⟨n, hn⟩) := by
  intro n
  induction n with
  | zero => intro hn; exact dyd_A m c ⟨0, hn⟩ (mod0 rfl) (mod1 rfl)
  | succ n ih =>
    intro hn
    by_cases h : (n + 1) % 8 = 0
    · exact dyd_C m c ⟨n + 1, hn⟩ (mod2 (Nat.succ_ne_zero n)) h
    · refine (dyd_B m c ⟨n + 1, hn⟩ (mod2 (Nat.succ_ne_zero n)) h).trans ((ih _).trans ?_)
      have e1 := b1_pred m c ⟨n + 1, hn⟩ h
      have e2 := b2_pred m c ⟨n + 1, hn⟩ h
      exact congrArg₂ gd e1 e2

theorem dx_all (t : Fin cfg0.N) : (outsAt0 m c t.val t.isLt).1 = pdx m c t := by
  by_cases h : t.val = 0
  · exact dx_A m c t (mod0 h) (mod1 h)
  · by_cases h8 : t.val % 8 = 0
    · exact dx_C m c t (mod2 h) h8
    · exact dx_B m c t (mod2 h) h8

theorem dg1_last (t : Fin cfg0.N) (ht : t.val + 1 = cfg0.N) (y : S16x240.Idx) :
    (outsAt0 m c t.val t.isLt).2.1 y = ∑ k, p1 m c k y := by
  refine sum_last (fun t => (outsAt0 m c t.val t.isLt).2.1 y) (fun k => p1 m c k y) (fun t h => ?_) (fun t h => ?_) t ht
  · exact dg1_A m c t (mod0 h) (mod1 h) y
  · by_cases h8 : t.val % 8 = 0
    · exact dg1_C m c t (mod2 h) h8 y
    · exact dg1_B m c t (mod2 h) h8 y

theorem dg2_last (t : Fin cfg0.N) (ht : t.val + 1 = cfg0.N) (y : S80x160.Idx) :
    (outsAt0 m c t.val t.isLt).2.2.1 y = ∑ k, p2 m c k y := by
  refine sum_last (fun t => (outsAt0 m c t.val t.isLt).2.2.1 y) (fun k => p2 m c k y) (fun t h => ?_) (fun t h => ?_) t ht
  · exact dg2_A m c t (mod0 h) (mod1 h) y
  · by_cases h8 : t.val % 8 = 0
    · exact dg2_C m c t (mod2 h) h8 y
    · exact dg2_B m c t (mod2 h) h8 y

theorem dg3_last (t : Fin cfg0.N) (ht : t.val + 1 = cfg0.N) (y : S208x224.Idx) :
    (outsAt0 m c t.val t.isLt).2.2.2.1 y = ∑ k, p3 m c k y := by
  refine sum_last (fun t => (outsAt0 m c t.val t.isLt).2.2.2.1 y) (fun k => p3 m c k y) (fun t h => ?_) (fun t h => ?_) t ht
  · exact dg3_A m c t (mod0 h) (mod1 h) y
  · by_cases h8 : t.val % 8 = 0
    · exact dg3_C m c t (mod2 h) h8 y
    · exact dg3_B m c t (mod2 h) h8 y

/-- The terms that a point adds to the fourth core's gradient: none outside its block. -/
def p4' (t : Fin cfg0.N) (y : S8x112x208.Idx) : EReal :=
  if (y 0).val = (grid0.coords t 1).val then p4 m c (gd (b1 m c t) (b2 m c t)) t y else 0

theorem dg4_last (t : Fin cfg0.N) (ht : t.val + 1 = cfg0.N) (y : S8x112x208.Idx) :
    (outsAt0 m c t.val t.isLt).2.2.2.2.1 y = ∑ k, p4' m c k y := by
  refine sum_last (fun t => (outsAt0 m c t.val t.isLt).2.2.2.2.1 y) (fun k => p4' m c k y) (fun t h => ?_) (fun t h => ?_) t ht
  · refine (dg4_A m c t (mod0 h) (mod1 h) y).trans ?_
    unfold p4'
    split <;> simp
  · by_cases h8 : t.val % 8 = 0
    · refine (dg4_C m c t (mod2 h) h8 y).trans ?_
      unfold p4'
      split <;> simp
    · refine (dg4_B m c t (mod2 h) h8 y).trans ?_
      have e : (outsAt0 m c (t.val - 1) (Nat.lt_of_le_of_lt (Nat.sub_le _ _) t.isLt)).2.2.2.2.2 = gd (b1 m c t) (b2 m c t) := by
        rw [← dyd_B m c t (mod2 h) h8]; exact dyd_all m c t.val t.isLt
      rw [e]
      unfold p4'
      split <;> simp

/-- The last grid point. -/
def tl : Fin cfg0.N := ⟨47, by rw [show cfg0.N = 48 from N_0]; decide⟩
theorem tl_val : tl.val + 1 = cfg0.N := (show cfg0.N = 48 from N_0).symm

/-- The first core's gradient after the run. -/
theorem arr13 : (dats m 0 c).arrAt 13 cfg0.N = fun y : S16x240.Idx => ∑ k, p1 m c k y := by
  refine (dats m 0 c).arrAt_eq_of_after_last 13 tl (by decide +kernel) _ fun j => ?_
  blk_simp
  rw [after0_13]
  exact dg1_last m c tl tl_val j
theorem arr14 : (dats m 0 c).arrAt 14 cfg0.N = fun y : S80x160.Idx => ∑ k, p2 m c k y := by
  refine (dats m 0 c).arrAt_eq_of_after_last 14 tl (by decide +kernel) _ fun j => ?_
  blk_simp
  rw [after0_14]
  exact dg2_last m c tl tl_val j
theorem arr15 : (dats m 0 c).arrAt 15 cfg0.N = fun y : S208x224.Idx => ∑ k, p3 m c k y := by
  refine (dats m 0 c).arrAt_eq_of_after_last 15 tl (by decide +kernel) _ fun j => ?_
  blk_simp
  rw [after0_15]
  exact dg3_last m c tl tl_val j
theorem arr16 : (dats m 0 c).arrAt 16 cfg0.N = fun y : S8x112x208.Idx => ∑ k, p4' m c k y := by
  refine (dats m 0 c).arrAt_eq_of_after_last 16 tl (by decide +kernel) _ fun j => ?_
  blk_simp
  rw [after0_16]
  exact dg4_last m c tl tl_val j

/-- The input gradient's array: each point's block in its place. -/
def fullDx (y : S1024x1536.Idx) : EReal :=
  pdx m c ⟨(y 1).val / 256 * 8 + (y 0).val / 128, by
      have h0 : (y 0).val < 1024 := (y 0).isLt
      have h1 : (y 1).val < 1536 := (y 1).isLt
      rw [show cfg0.N = 48 from N_0]; omega⟩
    (ix2 ⟨(y 0).val % 128, Nat.mod_lt _ (by decide)⟩ ⟨(y 1).val % 256, Nat.mod_lt _ (by decide)⟩)
theorem arr12 : (dats m 0 c).arrAt 12 cfg0.N = fullDx m c := by
  refine (dats m 0 c).arrAt_eq_of_covers 12 (fullDx m c) (by decide +kernel) fun t hf y => ?_
  blk_simp
  rw [after0_12]
  refine (congrFun (dx_all m c t) y).trans ?_
  have e := ix_12 t
  have h0 : (y 0).val < 128 := (y 0).isLt
  have h1 : (y 1).val < 256 := (y 1).isLt
  have ht := t48 t
  have e0 : ((win0_12.blk t).view.emb y 0).val = t.val % 8 * 128 + (y 0).val := by
    show win0_12.index t (0 : Fin 2) * 128 + 1 * (y 0).val = _
    rw [e.1]; omega
  have e1 : ((win0_12.blk t).view.emb y 1).val = t.val / 8 * 256 + (y 1).val := by
    show win0_12.index t (1 : Fin 2) * 256 + 1 * (y 1).val = _
    rw [e.2]; omega
  unfold fullDx
  refine congr (congrArg (pdx m c) (Fin.ext ?_)) ?_
  · dsimp only
    rw [e0, e1]
    omega
  · refine (eq_ix2 y).trans (congrArg₂ ix2 (Fin.ext ?_) (Fin.ext ?_))
    · dsimp only
      rw [e0]
      omega
    · dsimp only
      rw [e1]
      omega
end Cert.KernelIdeal.Val
-- ==== Proof.RefGrads.lean ====
module
public import proofs.«01_k».proof.Proof.RefStages
@[expose] public section
set_option maxRecDepth 16384
noncomputable section
open Idealize.ShloMosaic Idealize.ShloMosaic.TcCoe Idealize.SL.Sem
namespace Cert.ReferenceIdeal.Val
open Cert.ReferenceIdeal Cert.ReferenceIdeal.Gen

/-- A sum over the indices of one shape is the sum over the indices of an equal shape. -/
theorem sum_recast {s s' : Shape} (h : s = s') (f : s.Idx → EReal) :
    ∑ k, f k = ∑ k : s'.Idx, f (h ▸ k) := by
  subst h; rfl

/-- A recast index has the coordinates of the index itself. -/
theorem recast_val {s s' : Shape} (h : s = s') (k : s'.Idx) (i : Nat) (hi : i < s.rank) (hi' : i < s'.rank) :
    (((h ▸ k : s.Idx)) ⟨i, hi⟩ : ℕ) = (k ⟨i, hi'⟩ : ℕ) := by
  subst h; rfl

/-- The gradient of the first core. -/
def Dg1 (x : FVec Ideal S1536x2x4x8x16 .bf16) (r1 : FVec Ideal S1536x3x4x8x16x10 .bf16) : FVec Ideal S2x3x10 .f32 :=
  Host.dotGeneral dot_S1536x2x4x8x16_S1536x3x4x8x16x10_S2x3x10_2340_2340_1_15_n_n none x r1

theorem contr1 : (dot_S1536x2x4x8x16_S1536x3x4x8x16x10_S2x3x10_2340_2340_1_15_n_n).contr = ⟨4, ![4, 8, 16, 1536]⟩ := by
  refine congrArg (Shape.mk 4) ?_
  funext i; fin_cases i <;> rfl

theorem Dg1_at (x : FVec Ideal S1536x2x4x8x16 .bf16) (r1 : FVec Ideal S1536x3x4x8x16x10 .bf16) (i : Fin 2) (n : Fin 3) (a : Fin 10) :
    Dg1 x r1 (ix3 i n a) = ∑ j : Fin 4, ∑ k : Fin 8, ∑ l : Fin 16, ∑ t : Fin 1536, x (ix5 t i j k l) * r1 (ix6 t n j k l a) := by
  show FloatOps.dotGeneral _ _ _ x r1 (ix3 i n a) = _
  rw [Ideal.dotGeneral_apply, sum_recast contr1, sum_idx4]
  refine Finset.sum_congr rfl fun j _ => Finset.sum_congr rfl fun k _ => Finset.sum_congr rfl fun l _ => Finset.sum_congr rfl fun t _ => ?_
  refine congrArg₂ (· * ·) (congrArg x ?_) (congrArg r1 ?_)
  · funext ax; apply Fin.ext
    fin_cases ax <;> first | rfl | exact recast_val contr1 _ _ _ (by decide)
  · funext ax; apply Fin.ext
    fin_cases ax <;> first | rfl | exact recast_val contr1 _ _ _ (by decide)

/-- The gradient of the second core. -/
def Dg2 (l2 : FVec Ideal S1536x3x10x4x8x16 .bf16) (r2 : FVec Ideal S1536x3x5x8x16x14 .bf16) : FVec Ideal S10x4x5x14 .f32 :=
  Host.dotGeneral dot_S1536x3x10x4x8x16_S1536x3x5x8x16x14_S10x4x5x14_4510_3410_23_25_n_n none l2 r2

theorem contr2 : (dot_S1536x3x10x4x8x16_S1536x3x5x8x16x14_S10x4x5x14_4510_3410_23_25_n_n).contr = ⟨4, ![8, 16, 3, 1536]⟩ := by
  refine congrArg (Shape.mk 4) ?_
  funext i; fin_cases i <;> rfl

/-- It sums the product over tokens, the leading axis and the two axes the second core leaves alone. -/
theorem Dg2_at (l2 : FVec Ideal S1536x3x10x4x8x16 .bf16) (r2 : FVec Ideal S1536x3x5x8x16x14 .bf16)
    (a : Fin 10) (j : Fin 4) (o : Fin 5) (y : Fin 14) :
    Dg2 l2 r2 (ix4 a j o y) = ∑ k : Fin 8, ∑ l : Fin 16, ∑ n : Fin 3, ∑ t : Fin 1536,
      l2 (ix6 t n a j k l) * r2 (ix6 t n o k l y) := by
  show FloatOps.dotGeneral _ _ _ l2 r2 (ix4 a j o y) = _
  rw [Ideal.dotGeneral_apply, sum_recast contr2, sum_idx4]
  refine Finset.sum_congr rfl fun k _ => Finset.sum_congr rfl fun l _ => Finset.sum_congr rfl fun n _ => Finset.sum_congr rfl fun t _ => ?_
  refine congrArg₂ (· * ·) (congrArg l2 ?_) (congrArg r2 ?_)
  · funext ax; apply Fin.ext
    fin_cases ax <;> first | rfl | exact recast_val contr2 _ _ _ (by decide)
  · funext ax; apply Fin.ext
    fin_cases ax <;> first | rfl | exact recast_val contr2 _ _ _ (by decide)

/-- The gradient of the third core. -/
def Dg3 (l3 : FVec Ideal S1536x3x5x14x8x16 .bf16) (r3 : FVec Ideal S1536x3x5x9x16x11 .bf16) : FVec Ideal S14x8x9x11 .f32 :=
  Host.dotGeneral dot_S1536x3x5x14x8x16_S1536x3x5x9x16x11_S14x8x9x11_5120_4120_34_35_n_n none l3 r3

theorem contr3 : (dot_S1536x3x5x14x8x16_S1536x3x5x9x16x11_S14x8x9x11_5120_4120_34_35_n_n).contr = ⟨4, ![16, 3, 5, 1536]⟩ := by
  refine congrArg (Shape.mk 4) ?_
  funext i; fin_cases i <;> rfl

/-- It sums the product over tokens, the two leading axes and the axis the third core leaves alone. -/
theorem Dg3_at (l3 : FVec Ideal S1536x3x5x14x8x16 .bf16) (r3 : FVec Ideal S1536x3x5x9x16x11 .bf16)
    (y : Fin 14) (k : Fin 8) (p : Fin 9) (z : Fin 11) :
    Dg3 l3 r3 (ix4 y k p z) = ∑ l : Fin 16, ∑ n : Fin 3, ∑ o : Fin 5, ∑ t : Fin 1536,
      l3 (ix6 t n o y k l) * r3 (ix6 t n o p l z) := by
  show FloatOps.dotGeneral _ _ _ l3 r3 (ix4 y k p z) = _
  rw [Ideal.dotGeneral_apply, sum_recast contr3, sum_idx4]
  refine Finset.sum_congr rfl fun l _ => Finset.sum_congr rfl fun n _ => Finset.sum_congr rfl fun o _ => Finset.sum_congr rfl fun t _ => ?_
  refine congrArg₂ (· * ·) (congrArg l3 ?_) (congrArg r3 ?_)
  · funext ax; apply Fin.ext
    fin_cases ax <;> first | rfl | exact recast_val contr3 _ _ _ (by decide)
  · funext ax; apply Fin.ext
    fin_cases ax <;> first | rfl | exact recast_val contr3 _ _ _ (by decide)

/-- The gradient of the fourth core. -/
def Dg4 (l4 : FVec Ideal S1536x3x5x9x11x16 .bf16) (dyd : FVec Ideal S1536x3x5x9x12 .bf16) : FVec Ideal S11x16x12 .f32 :=
  Host.dotGeneral dot_S1536x3x5x9x11x16_S1536x3x5x9x12_S11x16x12_1230_1230_45_4_n_n none l4 dyd

theorem contr4 : (dot_S1536x3x5x9x11x16_S1536x3x5x9x12_S11x16x12_1230_1230_45_4_n_n).contr = ⟨4, ![3, 5, 9, 1536]⟩ := by
  refine congrArg (Shape.mk 4) ?_
  funext i; fin_cases i <;> rfl

/-- It sums the product over tokens and the three leading axes. -/
theorem Dg4_at (l4 : FVec Ideal S1536x3x5x9x11x16 .bf16) (dyd : FVec Ideal S1536x3x5x9x12 .bf16)
    (z : Fin 11) (l : Fin 16) (q : Fin 12) :
    Dg4 l4 dyd (ix3 z l q) = ∑ n : Fin 3, ∑ o : Fin 5, ∑ p : Fin 9, ∑ t : Fin 1536,
      l4 (ix6 t n o p z l) * dyd (ix5 t n o p q) := by
  show FloatOps.dotGeneral _ _ _ l4 dyd (ix3 z l q) = _
  rw [Ideal.dotGeneral_apply, sum_recast contr4, sum_idx4]
  refine Finset.sum_congr rfl fun n _ => Finset.sum_congr rfl fun o _ => Finset.sum_congr rfl fun p _ => Finset.sum_congr rfl fun t _ => ?_
  refine congrArg₂ (· * ·) (congrArg l4 ?_) (congrArg dyd ?_)
  · funext ax; apply Fin.ext
    fin_cases ax <;> first | rfl | exact recast_val contr4 _ _ _ (by decide)
  · funext ax; apply Fin.ext
    fin_cases ax <;> first | rfl | exact recast_val contr4 _ _ _ (by decide)

end Cert.ReferenceIdeal.Val
end
-- ==== Proof.Sums.lean ====
module
public import proofs.«01_k».proof.Proof.Chain
public import proofs.«01_k».proof.Proof.AccPay
public import proofs.«01_k».proof.Proof.RefGrads
@[expose] public section
set_option maxRecDepth 16384
noncomputable section
open Idealize.ShloMosaic Idealize.ShloMosaic.TcCoe Idealize.SL.Sem
open Cert.ReferenceIdeal.Val (codes L2 L3 L4 R3 R2 R1 Dyd Dg1 Dg2 Dg3 Dg4 Dg1_at Dg2_at Dg3_at Dg4_at)
namespace Cert.KernelIdeal.Val
open Cert.KernelIdeal

/-! The sums over the grid are the sums of the reference: the same terms in another order. -/

/-- Pairs of positions of the third axis, grid points, groups and tokens of a tile: every position of the three axes once. -/
theorem reorder1 (N : ℕ) (hN : N = 48) (F : Fin 8 → Fin 16 → Fin 1536 → EReal) :
    ∑ kk : Fin 2, ∑ t : Fin N, ∑ g : Fin 8, ∑ s : Fin 256,
      F ⟨g.val % 4 * 2 + kk.val, by omega⟩ ⟨t.val % 8 * 2 + g.val / 4, by omega⟩ ⟨t.val / 8 * 256 + s.val, by omega⟩
      = ∑ k, ∑ l, ∑ w, F k l w := by
  subst hN
  let e : Fin 2 × Fin 48 × Fin 8 × Fin 256 ≃ Fin 8 × Fin 16 × Fin 1536 :=
    { toFun := fun p => (⟨p.2.2.1.val % 4 * 2 + p.1.val, by omega⟩, ⟨p.2.1.val % 8 * 2 + p.2.2.1.val / 4, by omega⟩,
        ⟨p.2.1.val / 8 * 256 + p.2.2.2.val, by omega⟩)
      invFun := fun q => (⟨q.1.val % 2, by omega⟩, ⟨q.2.2.val / 256 * 8 + q.2.1.val / 2, by omega⟩,
        ⟨q.2.1.val % 2 * 4 + q.1.val / 2, by omega⟩, ⟨q.2.2.val % 256, by omega⟩)
      left_inv := fun p => by
        refine Prod.ext (Fin.ext ?_) (Prod.ext (Fin.ext ?_) (Prod.ext (Fin.ext ?_) (Fin.ext ?_))) <;> dsimp only <;> omega
      right_inv := fun q => by
        refine Prod.ext (Fin.ext ?_) (Prod.ext (Fin.ext ?_) (Fin.ext ?_)) <;> dsimp only <;> omega }
  have h := Fintype.sum_equiv e (fun p => F (e p).1 (e p).2.1 (e p).2.2) (fun q => F q.1 q.2.1 q.2.2) (fun _ => rfl)
  simp only [Fintype.sum_prod_type] at h
  exact h

theorem reorder2 (N : ℕ) (hN : N = 48) (F : Fin 8 → Fin 16 → Fin 3 → Fin 1536 → EReal) :
    ∑ kk : Fin 2, ∑ t : Fin N, ∑ n : Fin 3, ∑ g : Fin 8, ∑ s : Fin 256,
      F ⟨g.val % 4 * 2 + kk.val, by omega⟩ ⟨t.val % 8 * 2 + g.val / 4, by omega⟩ n ⟨t.val / 8 * 256 + s.val, by omega⟩
      = ∑ k, ∑ l, ∑ n, ∑ w, F k l n w := by
  subst hN
  let e : Fin 2 × Fin 48 × Fin 3 × Fin 8 × Fin 256 ≃ Fin 8 × Fin 16 × Fin 3 × Fin 1536 :=
    { toFun := fun p => (⟨p.2.2.2.1.val % 4 * 2 + p.1.val, by omega⟩, ⟨p.2.1.val % 8 * 2 + p.2.2.2.1.val / 4, by omega⟩,
        p.2.2.1, ⟨p.2.1.val / 8 * 256 + p.2.2.2.2.val, by omega⟩)
      invFun := fun q => (⟨q.1.val % 2, by omega⟩, ⟨q.2.2.2.val / 256 * 8 + q.2.1.val / 2, by omega⟩, q.2.2.1,
        ⟨q.2.1.val % 2 * 4 + q.1.val / 2, by omega⟩, ⟨q.2.2.2.val % 256, by omega⟩)
      left_inv := fun p => by
        refine Prod.ext (Fin.ext ?_) (Prod.ext (Fin.ext ?_) (Prod.ext rfl (Prod.ext (Fin.ext ?_) (Fin.ext ?_)))) <;> dsimp only <;> omega
      right_inv := fun q => by
        refine Prod.ext (Fin.ext ?_) (Prod.ext (Fin.ext ?_) (Prod.ext rfl (Fin.ext ?_))) <;> dsimp only <;> omega }
  have h := Fintype.sum_equiv e (fun p => F (e p).1 (e p).2.1 (e p).2.2.1 (e p).2.2.2) (fun q => F q.1 q.2.1 q.2.2.1 q.2.2.2) (fun _ => rfl)
  simp only [Fintype.sum_prod_type] at h
  exact h

theorem reorder3 (N : ℕ) (hN : N = 48) (F : Fin 16 → Fin 3 → Fin 5 → Fin 1536 → EReal) :
    ∑ l : Fin 2, ∑ t : Fin N, ∑ n : Fin 3, ∑ o : Fin 5, ∑ s : Fin 256,
      F ⟨t.val % 8 * 2 + l.val, by omega⟩ n o ⟨t.val / 8 * 256 + s.val, by omega⟩
      = ∑ l, ∑ n, ∑ o, ∑ w, F l n o w := by
  subst hN
  let e : Fin 2 × Fin 48 × Fin 3 × Fin 5 × Fin 256 ≃ Fin 16 × Fin 3 × Fin 5 × Fin 1536 :=
    { toFun := fun p => (⟨p.2.1.val % 8 * 2 + p.1.val, by omega⟩, p.2.2.1, p.2.2.2.1, ⟨p.2.1.val / 8 * 256 + p.2.2.2.2.val, by omega⟩)
      invFun := fun q => (⟨q.1.val % 2, by omega⟩, ⟨q.2.2.2.val / 256 * 8 + q.1.val / 2, by omega⟩, q.2.1, q.2.2.1, ⟨q.2.2.2.val % 256, by omega⟩)
      left_inv := fun p => by
        refine Prod.ext (Fin.ext ?_) (Prod.ext (Fin.ext ?_) (Prod.ext rfl (Prod.ext rfl (Fin.ext ?_)))) <;> dsimp only <;> omega
      right_inv := fun q => by
        refine Prod.ext (Fin.ext ?_) (Prod.ext rfl (Prod.ext rfl (Fin.ext ?_))) <;> dsimp only <;> omega }
  have h := Fintype.sum_equiv e (fun p => F (e p).1 (e p).2.1 (e p).2.2.1 (e p).2.2.2) (fun q => F q.1 q.2.1 q.2.2.1 q.2.2.2) (fun _ => rfl)
  simp only [Fintype.sum_prod_type] at h
  exact h

/-- Only the grid points of one pair contribute. -/
theorem reorder4 (N : ℕ) (hN : N = 48) (lp : Fin 8) (F : Fin 3 → Fin 5 → Fin 9 → Fin 1536 → EReal) :
    ∑ p : Fin 9, ∑ t : Fin N, (if lp.val = t.val % 8 then ∑ n : Fin 3, ∑ o : Fin 5, ∑ s : Fin 256,
      F n o p ⟨t.val / 8 * 256 + s.val, by omega⟩ else 0)
      = ∑ n, ∑ o, ∑ p, ∑ w, F n o p w := by
  subst hN
  have h1 : ∀ p : Fin 9, ∑ t : Fin 48, (if lp.val = t.val % 8 then ∑ n : Fin 3, ∑ o : Fin 5, ∑ s : Fin 256,
      F n o p ⟨t.val / 8 * 256 + s.val, by omega⟩ else 0)
      = ∑ T : Fin 6, ∑ n : Fin 3, ∑ o : Fin 5, ∑ s : Fin 256, F n o p ⟨T.val * 256 + s.val, by omega⟩ := by
    intro p
    let e : Fin 6 × Fin 8 ≃ Fin 48 :=
      { toFun := fun q => ⟨q.1.val * 8 + q.2.val, by omega⟩
        invFun := fun t => (⟨t.val / 8, by omega⟩, ⟨t.val % 8, by omega⟩)
        left_inv := fun q => by refine Prod.ext (Fin.ext ?_) (Fin.ext ?_) <;> dsimp only <;> omega
        right_inv := fun t => by refine Fin.ext ?_; dsimp only; omega }
    rw [← Equiv.sum_comp e, Fintype.sum_prod_type]
    refine Finset.sum_congr rfl fun T _ => ?_
    refine (sum_at lp _ fun k hk => if_neg ?_).trans ?_
    · show ¬ lp.val = (T.val * 8 + k.val) % 8
      intro h; exact hk (Fin.ext (by omega))
    · refine (if_pos (show lp.val = (T.val * 8 + lp.val) % 8 by omega)).trans ?_
      refine Finset.sum_congr rfl fun n _ => Finset.sum_congr rfl fun o _ => Finset.sum_congr rfl fun s _ =>
        congrArg (F n o p) (Fin.ext ?_)
      show (T.val * 8 + lp.val) / 8 * 256 + s.val = T.val * 256 + s.val
      omega
  rw [Finset.sum_congr rfl fun p _ => h1 p]
  let e : Fin 9 × Fin 6 × Fin 3 × Fin 5 × Fin 256 ≃ Fin 3 × Fin 5 × Fin 9 × Fin 1536 :=
    { toFun := fun p => (p.2.2.1, p.2.2.2.1, p.1, ⟨p.2.1.val * 256 + p.2.2.2.2.val, by omega⟩)
      invFun := fun q => (q.2.2.1, ⟨q.2.2.2.val / 256, by omega⟩, q.1, q.2.1, ⟨q.2.2.2.val % 256, by omega⟩)
      left_inv := fun p => by
        refine Prod.ext rfl (Prod.ext (Fin.ext ?_) (Prod.ext rfl (Prod.ext rfl (Fin.ext ?_)))) <;> dsimp only <;> omega
      right_inv := fun q => by
        refine Prod.ext rfl (Prod.ext rfl (Prod.ext rfl (Fin.ext ?_))); dsimp only; omega }
  have h := Fintype.sum_equiv e (fun p => F (e p).1 (e p).2.1 (e p).2.2.1 (e p).2.2.2) (fun q => F q.1 q.2.1 q.2.2.1 q.2.2.2) (fun _ => rfl)
  simp only [Fintype.sum_prod_type] at h
  exact h

section
variable {x : Vec Ideal S6x256x1024 .bf16} {dy : Vec Ideal S6x256x1620 .fp8e5m2} {ds : Vec Ideal S6x256 .f32}
    {g1 : Vec Ideal S2x3x10 .i8} {g2 : Vec Ideal S10x4x5x14 .i8} {g3 : Vec Ideal S14x8x9x11 .i8} {g4 : Vec Ideal S11x16x12 .i8}
    {s1 : Vec Ideal S3x10 .f32} {s2 : Vec Ideal S5x14 .f32} {s3 : Vec Ideal S9x11 .f32} {s4 : Vec Ideal S12 .f32}
    {T : Fin 6} {lp : Fin 8}
    {x0 : S128x256.Idx → EReal} {x1 : S15x108x256.Idx → EReal} {x2 : S1x256.Idx → EReal} {x3 : S280x160.Idx → EReal}
    {x4 : S208x224.Idx → EReal} {x5 : S1x208x112.Idx → EReal} {x6 : S256x208.Idx → EReal} {x7 : S80x160.Idx → EReal}
    {x8 : S16x240.Idx → EReal} {x9 : S3x3x40x128.Idx → EReal} {x10 : S5x112x128.Idx → EReal} {x11 : S208x128.Idx → EReal}
    (H : Blocks x dy ds g1 g2 g3 g4 s1 s2 s3 s4 T lp x0 x1 x2 x3 x4 x5 x6 x7 x8 x9 x10 x11)
include H

theorem t1_eq (A B : ℕ) (i : Fin 2) (n : Fin 3) (a : Fin 10) (j : Fin 4) (kk : Fin 2) (g : Fin 8)
    (hA : A = kk.val * 8 + (i.val * 4 + j.val)) (hB : B = n.val * 80 + (kk.val * 40 + (a.val * 4 + j.val))) :
    t1 x0 x1 x2 x5 x6 x7 g.val A B = ∑ s : Fin 256,
      rx x (ix5 (tok T s) i j ⟨g.val % 4 * 2 + kk.val, by omega⟩ (lf lp ⟨g.val / 4, by omega⟩))
        * R1 (R2 (R3 (rdy dy) (rds ds) g4 s4) g3 s3) g2 s2
            (ix6 (tok T s) n j ⟨g.val % 4 * 2 + kk.val, by omega⟩ (lf lp ⟨g.val / 4, by omega⟩) a) := by
  unfold t1
  refine Finset.sum_congr rfl fun s _ => ?_
  exact congrArg₂ (· * ·)
    (H.h0 _ ⟨g.val / 4, by omega⟩ ⟨g.val % 4 * 2 + kk.val, by omega⟩ i j s (by dsimp only; omega))
    (q1_eq H _ _ n ⟨g.val / 4, by omega⟩ ⟨g.val % 4, by omega⟩ kk ⟨g.val % 4 * 2 + kk.val, by omega⟩ a j s rfl (by dsimp only; omega) hB)

theorem t2_eq (A B : ℕ) (a : Fin 10) (j : Fin 4) (o : Fin 5) (y : Fin 14) (kk : Fin 2) (n : Fin 3) (g : Fin 8)
    (hA : A = kk.val * 40 + (a.val * 4 + j.val)) (hB : B = o.val * 32 + (kk.val * 16 + y.val)) :
    t2 x0 x9 x1 x2 x5 x6 n.val (g.val / 4) (g.val % 4) A B = ∑ s : Fin 256,
      L2 (rx x) g1 s1 (ix6 (tok T s) n a j ⟨g.val % 4 * 2 + kk.val, by omega⟩ (lf lp ⟨g.val / 4, by omega⟩))
        * R2 (R3 (rdy dy) (rds ds) g4 s4) g3 s3
            (ix6 (tok T s) n o ⟨g.val % 4 * 2 + kk.val, by omega⟩ (lf lp ⟨g.val / 4, by omega⟩) y) := by
  unfold t2
  refine Finset.sum_congr rfl fun s _ => ?_
  exact congrArg₂ (· * ·)
    (s2_eq H _ _ n ⟨g.val / 4, by omega⟩ ⟨g.val % 4 * 2 + kk.val, by omega⟩ a j s rfl (by dsimp only; omega))
    (q2_eq H _ _ _ _ n o ⟨g.val / 4, by omega⟩ ⟨g.val % 4 * 2 + kk.val, by omega⟩ y s rfl rfl (by omega) (by dsimp only; omega))

theorem t3_eq (A B : ℕ) (y : Fin 14) (k : Fin 8) (p : Fin 9) (z : Fin 11) (l : Fin 2) (n : Fin 3) (o : Fin 5)
    (hA : A = l.val * 104 + (p.val * 11 + z.val)) (hB : B = l.val * 112 + (k.val * 14 + y.val)) :
    t3 x0 x3 x9 x10 x1 x2 x5 (5 * n.val + o.val) A B = ∑ s : Fin 256,
      L3 (L2 (rx x) g1 s1) g2 s2 (ix6 (tok T s) n o y k (lf lp l))
        * R3 (rdy dy) (rds ds) g4 s4 (ix6 (tok T s) n o p (lf lp l) z) := by
  unfold t3
  refine Finset.sum_congr rfl fun s _ => ?_
  rw [mul_comm]
  exact congrArg₂ (· * ·) (s3_eq H _ _ n o l k y s (by omega) hB) (q3_eq H _ _ n o l p z s (by omega) hA)

theorem t4_eq (A B : ℕ) (z : Fin 11) (l : Fin 2) (q : Fin 12) (p : Fin 9) (n : Fin 3) (o : Fin 5)
    (hA : A = p.val * 12 + q.val) (hB : B = l.val * 104 + (p.val * 11 + z.val)) :
    t4 x0 x3 x4 x9 x10 x11 (gd x1 x2) (5 * n.val + o.val) A B = ∑ s : Fin 256,
      L4 (L3 (L2 (rx x) g1 s1) g2 s2) g3 s3 (ix6 (tok T s) n o p z (lf lp l))
        * Dyd (rdy dy) (rds ds) (ix5 (tok T s) n o p q) := by
  unfold t4
  refine Finset.sum_congr rfl fun s _ => ?_
  rw [mul_comm]
  refine congrArg₂ (· * ·) (s4_eq H _ _ n o l p z s (by omega) hB) ?_
  refine Eq.trans ?_ (dyd_eq H (5 * n.val + o.val) A n o p q s (by omega) hA)
  exact rd_of (s := S15x112x256) _ _ (ix3 ⟨5 * n.val + o.val, by omega⟩ ⟨A, by omega⟩ s)
    (fun a => by match a with | ⟨0, _⟩ => rfl | ⟨1, _⟩ => rfl | ⟨2, _⟩ => rfl)
end
end Cert.KernelIdeal.Val
-- ==== Proof.Tail.lean ====
module
public import proofs.«01_k».proof.Proof.Host
@[expose] public section
set_option maxRecDepth 16384
noncomputable section
open Idealize.ShloMosaic Idealize.ShloMosaic.TcCoe Idealize.SL.Sem
namespace Cert.KernelIdeal.Val
open Cert.KernelIdeal Cert.KernelIdeal.Gen

/-! The host operations after the region, over the arrays that the region leaves. -/

/-- A masked entry. -/
theorem sel_val (n : ℕ) (hn : n ≤ 16) (k K : Fin n) (v : EReal) :
    (if (BitVec.ofNat 32 k.val).toNat = (BitVec.ofNat 32 K.val).toNat then v else 0)
      = if k = K then v else 0 := by
  have hk := k.isLt
  have hK := K.isLt
  have e : (BitVec.ofNat 32 k.val).toNat = k.val := by rw [BitVec.toNat_ofNat]; omega
  have e' : (BitVec.ofNat 32 K.val).toNat = K.val := by rw [BitVec.toNat_ofNat]; omega
  rw [e, e']
  by_cases h : k = K
  · subst h; simp
  · have h' : ¬ k.val = K.val := fun e => h (Fin.ext e)
    simp [h, h']

/-- A sum over the two axes of a pair. -/
theorem red1 (x : FVec Ideal S2x2x4x3x2x10x4 .f32) (u1 : Fin 2) (u2 : Fin 4) (u3 : Fin 3) (u5 : Fin 10) (u6 : Fin 4) :
    Host.reduceAdd x (constant S_ .f32 0x00000000#32) reducesTo_S2x2x4x3x2x10x4_S2x4x3x10x4_d0_4 h_S_ (ix5 u1 u2 u3 u5 u6)
      = ∑ u0 : Fin 2, ∑ u4 : Fin 2, x (ix7 u0 u1 u2 u3 u4 u5 u6) := by
  show Ideal.ofBits .f32 0x00000000#32 + ∑ i ∈ Finset.univ.filter (fun i => reducesTo_S2x2x4x3x2x10x4_S2x4x3x10x4_d0_4.drop i = ix5 u1 u2 u3 u5 u6), x i = _
  rw [Ideal.ofBits_zero_f32, zero_add,
    Finset.sum_filter_eq_sum_of_fiber _ (fun k : Fin 2 × Fin 2 => ix7 k.1 u1 u2 u3 k.2 u5 u6)
      (fun _ _ e => Prod.ext (congrFun e 0) (congrFun e 4)) (fun i => ?_) x, Fintype.sum_prod_type]
  constructor
  · intro e
    refine ⟨(i 0, i 4), ?_⟩
    funext a; apply Fin.ext
    match a with
    | ⟨0, _⟩ => rfl
    | ⟨1, _⟩ => exact (congrArg Fin.val (congrFun e ⟨0, by decide⟩)).symm
    | ⟨2, _⟩ => exact (congrArg Fin.val (congrFun e ⟨1, by decide⟩)).symm
    | ⟨3, _⟩ => exact (congrArg Fin.val (congrFun e ⟨2, by decide⟩)).symm
    | ⟨4, _⟩ => rfl
    | ⟨5, _⟩ => exact (congrArg Fin.val (congrFun e ⟨3, by decide⟩)).symm
    | ⟨6, _⟩ => exact (congrArg Fin.val (congrFun e ⟨4, by decide⟩)).symm
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

/-- Off the diagonal the masked array is zero. -/
theorem sel1 (x : FVec Ideal S2x2x4x3x2x10x4 .f32) (u0 : Fin 2) (u1 : Fin 2) (u2 : Fin 4) (u3 : Fin 3) (u4 : Fin 2) (u5 : Fin 10) (u6 : Fin 4) :
    select (broadcastInDim S2x2x4x3x2x10x4 ![0, 4] bcast_S2x2_S2x2x4x3x2x10x4_0_4 (cmpi CmpIPredicate.eq (iotaInDim S2x2 32 0) (iotaInDim S2x2 32 1)))
      x (broadcastInDim S2x2x4x3x2x10x4 ![] bcast_S_S2x2x4x3x2x10x4 (constant S_ .f32 0x00000000#32)) (ix7 u0 u1 u2 u3 u4 u5 u6)
      = if u0 = u4 then x (ix7 u0 u1 u2 u3 u4 u5 u6) else 0 := by
  pointwise [hlo_ix]
  exact sel_val 2 (by omega) u0 u4 _

/-- The sum over the diagonal. -/
theorem diag1 (x : FVec Ideal S2x2x4x3x2x10x4 .f32) (u1 : Fin 2) (u2 : Fin 4) (u3 : Fin 3) (u5 : Fin 10) (u6 : Fin 4) :
    Host.reduceAdd (select (broadcastInDim S2x2x4x3x2x10x4 ![0, 4] bcast_S2x2_S2x2x4x3x2x10x4_0_4 (cmpi CmpIPredicate.eq (iotaInDim S2x2 32 0) (iotaInDim S2x2 32 1)))
      x (broadcastInDim S2x2x4x3x2x10x4 ![] bcast_S_S2x2x4x3x2x10x4 (constant S_ .f32 0x00000000#32)))
      (constant S_ .f32 0x00000000#32) reducesTo_S2x2x4x3x2x10x4_S2x4x3x10x4_d0_4 h_S_ (ix5 u1 u2 u3 u5 u6)
      = ∑ u0 : Fin 2, x (ix7 u0 u1 u2 u3 u0 u5 u6) := by
  rw [red1]
  refine Finset.sum_congr rfl fun u0 _ => ?_
  refine (Finset.sum_congr rfl fun u4 _ => sel1 x u0 u1 u2 u3 u4 u5 u6).trans ?_
  simp only [Finset.sum_ite_eq, Finset.mem_univ, if_true]

/-- A sum over the two axes of a pair. -/
theorem red2 (x : FVec Ideal S2x4x3x10x4 .f32) (u0 : Fin 2) (u2 : Fin 3) (u3 : Fin 10) :
    Host.reduceAdd x (constant S_ .f32 0x00000000#32) reducesTo_S2x4x3x10x4_S2x3x10_d1_4 h_S_ (ix3 u0 u2 u3)
      = ∑ u1 : Fin 4, ∑ u4 : Fin 4, x (ix5 u0 u1 u2 u3 u4) := by
  show Ideal.ofBits .f32 0x00000000#32 + ∑ i ∈ Finset.univ.filter (fun i => reducesTo_S2x4x3x10x4_S2x3x10_d1_4.drop i = ix3 u0 u2 u3), x i = _
  rw [Ideal.ofBits_zero_f32, zero_add,
    Finset.sum_filter_eq_sum_of_fiber _ (fun k : Fin 4 × Fin 4 => ix5 u0 k.1 u2 u3 k.2)
      (fun _ _ e => Prod.ext (congrFun e 1) (congrFun e 4)) (fun i => ?_) x, Fintype.sum_prod_type]
  constructor
  · intro e
    refine ⟨(i 1, i 4), ?_⟩
    funext a; apply Fin.ext
    match a with
    | ⟨0, _⟩ => exact (congrArg Fin.val (congrFun e ⟨0, by decide⟩)).symm
    | ⟨1, _⟩ => rfl
    | ⟨2, _⟩ => exact (congrArg Fin.val (congrFun e ⟨1, by decide⟩)).symm
    | ⟨3, _⟩ => exact (congrArg Fin.val (congrFun e ⟨2, by decide⟩)).symm
    | ⟨4, _⟩ => rfl
  · rintro ⟨k, rfl⟩
    funext b
    apply Fin.ext
    match b with
    | ⟨0, _⟩ => rfl
    | ⟨1, _⟩ => rfl
    | ⟨2, _⟩ => rfl

/-- Off the diagonal the masked array is zero. -/
theorem sel2 (x : FVec Ideal S2x4x3x10x4 .f32) (u0 : Fin 2) (u1 : Fin 4) (u2 : Fin 3) (u3 : Fin 10) (u4 : Fin 4) :
    select (broadcastInDim S2x4x3x10x4 ![1, 4] bcast_S4x4_S2x4x3x10x4_1_4 (cmpi CmpIPredicate.eq (iotaInDim S4x4 32 0) (iotaInDim S4x4 32 1)))
      x (broadcastInDim S2x4x3x10x4 ![] bcast_S_S2x4x3x10x4 (constant S_ .f32 0x00000000#32)) (ix5 u0 u1 u2 u3 u4)
      = if u1 = u4 then x (ix5 u0 u1 u2 u3 u4) else 0 := by
  pointwise [hlo_ix]
  exact sel_val 4 (by omega) u1 u4 _

/-- The sum over the diagonal. -/
theorem diag2 (x : FVec Ideal S2x4x3x10x4 .f32) (u0 : Fin 2) (u2 : Fin 3) (u3 : Fin 10) :
    Host.reduceAdd (select (broadcastInDim S2x4x3x10x4 ![1, 4] bcast_S4x4_S2x4x3x10x4_1_4 (cmpi CmpIPredicate.eq (iotaInDim S4x4 32 0) (iotaInDim S4x4 32 1)))
      x (broadcastInDim S2x4x3x10x4 ![] bcast_S_S2x4x3x10x4 (constant S_ .f32 0x00000000#32)))
      (constant S_ .f32 0x00000000#32) reducesTo_S2x4x3x10x4_S2x3x10_d1_4 h_S_ (ix3 u0 u2 u3)
      = ∑ u1 : Fin 4, x (ix5 u0 u1 u2 u3 u1) := by
  rw [red2]
  refine Finset.sum_congr rfl fun u1 _ => ?_
  refine (Finset.sum_congr rfl fun u4 _ => sel2 x u0 u1 u2 u3 u4).trans ?_
  simp only [Finset.sum_ite_eq, Finset.mem_univ, if_true]

/-- A sum over the two axes of a pair. -/
theorem red3 (x : FVec Ideal S2x10x4x5x2x16 .f32) (u1 : Fin 10) (u2 : Fin 4) (u3 : Fin 5) (u5 : Fin 16) :
    Host.reduceAdd x (constant S_ .f32 0x00000000#32) reducesTo_S2x10x4x5x2x16_S10x4x5x16_d0_4 h_S_ (ix4 u1 u2 u3 u5)
      = ∑ u0 : Fin 2, ∑ u4 : Fin 2, x (ix6 u0 u1 u2 u3 u4 u5) := by
  show Ideal.ofBits .f32 0x00000000#32 + ∑ i ∈ Finset.univ.filter (fun i => reducesTo_S2x10x4x5x2x16_S10x4x5x16_d0_4.drop i = ix4 u1 u2 u3 u5), x i = _
  rw [Ideal.ofBits_zero_f32, zero_add,
    Finset.sum_filter_eq_sum_of_fiber _ (fun k : Fin 2 × Fin 2 => ix6 k.1 u1 u2 u3 k.2 u5)
      (fun _ _ e => Prod.ext (congrFun e 0) (congrFun e 4)) (fun i => ?_) x, Fintype.sum_prod_type]
  constructor
  · intro e
    refine ⟨(i 0, i 4), ?_⟩
    funext a; apply Fin.ext
    match a with
    | ⟨0, _⟩ => rfl
    | ⟨1, _⟩ => exact (congrArg Fin.val (congrFun e ⟨0, by decide⟩)).symm
    | ⟨2, _⟩ => exact (congrArg Fin.val (congrFun e ⟨1, by decide⟩)).symm
    | ⟨3, _⟩ => exact (congrArg Fin.val (congrFun e ⟨2, by decide⟩)).symm
    | ⟨4, _⟩ => rfl
    | ⟨5, _⟩ => exact (congrArg Fin.val (congrFun e ⟨3, by decide⟩)).symm
  · rintro ⟨k, rfl⟩
    funext b
    apply Fin.ext
    match b with
    | ⟨0, _⟩ => rfl
    | ⟨1, _⟩ => rfl
    | ⟨2, _⟩ => rfl
    | ⟨3, _⟩ => rfl

/-- Off the diagonal the masked array is zero. -/
theorem sel3 (x : FVec Ideal S2x10x4x5x2x16 .f32) (u0 : Fin 2) (u1 : Fin 10) (u2 : Fin 4) (u3 : Fin 5) (u4 : Fin 2) (u5 : Fin 16) :
    select (broadcastInDim S2x10x4x5x2x16 ![0, 4] bcast_S2x2_S2x10x4x5x2x16_0_4 (cmpi CmpIPredicate.eq (iotaInDim S2x2 32 0) (iotaInDim S2x2 32 1)))
      x (broadcastInDim S2x10x4x5x2x16 ![] bcast_S_S2x10x4x5x2x16 (constant S_ .f32 0x00000000#32)) (ix6 u0 u1 u2 u3 u4 u5)
      = if u0 = u4 then x (ix6 u0 u1 u2 u3 u4 u5) else 0 := by
  pointwise [hlo_ix]
  exact sel_val 2 (by omega) u0 u4 _

/-- The sum over the diagonal. -/
theorem diag3 (x : FVec Ideal S2x10x4x5x2x16 .f32) (u1 : Fin 10) (u2 : Fin 4) (u3 : Fin 5) (u5 : Fin 16) :
    Host.reduceAdd (select (broadcastInDim S2x10x4x5x2x16 ![0, 4] bcast_S2x2_S2x10x4x5x2x16_0_4 (cmpi CmpIPredicate.eq (iotaInDim S2x2 32 0) (iotaInDim S2x2 32 1)))
      x (broadcastInDim S2x10x4x5x2x16 ![] bcast_S_S2x10x4x5x2x16 (constant S_ .f32 0x00000000#32)))
      (constant S_ .f32 0x00000000#32) reducesTo_S2x10x4x5x2x16_S10x4x5x16_d0_4 h_S_ (ix4 u1 u2 u3 u5)
      = ∑ u0 : Fin 2, x (ix6 u0 u1 u2 u3 u0 u5) := by
  rw [red3]
  refine Finset.sum_congr rfl fun u0 _ => ?_
  refine (Finset.sum_congr rfl fun u4 _ => sel3 x u0 u1 u2 u3 u4 u5).trans ?_
  simp only [Finset.sum_ite_eq, Finset.mem_univ, if_true]

/-- A sum over the two axes of a pair. -/
theorem red4 (x : FVec Ideal S2x104x2x8x14 .f32) (u1 : Fin 104) (u3 : Fin 8) (u4 : Fin 14) :
    Host.reduceAdd x (constant S_ .f32 0x00000000#32) reducesTo_S2x104x2x8x14_S104x8x14_d0_2 h_S_ (ix3 u1 u3 u4)
      = ∑ u0 : Fin 2, ∑ u2 : Fin 2, x (ix5 u0 u1 u2 u3 u4) := by
  show Ideal.ofBits .f32 0x00000000#32 + ∑ i ∈ Finset.univ.filter (fun i => reducesTo_S2x104x2x8x14_S104x8x14_d0_2.drop i = ix3 u1 u3 u4), x i = _
  rw [Ideal.ofBits_zero_f32, zero_add,
    Finset.sum_filter_eq_sum_of_fiber _ (fun k : Fin 2 × Fin 2 => ix5 k.1 u1 k.2 u3 u4)
      (fun _ _ e => Prod.ext (congrFun e 0) (congrFun e 2)) (fun i => ?_) x, Fintype.sum_prod_type]
  constructor
  · intro e
    refine ⟨(i 0, i 2), ?_⟩
    funext a; apply Fin.ext
    match a with
    | ⟨0, _⟩ => rfl
    | ⟨1, _⟩ => exact (congrArg Fin.val (congrFun e ⟨0, by decide⟩)).symm
    | ⟨2, _⟩ => rfl
    | ⟨3, _⟩ => exact (congrArg Fin.val (congrFun e ⟨1, by decide⟩)).symm
    | ⟨4, _⟩ => exact (congrArg Fin.val (congrFun e ⟨2, by decide⟩)).symm
  · rintro ⟨k, rfl⟩
    funext b
    apply Fin.ext
    match b with
    | ⟨0, _⟩ => rfl
    | ⟨1, _⟩ => rfl
    | ⟨2, _⟩ => rfl

/-- Off the diagonal the masked array is zero. -/
theorem sel4 (x : FVec Ideal S2x104x2x8x14 .f32) (u0 : Fin 2) (u1 : Fin 104) (u2 : Fin 2) (u3 : Fin 8) (u4 : Fin 14) :
    select (broadcastInDim S2x104x2x8x14 ![0, 2] bcast_S2x2_S2x104x2x8x14_0_2 (cmpi CmpIPredicate.eq (iotaInDim S2x2 32 0) (iotaInDim S2x2 32 1)))
      x (broadcastInDim S2x104x2x8x14 ![] bcast_S_S2x104x2x8x14 (constant S_ .f32 0x00000000#32)) (ix5 u0 u1 u2 u3 u4)
      = if u0 = u2 then x (ix5 u0 u1 u2 u3 u4) else 0 := by
  pointwise [hlo_ix]
  exact sel_val 2 (by omega) u0 u2 _

/-- The sum over the diagonal. -/
theorem diag4 (x : FVec Ideal S2x104x2x8x14 .f32) (u1 : Fin 104) (u3 : Fin 8) (u4 : Fin 14) :
    Host.reduceAdd (select (broadcastInDim S2x104x2x8x14 ![0, 2] bcast_S2x2_S2x104x2x8x14_0_2 (cmpi CmpIPredicate.eq (iotaInDim S2x2 32 0) (iotaInDim S2x2 32 1)))
      x (broadcastInDim S2x104x2x8x14 ![] bcast_S_S2x104x2x8x14 (constant S_ .f32 0x00000000#32)))
      (constant S_ .f32 0x00000000#32) reducesTo_S2x104x2x8x14_S104x8x14_d0_2 h_S_ (ix3 u1 u3 u4)
      = ∑ u0 : Fin 2, x (ix5 u0 u1 u0 u3 u4) := by
  rw [red4]
  refine Finset.sum_congr rfl fun u0 _ => ?_
  refine (Finset.sum_congr rfl fun u2 _ => sel4 x u0 u1 u2 u3 u4).trans ?_
  simp only [Finset.sum_ite_eq, Finset.mem_univ, if_true]

/-- A sum over the two axes of a pair. -/
theorem red5 (x : FVec Ideal S8x9x12x2x9x11 .f32) (u0 : Fin 8) (u2 : Fin 12) (u3 : Fin 2) (u5 : Fin 11) :
    Host.reduceAdd x (constant S_ .f32 0x00000000#32) reducesTo_S8x9x12x2x9x11_S8x12x2x11_d1_4 h_S_ (ix4 u0 u2 u3 u5)
      = ∑ u1 : Fin 9, ∑ u4 : Fin 9, x (ix6 u0 u1 u2 u3 u4 u5) := by
  show Ideal.ofBits .f32 0x00000000#32 + ∑ i ∈ Finset.univ.filter (fun i => reducesTo_S8x9x12x2x9x11_S8x12x2x11_d1_4.drop i = ix4 u0 u2 u3 u5), x i = _
  rw [Ideal.ofBits_zero_f32, zero_add,
    Finset.sum_filter_eq_sum_of_fiber _ (fun k : Fin 9 × Fin 9 => ix6 u0 k.1 u2 u3 k.2 u5)
      (fun _ _ e => Prod.ext (congrFun e 1) (congrFun e 4)) (fun i => ?_) x, Fintype.sum_prod_type]
  constructor
  · intro e
    refine ⟨(i 1, i 4), ?_⟩
    funext a; apply Fin.ext
    match a with
    | ⟨0, _⟩ => exact (congrArg Fin.val (congrFun e ⟨0, by decide⟩)).symm
    | ⟨1, _⟩ => rfl
    | ⟨2, _⟩ => exact (congrArg Fin.val (congrFun e ⟨1, by decide⟩)).symm
    | ⟨3, _⟩ => exact (congrArg Fin.val (congrFun e ⟨2, by decide⟩)).symm
    | ⟨4, _⟩ => rfl
    | ⟨5, _⟩ => exact (congrArg Fin.val (congrFun e ⟨3, by decide⟩)).symm
  · rintro ⟨k, rfl⟩
    funext b
    apply Fin.ext
    match b with
    | ⟨0, _⟩ => rfl
    | ⟨1, _⟩ => rfl
    | ⟨2, _⟩ => rfl
    | ⟨3, _⟩ => rfl

/-- Off the diagonal the masked array is zero. -/
theorem sel5 (x : FVec Ideal S8x9x12x2x9x11 .f32) (u0 : Fin 8) (u1 : Fin 9) (u2 : Fin 12) (u3 : Fin 2) (u4 : Fin 9) (u5 : Fin 11) :
    select (broadcastInDim S8x9x12x2x9x11 ![1, 4] bcast_S9x9_S8x9x12x2x9x11_1_4 (cmpi CmpIPredicate.eq (iotaInDim S9x9 32 0) (iotaInDim S9x9 32 1)))
      x (broadcastInDim S8x9x12x2x9x11 ![] bcast_S_S8x9x12x2x9x11 (constant S_ .f32 0x00000000#32)) (ix6 u0 u1 u2 u3 u4 u5)
      = if u1 = u4 then x (ix6 u0 u1 u2 u3 u4 u5) else 0 := by
  pointwise [hlo_ix]
  exact sel_val 9 (by omega) u1 u4 _

/-- The sum over the diagonal. -/
theorem diag5 (x : FVec Ideal S8x9x12x2x9x11 .f32) (u0 : Fin 8) (u2 : Fin 12) (u3 : Fin 2) (u5 : Fin 11) :
    Host.reduceAdd (select (broadcastInDim S8x9x12x2x9x11 ![1, 4] bcast_S9x9_S8x9x12x2x9x11_1_4 (cmpi CmpIPredicate.eq (iotaInDim S9x9 32 0) (iotaInDim S9x9 32 1)))
      x (broadcastInDim S8x9x12x2x9x11 ![] bcast_S_S8x9x12x2x9x11 (constant S_ .f32 0x00000000#32)))
      (constant S_ .f32 0x00000000#32) reducesTo_S8x9x12x2x9x11_S8x12x2x11_d1_4 h_S_ (ix4 u0 u2 u3 u5)
      = ∑ u1 : Fin 9, x (ix6 u0 u1 u2 u3 u1 u5) := by
  rw [red5]
  refine Finset.sum_congr rfl fun u1 _ => ?_
  refine (Finset.sum_congr rfl fun u4 _ => sel5 x u0 u1 u2 u3 u4 u5).trans ?_
  simp only [Finset.sum_ite_eq, Finset.mem_univ, if_true]

/-- The input gradient, back in the tokens' order. -/
def K0 (A : Vec Ideal S1024x1536 .bf16) : Vec Ideal S6x256x1024 .bf16 :=
  shapeCast S6x256x1024 (transpose S1536x8x8x16 [3, 2, 1, 0] (shapeCast S16x8x8x1536 A shapeCasts_S1024x1536_S16x8x8x1536)
    transposes_S16x8x8x1536_S1536x8x8x16_3_2_1_0) shapeCasts_S1536x8x8x16_S6x256x1024

/-- The first core's gradient: the diagonals of two pairs of axes. -/
def K1 (A : FVec Ideal S16x240 .f32) : FVec Ideal S2x3x10 .f32 :=
  Host.reduceAdd
    (select (broadcastInDim S2x4x3x10x4 ![1, 4] bcast_S4x4_S2x4x3x10x4_1_4 (cmpi CmpIPredicate.eq (iotaInDim S4x4 32 0) (iotaInDim S4x4 32 1)))
      (Host.reduceAdd
    (select (broadcastInDim S2x2x4x3x2x10x4 ![0, 4] bcast_S2x2_S2x2x4x3x2x10x4_0_4 (cmpi CmpIPredicate.eq (iotaInDim S2x2 32 0) (iotaInDim S2x2 32 1)))
      (shapeCast S2x2x4x3x2x10x4 A shapeCasts_S16x240_S2x2x4x3x2x10x4)
      (broadcastInDim S2x2x4x3x2x10x4 ![] bcast_S_S2x2x4x3x2x10x4 (constant S_ .f32 0x00000000#32)))
    (constant S_ .f32 0x00000000#32) reducesTo_S2x2x4x3x2x10x4_S2x4x3x10x4_d0_4 h_S_ : FVec Ideal S2x4x3x10x4 .f32)
      (broadcastInDim S2x4x3x10x4 ![] bcast_S_S2x4x3x10x4 (constant S_ .f32 0x00000000#32)))
    (constant S_ .f32 0x00000000#32) reducesTo_S2x4x3x10x4_S2x3x10_d1_4 h_S_

/-- The second core's gradient before the padding is cut off. -/
def K2s (A : FVec Ideal S80x160 .f32) : FVec Ideal S10x4x5x16 .f32 :=
  Host.reduceAdd
    (select (broadcastInDim S2x10x4x5x2x16 ![0, 4] bcast_S2x2_S2x10x4x5x2x16_0_4 (cmpi CmpIPredicate.eq (iotaInDim S2x2 32 0) (iotaInDim S2x2 32 1)))
      (shapeCast S2x10x4x5x2x16 A shapeCasts_S80x160_S2x10x4x5x2x16)
      (broadcastInDim S2x10x4x5x2x16 ![] bcast_S_S2x10x4x5x2x16 (constant S_ .f32 0x00000000#32)))
    (constant S_ .f32 0x00000000#32) reducesTo_S2x10x4x5x2x16_S10x4x5x16_d0_4 h_S_
/-- The third core's gradient before the padding is cut off. -/
def K3s (A : FVec Ideal S208x224 .f32) : FVec Ideal S104x8x14 .f32 :=
  Host.reduceAdd
    (select (broadcastInDim S2x104x2x8x14 ![0, 2] bcast_S2x2_S2x104x2x8x14_0_2 (cmpi CmpIPredicate.eq (iotaInDim S2x2 32 0) (iotaInDim S2x2 32 1)))
      (shapeCast S2x104x2x8x14 A shapeCasts_S208x224_S2x104x2x8x14)
      (broadcastInDim S2x104x2x8x14 ![] bcast_S_S2x104x2x8x14 (constant S_ .f32 0x00000000#32)))
    (constant S_ .f32 0x00000000#32) reducesTo_S2x104x2x8x14_S104x8x14_d0_2 h_S_
/-- The fourth core's gradient before the layout's change. -/
def K4s (A : FVec Ideal S8x112x208 .f32) : FVec Ideal S8x12x2x11 .f32 :=
  Host.reduceAdd
    (select (broadcastInDim S8x9x12x2x9x11 ![1, 4] bcast_S9x9_S8x9x12x2x9x11_1_4 (cmpi CmpIPredicate.eq (iotaInDim S9x9 32 0) (iotaInDim S9x9 32 1)))
      (shapeCast S8x9x12x2x9x11
        (extractStridedSlice S8x9x12x2x99 ![0, 0, 0, 0, 0]
          (shapeCast S8x9x12x2x104 (extractStridedSlice S8x108x208 ![0, 0, 0] A slices_S8x112x208_S8x108x208_0_0_0) shapeCasts_S8x108x208_S8x9x12x2x104)
          slices_S8x9x12x2x104_S8x9x12x2x99_0_0_0_0_0) shapeCasts_S8x9x12x2x99_S8x9x12x2x9x11)
      (broadcastInDim S8x9x12x2x9x11 ![] bcast_S_S8x9x12x2x9x11 (constant S_ .f32 0x00000000#32)))
    (constant S_ .f32 0x00000000#32) reducesTo_S8x9x12x2x9x11_S8x12x2x11_d1_4 h_S_

/-- The second core's gradient: the diagonal of a pair of axes, without the padding. -/
def K2 (A : FVec Ideal S80x160 .f32) : FVec Ideal S10x4x5x14 .f32 :=
  extractStridedSlice S10x4x5x14 ![0, 0, 0, 0] (K2s A) slices_S10x4x5x16_S10x4x5x14_0_0_0_0

/-- The third core's gradient: the diagonal of a pair of axes, without the padding, in the core's layout. -/
def K3 (A : FVec Ideal S208x224 .f32) : FVec Ideal S14x8x9x11 .f32 :=
  transpose S14x8x9x11 [3, 2, 0, 1] (shapeCast S9x11x8x14 (extractStridedSlice S99x8x14 ![0, 0, 0] (K3s A)
    slices_S104x8x14_S99x8x14_0_0_0) shapeCasts_S99x8x14_S9x11x8x14) transposes_S9x11x8x14_S14x8x9x11_3_2_0_1

/-- The fourth core's gradient: the diagonal of a pair of axes, without the padding, in the core's layout. -/
def K4 (A : FVec Ideal S8x112x208 .f32) : FVec Ideal S11x16x12 .f32 :=
  shapeCast S11x16x12 (transpose S11x8x2x12 [3, 0, 2, 1] (K4s A)
    transposes_S8x12x2x11_S11x8x2x12_3_0_2_1) shapeCasts_S11x8x2x12_S11x16x12

theorem K0_at (A : Vec Ideal S1024x1536 .bf16) (b : Fin 6) (s : Fin 256) (d : Fin 1024) :
    K0 A (ix3 b s d) = A (ix2 ⟨d.val % 16 * 64 + d.val / 16 % 8 * 8 + d.val / 128, by omega⟩ ⟨b.val * 256 + s.val, by omega⟩) := by
  pointwise [hlo_ix, K0]

theorem K1_at (A : FVec Ideal S16x240 .f32) (i : Fin 2) (n : Fin 3) (a : Fin 10) :
    K1 A (ix3 i n a) = ∑ j : Fin 4, ∑ kk : Fin 2, A (ix2 ⟨kk.val * 8 + (i.val * 4 + j.val), by omega⟩
      ⟨n.val * 80 + (kk.val * 40 + (a.val * 4 + j.val)), by omega⟩) := by
  unfold K1
  rw [diag2]
  refine Finset.sum_congr rfl fun j _ => ?_
  rw [diag1]
  refine Finset.sum_congr rfl fun kk _ => ?_
  pointwise [hlo_ix]
  all_goals simp only [Nat.add_assoc]

theorem K2_at (A : FVec Ideal S80x160 .f32) (a : Fin 10) (j : Fin 4) (o : Fin 5) (y : Fin 14) :
    K2 A (ix4 a j o y) = ∑ kk : Fin 2, A (ix2 ⟨kk.val * 40 + (a.val * 4 + j.val), by omega⟩
      ⟨o.val * 32 + (kk.val * 16 + y.val), by omega⟩) := by
  have h : K2 A (ix4 a j o y) = K2s A (ix4 a j o ⟨y.val, by omega⟩) := by
    pointwise [hlo_ix, K2]
  rw [h]
  refine (diag3 _ a j o ⟨y.val, by omega⟩).trans ?_
  refine Finset.sum_congr rfl fun kk _ => ?_
  pointwise [hlo_ix]
  all_goals simp only [Nat.add_assoc]

theorem K3_at (A : FVec Ideal S208x224 .f32) (y : Fin 14) (k : Fin 8) (p : Fin 9) (z : Fin 11) :
    K3 A (ix4 y k p z) = ∑ l : Fin 2, A (ix2 ⟨l.val * 104 + (p.val * 11 + z.val), by omega⟩
      ⟨l.val * 112 + (k.val * 14 + y.val), by omega⟩) := by
  have h : K3 A (ix4 y k p z) = K3s A (ix3 ⟨p.val * 11 + z.val, by omega⟩ k y) := by
    pointwise [hlo_ix, K3]
  rw [h]
  refine (diag4 _ ⟨p.val * 11 + z.val, by omega⟩ k y).trans ?_
  refine Finset.sum_congr rfl fun l _ => ?_
  pointwise [hlo_ix]
  all_goals simp only [Nat.add_assoc]

theorem K4_at (A : FVec Ideal S8x112x208 .f32) (z : Fin 11) (l : Fin 16) (q : Fin 12) :
    K4 A (ix3 z l q) = ∑ p : Fin 9, A (ix3 ⟨l.val / 2, by omega⟩ ⟨p.val * 12 + q.val, by omega⟩
      ⟨l.val % 2 * 104 + (p.val * 11 + z.val), by omega⟩) := by
  have h : K4 A (ix3 z l q) = K4s A (ix4 ⟨l.val / 2, by omega⟩ q ⟨l.val % 2, by omega⟩ z) := by
    pointwise [hlo_ix, K4]
  rw [h]
  refine (diag5 _ ⟨l.val / 2, by omega⟩ q ⟨l.val % 2, by omega⟩ z).trans ?_
  refine Finset.sum_congr rfl fun p _ => ?_
  pointwise [hlo_ix]
  all_goals simp only [Nat.add_assoc]
end Cert.KernelIdeal.Val
-- ==== Proof.KFinal.lean ====
module
public import proofs.«01_k».proof.Proof.Accum
public import proofs.«01_k».proof.Proof.Sums
public import proofs.«01_k».proof.Proof.Tail
@[expose] public section
set_option maxRecDepth 16384
noncomputable section
open Idealize.ShloMosaic Idealize.ShloMosaic.TcCoe Idealize.SL.Sem
open Cert.ReferenceIdeal.Val (codes L2 L3 L4 R3 R2 R1 Dyd Dx Dg1 Dg2 Dg3 Dg4 Dx_at Dg1_at Dg2_at Dg3_at Dg4_at)
namespace Cert.KernelIdeal.Val
open Cert.KernelIdeal Cert.KernelIdeal.Gen

/-! The kernel's results are the reference's functions of the argument arrays. -/

section
variable (V : Valuation τ sig (Elt Ideal))
theorem tail0 : (StableHlo.after (hostOps1 (F := Ideal)) V (Proc.devRef .tc main_v134) : Vec Ideal S6x256x1024 .bf16)
    = K0 (V (Proc.devRef .tc main_v131_0)) := by
  simp only [hostOps1]
  after_reads_simp
  rfl
theorem tail1 : (StableHlo.after (hostOps1 (F := Ideal)) V (Proc.devRef .tc main_v149) : Vec Ideal S2x3x10 .f32)
    = K1 (V (Proc.devRef .tc main_v131_1)) := by
  simp only [hostOps1]
  after_reads_simp
  rfl
theorem tail2 : (StableHlo.after (hostOps1 (F := Ideal)) V (Proc.devRef .tc main_v158) : Vec Ideal S10x4x5x14 .f32)
    = K2 (V (Proc.devRef .tc main_v131_2)) := by
  simp only [hostOps1]
  after_reads_simp
  rfl
theorem tail3 : (StableHlo.after (hostOps1 (F := Ideal)) V (Proc.devRef .tc main_v169) : Vec Ideal S14x8x9x11 .f32)
    = K3 (V (Proc.devRef .tc main_v131_3)) := by
  simp only [hostOps1]
  after_reads_simp
  rfl
theorem tail4 : (StableHlo.after (hostOps1 (F := Ideal)) V (Proc.devRef .tc main_v182) : Vec Ideal S11x16x12 .f32)
    = K4 (V (Proc.devRef .tc main_v131_4)) := by
  simp only [hostOps1]
  after_reads_simp
  rfl
end

variable (m : (ℓ : Loc nD τ sig) → Buf (Elt Ideal) ℓ) (c : Dev nD)

/-- The tokens of a launch, as the reference reads them. -/
abbrev ax := rx (m (c, Proc.tc.devRef main_arg0))
/-- The gradient codes of a launch. -/
abbrev ady := rdy (m (c, Proc.tc.devRef main_arg1))
/-- The gradient scales of a launch. -/
abbrev ads := rds (m (c, Proc.tc.devRef main_arg2))
/-- The core codes and scales of a launch. -/
abbrev ag1 : Vec Ideal S2x3x10 .i8 := m (c, Proc.tc.devRef main_arg3)
abbrev ag2 : Vec Ideal S10x4x5x14 .i8 := m (c, Proc.tc.devRef main_arg4)
abbrev ag3 : Vec Ideal S14x8x9x11 .i8 := m (c, Proc.tc.devRef main_arg5)
abbrev ag4 : Vec Ideal S11x16x12 .i8 := m (c, Proc.tc.devRef main_arg6)
abbrev as1 : Vec Ideal S3x10 .f32 := m (c, Proc.tc.devRef main_arg7)
abbrev as2 : Vec Ideal S5x14 .f32 := m (c, Proc.tc.devRef main_arg8)
abbrev as3 : Vec Ideal S9x11 .f32 := m (c, Proc.tc.devRef main_arg9)
abbrev as4 : Vec Ideal S12 .f32 := m (c, Proc.tc.devRef main_arg10)
/-- The stages of the reference at a launch. -/
abbrev al2 := L2 (ax m c) (ag1 m c) (as1 m c)
abbrev al3 := L3 (al2 m c) (ag2 m c) (as2 m c)
abbrev al4 := L4 (al3 m c) (ag3 m c) (as3 m c)
abbrev ar3 := R3 (ady m c) (ads m c) (ag4 m c) (as4 m c)
abbrev ar2 := R2 (ar3 m c) (ag3 m c) (as3 m c)
abbrev ar1 := R1 (ar2 m c) (ag2 m c) (as2 m c)

theorem blocks_t (t : Fin cfg0.N) :
    Blocks (m (c, Proc.tc.devRef main_arg0)) (m (c, Proc.tc.devRef main_arg1)) (m (c, Proc.tc.devRef main_arg2))
      (ag1 m c) (ag2 m c) (ag3 m c) (ag4 m c) (as1 m c) (as2 m c) (as3 m c) (as4 m c)
      ⟨t.val / 8, by have := t48 t; omega⟩ ⟨t.val % 8, by omega⟩
      (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) :=
  blocks m c t _ _ rfl rfl

theorem fin1_at (i : Fin 2) (n : Fin 3) (a : Fin 10) :
    K1 (fun y : S16x240.Idx => ∑ k, p1 m c k y) (ix3 i n a) = Dg1 (ax m c) (ar1 m c) (ix3 i n a) := by
  rw [K1_at, Dg1_at]
  refine Finset.sum_congr rfl fun j _ => ?_
  exact (Finset.sum_congr rfl fun kk _ => Finset.sum_congr rfl fun t _ => Finset.sum_congr rfl fun g _ =>
    t1_eq (blocks_t m c t) _ _ i n a j kk g rfl rfl).trans
    (reorder1 cfg0.N N_0 fun k l w => ax m c (ix5 w i j k l) * ar1 m c (ix6 w n j k l a))

theorem fin1 : K1 (fun y : S16x240.Idx => ∑ k, p1 m c k y) = Dg1 (ax m c) (ar1 m c) := by
  funext y
  idx_vars y
  exact fin1_at m c y0 y1 y2

theorem fin2_at (a : Fin 10) (j : Fin 4) (o : Fin 5) (y : Fin 14) :
    K2 (fun y : S80x160.Idx => ∑ k, p2 m c k y) (ix4 a j o y) = Dg2 (al2 m c) (ar2 m c) (ix4 a j o y) := by
  rw [K2_at, Dg2_at]
  exact (Finset.sum_congr rfl fun kk _ => Finset.sum_congr rfl fun t _ => Finset.sum_congr rfl fun n _ => Finset.sum_congr rfl fun g _ =>
    t2_eq (blocks_t m c t) _ _ a j o y kk n g rfl rfl).trans
    (reorder2 cfg0.N N_0 fun k l n w => al2 m c (ix6 w n a j k l) * ar2 m c (ix6 w n o k l y))

theorem fin2 : K2 (fun y : S80x160.Idx => ∑ k, p2 m c k y) = Dg2 (al2 m c) (ar2 m c) := by
  funext y
  idx_vars y
  exact fin2_at m c y0 y1 y2 y3

theorem fin3_at (y : Fin 14) (k : Fin 8) (p : Fin 9) (z : Fin 11) :
    K3 (fun y : S208x224.Idx => ∑ k, p3 m c k y) (ix4 y k p z) = Dg3 (al3 m c) (ar3 m c) (ix4 y k p z) := by
  rw [K3_at, Dg3_at]
  exact (Finset.sum_congr rfl fun l _ => Finset.sum_congr rfl fun t _ => Finset.sum_congr rfl fun n _ => Finset.sum_congr rfl fun o _ =>
    t3_eq (blocks_t m c t) _ _ y k p z l n o rfl rfl).trans
    (reorder3 cfg0.N N_0 fun l n o w => al3 m c (ix6 w n o y k l) * ar3 m c (ix6 w n o p l z))

theorem fin3 : K3 (fun y : S208x224.Idx => ∑ k, p3 m c k y) = Dg3 (al3 m c) (ar3 m c) := by
  funext y
  idx_vars y
  exact fin3_at m c y0 y1 y2 y3

theorem coord1 : ∀ t : Fin cfg0.N, (grid0.coords t 1).val = t.val % 8 := (by decide +kernel : ∀ t : Fin grid0.N, _)

theorem fin4_at (z : Fin 11) (l : Fin 16) (q : Fin 12) :
    K4 (fun y : S8x112x208.Idx => ∑ k, p4' m c k y) (ix3 z l q) = Dg4 (al4 m c) (Dyd (ady m c) (ads m c)) (ix3 z l q) := by
  rw [K4_at, Dg4_at]
  let lp : Fin 8 := ⟨l.val / 2, by omega⟩
  have hl : lf lp ⟨l.val % 2, by omega⟩ = l := Fin.ext (by show l.val / 2 * 2 + l.val % 2 = l.val; omega)
  refine (Finset.sum_congr rfl fun p _ => Finset.sum_congr rfl fun t _ => ?_).trans
    (reorder4 cfg0.N N_0 lp fun n o p w => al4 m c (ix6 w n o p z l) * Dyd (ady m c) (ads m c) (ix5 w n o p q))
  unfold p4'
  rw [coord1 t]
  by_cases h : lp.val = t.val % 8
  · refine (if_pos h).trans (Eq.trans ?_ (if_pos h).symm)
    refine Finset.sum_congr rfl fun n _ => Finset.sum_congr rfl fun o _ => ?_
    refine (t4_eq (blocks m c t ⟨t.val / 8, by have := t48 t; omega⟩ lp rfl h) _ _ z ⟨l.val % 2, by omega⟩ q p n o rfl rfl).trans ?_
    rw [hl]
    rfl
  · exact (if_neg h).trans (if_neg h).symm

theorem fin4 : K4 (fun y : S8x112x208.Idx => ∑ k, p4' m c k y) = Dg4 (al4 m c) (Dyd (ady m c) (ads m c)) := by
  funext y
  idx_vars y
  exact fin4_at m c y0 y1 y2

theorem fin0_at (b : Fin 6) (s : Fin 256) (d : Fin 1024) :
    K0 (fullDx m c) (ix3 b s d) = Dx (ar1 m c) (ag1 m c) (as1 m c) (ix3 b s d) := by
  rw [K0_at, Dx_at]
  let lp : Fin 8 := ⟨d.val % 16 / 2, by omega⟩
  have hl : lf lp ⟨d.val % 2, by omega⟩ = (⟨d.val % 16, by omega⟩ : Fin 16) :=
    Fin.ext (by show d.val % 16 / 2 * 2 + d.val % 2 = d.val % 16; omega)
  have hs : (b.val * 256 + s.val) % 256 = s.val := by omega
  have hN : cfg0.N = 48 := N_0
  let t : Fin cfg0.N := ⟨(b.val * 256 + s.val) / 256 * 8 + (d.val % 16 * 64 + d.val / 16 % 8 * 8 + d.val / 128) / 128, by omega⟩
  have ht : t.val = (b.val * 256 + s.val) / 256 * 8 + (d.val % 16 * 64 + d.val / 16 % 8 * 8 + d.val / 128) / 128 := rfl
  have hu : d.val / 16 % 8 < 8 := by omega
  have hv : d.val / 128 < 8 := by omega
  have hg : (d.val % 16 * 64 + d.val / 16 % 8 * 8 + d.val / 128) / 128 = d.val % 16 / 2 := by
    generalize d.val / 16 % 8 = u at *
    generalize d.val / 128 = v at *
    omega
  have hr : (d.val % 16 * 64 + d.val / 16 % 8 * 8 + d.val / 128) % 128 = (d.val % 16 % 2 * 8 + d.val / 16 % 8) * 8 + d.val / 128 := by
    generalize d.val / 16 % 8 = u at *
    generalize d.val / 128 = v at *
    omega
  have hb : (b.val * 256 + s.val) / 256 = b.val := by omega
  have hd : d.val % 16 % 2 = d.val % 2 := by omega
  rw [hg, hb] at ht
  have H := blocks m c t b lp (by omega) (by show d.val % 16 / 2 = _; omega)
  show dxv (iblk m c 1 t) (iblk m c 2 t) (iblk m c 5 t) (iblk m c 6 t) (iblk m c 7 t) (iblk m c 8 t)
    ((d.val % 16 * 64 + d.val / 16 % 8 * 8 + d.val / 128) % 128) ((b.val * 256 + s.val) % 256) = _
  rw [hs]
  refine (dxv_eq H _ ⟨d.val % 2, by omega⟩ ⟨d.val / 16 % 8, by omega⟩ ⟨d.val / 512, by omega⟩ ⟨d.val / 128 % 4, by omega⟩ s
    (by rw [hr, hd]; dsimp only; omega)).trans ?_
  rw [hl]
  rfl

theorem fin0 : K0 (fullDx m c) = Dx (ar1 m c) (ag1 m c) (as1 m c) := by
  funext y
  idx_vars y
  exact fin0_at m c y0 y1 y2

end Cert.KernelIdeal.Val
-- ==== Proof.KRun.lean ====
module
public import proofs.«01_k».proof.Proof.KFinal
@[expose] public section
set_option maxRecDepth 16384
noncomputable section
open Idealize.ShloMosaic Idealize.ShloMosaic.TcCoe Idealize.SL.Sem
open Cert.ReferenceIdeal.Val (Dyd Dx Dg1 Dg2 Dg3 Dg4)
namespace Cert.KernelIdeal.Val
open Cert.KernelIdeal Cert.KernelIdeal.Gen
variable (m : (ℓ : Loc nD τ sig) → Buf (Elt Ideal) ℓ) (c : Dev nD)

/-! The kernel's results after a run. -/

theorem arr_inj : Function.Injective (Pipeline.arrRef spec0) := by decide

theorem end0 : (Pipeline.afterTail₀ cfgs (dats m) 0 (V0 m) [hostOps1] c main_v134 : Vec Ideal S6x256x1024 .bf16)
    = Dx (ar1 m c) (ag1 m c) (as1 m c) := by
  refine Eq.trans ?_ (fin0 m c)
  refine (tail0 _).trans (congrArg K0 ?_)
  exact (Pipeline.withArrays_arr spec0 arr_inj c (V0 m c) (fun w => (dats m 0 c).arrAt w cfg0.N) 12).trans (arr12 m c)
theorem end1 : (Pipeline.afterTail₀ cfgs (dats m) 0 (V0 m) [hostOps1] c main_v149 : Vec Ideal S2x3x10 .f32)
    = Dg1 (ax m c) (ar1 m c) := by
  refine Eq.trans ?_ (fin1 m c)
  refine (tail1 _).trans (congrArg K1 ?_)
  exact (Pipeline.withArrays_arr spec0 arr_inj c (V0 m c) (fun w => (dats m 0 c).arrAt w cfg0.N) 13).trans (arr13 m c)
theorem end2 : (Pipeline.afterTail₀ cfgs (dats m) 0 (V0 m) [hostOps1] c main_v158 : Vec Ideal S10x4x5x14 .f32)
    = Dg2 (al2 m c) (ar2 m c) := by
  refine Eq.trans ?_ (fin2 m c)
  refine (tail2 _).trans (congrArg K2 ?_)
  exact (Pipeline.withArrays_arr spec0 arr_inj c (V0 m c) (fun w => (dats m 0 c).arrAt w cfg0.N) 14).trans (arr14 m c)
theorem end3 : (Pipeline.afterTail₀ cfgs (dats m) 0 (V0 m) [hostOps1] c main_v169 : Vec Ideal S14x8x9x11 .f32)
    = Dg3 (al3 m c) (ar3 m c) := by
  refine Eq.trans ?_ (fin3 m c)
  refine (tail3 _).trans (congrArg K3 ?_)
  exact (Pipeline.withArrays_arr spec0 arr_inj c (V0 m c) (fun w => (dats m 0 c).arrAt w cfg0.N) 15).trans (arr15 m c)
theorem end4 : (Pipeline.afterTail₀ cfgs (dats m) 0 (V0 m) [hostOps1] c main_v182 : Vec Ideal S11x16x12 .f32)
    = Dg4 (al4 m c) (Dyd (ady m c) (ads m c)) := by
  refine Eq.trans ?_ (fin4 m c)
  refine (tail4 _).trans (congrArg K4 ?_)
  exact (Pipeline.withArrays_arr spec0 arr_inj c (V0 m c) (fun w => (dats m 0 c).arrAt w cfg0.N) 16).trans (arr16 m c)

/-- A run of the kernel ends with the reference's functions of its arguments. -/
theorem run_results (ρ : Dev nD → PrngReg) :
    θ_run (defs (F := Ideal)) (onTc (τ := τ) (main (F := Ideal))) ⟨m, fun _ => 0, ρ⟩ (fun r => ∀ c : Dev nD,
      r.2.mem ((c.tc : Thread nD τ).loc main_v134) = Dx (ar1 m c) (ag1 m c) (as1 m c)
      ∧ r.2.mem ((c.tc : Thread nD τ).loc main_v149) = Dg1 (ax m c) (ar1 m c)
      ∧ r.2.mem ((c.tc : Thread nD τ).loc main_v158) = Dg2 (al2 m c) (ar2 m c)
      ∧ r.2.mem ((c.tc : Thread nD τ).loc main_v169) = Dg3 (al3 m c) (ar3 m c)
      ∧ r.2.mem ((c.tc : Thread nD τ).loc main_v182) = Dg4 (al4 m c) (Dyd (ady m c) (ads m c))) :=
  (θ_run defs _ _).mono (fun _ h c =>
    ⟨((h c).2 main_v134 (Pipeline.mem_restRefs_of main_v134 (by decide) (by decide))).trans (end0 m c),
     ((h c).2 main_v149 (Pipeline.mem_restRefs_of main_v149 (by decide) (by decide))).trans (end1 m c),
     ((h c).2 main_v158 (Pipeline.mem_restRefs_of main_v158 (by decide) (by decide))).trans (end2 m c),
     ((h c).2 main_v169 (Pipeline.mem_restRefs_of main_v169 (by decide) (by decide))).trans (end3 m c),
     ((h c).2 main_v182 (Pipeline.mem_restRefs_of main_v182 (by decide) (by decide))).trans (end4 m c)⟩) (run_main m ρ)
end Cert.KernelIdeal.Val
-- ==== Proof.RRun.lean ====
module
public import proofs.«01_k».proof.Proof.RefStages
public import proofs.«01_k».proof.Proof.RefGrads
public import Idealize.ShloMosaic.Lib.Pipeline.Value
@[expose] public section
set_option maxRecDepth 16384
noncomputable section
open Idealize.ShloMosaic Idealize.ShloMosaic.TcCoe Idealize.SL.Sem
namespace Cert.ReferenceIdeal.Val
open Cert.ReferenceIdeal Cert.ReferenceIdeal.Gen

/-! The reference's results after a run. -/

section
variable (V : Valuation τ sig (Elt Ideal))
/-- What the operations after the cast read, in a state of the buffers. -/
abbrev vx : Vec Ideal S1536x2x4x8x16 .bf16 := V (Proc.devRef .tc main_v0)
abbrev vg1 : Vec Ideal S2x3x10 .i8 := V (Proc.devRef .tc main_arg3)
abbrev vg2 : Vec Ideal S10x4x5x14 .i8 := V (Proc.devRef .tc main_arg4)
abbrev vg3 : Vec Ideal S14x8x9x11 .i8 := V (Proc.devRef .tc main_arg5)
abbrev vg4 : Vec Ideal S11x16x12 .i8 := V (Proc.devRef .tc main_arg6)
abbrev vs1 : Vec Ideal S3x10 .f32 := V (Proc.devRef .tc main_arg7)
abbrev vs2 : Vec Ideal S5x14 .f32 := V (Proc.devRef .tc main_arg8)
abbrev vs3 : Vec Ideal S9x11 .f32 := V (Proc.devRef .tc main_arg9)
abbrev vs4 : Vec Ideal S12 .f32 := V (Proc.devRef .tc main_arg10)
abbrev vdy : FVec Ideal S1536x3x5x9x12 .bf16 :=
  shapeCast S1536x3x5x9x12 (V (Proc.devRef .tc main_v1) : Vec Ideal S6x256x1620 .bf16) shapeCasts_S6x256x1620_S1536x3x5x9x12
abbrev vds : FVec Ideal S1536 .f32 :=
  shapeCast S1536 (V (Proc.devRef .tc main_arg2) : Vec Ideal S6x256 .f32) shapeCasts_S6x256_S1536
abbrev vl2 := L2 (vx V) (vg1 V) (vs1 V)
abbrev vl3 := L3 (vl2 V) (vg2 V) (vs2 V)
abbrev vl4 := L4 (vl3 V) (vg3 V) (vs3 V)
abbrev vr3 := R3 (vdy V) (vds V) (vg4 V) (vs4 V)
abbrev vr2 := R2 (vr3 V) (vg3 V) (vs3 V)
abbrev vr1 := R1 (vr2 V) (vg2 V) (vs2 V)

set_option maxHeartbeats 4000000
theorem tail0 : (StableHlo.after (hostOps1 (F := Ideal)) V (Proc.devRef .tc main_v68) : Vec Ideal S6x256x1024 .bf16) = Dx (vr1 V) (vg1 V) (vs1 V) := by
  simp only [hostOps1]
  after_reads_simp
  rfl
theorem tail1 : (StableHlo.after (hostOps1 (F := Ideal)) V (Proc.devRef .tc main_v69) : Vec Ideal S2x3x10 .f32) = Dg1 (vx V) (vr1 V) := by
  simp only [hostOps1]
  after_reads_simp
  rfl
theorem tail2 : (StableHlo.after (hostOps1 (F := Ideal)) V (Proc.devRef .tc main_v70) : Vec Ideal S10x4x5x14 .f32) = Dg2 (vl2 V) (vr2 V) := by
  simp only [hostOps1]
  after_reads_simp
  rfl
theorem tail3 : (StableHlo.after (hostOps1 (F := Ideal)) V (Proc.devRef .tc main_v71) : Vec Ideal S14x8x9x11 .f32) = Dg3 (vl3 V) (vr3 V) := by
  simp only [hostOps1]
  after_reads_simp
  rfl
theorem tail4 : (StableHlo.after (hostOps1 (F := Ideal)) V (Proc.devRef .tc main_v76) : Vec Ideal S11x16x12 .f32) = Dg4 (vl4 V) (Dyd (vdy V) (vds V)) := by
  simp only [hostOps1]
  after_reads_simp
  rfl
end

variable (m : (ℓ : Loc nD τ sig) → Buf (Elt Ideal) ℓ) (c : Dev nD)

/-- The gradient codes of a launch, read in the wider format. -/
def wide (dy : Vec Ideal S6x256x1620 .fp8e5m2) : Vec Ideal S6x256x1620 .bf16 := fun i => (dy i : EReal)

theorem ix1 : ∀ t : Fin cfg0.N, ∀ a : Fin 3, win0_0.index t a = 0 ∧ win0_1.index t a = 0 := (by decide +kernel : ∀ t : Fin grid0.N, _)

theorem arr1 : (dats m 0 c).arrAt 1 cfg0.N = wide (m (c, Proc.tc.devRef main_arg1)) := by
  refine (dats m 0 c).arrAt_eq_of_covers 1 _ (by decide +kernel) fun t hf y => ?_
  blk_simp
  rw [after0_1]
  frame_out
  show (V m c main_arg1 : S6x256x1620.Idx → EReal) ((win0_0.blk t).view.emb y) = (m (c, Proc.tc.devRef main_arg1) : S6x256x1620.Idx → EReal) ((win0_1.blk t).view.emb y)
  rw [V_main_arg1]
  refine congrArg (m (c, Proc.tc.devRef main_arg1) : S6x256x1620.Idx → EReal) (funext fun a => Fin.ext ?_)
  have e := ix1 t a
  show win0_0.index t a * S6x256x1620.size a + 1 * (y a).val = win0_1.index t a * S6x256x1620.size a + 1 * (y a).val
  rw [e.1, e.2]

/-- The buffers when the operations after the cast start. -/
abbrev U : Valuation τ sig (Elt Ideal) := Pipeline.withArrays spec0 c (V0 m c) fun w => (dats m 0 c).arrAt w cfg0.N

theorem arr_inj : Function.Injective (Pipeline.arrRef spec0) := by decide
theorem U_v1 : (U m c (Proc.devRef .tc main_v1) : Vec Ideal S6x256x1620 .bf16) = wide (m (c, Proc.tc.devRef main_arg1)) :=
  (Pipeline.withArrays_arr spec0 arr_inj c (V0 m c) (fun w => (dats m 0 c).arrAt w cfg0.N) 1).trans (arr1 m c)
theorem U_v0 : (U m c (Proc.devRef .tc main_v0) : Vec Ideal S1536x2x4x8x16 .bf16)
    = shapeCast S1536x2x4x8x16 (m (c, Proc.tc.devRef main_arg0) : Vec Ideal S6x256x1024 .bf16) shapeCasts_S6x256x1024_S1536x2x4x8x16 := by
  refine (Pipeline.withArrays_of_ne spec0 c (V0 m c) _ main_v0 (by exact (by decide : ∀ w, Pipeline.arrRef spec0 w ≠ main_v0))).trans ?_
  show StableHlo.after (List.flatten [hostOps0 (F := Ideal)]) (fun b => m (c, b)) (Proc.devRef .tc main_v0) = _
  simp only [List.flatten_cons, List.flatten_nil, List.append_nil, hostOps0]
  after_reads_simp
  rfl
theorem U_arg2 : U m c (Proc.devRef .tc main_arg2) = m (c, Proc.tc.devRef main_arg2) :=
  (Pipeline.withArrays_of_ne spec0 c (V0 m c) _ main_arg2 (by exact (by decide : ∀ w, Pipeline.arrRef spec0 w ≠ main_arg2))).trans (V_main_arg2 m c)
theorem U_arg3 : U m c (Proc.devRef .tc main_arg3) = m (c, Proc.tc.devRef main_arg3) :=
  (Pipeline.withArrays_of_ne spec0 c (V0 m c) _ main_arg3 (by exact (by decide : ∀ w, Pipeline.arrRef spec0 w ≠ main_arg3))).trans (V_main_arg3 m c)
theorem U_arg4 : U m c (Proc.devRef .tc main_arg4) = m (c, Proc.tc.devRef main_arg4) :=
  (Pipeline.withArrays_of_ne spec0 c (V0 m c) _ main_arg4 (by exact (by decide : ∀ w, Pipeline.arrRef spec0 w ≠ main_arg4))).trans (V_main_arg4 m c)
theorem U_arg5 : U m c (Proc.devRef .tc main_arg5) = m (c, Proc.tc.devRef main_arg5) :=
  (Pipeline.withArrays_of_ne spec0 c (V0 m c) _ main_arg5 (by exact (by decide : ∀ w, Pipeline.arrRef spec0 w ≠ main_arg5))).trans (V_main_arg5 m c)
theorem U_arg6 : U m c (Proc.devRef .tc main_arg6) = m (c, Proc.tc.devRef main_arg6) :=
  (Pipeline.withArrays_of_ne spec0 c (V0 m c) _ main_arg6 (by exact (by decide : ∀ w, Pipeline.arrRef spec0 w ≠ main_arg6))).trans (V_main_arg6 m c)
theorem U_arg7 : U m c (Proc.devRef .tc main_arg7) = m (c, Proc.tc.devRef main_arg7) :=
  (Pipeline.withArrays_of_ne spec0 c (V0 m c) _ main_arg7 (by exact (by decide : ∀ w, Pipeline.arrRef spec0 w ≠ main_arg7))).trans (V_main_arg7 m c)
theorem U_arg8 : U m c (Proc.devRef .tc main_arg8) = m (c, Proc.tc.devRef main_arg8) :=
  (Pipeline.withArrays_of_ne spec0 c (V0 m c) _ main_arg8 (by exact (by decide : ∀ w, Pipeline.arrRef spec0 w ≠ main_arg8))).trans (V_main_arg8 m c)
theorem U_arg9 : U m c (Proc.devRef .tc main_arg9) = m (c, Proc.tc.devRef main_arg9) :=
  (Pipeline.withArrays_of_ne spec0 c (V0 m c) _ main_arg9 (by exact (by decide : ∀ w, Pipeline.arrRef spec0 w ≠ main_arg9))).trans (V_main_arg9 m c)
theorem U_arg10 : U m c (Proc.devRef .tc main_arg10) = m (c, Proc.tc.devRef main_arg10) :=
  (Pipeline.withArrays_of_ne spec0 c (V0 m c) _ main_arg10 (by exact (by decide : ∀ w, Pipeline.arrRef spec0 w ≠ main_arg10))).trans (V_main_arg10 m c)

/-- The reference's inputs and stages at a launch. -/
abbrev mx : FVec Ideal S1536x2x4x8x16 .bf16 :=
  shapeCast S1536x2x4x8x16 (m (c, Proc.tc.devRef main_arg0) : Vec Ideal S6x256x1024 .bf16) shapeCasts_S6x256x1024_S1536x2x4x8x16
abbrev mdy : FVec Ideal S1536x3x5x9x12 .bf16 :=
  shapeCast S1536x3x5x9x12 (wide (m (c, Proc.tc.devRef main_arg1))) shapeCasts_S6x256x1620_S1536x3x5x9x12
abbrev mds : FVec Ideal S1536 .f32 :=
  shapeCast S1536 (m (c, Proc.tc.devRef main_arg2) : Vec Ideal S6x256 .f32) shapeCasts_S6x256_S1536
abbrev mg1 : Vec Ideal S2x3x10 .i8 := m (c, Proc.tc.devRef main_arg3)
abbrev mg2 : Vec Ideal S10x4x5x14 .i8 := m (c, Proc.tc.devRef main_arg4)
abbrev mg3 : Vec Ideal S14x8x9x11 .i8 := m (c, Proc.tc.devRef main_arg5)
abbrev mg4 : Vec Ideal S11x16x12 .i8 := m (c, Proc.tc.devRef main_arg6)
abbrev ms1 : Vec Ideal S3x10 .f32 := m (c, Proc.tc.devRef main_arg7)
abbrev ms2 : Vec Ideal S5x14 .f32 := m (c, Proc.tc.devRef main_arg8)
abbrev ms3 : Vec Ideal S9x11 .f32 := m (c, Proc.tc.devRef main_arg9)
abbrev ms4 : Vec Ideal S12 .f32 := m (c, Proc.tc.devRef main_arg10)
abbrev ml2 := L2 (mx m c) (mg1 m c) (ms1 m c)
abbrev ml3 := L3 (ml2 m c) (mg2 m c) (ms2 m c)
abbrev ml4 := L4 (ml3 m c) (mg3 m c) (ms3 m c)
abbrev mr3 := R3 (mdy m c) (mds m c) (mg4 m c) (ms4 m c)
abbrev mr2 := R2 (mr3 m c) (mg3 m c) (ms3 m c)
abbrev mr1 := R1 (mr2 m c) (mg2 m c) (ms2 m c)

theorem e_x : vx (U m c) = mx m c := U_v0 m c
theorem e_dy : vdy (U m c) = mdy m c :=
  congrArg (fun v : Vec Ideal S6x256x1620 .bf16 => (shapeCast S1536x3x5x9x12 v shapeCasts_S6x256x1620_S1536x3x5x9x12 : FVec Ideal S1536x3x5x9x12 .bf16)) (U_v1 m c)
theorem e_ds : vds (U m c) = mds m c :=
  congrArg (fun v : Vec Ideal S6x256 .f32 => (shapeCast S1536 v shapeCasts_S6x256_S1536 : FVec Ideal S1536 .f32)) (U_arg2 m c)
theorem e_g1 : vg1 (U m c) = mg1 m c := U_arg3 m c
theorem e_g2 : vg2 (U m c) = mg2 m c := U_arg4 m c
theorem e_g3 : vg3 (U m c) = mg3 m c := U_arg5 m c
theorem e_g4 : vg4 (U m c) = mg4 m c := U_arg6 m c
theorem e_s1 : vs1 (U m c) = ms1 m c := U_arg7 m c
theorem e_s2 : vs2 (U m c) = ms2 m c := U_arg8 m c
theorem e_s3 : vs3 (U m c) = ms3 m c := U_arg9 m c
theorem e_s4 : vs4 (U m c) = ms4 m c := U_arg10 m c
theorem e_l2 : vl2 (U m c) = ml2 m c := by rw [vl2, e_x, e_g1, e_s1]
theorem e_l3 : vl3 (U m c) = ml3 m c := by rw [vl3, e_l2, e_g2, e_s2]
theorem e_l4 : vl4 (U m c) = ml4 m c := by rw [vl4, e_l3, e_g3, e_s3]
theorem e_r3 : vr3 (U m c) = mr3 m c := by rw [vr3, e_dy, e_ds, e_g4, e_s4]
theorem e_r2 : vr2 (U m c) = mr2 m c := by rw [vr2, e_r3, e_g3, e_s3]
theorem e_r1 : vr1 (U m c) = mr1 m c := by rw [vr1, e_r2, e_g2, e_s2]
theorem end0 : (Pipeline.afterTail₀ cfgs (dats m) 0 (V0 m) [hostOps1] c main_v68 : Vec Ideal S6x256x1024 .bf16) = Dx (mr1 m c) (mg1 m c) (ms1 m c) := by
  refine (tail0 (U m c)).trans ?_
  rw [e_r1, e_g1, e_s1]
theorem end1 : (Pipeline.afterTail₀ cfgs (dats m) 0 (V0 m) [hostOps1] c main_v69 : Vec Ideal S2x3x10 .f32) = Dg1 (mx m c) (mr1 m c) := by
  refine (tail1 (U m c)).trans ?_
  rw [e_x, e_r1]
theorem end2 : (Pipeline.afterTail₀ cfgs (dats m) 0 (V0 m) [hostOps1] c main_v70 : Vec Ideal S10x4x5x14 .f32) = Dg2 (ml2 m c) (mr2 m c) := by
  refine (tail2 (U m c)).trans ?_
  rw [e_l2, e_r2]
theorem end3 : (Pipeline.afterTail₀ cfgs (dats m) 0 (V0 m) [hostOps1] c main_v71 : Vec Ideal S14x8x9x11 .f32) = Dg3 (ml3 m c) (mr3 m c) := by
  refine (tail3 (U m c)).trans ?_
  rw [e_l3, e_r3]
theorem end4 : (Pipeline.afterTail₀ cfgs (dats m) 0 (V0 m) [hostOps1] c main_v76 : Vec Ideal S11x16x12 .f32) = Dg4 (ml4 m c) (Dyd (mdy m c) (mds m c)) := by
  refine (tail4 (U m c)).trans ?_
  rw [e_l4, e_dy, e_ds]

/-- A run of the reference ends with its functions of the arguments. -/
theorem run_results (ρ : Dev nD → PrngReg) :
    θ_run (defs (F := Ideal)) (onTc (τ := τ) (main (F := Ideal))) ⟨m, fun _ => 0, ρ⟩ (fun r => ∀ c : Dev nD,
      r.2.mem ((c.tc : Thread nD τ).loc main_v68) = Dx (mr1 m c) (mg1 m c) (ms1 m c)
      ∧ r.2.mem ((c.tc : Thread nD τ).loc main_v69) = Dg1 (mx m c) (mr1 m c)
      ∧ r.2.mem ((c.tc : Thread nD τ).loc main_v70) = Dg2 (ml2 m c) (mr2 m c)
      ∧ r.2.mem ((c.tc : Thread nD τ).loc main_v71) = Dg3 (ml3 m c) (mr3 m c)
      ∧ r.2.mem ((c.tc : Thread nD τ).loc main_v76) = Dg4 (ml4 m c) (Dyd (mdy m c) (mds m c))) :=
  (θ_run defs _ _).mono (fun _ h c => ⟨((h c).2 main_v68 (Pipeline.mem_restRefs_of main_v68 (by decide) (by decide))).trans (end0 m c),
    ((h c).2 main_v69 (Pipeline.mem_restRefs_of main_v69 (by decide) (by decide))).trans (end1 m c),
    ((h c).2 main_v70 (Pipeline.mem_restRefs_of main_v70 (by decide) (by decide))).trans (end2 m c),
    ((h c).2 main_v71 (Pipeline.mem_restRefs_of main_v71 (by decide) (by decide))).trans (end3 m c),
    ((h c).2 main_v76 (Pipeline.mem_restRefs_of main_v76 (by decide) (by decide))).trans (end4 m c)⟩) (run_main m ρ)
end Cert.ReferenceIdeal.Val
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KRun
public import proofs.«01_k».proof.Proof.RRun
public import Idealize.ShloMosaic.Adequacy
public import Idealize.ShloMosaic.Init

@[expose] public section

noncomputable section

namespace Cert.Proof

open Idealize.ShloMosaic Idealize.ShloMosaic.TcCoe Idealize.SL.Sem

/-- From memories that agree on the arguments, both programs run, end with the same five results and leave their
    arguments unchanged. -/
theorem same_results : Cert.algebraic_KernelIdeal_ReferenceIdeal
    (hKernelIdeal := Cert.KernelIdeal.Gen.facts) (hReferenceIdeal := Cert.ReferenceIdeal.Gen.facts) := by
  intro m g m' g' _ hagree
  refine ⟨_, _, _, _, _,
    (θ_run Cert.KernelIdeal.defs _ _).mono (fun r h c =>
      ⟨(h.1 c).1, (h.1 c).2.1, (h.1 c).2.2.1, (h.1 c).2.2.2.1, (h.1 c).2.2.2.2, h.2 c⟩)
      (θ_run_and (Cert.KernelIdeal.Val.run_results m g) (Cert.KernelIdeal.Gen.unchanged m g)),
    (θ_run Cert.ReferenceIdeal.defs _ _).mono (fun r h c => ?_)
      (θ_run_and (Cert.ReferenceIdeal.Val.run_results m' g') (Cert.ReferenceIdeal.Gen.unchanged m' g'))⟩
  obtain ⟨a0, a1, a2, a3, a4, a5, a6, a7, a8, a9, a10⟩ := hagree c
  have e0 : Cert.ReferenceIdeal.Val.mx m' c = Cert.KernelIdeal.Val.ax m c := congrArg Cert.KernelIdeal.Val.rx a0
  have e1 : Cert.ReferenceIdeal.Val.mdy m' c = Cert.KernelIdeal.Val.ady m c := congrArg Cert.KernelIdeal.Val.rdy a1
  have e2 : Cert.ReferenceIdeal.Val.mds m' c = Cert.KernelIdeal.Val.ads m c := congrArg Cert.KernelIdeal.Val.rds a2
  have e3 : Cert.ReferenceIdeal.Val.mg1 m' c = Cert.KernelIdeal.Val.ag1 m c := a3
  have e4 : Cert.ReferenceIdeal.Val.mg2 m' c = Cert.KernelIdeal.Val.ag2 m c := a4
  have e5 : Cert.ReferenceIdeal.Val.mg3 m' c = Cert.KernelIdeal.Val.ag3 m c := a5
  have e6 : Cert.ReferenceIdeal.Val.mg4 m' c = Cert.KernelIdeal.Val.ag4 m c := a6
  have e7 : Cert.ReferenceIdeal.Val.ms1 m' c = Cert.KernelIdeal.Val.as1 m c := a7
  have e8 : Cert.ReferenceIdeal.Val.ms2 m' c = Cert.KernelIdeal.Val.as2 m c := a8
  have e9 : Cert.ReferenceIdeal.Val.ms3 m' c = Cert.KernelIdeal.Val.as3 m c := a9
  have e10 : Cert.ReferenceIdeal.Val.ms4 m' c = Cert.KernelIdeal.Val.as4 m c := a10
  have r3 : Cert.ReferenceIdeal.Val.mr3 m' c = Cert.KernelIdeal.Val.ar3 m c := by
    rw [Cert.ReferenceIdeal.Val.mr3, e1, e2, e6, e10]
  have r2 : Cert.ReferenceIdeal.Val.mr2 m' c = Cert.KernelIdeal.Val.ar2 m c := by
    rw [Cert.ReferenceIdeal.Val.mr2, r3, e5, e9]
  have r1 : Cert.ReferenceIdeal.Val.mr1 m' c = Cert.KernelIdeal.Val.ar1 m c := by
    rw [Cert.ReferenceIdeal.Val.mr1, r2, e4, e8]
  have l2 : Cert.ReferenceIdeal.Val.ml2 m' c = Cert.KernelIdeal.Val.al2 m c := by
    rw [Cert.ReferenceIdeal.Val.ml2, e0, e3, e7]
  have l3 : Cert.ReferenceIdeal.Val.ml3 m' c = Cert.KernelIdeal.Val.al3 m c := by
    rw [Cert.ReferenceIdeal.Val.ml3, l2, e4, e8]
  have l4 : Cert.ReferenceIdeal.Val.ml4 m' c = Cert.KernelIdeal.Val.al4 m c := by
    rw [Cert.ReferenceIdeal.Val.ml4, l3, e5, e9]
  obtain ⟨h0, h1, h2, h3, h4⟩ := h.1 c
  exact ⟨h0.trans (by rw [r1, e3, e7]), h1.trans (by rw [e0, r1]), h2.trans (by rw [l2, r2]), h3.trans (by rw [l3, r3]),
    h4.trans (by rw [l4, e1, e2]), h.2 c⟩

/-- All five claims: three frames, the ideal program, and equal results. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, same_results⟩

end Cert.Proof

end
